-- ==== Defs.lean ====
def Pre_Big (m : (ℓ : Loc Cert.Big.nD Cert.Big.τ Cert.Big.sig) → Buf (Elt Bits) ℓ) : Prop :=
  True

def Pre_BigIdeal (m : (ℓ : Loc Cert.BigIdeal.nD Cert.BigIdeal.τ Cert.BigIdeal.sig) → Buf (Elt Ideal) ℓ) : Prop :=
  True

def Pre_BigRefIdeal (m : (ℓ : Loc Cert.BigRefIdeal.nD Cert.BigRefIdeal.τ Cert.BigRefIdeal.sig) → Buf (Elt Ideal) ℓ) : Prop :=
  True

def Pre_Hf (m : (ℓ : Loc Cert.Hf.nD Cert.Hf.τ Cert.Hf.sig) → Buf (Elt Bits) ℓ) : Prop :=
  True

def Pre_HfIdeal (m : (ℓ : Loc Cert.HfIdeal.nD Cert.HfIdeal.τ Cert.HfIdeal.sig) → Buf (Elt Ideal) ℓ) : Prop :=
  True

def Pre_HfRefIdeal (m : (ℓ : Loc Cert.HfRefIdeal.nD Cert.HfRefIdeal.τ Cert.HfRefIdeal.sig) → Buf (Elt Ideal) ℓ) : Prop :=
  True

def Pre_Cq (m : (ℓ : Loc Cert.Cq.nD Cert.Cq.τ Cert.Cq.sig) → Buf (Elt Bits) ℓ) : Prop :=
  True

def Pre_CqIdeal (m : (ℓ : Loc Cert.CqIdeal.nD Cert.CqIdeal.τ Cert.CqIdeal.sig) → Buf (Elt Ideal) ℓ) : Prop :=
  True

def Pre_CqRefIdeal (m : (ℓ : Loc Cert.CqRefIdeal.nD Cert.CqRefIdeal.τ Cert.CqRefIdeal.sig) → Buf (Elt Ideal) ℓ) : Prop :=
  True

def Pre_Ckv (m : (ℓ : Loc Cert.Ckv.nD Cert.Ckv.τ Cert.Ckv.sig) → Buf (Elt Bits) ℓ) : Prop :=
  True

def Pre_CkvIdeal (m : (ℓ : Loc Cert.CkvIdeal.nD Cert.CkvIdeal.τ Cert.CkvIdeal.sig) → Buf (Elt Ideal) ℓ) : Prop :=
  True

def Pre_CkvRefIdeal (m : (ℓ : Loc Cert.CkvRefIdeal.nD Cert.CkvRefIdeal.τ Cert.CkvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Fin (m : (ℓ : Loc Cert.Fin.nD Cert.Fin.τ Cert.Fin.sig) → Buf (Elt Bits) ℓ) : Prop :=
  True

def Pre_FinIdeal (m : (ℓ : Loc Cert.FinIdeal.nD Cert.FinIdeal.τ Cert.FinIdeal.sig) → Buf (Elt Ideal) ℓ) : Prop :=
  True

def Pre_FinRefIdeal (m : (ℓ : Loc Cert.FinRefIdeal.nD Cert.FinRefIdeal.τ Cert.FinRefIdeal.sig) → Buf (Elt Ideal) ℓ) : Prop :=
  True

def Pre_Merge0 (m : (ℓ : Loc Cert.Merge0.nD Cert.Merge0.τ Cert.Merge0.sig) → Buf (Elt Bits) ℓ) : Prop :=
  True

def Pre_Merge0Ideal (m : (ℓ : Loc Cert.Merge0Ideal.nD Cert.Merge0Ideal.τ Cert.Merge0Ideal.sig) → Buf (Elt Ideal) ℓ) : Prop :=
  True

def Pre_Merge0RefIdeal (m : (ℓ : Loc Cert.Merge0RefIdeal.nD Cert.Merge0RefIdeal.τ Cert.Merge0RefIdeal.sig) → Buf (Elt Ideal) ℓ) : Prop :=
  True

def Pre_Out0 (m : (ℓ : Loc Cert.Out0.nD Cert.Out0.τ Cert.Out0.sig) → Buf (Elt Bits) ℓ) : Prop :=
  True

def Pre_Out0Ideal (m : (ℓ : Loc Cert.Out0Ideal.nD Cert.Out0Ideal.τ Cert.Out0Ideal.sig) → Buf (Elt Ideal) ℓ) : Prop :=
  True

def Pre_Out0RefIdeal (m : (ℓ : Loc Cert.Out0RefIdeal.nD Cert.Out0RefIdeal.τ Cert.Out0RefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2 = (fun _ => 1#1)

def Pre_Qup (m : (ℓ : Loc Cert.Qup.nD Cert.Qup.τ Cert.Qup.sig) → Buf (Elt Bits) ℓ) : Prop :=
  True

def Pre_QupIdeal (m : (ℓ : Loc Cert.QupIdeal.nD Cert.QupIdeal.τ Cert.QupIdeal.sig) → Buf (Elt Ideal) ℓ) : Prop :=
  True

def Pre_QupIdeal_finite_rotated [hPre_finite_rotated : Cert.Pre_finite_rotated.Facts] (m : (ℓ : Loc Cert.QupIdeal.nD Cert.QupIdeal.τ Cert.QupIdeal.sig) → Buf (Elt Ideal) ℓ) : Prop :=
  ∀ c : Dev Cert.QupIdeal.nD,
    (Cert.Pre_finite_rotated.fn (F := Ideal) (m ((c.tc : Thread Cert.QupIdeal.nD Cert.QupIdeal.τ).loc Cert.QupIdeal.main_arg0)) (m ((c.tc : Thread Cert.QupIdeal.nD Cert.QupIdeal.τ).loc Cert.QupIdeal.main_arg1))).1 = (fun _ => 1#1)
    ∧ (Cert.Pre_finite_rotated.fn (F := Ideal) (m ((c.tc : Thread Cert.QupIdeal.nD Cert.QupIdeal.τ).loc Cert.QupIdeal.main_arg0)) (m ((c.tc : Thread Cert.QupIdeal.nD Cert.QupIdeal.τ).loc Cert.QupIdeal.main_arg1))).2 = (fun _ => 1#1)

def Pre_QupRefIdeal (m : (ℓ : Loc Cert.QupRefIdeal.nD Cert.QupRefIdeal.τ Cert.QupRefIdeal.sig) → Buf (Elt Ideal) ℓ) : Prop :=
  True

def Pre_QupRefIdeal_finite_rotated [hPre_finite_rotated : Cert.Pre_finite_rotated.Facts] (m : (ℓ : Loc Cert.QupRefIdeal.nD Cert.QupRefIdeal.τ Cert.QupRefIdeal.sig) → Buf (Elt Ideal) ℓ) : Prop :=
  ∀ c : Dev Cert.QupRefIdeal.nD,
    (Cert.Pre_finite_rotated.fn (F := Ideal) (m ((c.tc : Thread Cert.QupRefIdeal.nD Cert.QupRefIdeal.τ).loc Cert.QupRefIdeal.main_arg0)) (m ((c.tc : Thread Cert.QupRefIdeal.nD Cert.QupRefIdeal.τ).loc Cert.QupRefIdeal.main_arg1))).1 = (fun _ => 1#1)
    ∧ (Cert.Pre_finite_rotated.fn (F := Ideal) (m ((c.tc : Thread Cert.QupRefIdeal.nD Cert.QupRefIdeal.τ).loc Cert.QupRefIdeal.main_arg0)) (m ((c.tc : Thread Cert.QupRefIdeal.nD Cert.QupRefIdeal.τ).loc Cert.QupRefIdeal.main_arg1))).2 = (fun _ => 1#1)

def quiescent_Big [hBig : Cert.Big.Facts] : Prop :=
  ∀ (m : (ℓ : Loc Cert.Big.nD Cert.Big.τ Cert.Big.sig) → Buf (Elt Bits) ℓ) (g : Dev Cert.Big.nD → PrngReg), Pre_Big m →
    θ_run (Cert.Big.defs (F := Bits)) (onTc (τ := Cert.Big.τ) (Cert.Big.main (F := Bits))) ⟨m, fun _ => 0, g⟩ (fun r => (∀ c : Dev Cert.Big.nD,
      r.2.mem ((c.tc : Thread Cert.Big.nD Cert.Big.τ).loc Cert.Big.main_arg0) = m ((c.tc : Thread Cert.Big.nD Cert.Big.τ).loc Cert.Big.main_arg0)
      ∧ r.2.mem ((c.tc : Thread Cert.Big.nD Cert.Big.τ).loc Cert.Big.main_arg1) = m ((c.tc : Thread Cert.Big.nD Cert.Big.τ).loc Cert.Big.main_arg1)
      ∧ r.2.mem ((c.tc : Thread Cert.Big.nD Cert.Big.τ).loc Cert.Big.main_arg2) = m ((c.tc : Thread Cert.Big.nD Cert.Big.τ).loc Cert.Big.main_arg2))
      ∧ r.2.sem = fun _ => 0)

def quiescent_BigIdeal [hBigIdeal : Cert.BigIdeal.Facts] : Prop :=
  ∀ (m : (ℓ : Loc Cert.BigIdeal.nD Cert.BigIdeal.τ Cert.BigIdeal.sig) → Buf (Elt Ideal) ℓ) (g : Dev Cert.BigIdeal.nD → PrngReg), Pre_BigIdeal m →
    θ_run (Cert.BigIdeal.defs (F := Ideal)) (onTc (τ := Cert.BigIdeal.τ) (Cert.BigIdeal.main (F := Ideal))) ⟨m, fun _ => 0, g⟩ (fun r => (∀ c : Dev Cert.BigIdeal.nD,
      r.2.mem ((c.tc : Thread Cert.BigIdeal.nD Cert.BigIdeal.τ).loc Cert.BigIdeal.main_arg0) = m ((c.tc : Thread Cert.BigIdeal.nD Cert.BigIdeal.τ).loc Cert.BigIdeal.main_arg0)
      ∧ r.2.mem ((c.tc : Thread Cert.BigIdeal.nD Cert.BigIdeal.τ).loc Cert.BigIdeal.main_arg1) = m ((c.tc : Thread Cert.BigIdeal.nD Cert.BigIdeal.τ).loc Cert.BigIdeal.main_arg1)
      ∧ r.2.mem ((c.tc : Thread Cert.BigIdeal.nD Cert.BigIdeal.τ).loc Cert.BigIdeal.main_arg2) = m ((c.tc : Thread Cert.BigIdeal.nD Cert.BigIdeal.τ).loc Cert.BigIdeal.main_arg2))
      ∧ r.2.sem = fun _ => 0)

def quiescent_BigRefIdeal [hBigRefIdeal : Cert.BigRefIdeal.Facts] : Prop :=
  ∀ (m : (ℓ : Loc Cert.BigRefIdeal.nD Cert.BigRefIdeal.τ Cert.BigRefIdeal.sig) → Buf (Elt Ideal) ℓ) (g : Dev Cert.BigRefIdeal.nD → PrngReg), Pre_BigRefIdeal m →
    θ_run (Cert.BigRefIdeal.defs (F := Ideal)) (onTc (τ := Cert.BigRefIdeal.τ) (Cert.BigRefIdeal.main (F := Ideal))) ⟨m, fun _ => 0, g⟩ (fun r => (∀ c : Dev Cert.BigRefIdeal.nD,
      r.2.mem ((c.tc : Thread Cert.BigRefIdeal.nD Cert.BigRefIdeal.τ).loc Cert.BigRefIdeal.main_arg0) = m ((c.tc : Thread Cert.BigRefIdeal.nD Cert.BigRefIdeal.τ).loc Cert.BigRefIdeal.main_arg0)
      ∧ r.2.mem ((c.tc : Thread Cert.BigRefIdeal.nD Cert.BigRefIdeal.τ).loc Cert.BigRefIdeal.main_arg1) = m ((c.tc : Thread Cert.BigRefIdeal.nD Cert.BigRefIdeal.τ).loc Cert.BigRefIdeal.main_arg1)
      ∧ r.2.mem ((c.tc : Thread Cert.BigRefIdeal.nD Cert.BigRefIdeal.τ).loc Cert.BigRefIdeal.main_arg2) = m ((c.tc : Thread Cert.BigRefIdeal.nD Cert.BigRefIdeal.τ).loc Cert.BigRefIdeal.main_arg2))
      ∧ r.2.sem = fun _ => 0)

def quiescent_Hf [hHf : Cert.Hf.Facts] : Prop :=
  ∀ (m : (ℓ : Loc Cert.Hf.nD Cert.Hf.τ Cert.Hf.sig) → Buf (Elt Bits) ℓ) (g : Dev Cert.Hf.nD → PrngReg), Pre_Hf m →
    θ_run (Cert.Hf.defs (F := Bits)) (onTc (τ := Cert.Hf.τ) (Cert.Hf.main (F := Bits))) ⟨m, fun _ => 0, g⟩ (fun r => (∀ c : Dev Cert.Hf.nD,
      r.2.mem ((c.tc : Thread Cert.Hf.nD Cert.Hf.τ).loc Cert.Hf.main_arg0) = m ((c.tc : Thread Cert.Hf.nD Cert.Hf.τ).loc Cert.Hf.main_arg0)
      ∧ r.2.mem ((c.tc : Thread Cert.Hf.nD Cert.Hf.τ).loc Cert.Hf.main_arg1) = m ((c.tc : Thread Cert.Hf.nD Cert.Hf.τ).loc Cert.Hf.main_arg1)
      ∧ r.2.mem ((c.tc : Thread Cert.Hf.nD Cert.Hf.τ).loc Cert.Hf.main_arg2) = m ((c.tc : Thread Cert.Hf.nD Cert.Hf.τ).loc Cert.Hf.main_arg2))
      ∧ r.2.sem = fun _ => 0)

def quiescent_HfIdeal [hHfIdeal : Cert.HfIdeal.Facts] : Prop :=
  ∀ (m : (ℓ : Loc Cert.HfIdeal.nD Cert.HfIdeal.τ Cert.HfIdeal.sig) → Buf (Elt Ideal) ℓ) (g : Dev Cert.HfIdeal.nD → PrngReg), Pre_HfIdeal m →
    θ_run (Cert.HfIdeal.defs (F := Ideal)) (onTc (τ := Cert.HfIdeal.τ) (Cert.HfIdeal.main (F := Ideal))) ⟨m, fun _ => 0, g⟩ (fun r => (∀ c : Dev Cert.HfIdeal.nD,
      r.2.mem ((c.tc : Thread Cert.HfIdeal.nD Cert.HfIdeal.τ).loc Cert.HfIdeal.main_arg0) = m ((c.tc : Thread Cert.HfIdeal.nD Cert.HfIdeal.τ).loc Cert.HfIdeal.main_arg0)
      ∧ r.2.mem ((c.tc : Thread Cert.HfIdeal.nD Cert.HfIdeal.τ).loc Cert.HfIdeal.main_arg1) = m ((c.tc : Thread Cert.HfIdeal.nD Cert.HfIdeal.τ).loc Cert.HfIdeal.main_arg1)
      ∧ r.2.mem ((c.tc : Thread Cert.HfIdeal.nD Cert.HfIdeal.τ).loc Cert.HfIdeal.main_arg2) = m ((c.tc : Thread Cert.HfIdeal.nD Cert.HfIdeal.τ).loc Cert.HfIdeal.main_arg2))
      ∧ r.2.sem = fun _ => 0)

def quiescent_HfRefIdeal [hHfRefIdeal : Cert.HfRefIdeal.Facts] : Prop :=
  ∀ (m : (ℓ : Loc Cert.HfRefIdeal.nD Cert.HfRefIdeal.τ Cert.HfRefIdeal.sig) → Buf (Elt Ideal) ℓ) (g : Dev Cert.HfRefIdeal.nD → PrngReg), Pre_HfRefIdeal m →
    θ_run (Cert.HfRefIdeal.defs (F := Ideal)) (onTc (τ := Cert.HfRefIdeal.τ) (Cert.HfRefIdeal.main (F := Ideal))) ⟨m, fun _ => 0, g⟩ (fun r => (∀ c : Dev Cert.HfRefIdeal.nD,
      r.2.mem ((c.tc : Thread Cert.HfRefIdeal.nD Cert.HfRefIdeal.τ).loc Cert.HfRefIdeal.main_arg0) = m ((c.tc : Thread Cert.HfRefIdeal.nD Cert.HfRefIdeal.τ).loc Cert.HfRefIdeal.main_arg0)
      ∧ r.2.mem ((c.tc : Thread Cert.HfRefIdeal.nD Cert.HfRefIdeal.τ).loc Cert.HfRefIdeal.main_arg1) = m ((c.tc : Thread Cert.HfRefIdeal.nD Cert.HfRefIdeal.τ).loc Cert.HfRefIdeal.main_arg1)
      ∧ r.2.mem ((c.tc : Thread Cert.HfRefIdeal.nD Cert.HfRefIdeal.τ).loc Cert.HfRefIdeal.main_arg2) = m ((c.tc : Thread Cert.HfRefIdeal.nD Cert.HfRefIdeal.τ).loc Cert.HfRefIdeal.main_arg2))
      ∧ r.2.sem = fun _ => 0)

def quiescent_Cq [hCq : Cert.Cq.Facts] : Prop :=
  ∀ (m : (ℓ : Loc Cert.Cq.nD Cert.Cq.τ Cert.Cq.sig) → Buf (Elt Bits) ℓ) (g : Dev Cert.Cq.nD → PrngReg), Pre_Cq m →
    θ_run (Cert.Cq.defs (F := Bits)) (onTc (τ := Cert.Cq.τ) (Cert.Cq.main (F := Bits))) ⟨m, fun _ => 0, g⟩ (fun r => (∀ c : Dev Cert.Cq.nD,
      r.2.mem ((c.tc : Thread Cert.Cq.nD Cert.Cq.τ).loc Cert.Cq.main_arg0) = m ((c.tc : Thread Cert.Cq.nD Cert.Cq.τ).loc Cert.Cq.main_arg0)
      ∧ r.2.mem ((c.tc : Thread Cert.Cq.nD Cert.Cq.τ).loc Cert.Cq.main_arg1) = m ((c.tc : Thread Cert.Cq.nD Cert.Cq.τ).loc Cert.Cq.main_arg1)
      ∧ r.2.mem ((c.tc : Thread Cert.Cq.nD Cert.Cq.τ).loc Cert.Cq.main_arg2) = m ((c.tc : Thread Cert.Cq.nD Cert.Cq.τ).loc Cert.Cq.main_arg2)
      ∧ r.2.mem ((c.tc : Thread Cert.Cq.nD Cert.Cq.τ).loc Cert.Cq.main_arg3) = m ((c.tc : Thread Cert.Cq.nD Cert.Cq.τ).loc Cert.Cq.main_arg3))
      ∧ r.2.sem = fun _ => 0)

def quiescent_CqIdeal [hCqIdeal : Cert.CqIdeal.Facts] : Prop :=
  ∀ (m : (ℓ : Loc Cert.CqIdeal.nD Cert.CqIdeal.τ Cert.CqIdeal.sig) → Buf (Elt Ideal) ℓ) (g : Dev Cert.CqIdeal.nD → PrngReg), Pre_CqIdeal m →
    θ_run (Cert.CqIdeal.defs (F := Ideal)) (onTc (τ := Cert.CqIdeal.τ) (Cert.CqIdeal.main (F := Ideal))) ⟨m, fun _ => 0, g⟩ (fun r => (∀ c : Dev Cert.CqIdeal.nD,
      r.2.mem ((c.tc : Thread Cert.CqIdeal.nD Cert.CqIdeal.τ).loc Cert.CqIdeal.main_arg0) = m ((c.tc : Thread Cert.CqIdeal.nD Cert.CqIdeal.τ).loc Cert.CqIdeal.main_arg0)
      ∧ r.2.mem ((c.tc : Thread Cert.CqIdeal.nD Cert.CqIdeal.τ).loc Cert.CqIdeal.main_arg1) = m ((c.tc : Thread Cert.CqIdeal.nD Cert.CqIdeal.τ).loc Cert.CqIdeal.main_arg1)
      ∧ r.2.mem ((c.tc : Thread Cert.CqIdeal.nD Cert.CqIdeal.τ).loc Cert.CqIdeal.main_arg2) = m ((c.tc : Thread Cert.CqIdeal.nD Cert.CqIdeal.τ).loc Cert.CqIdeal.main_arg2)
      ∧ r.2.mem ((c.tc : Thread Cert.CqIdeal.nD Cert.CqIdeal.τ).loc Cert.CqIdeal.main_arg3) = m ((c.tc : Thread Cert.CqIdeal.nD Cert.CqIdeal.τ).loc Cert.CqIdeal.main_arg3))
      ∧ r.2.sem = fun _ => 0)

def quiescent_CqRefIdeal [hCqRefIdeal : Cert.CqRefIdeal.Facts] : Prop :=
  ∀ (m : (ℓ : Loc Cert.CqRefIdeal.nD Cert.CqRefIdeal.τ Cert.CqRefIdeal.sig) → Buf (Elt Ideal) ℓ) (g : Dev Cert.CqRefIdeal.nD → PrngReg), Pre_CqRefIdeal m →
    θ_run (Cert.CqRefIdeal.defs (F := Ideal)) (onTc (τ := Cert.CqRefIdeal.τ) (Cert.CqRefIdeal.main (F := Ideal))) ⟨m, fun _ => 0, g⟩ (fun r => (∀ c : Dev Cert.CqRefIdeal.nD,
      r.2.mem ((c.tc : Thread Cert.CqRefIdeal.nD Cert.CqRefIdeal.τ).loc Cert.CqRefIdeal.main_arg0) = m ((c.tc : Thread Cert.CqRefIdeal.nD Cert.CqRefIdeal.τ).loc Cert.CqRefIdeal.main_arg0)
      ∧ r.2.mem ((c.tc : Thread Cert.CqRefIdeal.nD Cert.CqRefIdeal.τ).loc Cert.CqRefIdeal.main_arg1) = m ((c.tc : Thread Cert.CqRefIdeal.nD Cert.CqRefIdeal.τ).loc Cert.CqRefIdeal.main_arg1)
      ∧ r.2.mem ((c.tc : Thread Cert.CqRefIdeal.nD Cert.CqRefIdeal.τ).loc Cert.CqRefIdeal.main_arg2) = m ((c.tc : Thread Cert.CqRefIdeal.nD Cert.CqRefIdeal.τ).loc Cert.CqRefIdeal.main_arg2)
      ∧ r.2.mem ((c.tc : Thread Cert.CqRefIdeal.nD Cert.CqRefIdeal.τ).loc Cert.CqRefIdeal.main_arg3) = m ((c.tc : Thread Cert.CqRefIdeal.nD Cert.CqRefIdeal.τ).loc Cert.CqRefIdeal.main_arg3))
      ∧ r.2.sem = fun _ => 0)

def quiescent_Ckv [hCkv : Cert.Ckv.Facts] : Prop :=
  ∀ (m : (ℓ : Loc Cert.Ckv.nD Cert.Ckv.τ Cert.Ckv.sig) → Buf (Elt Bits) ℓ) (g : Dev Cert.Ckv.nD → PrngReg), Pre_Ckv m →
    θ_run (Cert.Ckv.defs (F := Bits)) (onTc (τ := Cert.Ckv.τ) (Cert.Ckv.main (F := Bits))) ⟨m, fun _ => 0, g⟩ (fun r => (∀ c : Dev Cert.Ckv.nD,
      r.2.mem ((c.tc : Thread Cert.Ckv.nD Cert.Ckv.τ).loc Cert.Ckv.main_arg0) = m ((c.tc : Thread Cert.Ckv.nD Cert.Ckv.τ).loc Cert.Ckv.main_arg0)
      ∧ r.2.mem ((c.tc : Thread Cert.Ckv.nD Cert.Ckv.τ).loc Cert.Ckv.main_arg1) = m ((c.tc : Thread Cert.Ckv.nD Cert.Ckv.τ).loc Cert.Ckv.main_arg1)
      ∧ r.2.mem ((c.tc : Thread Cert.Ckv.nD Cert.Ckv.τ).loc Cert.Ckv.main_arg2) = m ((c.tc : Thread Cert.Ckv.nD Cert.Ckv.τ).loc Cert.Ckv.main_arg2)
      ∧ r.2.mem ((c.tc : Thread Cert.Ckv.nD Cert.Ckv.τ).loc Cert.Ckv.main_arg3) = m ((c.tc : Thread Cert.Ckv.nD Cert.Ckv.τ).loc Cert.Ckv.main_arg3))
      ∧ r.2.sem = fun _ => 0)

def quiescent_CkvIdeal [hCkvIdeal : Cert.CkvIdeal.Facts] : Prop :=
  ∀ (m : (ℓ : Loc Cert.CkvIdeal.nD Cert.CkvIdeal.τ Cert.CkvIdeal.sig) → Buf (Elt Ideal) ℓ) (g : Dev Cert.CkvIdeal.nD → PrngReg), Pre_CkvIdeal m →
    θ_run (Cert.CkvIdeal.defs (F := Ideal)) (onTc (τ := Cert.CkvIdeal.τ) (Cert.CkvIdeal.main (F := Ideal))) ⟨m, fun _ => 0, g⟩ (fun r => (∀ c : Dev Cert.CkvIdeal.nD,
      r.2.mem ((c.tc : Thread Cert.CkvIdeal.nD Cert.CkvIdeal.τ).loc Cert.CkvIdeal.main_arg0) = m ((c.tc : Thread Cert.CkvIdeal.nD Cert.CkvIdeal.τ).loc Cert.CkvIdeal.main_arg0)
      ∧ r.2.mem ((c.tc : Thread Cert.CkvIdeal.nD Cert.CkvIdeal.τ).loc Cert.CkvIdeal.main_arg1) = m ((c.tc : Thread Cert.CkvIdeal.nD Cert.CkvIdeal.τ).loc Cert.CkvIdeal.main_arg1)
      ∧ r.2.mem ((c.tc : Thread Cert.CkvIdeal.nD Cert.CkvIdeal.τ).loc Cert.CkvIdeal.main_arg2) = m ((c.tc : Thread Cert.CkvIdeal.nD Cert.CkvIdeal.τ).loc Cert.CkvIdeal.main_arg2)
      ∧ r.2.mem ((c.tc : Thread Cert.CkvIdeal.nD Cert.CkvIdeal.τ).loc Cert.CkvIdeal.main_arg3) = m ((c.tc : Thread Cert.CkvIdeal.nD Cert.CkvIdeal.τ).loc Cert.CkvIdeal.main_arg3))
      ∧ r.2.sem = fun _ => 0)

def quiescent_CkvRefIdeal [hCkvRefIdeal : Cert.CkvRefIdeal.Facts] : Prop :=
  ∀ (m : (ℓ : Loc Cert.CkvRefIdeal.nD Cert.CkvRefIdeal.τ Cert.CkvRefIdeal.sig) → Buf (Elt Ideal) ℓ) (g : Dev Cert.CkvRefIdeal.nD → PrngReg), Pre_CkvRefIdeal m →
    θ_run (Cert.CkvRefIdeal.defs (F := Ideal)) (onTc (τ := Cert.CkvRefIdeal.τ) (Cert.CkvRefIdeal.main (F := Ideal))) ⟨m, fun _ => 0, g⟩ (fun r => (∀ c : Dev Cert.CkvRefIdeal.nD,
      r.2.mem ((c.tc : Thread Cert.CkvRefIdeal.nD Cert.CkvRefIdeal.τ).loc Cert.CkvRefIdeal.main_arg0) = m ((c.tc : Thread Cert.CkvRefIdeal.nD Cert.CkvRefIdeal.τ).loc Cert.CkvRefIdeal.main_arg0)
      ∧ r.2.mem ((c.tc : Thread Cert.CkvRefIdeal.nD Cert.CkvRefIdeal.τ).loc Cert.CkvRefIdeal.main_arg1) = m ((c.tc : Thread Cert.CkvRefIdeal.nD Cert.CkvRefIdeal.τ).loc Cert.CkvRefIdeal.main_arg1)
      ∧ r.2.mem ((c.tc : Thread Cert.CkvRefIdeal.nD Cert.CkvRefIdeal.τ).loc Cert.CkvRefIdeal.main_arg2) = m ((c.tc : Thread Cert.CkvRefIdeal.nD Cert.CkvRefIdeal.τ).loc Cert.CkvRefIdeal.main_arg2)
      ∧ r.2.mem ((c.tc : Thread Cert.CkvRefIdeal.nD Cert.CkvRefIdeal.τ).loc Cert.CkvRefIdeal.main_arg3) = m ((c.tc : Thread Cert.CkvRefIdeal.nD Cert.CkvRefIdeal.τ).loc Cert.CkvRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_Fin [hFin : Cert.Fin.Facts] : Prop :=
  ∀ (m : (ℓ : Loc Cert.Fin.nD Cert.Fin.τ Cert.Fin.sig) → Buf (Elt Bits) ℓ) (g : Dev Cert.Fin.nD → PrngReg), Pre_Fin m →
    θ_run (Cert.Fin.defs (F := Bits)) (onTc (τ := Cert.Fin.τ) (Cert.Fin.main (F := Bits))) ⟨m, fun _ => 0, g⟩ (fun r => (∀ c : Dev Cert.Fin.nD,
      r.2.mem ((c.tc : Thread Cert.Fin.nD Cert.Fin.τ).loc Cert.Fin.main_arg0) = m ((c.tc : Thread Cert.Fin.nD Cert.Fin.τ).loc Cert.Fin.main_arg0)
      ∧ r.2.mem ((c.tc : Thread Cert.Fin.nD Cert.Fin.τ).loc Cert.Fin.main_arg1) = m ((c.tc : Thread Cert.Fin.nD Cert.Fin.τ).loc Cert.Fin.main_arg1)
      ∧ r.2.mem ((c.tc : Thread Cert.Fin.nD Cert.Fin.τ).loc Cert.Fin.main_arg2) = m ((c.tc : Thread Cert.Fin.nD Cert.Fin.τ).loc Cert.Fin.main_arg2)
      ∧ r.2.mem ((c.tc : Thread Cert.Fin.nD Cert.Fin.τ).loc Cert.Fin.main_arg3) = m ((c.tc : Thread Cert.Fin.nD Cert.Fin.τ).loc Cert.Fin.main_arg3)
      ∧ r.2.mem ((c.tc : Thread Cert.Fin.nD Cert.Fin.τ).loc Cert.Fin.main_arg4) = m ((c.tc : Thread Cert.Fin.nD Cert.Fin.τ).loc Cert.Fin.main_arg4)
      ∧ r.2.mem ((c.tc : Thread Cert.Fin.nD Cert.Fin.τ).loc Cert.Fin.main_arg5) = m ((c.tc : Thread Cert.Fin.nD Cert.Fin.τ).loc Cert.Fin.main_arg5))
      ∧ r.2.sem = fun _ => 0)

def quiescent_FinIdeal [hFinIdeal : Cert.FinIdeal.Facts] : Prop :=
  ∀ (m : (ℓ : Loc Cert.FinIdeal.nD Cert.FinIdeal.τ Cert.FinIdeal.sig) → Buf (Elt Ideal) ℓ) (g : Dev Cert.FinIdeal.nD → PrngReg), Pre_FinIdeal m →
    θ_run (Cert.FinIdeal.defs (F := Ideal)) (onTc (τ := Cert.FinIdeal.τ) (Cert.FinIdeal.main (F := Ideal))) ⟨m, fun _ => 0, g⟩ (fun r => (∀ c : Dev Cert.FinIdeal.nD,
      r.2.mem ((c.tc : Thread Cert.FinIdeal.nD Cert.FinIdeal.τ).loc Cert.FinIdeal.main_arg0) = m ((c.tc : Thread Cert.FinIdeal.nD Cert.FinIdeal.τ).loc Cert.FinIdeal.main_arg0)
      ∧ r.2.mem ((c.tc : Thread Cert.FinIdeal.nD Cert.FinIdeal.τ).loc Cert.FinIdeal.main_arg1) = m ((c.tc : Thread Cert.FinIdeal.nD Cert.FinIdeal.τ).loc Cert.FinIdeal.main_arg1)
      ∧ r.2.mem ((c.tc : Thread Cert.FinIdeal.nD Cert.FinIdeal.τ).loc Cert.FinIdeal.main_arg2) = m ((c.tc : Thread Cert.FinIdeal.nD Cert.FinIdeal.τ).loc Cert.FinIdeal.main_arg2)
      ∧ r.2.mem ((c.tc : Thread Cert.FinIdeal.nD Cert.FinIdeal.τ).loc Cert.FinIdeal.main_arg3) = m ((c.tc : Thread Cert.FinIdeal.nD Cert.FinIdeal.τ).loc Cert.FinIdeal.main_arg3)
      ∧ r.2.mem ((c.tc : Thread Cert.FinIdeal.nD Cert.FinIdeal.τ).loc Cert.FinIdeal.main_arg4) = m ((c.tc : Thread Cert.FinIdeal.nD Cert.FinIdeal.τ).loc Cert.FinIdeal.main_arg4)
      ∧ r.2.mem ((c.tc : Thread Cert.FinIdeal.nD Cert.FinIdeal.τ).loc Cert.FinIdeal.main_arg5) = m ((c.tc : Thread Cert.FinIdeal.nD Cert.FinIdeal.τ).loc Cert.FinIdeal.main_arg5))
      ∧ r.2.sem = fun _ => 0)

def quiescent_FinRefIdeal [hFinRefIdeal : Cert.FinRefIdeal.Facts] : Prop :=
  ∀ (m : (ℓ : Loc Cert.FinRefIdeal.nD Cert.FinRefIdeal.τ Cert.FinRefIdeal.sig) → Buf (Elt Ideal) ℓ) (g : Dev Cert.FinRefIdeal.nD → PrngReg), Pre_FinRefIdeal m →
    θ_run (Cert.FinRefIdeal.defs (F := Ideal)) (onTc (τ := Cert.FinRefIdeal.τ) (Cert.FinRefIdeal.main (F := Ideal))) ⟨m, fun _ => 0, g⟩ (fun r => (∀ c : Dev Cert.FinRefIdeal.nD,
      r.2.mem ((c.tc : Thread Cert.FinRefIdeal.nD Cert.FinRefIdeal.τ).loc Cert.FinRefIdeal.main_arg0) = m ((c.tc : Thread Cert.FinRefIdeal.nD Cert.FinRefIdeal.τ).loc Cert.FinRefIdeal.main_arg0)
      ∧ r.2.mem ((c.tc : Thread Cert.FinRefIdeal.nD Cert.FinRefIdeal.τ).loc Cert.FinRefIdeal.main_arg1) = m ((c.tc : Thread Cert.FinRefIdeal.nD Cert.FinRefIdeal.τ).loc Cert.FinRefIdeal.main_arg1)
      ∧ r.2.mem ((c.tc : Thread Cert.FinRefIdeal.nD Cert.FinRefIdeal.τ).loc Cert.FinRefIdeal.main_arg2) = m ((c.tc : Thread Cert.FinRefIdeal.nD Cert.FinRefIdeal.τ).loc Cert.FinRefIdeal.main_arg2)
      ∧ r.2.mem ((c.tc : Thread Cert.FinRefIdeal.nD Cert.FinRefIdeal.τ).loc Cert.FinRefIdeal.main_arg3) = m ((c.tc : Thread Cert.FinRefIdeal.nD Cert.FinRefIdeal.τ).loc Cert.FinRefIdeal.main_arg3)
      ∧ r.2.mem ((c.tc : Thread Cert.FinRefIdeal.nD Cert.FinRefIdeal.τ).loc Cert.FinRefIdeal.main_arg4) = m ((c.tc : Thread Cert.FinRefIdeal.nD Cert.FinRefIdeal.τ).loc Cert.FinRefIdeal.main_arg4)
      ∧ r.2.mem ((c.tc : Thread Cert.FinRefIdeal.nD Cert.FinRefIdeal.τ).loc Cert.FinRefIdeal.main_arg5) = m ((c.tc : Thread Cert.FinRefIdeal.nD Cert.FinRefIdeal.τ).loc Cert.FinRefIdeal.main_arg5))
      ∧ r.2.sem = fun _ => 0)

def quiescent_Merge0 [hMerge0 : Cert.Merge0.Facts] : Prop :=
  ∀ (m : (ℓ : Loc Cert.Merge0.nD Cert.Merge0.τ Cert.Merge0.sig) → Buf (Elt Bits) ℓ) (g : Dev Cert.Merge0.nD → PrngReg), Pre_Merge0 m →
    θ_run (Cert.Merge0.defs (F := Bits)) (onTc (τ := Cert.Merge0.τ) (Cert.Merge0.main (F := Bits))) ⟨m, fun _ => 0, g⟩ (fun r => (∀ c : Dev Cert.Merge0.nD,
      r.2.mem ((c.tc : Thread Cert.Merge0.nD Cert.Merge0.τ).loc Cert.Merge0.main_arg0) = m ((c.tc : Thread Cert.Merge0.nD Cert.Merge0.τ).loc Cert.Merge0.main_arg0)
      ∧ r.2.mem ((c.tc : Thread Cert.Merge0.nD Cert.Merge0.τ).loc Cert.Merge0.main_arg1) = m ((c.tc : Thread Cert.Merge0.nD Cert.Merge0.τ).loc Cert.Merge0.main_arg1)
      ∧ r.2.mem ((c.tc : Thread Cert.Merge0.nD Cert.Merge0.τ).loc Cert.Merge0.main_arg2) = m ((c.tc : Thread Cert.Merge0.nD Cert.Merge0.τ).loc Cert.Merge0.main_arg2)
      ∧ r.2.mem ((c.tc : Thread Cert.Merge0.nD Cert.Merge0.τ).loc Cert.Merge0.main_arg3) = m ((c.tc : Thread Cert.Merge0.nD Cert.Merge0.τ).loc Cert.Merge0.main_arg3)
      ∧ r.2.mem ((c.tc : Thread Cert.Merge0.nD Cert.Merge0.τ).loc Cert.Merge0.main_arg4) = m ((c.tc : Thread Cert.Merge0.nD Cert.Merge0.τ).loc Cert.Merge0.main_arg4)
      ∧ r.2.mem ((c.tc : Thread Cert.Merge0.nD Cert.Merge0.τ).loc Cert.Merge0.main_arg5) = m ((c.tc : Thread Cert.Merge0.nD Cert.Merge0.τ).loc Cert.Merge0.main_arg5)
      ∧ r.2.mem ((c.tc : Thread Cert.Merge0.nD Cert.Merge0.τ).loc Cert.Merge0.main_arg6) = m ((c.tc : Thread Cert.Merge0.nD Cert.Merge0.τ).loc Cert.Merge0.main_arg6))
      ∧ r.2.sem = fun _ => 0)

def quiescent_Merge0Ideal [hMerge0Ideal : Cert.Merge0Ideal.Facts] : Prop :=
  ∀ (m : (ℓ : Loc Cert.Merge0Ideal.nD Cert.Merge0Ideal.τ Cert.Merge0Ideal.sig) → Buf (Elt Ideal) ℓ) (g : Dev Cert.Merge0Ideal.nD → PrngReg), Pre_Merge0Ideal m →
    θ_run (Cert.Merge0Ideal.defs (F := Ideal)) (onTc (τ := Cert.Merge0Ideal.τ) (Cert.Merge0Ideal.main (F := Ideal))) ⟨m, fun _ => 0, g⟩ (fun r => (∀ c : Dev Cert.Merge0Ideal.nD,
      r.2.mem ((c.tc : Thread Cert.Merge0Ideal.nD Cert.Merge0Ideal.τ).loc Cert.Merge0Ideal.main_arg0) = m ((c.tc : Thread Cert.Merge0Ideal.nD Cert.Merge0Ideal.τ).loc Cert.Merge0Ideal.main_arg0)
      ∧ r.2.mem ((c.tc : Thread Cert.Merge0Ideal.nD Cert.Merge0Ideal.τ).loc Cert.Merge0Ideal.main_arg1) = m ((c.tc : Thread Cert.Merge0Ideal.nD Cert.Merge0Ideal.τ).loc Cert.Merge0Ideal.main_arg1)
      ∧ r.2.mem ((c.tc : Thread Cert.Merge0Ideal.nD Cert.Merge0Ideal.τ).loc Cert.Merge0Ideal.main_arg2) = m ((c.tc : Thread Cert.Merge0Ideal.nD Cert.Merge0Ideal.τ).loc Cert.Merge0Ideal.main_arg2)
      ∧ r.2.mem ((c.tc : Thread Cert.Merge0Ideal.nD Cert.Merge0Ideal.τ).loc Cert.Merge0Ideal.main_arg3) = m ((c.tc : Thread Cert.Merge0Ideal.nD Cert.Merge0Ideal.τ).loc Cert.Merge0Ideal.main_arg3)
      ∧ r.2.mem ((c.tc : Thread Cert.Merge0Ideal.nD Cert.Merge0Ideal.τ).loc Cert.Merge0Ideal.main_arg4) = m ((c.tc : Thread Cert.Merge0Ideal.nD Cert.Merge0Ideal.τ).loc Cert.Merge0Ideal.main_arg4)
      ∧ r.2.mem ((c.tc : Thread Cert.Merge0Ideal.nD Cert.Merge0Ideal.τ).loc Cert.Merge0Ideal.main_arg5) = m ((c.tc : Thread Cert.Merge0Ideal.nD Cert.Merge0Ideal.τ).loc Cert.Merge0Ideal.main_arg5)
      ∧ r.2.mem ((c.tc : Thread Cert.Merge0Ideal.nD Cert.Merge0Ideal.τ).loc Cert.Merge0Ideal.main_arg6) = m ((c.tc : Thread Cert.Merge0Ideal.nD Cert.Merge0Ideal.τ).loc Cert.Merge0Ideal.main_arg6))
      ∧ r.2.sem = fun _ => 0)

def quiescent_Merge0RefIdeal [hMerge0RefIdeal : Cert.Merge0RefIdeal.Facts] : Prop :=
  ∀ (m : (ℓ : Loc Cert.Merge0RefIdeal.nD Cert.Merge0RefIdeal.τ Cert.Merge0RefIdeal.sig) → Buf (Elt Ideal) ℓ) (g : Dev Cert.Merge0RefIdeal.nD → PrngReg), Pre_Merge0RefIdeal m →
    θ_run (Cert.Merge0RefIdeal.defs (F := Ideal)) (onTc (τ := Cert.Merge0RefIdeal.τ) (Cert.Merge0RefIdeal.main (F := Ideal))) ⟨m, fun _ => 0, g⟩ (fun r => (∀ c : Dev Cert.Merge0RefIdeal.nD,
      r.2.mem ((c.tc : Thread Cert.Merge0RefIdeal.nD Cert.Merge0RefIdeal.τ).loc Cert.Merge0RefIdeal.main_arg0) = m ((c.tc : Thread Cert.Merge0RefIdeal.nD Cert.Merge0RefIdeal.τ).loc Cert.Merge0RefIdeal.main_arg0)
      ∧ r.2.mem ((c.tc : Thread Cert.Merge0RefIdeal.nD Cert.Merge0RefIdeal.τ).loc Cert.Merge0RefIdeal.main_arg1) = m ((c.tc : Thread Cert.Merge0RefIdeal.nD Cert.Merge0RefIdeal.τ).loc Cert.Merge0RefIdeal.main_arg1)
      ∧ r.2.mem ((c.tc : Thread Cert.Merge0RefIdeal.nD Cert.Merge0RefIdeal.τ).loc Cert.Merge0RefIdeal.main_arg2) = m ((c.tc : Thread Cert.Merge0RefIdeal.nD Cert.Merge0RefIdeal.τ).loc Cert.Merge0RefIdeal.main_arg2)
      ∧ r.2.mem ((c.tc : Thread Cert.Merge0RefIdeal.nD Cert.Merge0RefIdeal.τ).loc Cert.Merge0RefIdeal.main_arg3) = m ((c.tc : Thread Cert.Merge0RefIdeal.nD Cert.Merge0RefIdeal.τ).loc Cert.Merge0RefIdeal.main_arg3)
      ∧ r.2.mem ((c.tc : Thread Cert.Merge0RefIdeal.nD Cert.Merge0RefIdeal.τ).loc Cert.Merge0RefIdeal.main_arg4) = m ((c.tc : Thread Cert.Merge0RefIdeal.nD Cert.Merge0RefIdeal.τ).loc Cert.Merge0RefIdeal.main_arg4)
      ∧ r.2.mem ((c.tc : Thread Cert.Merge0RefIdeal.nD Cert.Merge0RefIdeal.τ).loc Cert.Merge0RefIdeal.main_arg5) = m ((c.tc : Thread Cert.Merge0RefIdeal.nD Cert.Merge0RefIdeal.τ).loc Cert.Merge0RefIdeal.main_arg5)
      ∧ r.2.mem ((c.tc : Thread Cert.Merge0RefIdeal.nD Cert.Merge0RefIdeal.τ).loc Cert.Merge0RefIdeal.main_arg6) = m ((c.tc : Thread Cert.Merge0RefIdeal.nD Cert.Merge0RefIdeal.τ).loc Cert.Merge0RefIdeal.main_arg6))
      ∧ r.2.sem = fun _ => 0)

def quiescent_Out0 [hOut0 : Cert.Out0.Facts] : Prop :=
  ∀ (m : (ℓ : Loc Cert.Out0.nD Cert.Out0.τ Cert.Out0.sig) → Buf (Elt Bits) ℓ) (g : Dev Cert.Out0.nD → PrngReg), Pre_Out0 m →
    θ_run (Cert.Out0.defs (F := Bits)) (onTc (τ := Cert.Out0.τ) (Cert.Out0.main (F := Bits))) ⟨m, fun _ => 0, g⟩ (fun r => (∀ c : Dev Cert.Out0.nD,
      r.2.mem ((c.tc : Thread Cert.Out0.nD Cert.Out0.τ).loc Cert.Out0.main_arg0) = m ((c.tc : Thread Cert.Out0.nD Cert.Out0.τ).loc Cert.Out0.main_arg0)
      ∧ r.2.mem ((c.tc : Thread Cert.Out0.nD Cert.Out0.τ).loc Cert.Out0.main_arg1) = m ((c.tc : Thread Cert.Out0.nD Cert.Out0.τ).loc Cert.Out0.main_arg1)
      ∧ r.2.mem ((c.tc : Thread Cert.Out0.nD Cert.Out0.τ).loc Cert.Out0.main_arg2) = m ((c.tc : Thread Cert.Out0.nD Cert.Out0.τ).loc Cert.Out0.main_arg2)
      ∧ r.2.mem ((c.tc : Thread Cert.Out0.nD Cert.Out0.τ).loc Cert.Out0.main_arg3) = m ((c.tc : Thread Cert.Out0.nD Cert.Out0.τ).loc Cert.Out0.main_arg3)
      ∧ r.2.mem ((c.tc : Thread Cert.Out0.nD Cert.Out0.τ).loc Cert.Out0.main_arg4) = m ((c.tc : Thread Cert.Out0.nD Cert.Out0.τ).loc Cert.Out0.main_arg4)
      ∧ r.2.mem ((c.tc : Thread Cert.Out0.nD Cert.Out0.τ).loc Cert.Out0.main_arg5) = m ((c.tc : Thread Cert.Out0.nD Cert.Out0.τ).loc Cert.Out0.main_arg5))
      ∧ r.2.sem = fun _ => 0)

def quiescent_Out0Ideal [hOut0Ideal : Cert.Out0Ideal.Facts] : Prop :=
  ∀ (m : (ℓ : Loc Cert.Out0Ideal.nD Cert.Out0Ideal.τ Cert.Out0Ideal.sig) → Buf (Elt Ideal) ℓ) (g : Dev Cert.Out0Ideal.nD → PrngReg), Pre_Out0Ideal m →
    θ_run (Cert.Out0Ideal.defs (F := Ideal)) (onTc (τ := Cert.Out0Ideal.τ) (Cert.Out0Ideal.main (F := Ideal))) ⟨m, fun _ => 0, g⟩ (fun r => (∀ c : Dev Cert.Out0Ideal.nD,
      r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
      ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1)
      ∧ r.2.mem ((c.tc : Thread Cert.Out0Ideal.nD Cert.Out0Ideal.τ).loc Cert.Out0Ideal.main_arg2) = m ((c.tc : Thread Cert.Out0Ideal.nD Cert.Out0Ideal.τ).loc Cert.Out0Ideal.main_arg2)
      ∧ r.2.mem ((c.tc : Thread Cert.Out0Ideal.nD Cert.Out0Ideal.τ).loc Cert.Out0Ideal.main_arg3) = m ((c.tc : Thread Cert.Out0Ideal.nD Cert.Out0Ideal.τ).loc Cert.Out0Ideal.main_arg3)
      ∧ r.2.mem ((c.tc : Thread Cert.Out0Ideal.nD Cert.Out0Ideal.τ).loc Cert.Out0Ideal.main_arg4) = m ((c.tc : Thread Cert.Out0Ideal.nD Cert.Out0Ideal.τ).loc Cert.Out0Ideal.main_arg4)
      ∧ r.2.mem ((c.tc : Thread Cert.Out0Ideal.nD Cert.Out0Ideal.τ).loc Cert.Out0Ideal.main_arg5) = m ((c.tc : Thread Cert.Out0Ideal.nD Cert.Out0Ideal.τ).loc Cert.Out0Ideal.main_arg5))
      ∧ r.2.sem = fun _ => 0)

def quiescent_Out0RefIdeal [hOut0RefIdeal : Cert.Out0RefIdeal.Facts] : Prop :=
  ∀ (m : (ℓ : Loc Cert.Out0RefIdeal.nD Cert.Out0RefIdeal.τ Cert.Out0RefIdeal.sig) → Buf (Elt Ideal) ℓ) (g : Dev Cert.Out0RefIdeal.nD → PrngReg), Pre_Out0RefIdeal m →
    θ_run (Cert.Out0RefIdeal.defs (F := Ideal)) (onTc (τ := Cert.Out0RefIdeal.τ) (Cert.Out0RefIdeal.main (F := Ideal))) ⟨m, fun _ => 0, g⟩ (fun r => (∀ c : Dev Cert.Out0RefIdeal.nD,
      r.2.mem ((c.tc : Thread Cert.Out0RefIdeal.nD Cert.Out0RefIdeal.τ).loc Cert.Out0RefIdeal.main_arg0) = m ((c.tc : Thread Cert.Out0RefIdeal.nD Cert.Out0RefIdeal.τ).loc Cert.Out0RefIdeal.main_arg0)
      ∧ r.2.mem ((c.tc : Thread Cert.Out0RefIdeal.nD Cert.Out0RefIdeal.τ).loc Cert.Out0RefIdeal.main_arg1) = m ((c.tc : Thread Cert.Out0RefIdeal.nD Cert.Out0RefIdeal.τ).loc Cert.Out0RefIdeal.main_arg1)
      ∧ r.2.mem ((c.tc : Thread Cert.Out0RefIdeal.nD Cert.Out0RefIdeal.τ).loc Cert.Out0RefIdeal.main_arg2) = m ((c.tc : Thread Cert.Out0RefIdeal.nD Cert.Out0RefIdeal.τ).loc Cert.Out0RefIdeal.main_arg2)
      ∧ r.2.mem ((c.tc : Thread Cert.Out0RefIdeal.nD Cert.Out0RefIdeal.τ).loc Cert.Out0RefIdeal.main_arg3) = m ((c.tc : Thread Cert.Out0RefIdeal.nD Cert.Out0RefIdeal.τ).loc Cert.Out0RefIdeal.main_arg3)
      ∧ r.2.mem ((c.tc : Thread Cert.Out0RefIdeal.nD Cert.Out0RefIdeal.τ).loc Cert.Out0RefIdeal.main_arg4) = m ((c.tc : Thread Cert.Out0RefIdeal.nD Cert.Out0RefIdeal.τ).loc Cert.Out0RefIdeal.main_arg4)
      ∧ r.2.mem ((c.tc : Thread Cert.Out0RefIdeal.nD Cert.Out0RefIdeal.τ).loc Cert.Out0RefIdeal.main_arg5) = m ((c.tc : Thread Cert.Out0RefIdeal.nD Cert.Out0RefIdeal.τ).loc Cert.Out0RefIdeal.main_arg5))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Qup [hQup : Cert.Qup.Facts] : Prop :=
  ∀ (m : (ℓ : Loc Cert.Qup.nD Cert.Qup.τ Cert.Qup.sig) → Buf (Elt Bits) ℓ) (g : Dev Cert.Qup.nD → PrngReg), Pre_Qup m →
    θ_run (Cert.Qup.defs (F := Bits)) (onTc (τ := Cert.Qup.τ) (Cert.Qup.main (F := Bits))) ⟨m, fun _ => 0, g⟩ (fun r => (∀ c : Dev Cert.Qup.nD,
      r.2.mem ((c.tc : Thread Cert.Qup.nD Cert.Qup.τ).loc Cert.Qup.main_arg0) = m ((c.tc : Thread Cert.Qup.nD Cert.Qup.τ).loc Cert.Qup.main_arg0)
      ∧ r.2.mem ((c.tc : Thread Cert.Qup.nD Cert.Qup.τ).loc Cert.Qup.main_arg1) = m ((c.tc : Thread Cert.Qup.nD Cert.Qup.τ).loc Cert.Qup.main_arg1))
      ∧ r.2.sem = fun _ => 0)

def quiescent_QupIdeal [hQupIdeal : Cert.QupIdeal.Facts] : Prop :=
  ∀ (m : (ℓ : Loc Cert.QupIdeal.nD Cert.QupIdeal.τ Cert.QupIdeal.sig) → Buf (Elt Ideal) ℓ) (g : Dev Cert.QupIdeal.nD → PrngReg), Pre_QupIdeal m →
    θ_run (Cert.QupIdeal.defs (F := Ideal)) (onTc (τ := Cert.QupIdeal.τ) (Cert.QupIdeal.main (F := Ideal))) ⟨m, fun _ => 0, g⟩ (fun r => (∀ c : Dev Cert.QupIdeal.nD,
      r.2.mem ((c.tc : Thread Cert.QupIdeal.nD Cert.QupIdeal.τ).loc Cert.QupIdeal.main_arg0) = m ((c.tc : Thread Cert.QupIdeal.nD Cert.QupIdeal.τ).loc Cert.QupIdeal.main_arg0)
      ∧ r.2.mem ((c.tc : Thread Cert.QupIdeal.nD Cert.QupIdeal.τ).loc Cert.QupIdeal.main_arg1) = m ((c.tc : Thread Cert.QupIdeal.nD Cert.QupIdeal.τ).loc Cert.QupIdeal.main_arg1))
      ∧ r.2.sem = fun _ => 0)

def quiescent_QupIdeal_pre_finite_rotated [hQupIdeal : Cert.QupIdeal.Facts] [hPre_finite_rotated : Cert.Pre_finite_rotated.Facts] : Prop :=
  ∀ (m : (ℓ : Loc Cert.QupIdeal.nD Cert.QupIdeal.τ Cert.QupIdeal.sig) → Buf (Elt Ideal) ℓ) (g : Dev Cert.QupIdeal.nD → PrngReg), Pre_QupIdeal_finite_rotated m →
    θ_run (Cert.QupIdeal.defs (F := Ideal)) (onTc (τ := Cert.QupIdeal.τ) (Cert.QupIdeal.main (F := Ideal))) ⟨m, fun _ => 0, g⟩ (fun r => (∀ c : Dev Cert.QupIdeal.nD,
      r.2.mem ((c.tc : Thread Cert.QupIdeal.nD Cert.QupIdeal.τ).loc Cert.QupIdeal.main_arg0) = m ((c.tc : Thread Cert.QupIdeal.nD Cert.QupIdeal.τ).loc Cert.QupIdeal.main_arg0)
      ∧ r.2.mem ((c.tc : Thread Cert.QupIdeal.nD Cert.QupIdeal.τ).loc Cert.QupIdeal.main_arg1) = m ((c.tc : Thread Cert.QupIdeal.nD Cert.QupIdeal.τ).loc Cert.QupIdeal.main_arg1))
      ∧ r.2.sem = fun _ => 0)

def quiescent_QupRefIdeal [hQupRefIdeal : Cert.QupRefIdeal.Facts] : Prop :=
  ∀ (m : (ℓ : Loc Cert.QupRefIdeal.nD Cert.QupRefIdeal.τ Cert.QupRefIdeal.sig) → Buf (Elt Ideal) ℓ) (g : Dev Cert.QupRefIdeal.nD → PrngReg), Pre_QupRefIdeal m →
    θ_run (Cert.QupRefIdeal.defs (F := Ideal)) (onTc (τ := Cert.QupRefIdeal.τ) (Cert.QupRefIdeal.main (F := Ideal))) ⟨m, fun _ => 0, g⟩ (fun r => (∀ c : Dev Cert.QupRefIdeal.nD,
      r.2.mem ((c.tc : Thread Cert.QupRefIdeal.nD Cert.QupRefIdeal.τ).loc Cert.QupRefIdeal.main_arg0) = m ((c.tc : Thread Cert.QupRefIdeal.nD Cert.QupRefIdeal.τ).loc Cert.QupRefIdeal.main_arg0)
      ∧ r.2.mem ((c.tc : Thread Cert.QupRefIdeal.nD Cert.QupRefIdeal.τ).loc Cert.QupRefIdeal.main_arg1) = m ((c.tc : Thread Cert.QupRefIdeal.nD Cert.QupRefIdeal.τ).loc Cert.QupRefIdeal.main_arg1))
      ∧ r.2.sem = fun _ => 0)

def quiescent_QupRefIdeal_pre_finite_rotated [hQupRefIdeal : Cert.QupRefIdeal.Facts] [hPre_finite_rotated : Cert.Pre_finite_rotated.Facts] : Prop :=
  ∀ (m : (ℓ : Loc Cert.QupRefIdeal.nD Cert.QupRefIdeal.τ Cert.QupRefIdeal.sig) → Buf (Elt Ideal) ℓ) (g : Dev Cert.QupRefIdeal.nD → PrngReg), Pre_QupRefIdeal_finite_rotated m →
    θ_run (Cert.QupRefIdeal.defs (F := Ideal)) (onTc (τ := Cert.QupRefIdeal.τ) (Cert.QupRefIdeal.main (F := Ideal))) ⟨m, fun _ => 0, g⟩ (fun r => (∀ c : Dev Cert.QupRefIdeal.nD,
      r.2.mem ((c.tc : Thread Cert.QupRefIdeal.nD Cert.QupRefIdeal.τ).loc Cert.QupRefIdeal.main_arg0) = m ((c.tc : Thread Cert.QupRefIdeal.nD Cert.QupRefIdeal.τ).loc Cert.QupRefIdeal.main_arg0)
      ∧ r.2.mem ((c.tc : Thread Cert.QupRefIdeal.nD Cert.QupRefIdeal.τ).loc Cert.QupRefIdeal.main_arg1) = m ((c.tc : Thread Cert.QupRefIdeal.nD Cert.QupRefIdeal.τ).loc Cert.QupRefIdeal.main_arg1))
      ∧ r.2.sem = fun _ => 0)

def preserves_Big_BigIdeal : Prop :=
  True

def algebraic_BigIdeal_BigRefIdeal [hBigIdeal : Cert.BigIdeal.Facts] [hBigRefIdeal : Cert.BigRefIdeal.Facts] : Prop :=
  ∀ (m : (ℓ : Loc Cert.BigIdeal.nD Cert.BigIdeal.τ Cert.BigIdeal.sig) → Buf (Elt Ideal) ℓ) (g : Dev Cert.BigIdeal.nD → PrngReg)
    (m' : (ℓ : Loc Cert.BigRefIdeal.nD Cert.BigRefIdeal.τ Cert.BigRefIdeal.sig) → Buf (Elt Ideal) ℓ) (g' : Dev Cert.BigRefIdeal.nD → PrngReg), Pre_BigIdeal m →
    (∀ c : Dev Cert.BigIdeal.nD,
      m' ((c.tc : Thread Cert.BigRefIdeal.nD Cert.BigRefIdeal.τ).loc Cert.BigRefIdeal.main_arg0) = m ((c.tc : Thread Cert.BigIdeal.nD Cert.BigIdeal.τ).loc Cert.BigIdeal.main_arg0)
      ∧ m' ((c.tc : Thread Cert.BigRefIdeal.nD Cert.BigRefIdeal.τ).loc Cert.BigRefIdeal.main_arg1) = m ((c.tc : Thread Cert.BigIdeal.nD Cert.BigIdeal.τ).loc Cert.BigIdeal.main_arg1)
      ∧ m' ((c.tc : Thread Cert.BigRefIdeal.nD Cert.BigRefIdeal.τ).loc Cert.BigRefIdeal.main_arg2) = m ((c.tc : Thread Cert.BigIdeal.nD Cert.BigIdeal.τ).loc Cert.BigIdeal.main_arg2)) →
    ∃ (v0 : (c : Dev Cert.BigIdeal.nD) → Buf (Elt Ideal) ((c.tc : Thread Cert.BigIdeal.nD Cert.BigIdeal.τ).loc Cert.BigIdeal.main_v7)),
      θ_run (Cert.BigIdeal.defs (F := Ideal)) (onTc (τ := Cert.BigIdeal.τ) (Cert.BigIdeal.main (F := Ideal))) ⟨m, fun _ => 0, g⟩ (fun r => ∀ c : Dev Cert.BigIdeal.nD,
          r.2.mem ((c.tc : Thread Cert.BigIdeal.nD Cert.BigIdeal.τ).loc Cert.BigIdeal.main_v7) = v0 c
          ∧ r.2.mem ((c.tc : Thread Cert.BigIdeal.nD Cert.BigIdeal.τ).loc Cert.BigIdeal.main_arg0) = m ((c.tc : Thread Cert.BigIdeal.nD Cert.BigIdeal.τ).loc Cert.BigIdeal.main_arg0)
          ∧ r.2.mem ((c.tc : Thread Cert.BigIdeal.nD Cert.BigIdeal.τ).loc Cert.BigIdeal.main_arg1) = m ((c.tc : Thread Cert.BigIdeal.nD Cert.BigIdeal.τ).loc Cert.BigIdeal.main_arg1)
          ∧ r.2.mem ((c.tc : Thread Cert.BigIdeal.nD Cert.BigIdeal.τ).loc Cert.BigIdeal.main_arg2) = m ((c.tc : Thread Cert.BigIdeal.nD Cert.BigIdeal.τ).loc Cert.BigIdeal.main_arg2))
      ∧ θ_run (Cert.BigRefIdeal.defs (F := Ideal)) (onTc (τ := Cert.BigRefIdeal.τ) (Cert.BigRefIdeal.main (F := Ideal))) ⟨m', fun _ => 0, g'⟩ (fun r => ∀ c : Dev Cert.BigRefIdeal.nD,
          r.2.mem ((c.tc : Thread Cert.BigRefIdeal.nD Cert.BigRefIdeal.τ).loc Cert.BigRefIdeal.main_v27) = v0 c
          ∧ r.2.mem ((c.tc : Thread Cert.BigRefIdeal.nD Cert.BigRefIdeal.τ).loc Cert.BigRefIdeal.main_arg0) = m' ((c.tc : Thread Cert.BigRefIdeal.nD Cert.BigRefIdeal.τ).loc Cert.BigRefIdeal.main_arg0)
          ∧ r.2.mem ((c.tc : Thread Cert.BigRefIdeal.nD Cert.BigRefIdeal.τ).loc Cert.BigRefIdeal.main_arg1) = m' ((c.tc : Thread Cert.BigRefIdeal.nD Cert.BigRefIdeal.τ).loc Cert.BigRefIdeal.main_arg1)
          ∧ r.2.mem ((c.tc : Thread Cert.BigRefIdeal.nD Cert.BigRefIdeal.τ).loc Cert.BigRefIdeal.main_arg2) = m' ((c.tc : Thread Cert.BigRefIdeal.nD Cert.BigRefIdeal.τ).loc Cert.BigRefIdeal.main_arg2))

def preserves_Hf_HfIdeal : Prop :=
  True

def algebraic_HfIdeal_HfRefIdeal [hHfIdeal : Cert.HfIdeal.Facts] [hHfRefIdeal : Cert.HfRefIdeal.Facts] : Prop :=
  ∀ (m : (ℓ : Loc Cert.HfIdeal.nD Cert.HfIdeal.τ Cert.HfIdeal.sig) → Buf (Elt Ideal) ℓ) (g : Dev Cert.HfIdeal.nD → PrngReg)
    (m' : (ℓ : Loc Cert.HfRefIdeal.nD Cert.HfRefIdeal.τ Cert.HfRefIdeal.sig) → Buf (Elt Ideal) ℓ) (g' : Dev Cert.HfRefIdeal.nD → PrngReg), Pre_HfIdeal m →
    (∀ c : Dev Cert.HfIdeal.nD,
      m' ((c.tc : Thread Cert.HfRefIdeal.nD Cert.HfRefIdeal.τ).loc Cert.HfRefIdeal.main_arg0) = m ((c.tc : Thread Cert.HfIdeal.nD Cert.HfIdeal.τ).loc Cert.HfIdeal.main_arg0)
      ∧ m' ((c.tc : Thread Cert.HfRefIdeal.nD Cert.HfRefIdeal.τ).loc Cert.HfRefIdeal.main_arg1) = m ((c.tc : Thread Cert.HfIdeal.nD Cert.HfIdeal.τ).loc Cert.HfIdeal.main_arg1)
      ∧ m' ((c.tc : Thread Cert.HfRefIdeal.nD Cert.HfRefIdeal.τ).loc Cert.HfRefIdeal.main_arg2) = m ((c.tc : Thread Cert.HfIdeal.nD Cert.HfIdeal.τ).loc Cert.HfIdeal.main_arg2)) →
    ∃ (v0 : (c : Dev Cert.HfIdeal.nD) → Buf (Elt Ideal) ((c.tc : Thread Cert.HfIdeal.nD Cert.HfIdeal.τ).loc Cert.HfIdeal.main_v7)),
      θ_run (Cert.HfIdeal.defs (F := Ideal)) (onTc (τ := Cert.HfIdeal.τ) (Cert.HfIdeal.main (F := Ideal))) ⟨m, fun _ => 0, g⟩ (fun r => ∀ c : Dev Cert.HfIdeal.nD,
          r.2.mem ((c.tc : Thread Cert.HfIdeal.nD Cert.HfIdeal.τ).loc Cert.HfIdeal.main_v7) = v0 c
          ∧ r.2.mem ((c.tc : Thread Cert.HfIdeal.nD Cert.HfIdeal.τ).loc Cert.HfIdeal.main_arg0) = m ((c.tc : Thread Cert.HfIdeal.nD Cert.HfIdeal.τ).loc Cert.HfIdeal.main_arg0)
          ∧ r.2.mem ((c.tc : Thread Cert.HfIdeal.nD Cert.HfIdeal.τ).loc Cert.HfIdeal.main_arg1) = m ((c.tc : Thread Cert.HfIdeal.nD Cert.HfIdeal.τ).loc Cert.HfIdeal.main_arg1)
          ∧ r.2.mem ((c.tc : Thread Cert.HfIdeal.nD Cert.HfIdeal.τ).loc Cert.HfIdeal.main_arg2) = m ((c.tc : Thread Cert.HfIdeal.nD Cert.HfIdeal.τ).loc Cert.HfIdeal.main_arg2))
      ∧ θ_run (Cert.HfRefIdeal.defs (F := Ideal)) (onTc (τ := Cert.HfRefIdeal.τ) (Cert.HfRefIdeal.main (F := Ideal))) ⟨m', fun _ => 0, g'⟩ (fun r => ∀ c : Dev Cert.HfRefIdeal.nD,
          r.2.mem ((c.tc : Thread Cert.HfRefIdeal.nD Cert.HfRefIdeal.τ).loc Cert.HfRefIdeal.main_v26) = v0 c
          ∧ r.2.mem ((c.tc : Thread Cert.HfRefIdeal.nD Cert.HfRefIdeal.τ).loc Cert.HfRefIdeal.main_arg0) = m' ((c.tc : Thread Cert.HfRefIdeal.nD Cert.HfRefIdeal.τ).loc Cert.HfRefIdeal.main_arg0)
          ∧ r.2.mem ((c.tc : Thread Cert.HfRefIdeal.nD Cert.HfRefIdeal.τ).loc Cert.HfRefIdeal.main_arg1) = m' ((c.tc : Thread Cert.HfRefIdeal.nD Cert.HfRefIdeal.τ).loc Cert.HfRefIdeal.main_arg1)
          ∧ r.2.mem ((c.tc : Thread Cert.HfRefIdeal.nD Cert.HfRefIdeal.τ).loc Cert.HfRefIdeal.main_arg2) = m' ((c.tc : Thread Cert.HfRefIdeal.nD Cert.HfRefIdeal.τ).loc Cert.HfRefIdeal.main_arg2))

def preserves_Cq_CqIdeal : Prop :=
  True

def algebraic_CqIdeal_CqRefIdeal [hCqIdeal : Cert.CqIdeal.Facts] [hCqRefIdeal : Cert.CqRefIdeal.Facts] : Prop :=
  ∀ (m : (ℓ : Loc Cert.CqIdeal.nD Cert.CqIdeal.τ Cert.CqIdeal.sig) → Buf (Elt Ideal) ℓ) (g : Dev Cert.CqIdeal.nD → PrngReg)
    (m' : (ℓ : Loc Cert.CqRefIdeal.nD Cert.CqRefIdeal.τ Cert.CqRefIdeal.sig) → Buf (Elt Ideal) ℓ) (g' : Dev Cert.CqRefIdeal.nD → PrngReg), Pre_CqIdeal m →
    (∀ c : Dev Cert.CqIdeal.nD,
      m' ((c.tc : Thread Cert.CqRefIdeal.nD Cert.CqRefIdeal.τ).loc Cert.CqRefIdeal.main_arg0) = m ((c.tc : Thread Cert.CqIdeal.nD Cert.CqIdeal.τ).loc Cert.CqIdeal.main_arg0)
      ∧ m' ((c.tc : Thread Cert.CqRefIdeal.nD Cert.CqRefIdeal.τ).loc Cert.CqRefIdeal.main_arg1) = m ((c.tc : Thread Cert.CqIdeal.nD Cert.CqIdeal.τ).loc Cert.CqIdeal.main_arg1)
      ∧ m' ((c.tc : Thread Cert.CqRefIdeal.nD Cert.CqRefIdeal.τ).loc Cert.CqRefIdeal.main_arg2) = m ((c.tc : Thread Cert.CqIdeal.nD Cert.CqIdeal.τ).loc Cert.CqIdeal.main_arg2)
      ∧ m' ((c.tc : Thread Cert.CqRefIdeal.nD Cert.CqRefIdeal.τ).loc Cert.CqRefIdeal.main_arg3) = m ((c.tc : Thread Cert.CqIdeal.nD Cert.CqIdeal.τ).loc Cert.CqIdeal.main_arg3)) →
    ∃ (v0 : (c : Dev Cert.CqIdeal.nD) → Buf (Elt Ideal) ((c.tc : Thread Cert.CqIdeal.nD Cert.CqIdeal.τ).loc Cert.CqIdeal.main_v10)),
      θ_run (Cert.CqIdeal.defs (F := Ideal)) (onTc (τ := Cert.CqIdeal.τ) (Cert.CqIdeal.main (F := Ideal))) ⟨m, fun _ => 0, g⟩ (fun r => ∀ c : Dev Cert.CqIdeal.nD,
          r.2.mem ((c.tc : Thread Cert.CqIdeal.nD Cert.CqIdeal.τ).loc Cert.CqIdeal.main_v10) = v0 c
          ∧ r.2.mem ((c.tc : Thread Cert.CqIdeal.nD Cert.CqIdeal.τ).loc Cert.CqIdeal.main_arg0) = m ((c.tc : Thread Cert.CqIdeal.nD Cert.CqIdeal.τ).loc Cert.CqIdeal.main_arg0)
          ∧ r.2.mem ((c.tc : Thread Cert.CqIdeal.nD Cert.CqIdeal.τ).loc Cert.CqIdeal.main_arg1) = m ((c.tc : Thread Cert.CqIdeal.nD Cert.CqIdeal.τ).loc Cert.CqIdeal.main_arg1)
          ∧ r.2.mem ((c.tc : Thread Cert.CqIdeal.nD Cert.CqIdeal.τ).loc Cert.CqIdeal.main_arg2) = m ((c.tc : Thread Cert.CqIdeal.nD Cert.CqIdeal.τ).loc Cert.CqIdeal.main_arg2)
          ∧ r.2.mem ((c.tc : Thread Cert.CqIdeal.nD Cert.CqIdeal.τ).loc Cert.CqIdeal.main_arg3) = m ((c.tc : Thread Cert.CqIdeal.nD Cert.CqIdeal.τ).loc Cert.CqIdeal.main_arg3))
      ∧ θ_run (Cert.CqRefIdeal.defs (F := Ideal)) (onTc (τ := Cert.CqRefIdeal.τ) (Cert.CqRefIdeal.main (F := Ideal))) ⟨m', fun _ => 0, g'⟩ (fun r => ∀ c : Dev Cert.CqRefIdeal.nD,
          r.2.mem ((c.tc : Thread Cert.CqRefIdeal.nD Cert.CqRefIdeal.τ).loc Cert.CqRefIdeal.main_v41) = v0 c
          ∧ r.2.mem ((c.tc : Thread Cert.CqRefIdeal.nD Cert.CqRefIdeal.τ).loc Cert.CqRefIdeal.main_arg0) = m' ((c.tc : Thread Cert.CqRefIdeal.nD Cert.CqRefIdeal.τ).loc Cert.CqRefIdeal.main_arg0)
          ∧ r.2.mem ((c.tc : Thread Cert.CqRefIdeal.nD Cert.CqRefIdeal.τ).loc Cert.CqRefIdeal.main_arg1) = m' ((c.tc : Thread Cert.CqRefIdeal.nD Cert.CqRefIdeal.τ).loc Cert.CqRefIdeal.main_arg1)
          ∧ r.2.mem ((c.tc : Thread Cert.CqRefIdeal.nD Cert.CqRefIdeal.τ).loc Cert.CqRefIdeal.main_arg2) = m' ((c.tc : Thread Cert.CqRefIdeal.nD Cert.CqRefIdeal.τ).loc Cert.CqRefIdeal.main_arg2)
          ∧ r.2.mem ((c.tc : Thread Cert.CqRefIdeal.nD Cert.CqRefIdeal.τ).loc Cert.CqRefIdeal.main_arg3) = m' ((c.tc : Thread Cert.CqRefIdeal.nD Cert.CqRefIdeal.τ).loc Cert.CqRefIdeal.main_arg3))

def preserves_Ckv_CkvIdeal : Prop :=
  True

def algebraic_CkvIdeal_CkvRefIdeal [hCkvIdeal : Cert.CkvIdeal.Facts] [hCkvRefIdeal : Cert.CkvRefIdeal.Facts] : Prop :=
  ∀ (m : (ℓ : Loc Cert.CkvIdeal.nD Cert.CkvIdeal.τ Cert.CkvIdeal.sig) → Buf (Elt Ideal) ℓ) (g : Dev Cert.CkvIdeal.nD → PrngReg)
    (m' : (ℓ : Loc Cert.CkvRefIdeal.nD Cert.CkvRefIdeal.τ Cert.CkvRefIdeal.sig) → Buf (Elt Ideal) ℓ) (g' : Dev Cert.CkvRefIdeal.nD → PrngReg), Pre_CkvIdeal m →
    (∀ c : Dev Cert.CkvIdeal.nD,
      m' ((c.tc : Thread Cert.CkvRefIdeal.nD Cert.CkvRefIdeal.τ).loc Cert.CkvRefIdeal.main_arg0) = m ((c.tc : Thread Cert.CkvIdeal.nD Cert.CkvIdeal.τ).loc Cert.CkvIdeal.main_arg0)
      ∧ m' ((c.tc : Thread Cert.CkvRefIdeal.nD Cert.CkvRefIdeal.τ).loc Cert.CkvRefIdeal.main_arg1) = m ((c.tc : Thread Cert.CkvIdeal.nD Cert.CkvIdeal.τ).loc Cert.CkvIdeal.main_arg1)
      ∧ m' ((c.tc : Thread Cert.CkvRefIdeal.nD Cert.CkvRefIdeal.τ).loc Cert.CkvRefIdeal.main_arg2) = m ((c.tc : Thread Cert.CkvIdeal.nD Cert.CkvIdeal.τ).loc Cert.CkvIdeal.main_arg2)
      ∧ m' ((c.tc : Thread Cert.CkvRefIdeal.nD Cert.CkvRefIdeal.τ).loc Cert.CkvRefIdeal.main_arg3) = m ((c.tc : Thread Cert.CkvIdeal.nD Cert.CkvIdeal.τ).loc Cert.CkvIdeal.main_arg3)) →
    ∃ (v0 : (c : Dev Cert.CkvIdeal.nD) → Buf (Elt Ideal) ((c.tc : Thread Cert.CkvIdeal.nD Cert.CkvIdeal.τ).loc Cert.CkvIdeal.main_v10)),
      θ_run (Cert.CkvIdeal.defs (F := Ideal)) (onTc (τ := Cert.CkvIdeal.τ) (Cert.CkvIdeal.main (F := Ideal))) ⟨m, fun _ => 0, g⟩ (fun r => ∀ c : Dev Cert.CkvIdeal.nD,
          r.2.mem ((c.tc : Thread Cert.CkvIdeal.nD Cert.CkvIdeal.τ).loc Cert.CkvIdeal.main_v10) = v0 c
          ∧ r.2.mem ((c.tc : Thread Cert.CkvIdeal.nD Cert.CkvIdeal.τ).loc Cert.CkvIdeal.main_arg0) = m ((c.tc : Thread Cert.CkvIdeal.nD Cert.CkvIdeal.τ).loc Cert.CkvIdeal.main_arg0)
          ∧ r.2.mem ((c.tc : Thread Cert.CkvIdeal.nD Cert.CkvIdeal.τ).loc Cert.CkvIdeal.main_arg1) = m ((c.tc : Thread Cert.CkvIdeal.nD Cert.CkvIdeal.τ).loc Cert.CkvIdeal.main_arg1)
          ∧ r.2.mem ((c.tc : Thread Cert.CkvIdeal.nD Cert.CkvIdeal.τ).loc Cert.CkvIdeal.main_arg2) = m ((c.tc : Thread Cert.CkvIdeal.nD Cert.CkvIdeal.τ).loc Cert.CkvIdeal.main_arg2)
          ∧ r.2.mem ((c.tc : Thread Cert.CkvIdeal.nD Cert.CkvIdeal.τ).loc Cert.CkvIdeal.main_arg3) = m ((c.tc : Thread Cert.CkvIdeal.nD Cert.CkvIdeal.τ).loc Cert.CkvIdeal.main_arg3))
      ∧ θ_run (Cert.CkvRefIdeal.defs (F := Ideal)) (onTc (τ := Cert.CkvRefIdeal.τ) (Cert.CkvRefIdeal.main (F := Ideal))) ⟨m', fun _ => 0, g'⟩ (fun r => ∀ c : Dev Cert.CkvRefIdeal.nD,
          r.2.mem ((c.tc : Thread Cert.CkvRefIdeal.nD Cert.CkvRefIdeal.τ).loc Cert.CkvRefIdeal.main_v41) = v0 c
          ∧ r.2.mem ((c.tc : Thread Cert.CkvRefIdeal.nD Cert.CkvRefIdeal.τ).loc Cert.CkvRefIdeal.main_arg0) = m' ((c.tc : Thread Cert.CkvRefIdeal.nD Cert.CkvRefIdeal.τ).loc Cert.CkvRefIdeal.main_arg0)
          ∧ r.2.mem ((c.tc : Thread Cert.CkvRefIdeal.nD Cert.CkvRefIdeal.τ).loc Cert.CkvRefIdeal.main_arg1) = m' ((c.tc : Thread Cert.CkvRefIdeal.nD Cert.CkvRefIdeal.τ).loc Cert.CkvRefIdeal.main_arg1)
          ∧ r.2.mem ((c.tc : Thread Cert.CkvRefIdeal.nD Cert.CkvRefIdeal.τ).loc Cert.CkvRefIdeal.main_arg2) = m' ((c.tc : Thread Cert.CkvRefIdeal.nD Cert.CkvRefIdeal.τ).loc Cert.CkvRefIdeal.main_arg2)
          ∧ r.2.mem ((c.tc : Thread Cert.CkvRefIdeal.nD Cert.CkvRefIdeal.τ).loc Cert.CkvRefIdeal.main_arg3) = m' ((c.tc : Thread Cert.CkvRefIdeal.nD Cert.CkvRefIdeal.τ).loc Cert.CkvRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v17)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v17) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v38) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v11)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v11) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v12) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v10)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v10) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v11) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_Fin_FinIdeal : Prop :=
  True

def algebraic_FinIdeal_FinRefIdeal [hFinIdeal : Cert.FinIdeal.Facts] [hFinRefIdeal : Cert.FinRefIdeal.Facts] : Prop :=
  ∀ (m : (ℓ : Loc Cert.FinIdeal.nD Cert.FinIdeal.τ Cert.FinIdeal.sig) → Buf (Elt Ideal) ℓ) (g : Dev Cert.FinIdeal.nD → PrngReg)
    (m' : (ℓ : Loc Cert.FinRefIdeal.nD Cert.FinRefIdeal.τ Cert.FinRefIdeal.sig) → Buf (Elt Ideal) ℓ) (g' : Dev Cert.FinRefIdeal.nD → PrngReg), Pre_FinIdeal m →
    (∀ c : Dev Cert.FinIdeal.nD,
      m' ((c.tc : Thread Cert.FinRefIdeal.nD Cert.FinRefIdeal.τ).loc Cert.FinRefIdeal.main_arg0) = m ((c.tc : Thread Cert.FinIdeal.nD Cert.FinIdeal.τ).loc Cert.FinIdeal.main_arg0)
      ∧ m' ((c.tc : Thread Cert.FinRefIdeal.nD Cert.FinRefIdeal.τ).loc Cert.FinRefIdeal.main_arg1) = m ((c.tc : Thread Cert.FinIdeal.nD Cert.FinIdeal.τ).loc Cert.FinIdeal.main_arg1)
      ∧ m' ((c.tc : Thread Cert.FinRefIdeal.nD Cert.FinRefIdeal.τ).loc Cert.FinRefIdeal.main_arg2) = m ((c.tc : Thread Cert.FinIdeal.nD Cert.FinIdeal.τ).loc Cert.FinIdeal.main_arg2)
      ∧ m' ((c.tc : Thread Cert.FinRefIdeal.nD Cert.FinRefIdeal.τ).loc Cert.FinRefIdeal.main_arg3) = m ((c.tc : Thread Cert.FinIdeal.nD Cert.FinIdeal.τ).loc Cert.FinIdeal.main_arg3)
      ∧ m' ((c.tc : Thread Cert.FinRefIdeal.nD Cert.FinRefIdeal.τ).loc Cert.FinRefIdeal.main_arg4) = m ((c.tc : Thread Cert.FinIdeal.nD Cert.FinIdeal.τ).loc Cert.FinIdeal.main_arg4)
      ∧ m' ((c.tc : Thread Cert.FinRefIdeal.nD Cert.FinRefIdeal.τ).loc Cert.FinRefIdeal.main_arg5) = m ((c.tc : Thread Cert.FinIdeal.nD Cert.FinIdeal.τ).loc Cert.FinIdeal.main_arg5)) →
    ∃ (v0 : (c : Dev Cert.FinIdeal.nD) → Buf (Elt Ideal) ((c.tc : Thread Cert.FinIdeal.nD Cert.FinIdeal.τ).loc Cert.FinIdeal.main_v12)),
      θ_run (Cert.FinIdeal.defs (F := Ideal)) (onTc (τ := Cert.FinIdeal.τ) (Cert.FinIdeal.main (F := Ideal))) ⟨m, fun _ => 0, g⟩ (fun r => ∀ c : Dev Cert.FinIdeal.nD,
          r.2.mem ((c.tc : Thread Cert.FinIdeal.nD Cert.FinIdeal.τ).loc Cert.FinIdeal.main_v12) = v0 c
          ∧ r.2.mem ((c.tc : Thread Cert.FinIdeal.nD Cert.FinIdeal.τ).loc Cert.FinIdeal.main_arg0) = m ((c.tc : Thread Cert.FinIdeal.nD Cert.FinIdeal.τ).loc Cert.FinIdeal.main_arg0)
          ∧ r.2.mem ((c.tc : Thread Cert.FinIdeal.nD Cert.FinIdeal.τ).loc Cert.FinIdeal.main_arg1) = m ((c.tc : Thread Cert.FinIdeal.nD Cert.FinIdeal.τ).loc Cert.FinIdeal.main_arg1)
          ∧ r.2.mem ((c.tc : Thread Cert.FinIdeal.nD Cert.FinIdeal.τ).loc Cert.FinIdeal.main_arg2) = m ((c.tc : Thread Cert.FinIdeal.nD Cert.FinIdeal.τ).loc Cert.FinIdeal.main_arg2)
          ∧ r.2.mem ((c.tc : Thread Cert.FinIdeal.nD Cert.FinIdeal.τ).loc Cert.FinIdeal.main_arg3) = m ((c.tc : Thread Cert.FinIdeal.nD Cert.FinIdeal.τ).loc Cert.FinIdeal.main_arg3)
          ∧ r.2.mem ((c.tc : Thread Cert.FinIdeal.nD Cert.FinIdeal.τ).loc Cert.FinIdeal.main_arg4) = m ((c.tc : Thread Cert.FinIdeal.nD Cert.FinIdeal.τ).loc Cert.FinIdeal.main_arg4)
          ∧ r.2.mem ((c.tc : Thread Cert.FinIdeal.nD Cert.FinIdeal.τ).loc Cert.FinIdeal.main_arg5) = m ((c.tc : Thread Cert.FinIdeal.nD Cert.FinIdeal.τ).loc Cert.FinIdeal.main_arg5))
      ∧ θ_run (Cert.FinRefIdeal.defs (F := Ideal)) (onTc (τ := Cert.FinRefIdeal.τ) (Cert.FinRefIdeal.main (F := Ideal))) ⟨m', fun _ => 0, g'⟩ (fun r => ∀ c : Dev Cert.FinRefIdeal.nD,
          r.2.mem ((c.tc : Thread Cert.FinRefIdeal.nD Cert.FinRefIdeal.τ).loc Cert.FinRefIdeal.main_v27) = v0 c
          ∧ r.2.mem ((c.tc : Thread Cert.FinRefIdeal.nD Cert.FinRefIdeal.τ).loc Cert.FinRefIdeal.main_arg0) = m' ((c.tc : Thread Cert.FinRefIdeal.nD Cert.FinRefIdeal.τ).loc Cert.FinRefIdeal.main_arg0)
          ∧ r.2.mem ((c.tc : Thread Cert.FinRefIdeal.nD Cert.FinRefIdeal.τ).loc Cert.FinRefIdeal.main_arg1) = m' ((c.tc : Thread Cert.FinRefIdeal.nD Cert.FinRefIdeal.τ).loc Cert.FinRefIdeal.main_arg1)
          ∧ r.2.mem ((c.tc : Thread Cert.FinRefIdeal.nD Cert.FinRefIdeal.τ).loc Cert.FinRefIdeal.main_arg2) = m' ((c.tc : Thread Cert.FinRefIdeal.nD Cert.FinRefIdeal.τ).loc Cert.FinRefIdeal.main_arg2)
          ∧ r.2.mem ((c.tc : Thread Cert.FinRefIdeal.nD Cert.FinRefIdeal.τ).loc Cert.FinRefIdeal.main_arg3) = m' ((c.tc : Thread Cert.FinRefIdeal.nD Cert.FinRefIdeal.τ).loc Cert.FinRefIdeal.main_arg3)
          ∧ r.2.mem ((c.tc : Thread Cert.FinRefIdeal.nD Cert.FinRefIdeal.τ).loc Cert.FinRefIdeal.main_arg4) = m' ((c.tc : Thread Cert.FinRefIdeal.nD Cert.FinRefIdeal.τ).loc Cert.FinRefIdeal.main_arg4)
          ∧ r.2.mem ((c.tc : Thread Cert.FinRefIdeal.nD Cert.FinRefIdeal.τ).loc Cert.FinRefIdeal.main_arg5) = m' ((c.tc : Thread Cert.FinRefIdeal.nD Cert.FinRefIdeal.τ).loc Cert.FinRefIdeal.main_arg5))

def preserves_Merge0_Merge0Ideal : Prop :=
  True

def algebraic_Merge0Ideal_Merge0RefIdeal [hMerge0Ideal : Cert.Merge0Ideal.Facts] [hMerge0RefIdeal : Cert.Merge0RefIdeal.Facts] : Prop :=
  ∀ (m : (ℓ : Loc Cert.Merge0Ideal.nD Cert.Merge0Ideal.τ Cert.Merge0Ideal.sig) → Buf (Elt Ideal) ℓ) (g : Dev Cert.Merge0Ideal.nD → PrngReg)
    (m' : (ℓ : Loc Cert.Merge0RefIdeal.nD Cert.Merge0RefIdeal.τ Cert.Merge0RefIdeal.sig) → Buf (Elt Ideal) ℓ) (g' : Dev Cert.Merge0RefIdeal.nD → PrngReg), Pre_Merge0Ideal m →
    (∀ c : Dev Cert.Merge0Ideal.nD,
      m' ((c.tc : Thread Cert.Merge0RefIdeal.nD Cert.Merge0RefIdeal.τ).loc Cert.Merge0RefIdeal.main_arg0) = m ((c.tc : Thread Cert.Merge0Ideal.nD Cert.Merge0Ideal.τ).loc Cert.Merge0Ideal.main_arg0)
      ∧ m' ((c.tc : Thread Cert.Merge0RefIdeal.nD Cert.Merge0RefIdeal.τ).loc Cert.Merge0RefIdeal.main_arg1) = m ((c.tc : Thread Cert.Merge0Ideal.nD Cert.Merge0Ideal.τ).loc Cert.Merge0Ideal.main_arg1)
      ∧ m' ((c.tc : Thread Cert.Merge0RefIdeal.nD Cert.Merge0RefIdeal.τ).loc Cert.Merge0RefIdeal.main_arg2) = m ((c.tc : Thread Cert.Merge0Ideal.nD Cert.Merge0Ideal.τ).loc Cert.Merge0Ideal.main_arg2)
      ∧ m' ((c.tc : Thread Cert.Merge0RefIdeal.nD Cert.Merge0RefIdeal.τ).loc Cert.Merge0RefIdeal.main_arg3) = m ((c.tc : Thread Cert.Merge0Ideal.nD Cert.Merge0Ideal.τ).loc Cert.Merge0Ideal.main_arg3)
      ∧ m' ((c.tc : Thread Cert.Merge0RefIdeal.nD Cert.Merge0RefIdeal.τ).loc Cert.Merge0RefIdeal.main_arg4) = m ((c.tc : Thread Cert.Merge0Ideal.nD Cert.Merge0Ideal.τ).loc Cert.Merge0Ideal.main_arg4)
      ∧ m' ((c.tc : Thread Cert.Merge0RefIdeal.nD Cert.Merge0RefIdeal.τ).loc Cert.Merge0RefIdeal.main_arg5) = m ((c.tc : Thread Cert.Merge0Ideal.nD Cert.Merge0Ideal.τ).loc Cert.Merge0Ideal.main_arg5)
      ∧ m' ((c.tc : Thread Cert.Merge0RefIdeal.nD Cert.Merge0RefIdeal.τ).loc Cert.Merge0RefIdeal.main_arg6) = m ((c.tc : Thread Cert.Merge0Ideal.nD Cert.Merge0Ideal.τ).loc Cert.Merge0Ideal.main_arg6)) →
    ∃ (v0 : (c : Dev Cert.Merge0Ideal.nD) → Buf (Elt Ideal) ((c.tc : Thread Cert.Merge0Ideal.nD Cert.Merge0Ideal.τ).loc Cert.Merge0Ideal.main_v29)),
      θ_run (Cert.Merge0Ideal.defs (F := Ideal)) (onTc (τ := Cert.Merge0Ideal.τ) (Cert.Merge0Ideal.main (F := Ideal))) ⟨m, fun _ => 0, g⟩ (fun r => ∀ c : Dev Cert.Merge0Ideal.nD,
          r.2.mem ((c.tc : Thread Cert.Merge0Ideal.nD Cert.Merge0Ideal.τ).loc Cert.Merge0Ideal.main_v29) = v0 c
          ∧ r.2.mem ((c.tc : Thread Cert.Merge0Ideal.nD Cert.Merge0Ideal.τ).loc Cert.Merge0Ideal.main_arg0) = m ((c.tc : Thread Cert.Merge0Ideal.nD Cert.Merge0Ideal.τ).loc Cert.Merge0Ideal.main_arg0)
          ∧ r.2.mem ((c.tc : Thread Cert.Merge0Ideal.nD Cert.Merge0Ideal.τ).loc Cert.Merge0Ideal.main_arg1) = m ((c.tc : Thread Cert.Merge0Ideal.nD Cert.Merge0Ideal.τ).loc Cert.Merge0Ideal.main_arg1)
          ∧ r.2.mem ((c.tc : Thread Cert.Merge0Ideal.nD Cert.Merge0Ideal.τ).loc Cert.Merge0Ideal.main_arg2) = m ((c.tc : Thread Cert.Merge0Ideal.nD Cert.Merge0Ideal.τ).loc Cert.Merge0Ideal.main_arg2)
          ∧ r.2.mem ((c.tc : Thread Cert.Merge0Ideal.nD Cert.Merge0Ideal.τ).loc Cert.Merge0Ideal.main_arg3) = m ((c.tc : Thread Cert.Merge0Ideal.nD Cert.Merge0Ideal.τ).loc Cert.Merge0Ideal.main_arg3)
          ∧ r.2.mem ((c.tc : Thread Cert.Merge0Ideal.nD Cert.Merge0Ideal.τ).loc Cert.Merge0Ideal.main_arg4) = m ((c.tc : Thread Cert.Merge0Ideal.nD Cert.Merge0Ideal.τ).loc Cert.Merge0Ideal.main_arg4)
          ∧ r.2.mem ((c.tc : Thread Cert.Merge0Ideal.nD Cert.Merge0Ideal.τ).loc Cert.Merge0Ideal.main_arg5) = m ((c.tc : Thread Cert.Merge0Ideal.nD Cert.Merge0Ideal.τ).loc Cert.Merge0Ideal.main_arg5)
          ∧ r.2.mem ((c.tc : Thread Cert.Merge0Ideal.nD Cert.Merge0Ideal.τ).loc Cert.Merge0Ideal.main_arg6) = m ((c.tc : Thread Cert.Merge0Ideal.nD Cert.Merge0Ideal.τ).loc Cert.Merge0Ideal.main_arg6))
      ∧ θ_run (Cert.Merge0RefIdeal.defs (F := Ideal)) (onTc (τ := Cert.Merge0RefIdeal.τ) (Cert.Merge0RefIdeal.main (F := Ideal))) ⟨m', fun _ => 0, g'⟩ (fun r => ∀ c : Dev Cert.Merge0RefIdeal.nD,
          r.2.mem ((c.tc : Thread Cert.Merge0RefIdeal.nD Cert.Merge0RefIdeal.τ).loc Cert.Merge0RefIdeal.main_v39) = v0 c
          ∧ r.2.mem ((c.tc : Thread Cert.Merge0RefIdeal.nD Cert.Merge0RefIdeal.τ).loc Cert.Merge0RefIdeal.main_arg0) = m' ((c.tc : Thread Cert.Merge0RefIdeal.nD Cert.Merge0RefIdeal.τ).loc Cert.Merge0RefIdeal.main_arg0)
          ∧ r.2.mem ((c.tc : Thread Cert.Merge0RefIdeal.nD Cert.Merge0RefIdeal.τ).loc Cert.Merge0RefIdeal.main_arg1) = m' ((c.tc : Thread Cert.Merge0RefIdeal.nD Cert.Merge0RefIdeal.τ).loc Cert.Merge0RefIdeal.main_arg1)
          ∧ r.2.mem ((c.tc : Thread Cert.Merge0RefIdeal.nD Cert.Merge0RefIdeal.τ).loc Cert.Merge0RefIdeal.main_arg2) = m' ((c.tc : Thread Cert.Merge0RefIdeal.nD Cert.Merge0RefIdeal.τ).loc Cert.Merge0RefIdeal.main_arg2)
          ∧ r.2.mem ((c.tc : Thread Cert.Merge0RefIdeal.nD Cert.Merge0RefIdeal.τ).loc Cert.Merge0RefIdeal.main_arg3) = m' ((c.tc : Thread Cert.Merge0RefIdeal.nD Cert.Merge0RefIdeal.τ).loc Cert.Merge0RefIdeal.main_arg3)
          ∧ r.2.mem ((c.tc : Thread Cert.Merge0RefIdeal.nD Cert.Merge0RefIdeal.τ).loc Cert.Merge0RefIdeal.main_arg4) = m' ((c.tc : Thread Cert.Merge0RefIdeal.nD Cert.Merge0RefIdeal.τ).loc Cert.Merge0RefIdeal.main_arg4)
          ∧ r.2.mem ((c.tc : Thread Cert.Merge0RefIdeal.nD Cert.Merge0RefIdeal.τ).loc Cert.Merge0RefIdeal.main_arg5) = m' ((c.tc : Thread Cert.Merge0RefIdeal.nD Cert.Merge0RefIdeal.τ).loc Cert.Merge0RefIdeal.main_arg5)
          ∧ r.2.mem ((c.tc : Thread Cert.Merge0RefIdeal.nD Cert.Merge0RefIdeal.τ).loc Cert.Merge0RefIdeal.main_arg6) = m' ((c.tc : Thread Cert.Merge0RefIdeal.nD Cert.Merge0RefIdeal.τ).loc Cert.Merge0RefIdeal.main_arg6))

def preserves_Out0_Out0Ideal : Prop :=
  True

def algebraic_Out0Ideal_Out0RefIdeal [hOut0Ideal : Cert.Out0Ideal.Facts] [hOut0RefIdeal : Cert.Out0RefIdeal.Facts] : Prop :=
  ∀ (m : (ℓ : Loc Cert.Out0Ideal.nD Cert.Out0Ideal.τ Cert.Out0Ideal.sig) → Buf (Elt Ideal) ℓ) (g : Dev Cert.Out0Ideal.nD → PrngReg)
    (m' : (ℓ : Loc Cert.Out0RefIdeal.nD Cert.Out0RefIdeal.τ Cert.Out0RefIdeal.sig) → Buf (Elt Ideal) ℓ) (g' : Dev Cert.Out0RefIdeal.nD → PrngReg), Pre_Out0Ideal m →
    (∀ c : Dev Cert.Out0Ideal.nD,
      m' ((c.tc : Thread Cert.Out0RefIdeal.nD Cert.Out0RefIdeal.τ).loc Cert.Out0RefIdeal.main_arg0) = m ((c.tc : Thread Cert.Out0Ideal.nD Cert.Out0Ideal.τ).loc Cert.Out0Ideal.main_arg0)
      ∧ m' ((c.tc : Thread Cert.Out0RefIdeal.nD Cert.Out0RefIdeal.τ).loc Cert.Out0RefIdeal.main_arg1) = m ((c.tc : Thread Cert.Out0Ideal.nD Cert.Out0Ideal.τ).loc Cert.Out0Ideal.main_arg1)
      ∧ m' ((c.tc : Thread Cert.Out0RefIdeal.nD Cert.Out0RefIdeal.τ).loc Cert.Out0RefIdeal.main_arg2) = m ((c.tc : Thread Cert.Out0Ideal.nD Cert.Out0Ideal.τ).loc Cert.Out0Ideal.main_arg2)
      ∧ m' ((c.tc : Thread Cert.Out0RefIdeal.nD Cert.Out0RefIdeal.τ).loc Cert.Out0RefIdeal.main_arg3) = m ((c.tc : Thread Cert.Out0Ideal.nD Cert.Out0Ideal.τ).loc Cert.Out0Ideal.main_arg3)
      ∧ m' ((c.tc : Thread Cert.Out0RefIdeal.nD Cert.Out0RefIdeal.τ).loc Cert.Out0RefIdeal.main_arg4) = m ((c.tc : Thread Cert.Out0Ideal.nD Cert.Out0Ideal.τ).loc Cert.Out0Ideal.main_arg4)
      ∧ m' ((c.tc : Thread Cert.Out0RefIdeal.nD Cert.Out0RefIdeal.τ).loc Cert.Out0RefIdeal.main_arg5) = m ((c.tc : Thread Cert.Out0Ideal.nD Cert.Out0Ideal.τ).loc Cert.Out0Ideal.main_arg5)) →
    ∃ (v0 : (c : Dev Cert.Out0Ideal.nD) → Buf (Elt Ideal) ((c.tc : Thread Cert.Out0Ideal.nD Cert.Out0Ideal.τ).loc Cert.Out0Ideal.main_v14)),
      θ_run (Cert.Out0Ideal.defs (F := Ideal)) (onTc (τ := Cert.Out0Ideal.τ) (Cert.Out0Ideal.main (F := Ideal))) ⟨m, fun _ => 0, g⟩ (fun r => ∀ c : Dev Cert.Out0Ideal.nD,
          r.2.mem ((c.tc : Thread Cert.Out0Ideal.nD Cert.Out0Ideal.τ).loc Cert.Out0Ideal.main_v14) = v0 c
          ∧ r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
          ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1)
          ∧ r.2.mem ((c.tc : Thread Cert.Out0Ideal.nD Cert.Out0Ideal.τ).loc Cert.Out0Ideal.main_arg2) = m ((c.tc : Thread Cert.Out0Ideal.nD Cert.Out0Ideal.τ).loc Cert.Out0Ideal.main_arg2)
          ∧ r.2.mem ((c.tc : Thread Cert.Out0Ideal.nD Cert.Out0Ideal.τ).loc Cert.Out0Ideal.main_arg3) = m ((c.tc : Thread Cert.Out0Ideal.nD Cert.Out0Ideal.τ).loc Cert.Out0Ideal.main_arg3)
          ∧ r.2.mem ((c.tc : Thread Cert.Out0Ideal.nD Cert.Out0Ideal.τ).loc Cert.Out0Ideal.main_arg4) = m ((c.tc : Thread Cert.Out0Ideal.nD Cert.Out0Ideal.τ).loc Cert.Out0Ideal.main_arg4)
          ∧ r.2.mem ((c.tc : Thread Cert.Out0Ideal.nD Cert.Out0Ideal.τ).loc Cert.Out0Ideal.main_arg5) = m ((c.tc : Thread Cert.Out0Ideal.nD Cert.Out0Ideal.τ).loc Cert.Out0Ideal.main_arg5))
      ∧ θ_run (Cert.Out0RefIdeal.defs (F := Ideal)) (onTc (τ := Cert.Out0RefIdeal.τ) (Cert.Out0RefIdeal.main (F := Ideal))) ⟨m', fun _ => 0, g'⟩ (fun r => ∀ c : Dev Cert.Out0RefIdeal.nD,
          r.2.mem ((c.tc : Thread Cert.Out0RefIdeal.nD Cert.Out0RefIdeal.τ).loc Cert.Out0RefIdeal.main_v25) = v0 c
          ∧ r.2.mem ((c.tc : Thread Cert.Out0RefIdeal.nD Cert.Out0RefIdeal.τ).loc Cert.Out0RefIdeal.main_arg0) = m' ((c.tc : Thread Cert.Out0RefIdeal.nD Cert.Out0RefIdeal.τ).loc Cert.Out0RefIdeal.main_arg0)
          ∧ r.2.mem ((c.tc : Thread Cert.Out0RefIdeal.nD Cert.Out0RefIdeal.τ).loc Cert.Out0RefIdeal.main_arg1) = m' ((c.tc : Thread Cert.Out0RefIdeal.nD Cert.Out0RefIdeal.τ).loc Cert.Out0RefIdeal.main_arg1)
          ∧ r.2.mem ((c.tc : Thread Cert.Out0RefIdeal.nD Cert.Out0RefIdeal.τ).loc Cert.Out0RefIdeal.main_arg2) = m' ((c.tc : Thread Cert.Out0RefIdeal.nD Cert.Out0RefIdeal.τ).loc Cert.Out0RefIdeal.main_arg2)
          ∧ r.2.mem ((c.tc : Thread Cert.Out0RefIdeal.nD Cert.Out0RefIdeal.τ).loc Cert.Out0RefIdeal.main_arg3) = m' ((c.tc : Thread Cert.Out0RefIdeal.nD Cert.Out0RefIdeal.τ).loc Cert.Out0RefIdeal.main_arg3)
          ∧ r.2.mem ((c.tc : Thread Cert.Out0RefIdeal.nD Cert.Out0RefIdeal.τ).loc Cert.Out0RefIdeal.main_arg4) = m' ((c.tc : Thread Cert.Out0RefIdeal.nD Cert.Out0RefIdeal.τ).loc Cert.Out0RefIdeal.main_arg4)
          ∧ r.2.mem ((c.tc : Thread Cert.Out0RefIdeal.nD Cert.Out0RefIdeal.τ).loc Cert.Out0RefIdeal.main_arg5) = m' ((c.tc : Thread Cert.Out0RefIdeal.nD Cert.Out0RefIdeal.τ).loc Cert.Out0RefIdeal.main_arg5))

def preserves_Attn_AttnIdeal : Prop :=
  IdealRules.named_const.Statement Cert.AttnIdeal.κ "score_scale" .f32 0x3DD53B95#32 (((Real.log 2)⁻¹ * (Real.sqrt 192)⁻¹ : ℝ) : EReal)

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v27)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v27) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v22) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Qup_QupIdeal : Prop :=
  True

def algebraic_QupIdeal_QupRefIdeal_pre_finite_rotated [hQupIdeal : Cert.QupIdeal.Facts] [hQupRefIdeal : Cert.QupRefIdeal.Facts] [hPre_finite_rotated : Cert.Pre_finite_rotated.Facts] : Prop :=
  ∀ (m : (ℓ : Loc Cert.QupIdeal.nD Cert.QupIdeal.τ Cert.QupIdeal.sig) → Buf (Elt Ideal) ℓ) (g : Dev Cert.QupIdeal.nD → PrngReg)
    (m' : (ℓ : Loc Cert.QupRefIdeal.nD Cert.QupRefIdeal.τ Cert.QupRefIdeal.sig) → Buf (Elt Ideal) ℓ) (g' : Dev Cert.QupRefIdeal.nD → PrngReg), Pre_QupIdeal_finite_rotated m →
    (∀ c : Dev Cert.QupIdeal.nD,
      m' ((c.tc : Thread Cert.QupRefIdeal.nD Cert.QupRefIdeal.τ).loc Cert.QupRefIdeal.main_arg0) = m ((c.tc : Thread Cert.QupIdeal.nD Cert.QupIdeal.τ).loc Cert.QupIdeal.main_arg0)
      ∧ m' ((c.tc : Thread Cert.QupRefIdeal.nD Cert.QupRefIdeal.τ).loc Cert.QupRefIdeal.main_arg1) = m ((c.tc : Thread Cert.QupIdeal.nD Cert.QupIdeal.τ).loc Cert.QupIdeal.main_arg1)) →
    ∃ (v0 : (c : Dev Cert.QupIdeal.nD) → Buf (Elt Ideal) ((c.tc : Thread Cert.QupIdeal.nD Cert.QupIdeal.τ).loc Cert.QupIdeal.main_v60)),
      θ_run (Cert.QupIdeal.defs (F := Ideal)) (onTc (τ := Cert.QupIdeal.τ) (Cert.QupIdeal.main (F := Ideal))) ⟨m, fun _ => 0, g⟩ (fun r => ∀ c : Dev Cert.QupIdeal.nD,
          r.2.mem ((c.tc : Thread Cert.QupIdeal.nD Cert.QupIdeal.τ).loc Cert.QupIdeal.main_v60) = v0 c
          ∧ r.2.mem ((c.tc : Thread Cert.QupIdeal.nD Cert.QupIdeal.τ).loc Cert.QupIdeal.main_arg0) = m ((c.tc : Thread Cert.QupIdeal.nD Cert.QupIdeal.τ).loc Cert.QupIdeal.main_arg0)
          ∧ r.2.mem ((c.tc : Thread Cert.QupIdeal.nD Cert.QupIdeal.τ).loc Cert.QupIdeal.main_arg1) = m ((c.tc : Thread Cert.QupIdeal.nD Cert.QupIdeal.τ).loc Cert.QupIdeal.main_arg1))
      ∧ θ_run (Cert.QupRefIdeal.defs (F := Ideal)) (onTc (τ := Cert.QupRefIdeal.τ) (Cert.QupRefIdeal.main (F := Ideal))) ⟨m', fun _ => 0, g'⟩ (fun r => ∀ c : Dev Cert.QupRefIdeal.nD,
          r.2.mem ((c.tc : Thread Cert.QupRefIdeal.nD Cert.QupRefIdeal.τ).loc Cert.QupRefIdeal.main_v82) = v0 c
          ∧ r.2.mem ((c.tc : Thread Cert.QupRefIdeal.nD Cert.QupRefIdeal.τ).loc Cert.QupRefIdeal.main_arg0) = m' ((c.tc : Thread Cert.QupRefIdeal.nD Cert.QupRefIdeal.τ).loc Cert.QupRefIdeal.main_arg0)
          ∧ r.2.mem ((c.tc : Thread Cert.QupRefIdeal.nD Cert.QupRefIdeal.τ).loc Cert.QupRefIdeal.main_arg1) = m' ((c.tc : Thread Cert.QupRefIdeal.nD Cert.QupRefIdeal.τ).loc Cert.QupRefIdeal.main_arg1))

def Claim : Prop :=
  ∃ (hBig : Cert.Big.Facts) (hBigIdeal : Cert.BigIdeal.Facts) (hBigRefIdeal : Cert.BigRefIdeal.Facts) (hHf : Cert.Hf.Facts) (hHfIdeal : Cert.HfIdeal.Facts) (hHfRefIdeal : Cert.HfRefIdeal.Facts) (hCq : Cert.Cq.Facts) (hCqIdeal : Cert.CqIdeal.Facts) (hCqRefIdeal : Cert.CqRefIdeal.Facts) (hCkv : Cert.Ckv.Facts) (hCkvIdeal : Cert.CkvIdeal.Facts) (hCkvRefIdeal : Cert.CkvRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hKv : Cert.Kv.Facts) (hKvIdeal : Cert.KvIdeal.Facts) (hKvRefIdeal : Cert.KvRefIdeal.Facts) (hFin : Cert.Fin.Facts) (hFinIdeal : Cert.FinIdeal.Facts) (hFinRefIdeal : Cert.FinRefIdeal.Facts) (hMerge0 : Cert.Merge0.Facts) (hMerge0Ideal : Cert.Merge0Ideal.Facts) (hMerge0RefIdeal : Cert.Merge0RefIdeal.Facts) (hOut0 : Cert.Out0.Facts) (hOut0Ideal : Cert.Out0Ideal.Facts) (hOut0RefIdeal : Cert.Out0RefIdeal.Facts) (hAttn : Cert.Attn.Facts) (hAttnIdeal : Cert.AttnIdeal.Facts) (hAttnRefIdeal : Cert.AttnRefIdeal.Facts) (hQup : Cert.Qup.Facts) (hQupIdeal : Cert.QupIdeal.Facts) (hQupRefIdeal : Cert.QupRefIdeal.Facts) (hPre_finite_scores : Cert.Pre_finite_scores.Facts) (hPre_finite_rotated : Cert.Pre_finite_rotated.Facts),
    quiescent_Big (hBig := hBig)
    ∧ quiescent_BigIdeal (hBigIdeal := hBigIdeal)
    ∧ quiescent_BigRefIdeal (hBigRefIdeal := hBigRefIdeal)
    ∧ quiescent_Hf (hHf := hHf)
    ∧ quiescent_HfIdeal (hHfIdeal := hHfIdeal)
    ∧ quiescent_HfRefIdeal (hHfRefIdeal := hHfRefIdeal)
    ∧ quiescent_Cq (hCq := hCq)
    ∧ quiescent_CqIdeal (hCqIdeal := hCqIdeal)
    ∧ quiescent_CqRefIdeal (hCqRefIdeal := hCqRefIdeal)
    ∧ quiescent_Ckv (hCkv := hCkv)
    ∧ quiescent_CkvIdeal (hCkvIdeal := hCkvIdeal)
    ∧ quiescent_CkvRefIdeal (hCkvRefIdeal := hCkvRefIdeal)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_Kv (hKv := hKv)
    ∧ quiescent_KvIdeal (hKvIdeal := hKvIdeal)
    ∧ quiescent_KvRefIdeal (hKvRefIdeal := hKvRefIdeal)
    ∧ quiescent_Fin (hFin := hFin)
    ∧ quiescent_FinIdeal (hFinIdeal := hFinIdeal)
    ∧ quiescent_FinRefIdeal (hFinRefIdeal := hFinRefIdeal)
    ∧ quiescent_Merge0 (hMerge0 := hMerge0)
    ∧ quiescent_Merge0Ideal (hMerge0Ideal := hMerge0Ideal)
    ∧ quiescent_Merge0RefIdeal (hMerge0RefIdeal := hMerge0RefIdeal)
    ∧ quiescent_Out0 (hOut0 := hOut0)
    ∧ quiescent_Out0Ideal (hOut0Ideal := hOut0Ideal)
    ∧ quiescent_Out0RefIdeal (hOut0RefIdeal := hOut0RefIdeal)
    ∧ quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Qup (hQup := hQup)
    ∧ quiescent_QupIdeal (hQupIdeal := hQupIdeal)
    ∧ quiescent_QupIdeal_pre_finite_rotated (hQupIdeal := hQupIdeal) (hPre_finite_rotated := hPre_finite_rotated)
    ∧ quiescent_QupRefIdeal (hQupRefIdeal := hQupRefIdeal)
    ∧ quiescent_QupRefIdeal_pre_finite_rotated (hQupRefIdeal := hQupRefIdeal) (hPre_finite_rotated := hPre_finite_rotated)
    ∧ preserves_Big_BigIdeal
    ∧ algebraic_BigIdeal_BigRefIdeal (hBigIdeal := hBigIdeal) (hBigRefIdeal := hBigRefIdeal)
    ∧ preserves_Hf_HfIdeal
    ∧ algebraic_HfIdeal_HfRefIdeal (hHfIdeal := hHfIdeal) (hHfRefIdeal := hHfRefIdeal)
    ∧ preserves_Cq_CqIdeal
    ∧ algebraic_CqIdeal_CqRefIdeal (hCqIdeal := hCqIdeal) (hCqRefIdeal := hCqRefIdeal)
    ∧ preserves_Ckv_CkvIdeal
    ∧ algebraic_CkvIdeal_CkvRefIdeal (hCkvIdeal := hCkvIdeal) (hCkvRefIdeal := hCkvRefIdeal)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_Kv_KvIdeal
    ∧ algebraic_KvIdeal_KvRefIdeal (hKvIdeal := hKvIdeal) (hKvRefIdeal := hKvRefIdeal)
    ∧ preserves_Fin_FinIdeal
    ∧ algebraic_FinIdeal_FinRefIdeal (hFinIdeal := hFinIdeal) (hFinRefIdeal := hFinRefIdeal)
    ∧ preserves_Merge0_Merge0Ideal
    ∧ algebraic_Merge0Ideal_Merge0RefIdeal (hMerge0Ideal := hMerge0Ideal) (hMerge0RefIdeal := hMerge0RefIdeal)
    ∧ preserves_Out0_Out0Ideal
    ∧ algebraic_Out0Ideal_Out0RefIdeal (hOut0Ideal := hOut0Ideal) (hOut0RefIdeal := hOut0RefIdeal)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Qup_QupIdeal
    ∧ algebraic_QupIdeal_QupRefIdeal_pre_finite_rotated (hQupIdeal := hQupIdeal) (hQupRefIdeal := hQupRefIdeal) (hPre_finite_rotated := hPre_finite_rotated)
-- ==== Pre_finite_rotated.lean ====
abbrev S8x2304x1024 : Shape := ⟨3, ![8, 2304, 1024]⟩
abbrev S2x1024x16x192 : Shape := ⟨4, ![2, 1024, 16, 192]⟩
abbrev S8x2048x1024 : Shape := ⟨3, ![8, 2048, 1024]⟩
abbrev S_ : Shape := ⟨0, ![]⟩
abbrev S1x1024x16x64 : Shape := ⟨4, ![1, 1024, 16, 64]⟩

class Facts : Prop where
  slices_S8x2304x1024_S8x2048x1024_0_256_0 : S8x2304x1024.Slices ![0, 256, 0] S8x2048x1024
  bcast_S_S8x2048x1024 : S_.BroadcastsInDim S8x2048x1024 (![] : Fin 0 → Fin S8x2048x1024.rank)
  slices_S2x1024x16x192_S1x1024x16x64_1_0_0_128 : S2x1024x16x192.Slices ![1, 0, 0, 128] S1x1024x16x64
  bcast_S_S1x1024x16x64 : S_.BroadcastsInDim S1x1024x16x64 (![] : Fin 0 → Fin S1x1024x16x64.rank)

variable [Facts]

def fn {F : FTy → Type} [FloatOps F] (main_arg0 : FVec F S8x2304x1024 .f32) (main_arg1 : FVec F S2x1024x16x192 .f32) : IVec S8x2048x1024 1 × IVec S1x1024x16x64 1 :=
  let main_v0 : FVec F S8x2048x1024 .f32 := (extractStridedSlice S8x2048x1024 ![0, 256, 0] · slices_S8x2304x1024_S8x2048x1024_0_256_0) main_arg0
  let main_v1 : FVec F S8x2048x1024 .f32 := Host.absf main_v0
  let main_cst : FVec F S_ .f32 := constant S_ .f32 0x7F800000#32
  let main_v2 : FVec F S8x2048x1024 .f32 := broadcastInDim S8x2048x1024 ![] bcast_S_S8x2048x1024 main_cst
  let main_v3 : IVec S8x2048x1024 1 := cmpf .olt main_v1 main_v2
  let main_v4 : FVec F S1x1024x16x64 .f32 := (extractStridedSlice S1x1024x16x64 ![1, 0, 0, 128] · slices_S2x1024x16x192_S1x1024x16x64_1_0_0_128) main_arg1
  let main_v5 : FVec F S1x1024x16x64 .f32 := Host.absf main_v4
  let main_cst_0 : FVec F S_ .f32 := constant S_ .f32 0x7F800000#32
  let main_v6 : FVec F S1x1024x16x64 .f32 := broadcastInDim S1x1024x16x64 ![] bcast_S_S1x1024x16x64 main_cst_0
  let main_v7 : IVec S1x1024x16x64 1 := cmpf .olt main_v5 main_v6
  (main_v3, main_v7)
-- ==== Pre_finite_scores.lean ====
abbrev S8x16x2304x192 : Shape := ⟨4, ![8, 16, 2304, 192]⟩
abbrev S8x16x2304x128 : Shape := ⟨4, ![8, 16, 2304, 128]⟩
abbrev S8x2304x64 : Shape := ⟨3, ![8, 2304, 64]⟩
abbrev S8x16x2048x192 : Shape := ⟨4, ![8, 16, 2048, 192]⟩
abbrev S_ : Shape := ⟨0, ![]⟩

class Facts : Prop where
  slices_S8x16x2304x192_S8x16x2048x192_0_0_256_0 : S8x16x2304x192.Slices ![0, 0, 256, 0] S8x16x2048x192
  bcast_S_S8x16x2048x192 : S_.BroadcastsInDim S8x16x2048x192 (![] : Fin 0 → Fin S8x16x2048x192.rank)
  bcast_S_S8x16x2304x128 : S_.BroadcastsInDim S8x16x2304x128 (![] : Fin 0 → Fin S8x16x2304x128.rank)
  bcast_S_S8x2304x64 : S_.BroadcastsInDim S8x2304x64 (![] : Fin 0 → Fin S8x2304x64.rank)

variable [Facts]

def fn {F : FTy → Type} [FloatOps F] (main_arg0 : FVec F S8x16x2304x192 .f32) (main_arg1 : FVec F S8x16x2304x128 .f32) (main_arg2 : FVec F S8x2304x64 .f32) (main_arg3 : FVec F S8x16x2304x128 .f32) : IVec S8x16x2048x192 1 × IVec S8x16x2304x128 1 × IVec S8x2304x64 1 :=
  let main_v0 : FVec F S8x16x2048x192 .f32 := (extractStridedSlice S8x16x2048x192 ![0, 0, 256, 0] · slices_S8x16x2304x192_S8x16x2048x192_0_0_256_0) main_arg0
  let main_v1 : FVec F S8x16x2048x192 .f32 := Host.absf main_v0
  let main_cst : FVec F S_ .f32 := constant S_ .f32 0x7F800000#32
  let main_v2 : FVec F S8x16x2048x192 .f32 := broadcastInDim S8x16x2048x192 ![] bcast_S_S8x16x2048x192 main_cst
  let main_v3 : IVec S8x16x2048x192 1 := cmpf .olt main_v1 main_v2
  let main_v4 : FVec F S8x16x2304x128 .f32 := Host.absf main_arg1
  let main_cst_0 : FVec F S_ .f32 := constant S_ .f32 0x7F800000#32
  let main_v5 : FVec F S8x16x2304x128 .f32 := broadcastInDim S8x16x2304x128 ![] bcast_S_S8x16x2304x128 main_cst_0
  let main_v6 : IVec S8x16x2304x128 1 := cmpf .olt main_v4 main_v5
  let main_v7 : FVec F S8x2304x64 .f32 := Host.absf main_arg2
  let main_cst_1 : FVec F S_ .f32 := constant S_ .f32 0x7F800000#32
  let main_v8 : FVec F S8x2304x64 .f32 := broadcastInDim S8x2304x64 ![] bcast_S_S8x2304x64 main_cst_1
  let main_v9 : IVec S8x2304x64 1 := cmpf .olt main_v7 main_v8
  (main_v3, main_v6, main_v9)
-- ==== Big.lean ====
abbrev S8x256x4096 : Shape := ⟨3, ![8, 256, 4096]⟩
abbrev S8x2048x4096 : Shape := ⟨3, ![8, 2048, 4096]⟩
abbrev S2x4096x30304 : Shape := ⟨3, ![2, 4096, 30304]⟩
abbrev S2048x4096 : Shape := ⟨2, ![2048, 4096]⟩
abbrev S16384x4096 : Shape := ⟨2, ![16384, 4096]⟩
abbrev S18432x4096 : Shape := ⟨2, ![18432, 4096]⟩
abbrev S2x30304x4096 : Shape := ⟨3, ![2, 30304, 4096]⟩
abbrev S60608x4096 : Shape := ⟨2, ![60608, 4096]⟩
abbrev S18432x24576 : Shape := ⟨2, ![18432, 24576]⟩
abbrev S1024x4096 : Shape := ⟨2, ![1024, 4096]⟩
abbrev S1024x1024 : Shape := ⟨2, ![1024, 1024]⟩

abbrev nBuf : Space → Nat
  | .hbm => 11
  | .vmem => 6
  | .smem => 0
  | _ => 0

abbrev bufTy : (tb : Table) → Fin (tcTables nBuf tb) → BufTy
  | .hbm, ⟨0, _⟩ => ⟨S8x256x4096, .f32⟩
  | .hbm, ⟨1, _⟩ => ⟨S8x2048x4096, .f32⟩
  | .hbm, ⟨2, _⟩ => ⟨S2x4096x30304, .f32⟩
  | .hbm, ⟨3, _⟩ => ⟨S2048x4096, .f32⟩
  | .hbm, ⟨4, _⟩ => ⟨S16384x4096, .f32⟩
  | .hbm, ⟨5, _⟩ => ⟨S18432x4096, .f32⟩
  | .hbm, ⟨6, _⟩ => ⟨S18432x4096, .bf16⟩
  | .hbm, ⟨7, _⟩ => ⟨S2x30304x4096, .f32⟩
  | .hbm, ⟨8, _⟩ => ⟨S2x30304x4096, .bf16⟩
  | .hbm, ⟨9, _⟩ => ⟨S60608x4096, .bf16⟩
  | .hbm, ⟨10, _⟩ => ⟨S18432x24576, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | _, _ => ⟨S8x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![18, 24], ![false, false]⟩

def k0_mult1 (i : grid0.Coords) : BitVec 32 :=
  let arg1 : BitVec 32 := BitVec.ofNat 32 (i 1).val
  let c12_i32_5 : BitVec 32 := 12#32
  let v16 : BitVec 1 := Scalar.cmpi .sge arg1 c12_i32_5
  let c48320_i32 : BitVec 32 := 48320#32
  let c12_i32 : BitVec 32 := 12#32
  let v13 : BitVec 32 := Scalar.subi arg1 c12_i32
  let c1024_i32_4 : BitVec 32 := 1024#32
  let v14 : BitVec 32 := Scalar.muli v13 c1024_i32_4
  let v15 : BitVec 32 := Scalar.addi c48320_i32 v14
  let c10_i32_3 : BitVec 32 := 10#32
  let v11 : BitVec 1 := Scalar.cmpi .sge arg1 c10_i32_3
  let c46272_i32 : BitVec 32 := 46272#32
  let c10_i32 : BitVec 32 := 10#32
  let v8 : BitVec 32 := Scalar.subi arg1 c10_i32
  let c1024_i32_2 : BitVec 32 := 1024#32
  let v9 : BitVec 32 := Scalar.muli v8 c1024_i32_2
  let v10 : BitVec 32 := Scalar.addi c46272_i32 v9
  let c6_i32_1 : BitVec 32 := 6#32
  let v6 : BitVec 1 := Scalar.cmpi .sge arg1 c6_i32_1
  let c38080_i32 : BitVec 32 := 38080#32
  let c6_i32 : BitVec 32 := 6#32
  let v3 : BitVec 32 := Scalar.subi arg1 c6_i32
  let c1024_i32_0 : BitVec 32 := 1024#32
  let v4 : BitVec 32 := Scalar.muli v3 c1024_i32_0
  let v5 : BitVec 32 := Scalar.addi c38080_i32 v4
  let c31904_i32 : BitVec 32 := 31904#32
  let c0_i32 : BitVec 32 := 0#32
  let v0 : BitVec 32 := Scalar.subi arg1 c0_i32
  let c1024_i32 : BitVec 32 := 1024#32
  let v1 : BitVec 32 := Scalar.muli v0 c1024_i32
  let v2 : BitVec 32 := Scalar.addi c31904_i32 v1
  let v7 : BitVec 32 := Scalar.select v6 v5 v2
  let v12 : BitVec 32 := Scalar.select v11 v10 v7
  let v17 : BitVec 32 := Scalar.select v16 v15 v12
  v17
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c1024_i32 : BitVec 32 := 1024#32
  let v1 : BitVec 32 := Scalar.muli v0 c1024_i32
  let c31904_i32 : BitVec 32 := 31904#32
  let v2 : BitVec 32 := Scalar.addi c31904_i32 v1
  let c6_i32 : BitVec 32 := 6#32
  let v3 : BitVec 32 := Scalar.subi arg1 c6_i32
  let c1024_i32_0 : BitVec 32 := 1024#32
  let v4 : BitVec 32 := Scalar.muli v3 c1024_i32_0
  let c38080_i32 : BitVec 32 := 38080#32
  let v5 : BitVec 32 := Scalar.addi c38080_i32 v4
  let c6_i32_1 : BitVec 32 := 6#32
  let v6 : BitVec 1 := Scalar.cmpi .sge arg1 c6_i32_1
  let v7 : BitVec 32 := Scalar.select v6 v5 v2
  let c10_i32 : BitVec 32 := 10#32
  let v8 : BitVec 32 := Scalar.subi arg1 c10_i32
  let c1024_i32_2 : BitVec 32 := 1024#32
  let v9 : BitVec 32 := Scalar.muli v8 c1024_i32_2
  let c46272_i32 : BitVec 32 := 46272#32
  let v10 : BitVec 32 := Scalar.addi c46272_i32 v9
  let c10_i32_3 : BitVec 32 := 10#32
  let v11 : BitVec 1 := Scalar.cmpi .sge arg1 c10_i32_3
  let v12 : BitVec 32 := Scalar.select v11 v10 v7
  let c12_i32 : BitVec 32 := 12#32
  let v13 : BitVec 32 := Scalar.subi arg1 c12_i32
  let c1024_i32_4 : BitVec 32 := 1024#32
  let v14 : BitVec 32 := Scalar.muli v13 c1024_i32_4
  let c48320_i32 : BitVec 32 := 48320#32
  let v15 : BitVec 32 := Scalar.addi c48320_i32 v14
  let c12_i32_5 : BitVec 32 := 12#32
  let v16 : BitVec 1 := Scalar.cmpi .sge arg1 c12_i32_5
  let v17 : BitVec 32 := Scalar.select v16 v15 v12
  let v18 : BitVec 32 := v17
  let c0_i32_6 : BitVec 32 := 0#32
  let c0_i32_7 : BitVec 32 := 0#32
  ![v18.toNat, c0_i32_6.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BigRefIdeal.lean ====
abbrev S8x256x4096 : Shape := ⟨3, ![8, 256, 4096]⟩
abbrev S8x2048x4096 : Shape := ⟨3, ![8, 2048, 4096]⟩
abbrev S2x4096x30304 : Shape := ⟨3, ![2, 4096, 30304]⟩
abbrev S8x2304x4096 : Shape := ⟨3, ![8, 2304, 4096]⟩
abbrev S1x4096x30304 : Shape := ⟨3, ![1, 4096, 30304]⟩
abbrev S4096x30304 : Shape := ⟨2, ![4096, 30304]⟩
abbrev S8x2304x30304 : Shape := ⟨3, ![8, 2304, 30304]⟩
abbrev S8x2304x1024 : Shape := ⟨3, ![8, 2304, 1024]⟩
abbrev S8x2304x512 : Shape := ⟨3, ![8, 2304, 512]⟩
abbrev S8x2304x64 : Shape := ⟨3, ![8, 2304, 64]⟩
abbrev S8x2304x2048 : Shape := ⟨3, ![8, 2304, 2048]⟩
abbrev S8x2304x16 : Shape := ⟨3, ![8, 2304, 16]⟩
abbrev S8x2304x24576 : Shape := ⟨3, ![8, 2304, 24576]⟩
abbrev S8x256x24576 : Shape := ⟨3, ![8, 256, 24576]⟩
abbrev S2048x24576 : Shape := ⟨2, ![2048, 24576]⟩
abbrev S8x2048x24576 : Shape := ⟨3, ![8, 2048, 24576]⟩
abbrev S16384x24576 : Shape := ⟨2, ![16384, 24576]⟩
abbrev S18432x24576 : Shape := ⟨2, ![18432, 24576]⟩

abbrev nBuf : Space → Nat
  | .hbm => 31
  | .vmem => 0
  | .smem => 0
  | _ => 0

abbrev bufTy : (tb : Table) → Fin (tcTables nBuf tb) → BufTy
  | .hbm, ⟨0, _⟩ => ⟨S8x256x4096, .f32⟩
  | .hbm, ⟨1, _⟩ => ⟨S8x2048x4096, .f32⟩
  | .hbm, ⟨2, _⟩ => ⟨S2x4096x30304, .f32⟩
  | .hbm, ⟨3, _⟩ => ⟨S8x2304x4096, .f32⟩
  | .hbm, ⟨4, _⟩ => ⟨S1x4096x30304, .f32⟩
  | .hbm, ⟨5, _⟩ => ⟨S4096x30304, .f32⟩
  | .hbm, ⟨6, _⟩ => ⟨S8x2304x30304, .f32⟩
  | .hbm, ⟨7, _⟩ => ⟨S8x2304x1024, .f32⟩
  | .hbm, ⟨8, _⟩ => ⟨S8x2304x512, .f32⟩
  | .hbm, ⟨9, _⟩ => ⟨S8x2304x64, .f32⟩
  | .hbm, ⟨10, _⟩ => ⟨S8x2304x1024, .f32⟩
  | .hbm, ⟨11, _⟩ => ⟨S8x2304x1024, .f32⟩
  | .hbm, ⟨12, _⟩ => ⟨S8x2304x2048, .f32⟩
  | .hbm, ⟨13, _⟩ => ⟨S8x2304x2048, .f32⟩
  | .hbm, ⟨14, _⟩ => ⟨S8x2304x16, .f32⟩
  | .hbm, ⟨15, _⟩ => ⟨S8x2304x16, .f32⟩
  | .hbm, ⟨16, _⟩ => ⟨S8x2304x2048, .f32⟩
  | .hbm, ⟨17, _⟩ => ⟨S8x2304x2048, .f32⟩
  | .hbm, ⟨18, _⟩ => ⟨S8x2304x2048, .f32⟩
  | .hbm, ⟨19, _⟩ => ⟨S8x2304x2048, .f32⟩
  | .hbm, ⟨20, _⟩ => ⟨S8x2304x2048, .f32⟩
  | .hbm, ⟨21, _⟩ => ⟨S8x2304x4096, .f32⟩
  | .hbm, ⟨22, _⟩ => ⟨S8x2304x4096, .f32⟩
  | .hbm, ⟨23, _⟩ => ⟨S8x2304x4096, .f32⟩
  | .hbm, ⟨24, _⟩ => ⟨S8x2304x24576, .f32⟩
  | .hbm, ⟨25, _⟩ => ⟨S8x256x24576, .f32⟩
  | .hbm, ⟨26, _⟩ => ⟨S2048x24576, .f32⟩
  | .hbm, ⟨27, _⟩ => ⟨S8x2048x24576, .f32⟩
  | .hbm, ⟨28, _⟩ => ⟨S16384x24576, .f32⟩
  | .hbm, ⟨29, _⟩ => ⟨S18432x24576, .f32⟩
  | .hbm, ⟨30, _⟩ => ⟨S18432x24576, .bf16⟩
  | _, _ => ⟨S8x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩

abbrev nD : Nat := 1
abbrev τ : Topo := Topo.v7x

variable {F : FTy → Type} [FloatOps F]
-- ==== Hf.lean ====
abbrev S8x256x4096 : Shape := ⟨3, ![8, 256, 4096]⟩
abbrev S8x2048x4096 : Shape := ⟨3, ![8, 2048, 4096]⟩
abbrev S2x4096x30304 : Shape := ⟨3, ![2, 4096, 30304]⟩
abbrev S2048x4096 : Shape := ⟨2, ![2048, 4096]⟩
abbrev S16384x4096 : Shape := ⟨2, ![16384, 4096]⟩
abbrev S18432x4096 : Shape := ⟨2, ![18432, 4096]⟩
abbrev S2x30304x4096 : Shape := ⟨3, ![2, 30304, 4096]⟩
abbrev S60608x4096 : Shape := ⟨2, ![60608, 4096]⟩
abbrev S1024x4096 : Shape := ⟨2, ![1024, 4096]⟩
abbrev S1024x1024 : Shape := ⟨2, ![1024, 1024]⟩

abbrev nBuf : Space → Nat
  | .hbm => 11
  | .vmem => 6
  | .smem => 0
  | _ => 0

abbrev bufTy : (tb : Table) → Fin (tcTables nBuf tb) → BufTy
  | .hbm, ⟨0, _⟩ => ⟨S8x256x4096, .f32⟩
  | .hbm, ⟨1, _⟩ => ⟨S8x2048x4096, .f32⟩
  | .hbm, ⟨2, _⟩ => ⟨S2x4096x30304, .f32⟩
  | .hbm, ⟨3, _⟩ => ⟨S2048x4096, .f32⟩
  | .hbm, ⟨4, _⟩ => ⟨S16384x4096, .f32⟩
  | .hbm, ⟨5, _⟩ => ⟨S18432x4096, .f32⟩
  | .hbm, ⟨6, _⟩ => ⟨S18432x4096, .bf16⟩
  | .hbm, ⟨7, _⟩ => ⟨S2x30304x4096, .f32⟩
  | .hbm, ⟨8, _⟩ => ⟨S2x30304x4096, .bf16⟩
  | .hbm, ⟨9, _⟩ => ⟨S60608x4096, .bf16⟩
  | .hbm, ⟨10, _⟩ => ⟨S18432x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S8x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![18, 4], ![false, false]⟩

def k0_mult1 (i : grid0.Coords) : BitVec 32 :=
  let c42176_i32 : BitVec 32 := 42176#32
  let arg1 : BitVec 32 := BitVec.ofNat 32 (i 1).val
  let c1024_i32 : BitVec 32 := 1024#32
  let v0 : BitVec 32 := Scalar.muli arg1 c1024_i32
  let v1 : BitVec 32 := Scalar.addi c42176_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c42176_i32 : BitVec 32 := 42176#32
  let v1 : BitVec 32 := Scalar.addi c42176_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HfRefIdeal.lean ====
abbrev S8x256x4096 : Shape := ⟨3, ![8, 256, 4096]⟩
abbrev S8x2048x4096 : Shape := ⟨3, ![8, 2048, 4096]⟩
abbrev S2x4096x30304 : Shape := ⟨3, ![2, 4096, 30304]⟩
abbrev S8x2304x4096 : Shape := ⟨3, ![8, 2304, 4096]⟩
abbrev S1x4096x30304 : Shape := ⟨3, ![1, 4096, 30304]⟩
abbrev S4096x30304 : Shape := ⟨2, ![4096, 30304]⟩
abbrev S8x2304x30304 : Shape := ⟨3, ![8, 2304, 30304]⟩
abbrev S8x2304x1024 : Shape := ⟨3, ![8, 2304, 1024]⟩
abbrev S8x2304x512 : Shape := ⟨3, ![8, 2304, 512]⟩
abbrev S8x2304x64 : Shape := ⟨3, ![8, 2304, 64]⟩
abbrev S8x2304x2048 : Shape := ⟨3, ![8, 2304, 2048]⟩
abbrev S8x2304x16 : Shape := ⟨3, ![8, 2304, 16]⟩
abbrev S2048x4096 : Shape := ⟨2, ![2048, 4096]⟩
abbrev S16384x4096 : Shape := ⟨2, ![16384, 4096]⟩
abbrev S18432x4096 : Shape := ⟨2, ![18432, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8x256x4096, .f32⟩
  | .hbm, ⟨1, _⟩ => ⟨S8x2048x4096, .f32⟩
  | .hbm, ⟨2, _⟩ => ⟨S2x4096x30304, .f32⟩
  | .hbm, ⟨3, _⟩ => ⟨S8x2304x4096, .f32⟩
  | .hbm, ⟨4, _⟩ => ⟨S1x4096x30304, .f32⟩
  | .hbm, ⟨5, _⟩ => ⟨S4096x30304, .f32⟩
  | .hbm, ⟨6, _⟩ => ⟨S8x2304x30304, .f32⟩
  | .hbm, ⟨7, _⟩ => ⟨S8x2304x1024, .f32⟩
  | .hbm, ⟨8, _⟩ => ⟨S8x2304x512, .f32⟩
  | .hbm, ⟨9, _⟩ => ⟨S8x2304x64, .f32⟩
  | .hbm, ⟨10, _⟩ => ⟨S8x2304x1024, .f32⟩
  | .hbm, ⟨11, _⟩ => ⟨S8x2304x1024, .f32⟩
  | .hbm, ⟨12, _⟩ => ⟨S8x2304x2048, .f32⟩
  | .hbm, ⟨13, _⟩ => ⟨S8x2304x2048, .f32⟩
  | .hbm, ⟨14, _⟩ => ⟨S8x2304x16, .f32⟩
  | .hbm, ⟨15, _⟩ => ⟨S8x2304x16, .f32⟩
  | .hbm, ⟨16, _⟩ => ⟨S8x2304x2048, .f32⟩
  | .hbm, ⟨17, _⟩ => ⟨S8x2304x2048, .f32⟩
  | .hbm, ⟨18, _⟩ => ⟨S8x2304x2048, .f32⟩
  | .hbm, ⟨19, _⟩ => ⟨S8x2304x2048, .f32⟩
  | .hbm, ⟨20, _⟩ => ⟨S8x2304x2048, .f32⟩
  | .hbm, ⟨21, _⟩ => ⟨S8x2304x4096, .f32⟩
  | .hbm, ⟨22, _⟩ => ⟨S8x2304x4096, .f32⟩
  | .hbm, ⟨23, _⟩ => ⟨S8x2304x4096, .f32⟩
  | .hbm, ⟨24, _⟩ => ⟨S8x2304x4096, .f32⟩
  | .hbm, ⟨25, _⟩ => ⟨S8x256x4096, .f32⟩
  | .hbm, ⟨26, _⟩ => ⟨S2048x4096, .f32⟩
  | .hbm, ⟨27, _⟩ => ⟨S8x2048x4096, .f32⟩
  | .hbm, ⟨28, _⟩ => ⟨S16384x4096, .f32⟩
  | .hbm, ⟨29, _⟩ => ⟨S18432x4096, .f32⟩
  | _, _ => ⟨S8x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩

abbrev nD : Nat := 1
abbrev τ : Topo := Topo.v7x

variable {F : FTy → Type} [FloatOps F]
-- ==== Cq.lean ====
abbrev S8x256x4096 : Shape := ⟨3, ![8, 256, 4096]⟩
abbrev S8x2048x4096 : Shape := ⟨3, ![8, 2048, 4096]⟩
abbrev S2x4096x30304 : Shape := ⟨3, ![2, 4096, 30304]⟩
abbrev S2x1024 : Shape := ⟨2, ![2, 1024]⟩
abbrev S2048x4096 : Shape := ⟨2, ![2048, 4096]⟩
abbrev S16384x4096 : Shape := ⟨2, ![16384, 4096]⟩
abbrev S18432x4096 : Shape := ⟨2, ![18432, 4096]⟩
abbrev S2x30304x4096 : Shape := ⟨3, ![2, 30304, 4096]⟩
abbrev S60608x4096 : Shape := ⟨2, ![60608, 4096]⟩
abbrev S1x1024 : Shape := ⟨2, ![1, 1024]⟩
abbrev S1024 : Shape := ⟨1, ![1024]⟩
abbrev S18432x1024 : Shape := ⟨2, ![18432, 1024]⟩
abbrev S1024x4096 : Shape := ⟨2, ![1024, 4096]⟩
abbrev S1024x1024 : Shape := ⟨2, ![1024, 1024]⟩
abbrev S1024x1 : Shape := ⟨2, ![1024, 1]⟩

abbrev nBuf : Space → Nat
  | .hbm => 15
  | .vmem => 6
  | .smem => 0
  | _ => 0

abbrev bufTy : (tb : Table) → Fin (tcTables nBuf tb) → BufTy
  | .hbm, ⟨0, _⟩ => ⟨S8x256x4096, .f32⟩
  | .hbm, ⟨1, _⟩ => ⟨S8x2048x4096, .f32⟩
  | .hbm, ⟨2, _⟩ => ⟨S2x4096x30304, .f32⟩
  | .hbm, ⟨3, _⟩ => ⟨S2x1024, .f32⟩
  | .hbm, ⟨4, _⟩ => ⟨S2048x4096, .f32⟩
  | .hbm, ⟨5, _⟩ => ⟨S16384x4096, .f32⟩
  | .hbm, ⟨6, _⟩ => ⟨S18432x4096, .f32⟩
  | .hbm, ⟨7, _⟩ => ⟨S18432x4096, .bf16⟩
  | .hbm, ⟨8, _⟩ => ⟨S2x30304x4096, .f32⟩
  | .hbm, ⟨9, _⟩ => ⟨S2x30304x4096, .bf16⟩
  | .hbm, ⟨10, _⟩ => ⟨S60608x4096, .bf16⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S18432x1024, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | _, _ => ⟨S8x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![18, 1], ![false, false]⟩

def k0_mult1 : BitVec 32 :=
  let c30304_i32 : BitVec 32 := 30304#32
  c30304_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c30304_i32 : BitVec 32 := 30304#32
  let v0 : BitVec 32 := c30304_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CqRefIdeal.lean ====
abbrev S8x256x4096 : Shape := ⟨3, ![8, 256, 4096]⟩
abbrev S8x2048x4096 : Shape := ⟨3, ![8, 2048, 4096]⟩
abbrev S2x4096x30304 : Shape := ⟨3, ![2, 4096, 30304]⟩
abbrev S2x1024 : Shape := ⟨2, ![2, 1024]⟩
abbrev S8x2304x4096 : Shape := ⟨3, ![8, 2304, 4096]⟩
abbrev S1x4096x30304 : Shape := ⟨3, ![1, 4096, 30304]⟩
abbrev S4096x30304 : Shape := ⟨2, ![4096, 30304]⟩
abbrev S8x2304x30304 : Shape := ⟨3, ![8, 2304, 30304]⟩
abbrev S8x2304x1024 : Shape := ⟨3, ![8, 2304, 1024]⟩
abbrev S8x2304x512 : Shape := ⟨3, ![8, 2304, 512]⟩
abbrev S8x2304x64 : Shape := ⟨3, ![8, 2304, 64]⟩
abbrev S8x2304x2048 : Shape := ⟨3, ![8, 2304, 2048]⟩
abbrev S8x2304x16 : Shape := ⟨3, ![8, 2304, 16]⟩
abbrev S1x1024 : Shape := ⟨2, ![1, 1024]⟩
abbrev S1024 : Shape := ⟨1, ![1024]⟩
abbrev S_ : Shape := ⟨0, ![]⟩
abbrev S8x2304 : Shape := ⟨2, ![8, 2304]⟩
abbrev S8x2304x1 : Shape := ⟨3, ![8, 2304, 1]⟩
abbrev S1x1x1024 : Shape := ⟨3, ![1, 1, 1024]⟩
abbrev S8x256x1024 : Shape := ⟨3, ![8, 256, 1024]⟩
abbrev S2048x1024 : Shape := ⟨2, ![2048, 1024]⟩
abbrev S8x2048x1024 : Shape := ⟨3, ![8, 2048, 1024]⟩
abbrev S16384x1024 : Shape := ⟨2, ![16384, 1024]⟩
abbrev S18432x1024 : Shape := ⟨2, ![18432, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x256x4096, .f32⟩
  | .hbm, ⟨1, _⟩ => ⟨S8x2048x4096, .f32⟩
  | .hbm, ⟨2, _⟩ => ⟨S2x4096x30304, .f32⟩
  | .hbm, ⟨3, _⟩ => ⟨S2x1024, .f32⟩
  | .hbm, ⟨4, _⟩ => ⟨S8x2304x4096, .f32⟩
  | .hbm, ⟨5, _⟩ => ⟨S1x4096x30304, .f32⟩
  | .hbm, ⟨6, _⟩ => ⟨S4096x30304, .f32⟩
  | .hbm, ⟨7, _⟩ => ⟨S8x2304x30304, .f32⟩
  | .hbm, ⟨8, _⟩ => ⟨S8x2304x1024, .f32⟩
  | .hbm, ⟨9, _⟩ => ⟨S8x2304x512, .f32⟩
  | .hbm, ⟨10, _⟩ => ⟨S8x2304x64, .f32⟩
  | .hbm, ⟨11, _⟩ => ⟨S8x2304x1024, .f32⟩
  | .hbm, ⟨12, _⟩ => ⟨S8x2304x1024, .f32⟩
  | .hbm, ⟨13, _⟩ => ⟨S8x2304x2048, .f32⟩
  | .hbm, ⟨14, _⟩ => ⟨S8x2304x2048, .f32⟩
  | .hbm, ⟨15, _⟩ => ⟨S8x2304x16, .f32⟩
  | .hbm, ⟨16, _⟩ => ⟨S8x2304x16, .f32⟩
  | .hbm, ⟨17, _⟩ => ⟨S8x2304x2048, .f32⟩
  | .hbm, ⟨18, _⟩ => ⟨S8x2304x2048, .f32⟩
  | .hbm, ⟨19, _⟩ => ⟨S8x2304x2048, .f32⟩
  | .hbm, ⟨20, _⟩ => ⟨S8x2304x2048, .f32⟩
  | .hbm, ⟨21, _⟩ => ⟨S8x2304x2048, .f32⟩
  | .hbm, ⟨22, _⟩ => ⟨S8x2304x4096, .f32⟩
  | .hbm, ⟨23, _⟩ => ⟨S8x2304x4096, .f32⟩
  | .hbm, ⟨24, _⟩ => ⟨S8x2304x4096, .f32⟩
  | .hbm, ⟨25, _⟩ => ⟨S1x1024, .f32⟩
  | .hbm, ⟨26, _⟩ => ⟨S1024, .f32⟩
  | .hbm, ⟨27, _⟩ => ⟨S8x2304x1024, .f32⟩
  | .hbm, ⟨28, _⟩ => ⟨S_, .f32⟩
  | .hbm, ⟨29, _⟩ => ⟨S8x2304, .f32⟩
  | .hbm, ⟨30, _⟩ => ⟨S8x2304x1, .f32⟩
  | .hbm, ⟨31, _⟩ => ⟨S_, .f32⟩
  | .hbm, ⟨32, _⟩ => ⟨S8x2304x1, .f32⟩
  | .hbm, ⟨33, _⟩ => ⟨S8x2304x1, .f32⟩
  | .hbm, ⟨34, _⟩ => ⟨S_, .f32⟩
  | .hbm, ⟨35, _⟩ => ⟨S8x2304x1, .f32⟩
  | .hbm, ⟨36, _⟩ => ⟨S8x2304x1, .f32⟩
  | .hbm, ⟨37, _⟩ => ⟨S8x2304x1, .f32⟩
  | .hbm, ⟨38, _⟩ => ⟨S8x2304x1024, .f32⟩
  | .hbm, ⟨39, _⟩ => ⟨S8x2304x1024, .f32⟩
  | .hbm, ⟨40, _⟩ => ⟨S1x1x1024, .f32⟩
  | .hbm, ⟨41, _⟩ => ⟨S8x2304x1024, .f32⟩
  | .hbm, ⟨42, _⟩ => ⟨S8x2304x1024, .f32⟩
  | .hbm, ⟨43, _⟩ => ⟨S8x256x1024, .f32⟩
  | .hbm, ⟨44, _⟩ => ⟨S2048x1024, .f32⟩
  | .hbm, ⟨45, _⟩ => ⟨S8x2048x1024, .f32⟩
  | .hbm, ⟨46, _⟩ => ⟨S16384x1024, .f32⟩
  | .hbm, ⟨47, _⟩ => ⟨S18432x1024, .f32⟩
  | .hbm, ⟨48, _⟩ => ⟨S18432x1024, .bf16⟩
  | _, _ => ⟨S8x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_v26 : Ref sig .tc := ⟨.hbm, 32, rfl⟩
abbrev main_v27 : Ref sig .tc := ⟨.hbm, 33, rfl⟩
abbrev main_cst_1 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩

abbrev nD : Nat := 1
abbrev τ : Topo := Topo.v7x

variable {F : FTy → Type} [FloatOps F]
-- ==== Ckv.lean ====
abbrev S8x256x4096 : Shape := ⟨3, ![8, 256, 4096]⟩
abbrev S8x2048x4096 : Shape := ⟨3, ![8, 2048, 4096]⟩
abbrev S2x4096x30304 : Shape := ⟨3, ![2, 4096, 30304]⟩
abbrev S2x512 : Shape := ⟨2, ![2, 512]⟩
abbrev S2048x4096 : Shape := ⟨2, ![2048, 4096]⟩
abbrev S16384x4096 : Shape := ⟨2, ![16384, 4096]⟩
abbrev S18432x4096 : Shape := ⟨2, ![18432, 4096]⟩
abbrev S2x30304x4096 : Shape := ⟨3, ![2, 30304, 4096]⟩
abbrev S60608x4096 : Shape := ⟨2, ![60608, 4096]⟩
abbrev S1x512 : Shape := ⟨2, ![1, 512]⟩
abbrev S512 : Shape := ⟨1, ![512]⟩
abbrev S18432x512 : Shape := ⟨2, ![18432, 512]⟩
abbrev S1024x4096 : Shape := ⟨2, ![1024, 4096]⟩
abbrev S512x4096 : Shape := ⟨2, ![512, 4096]⟩
abbrev S1024x512 : Shape := ⟨2, ![1024, 512]⟩
abbrev S1024 : Shape := ⟨1, ![1024]⟩
abbrev S1024x1 : Shape := ⟨2, ![1024, 1]⟩

abbrev nBuf : Space → Nat
  | .hbm => 15
  | .vmem => 6
  | .smem => 0
  | _ => 0

abbrev bufTy : (tb : Table) → Fin (tcTables nBuf tb) → BufTy
  | .hbm, ⟨0, _⟩ => ⟨S8x256x4096, .f32⟩
  | .hbm, ⟨1, _⟩ => ⟨S8x2048x4096, .f32⟩
  | .hbm, ⟨2, _⟩ => ⟨S2x4096x30304, .f32⟩
  | .hbm, ⟨3, _⟩ => ⟨S2x512, .f32⟩
  | .hbm, ⟨4, _⟩ => ⟨S2048x4096, .f32⟩
  | .hbm, ⟨5, _⟩ => ⟨S16384x4096, .f32⟩
  | .hbm, ⟨6, _⟩ => ⟨S18432x4096, .f32⟩
  | .hbm, ⟨7, _⟩ => ⟨S18432x4096, .bf16⟩
  | .hbm, ⟨8, _⟩ => ⟨S2x30304x4096, .f32⟩
  | .hbm, ⟨9, _⟩ => ⟨S2x30304x4096, .bf16⟩
  | .hbm, ⟨10, _⟩ => ⟨S60608x4096, .bf16⟩
  | .hbm, ⟨11, _⟩ => ⟨S1x512, .f32⟩
  | .hbm, ⟨12, _⟩ => ⟨S512, .f32⟩
  | .hbm, ⟨13, _⟩ => ⟨S1x512, .f32⟩
  | .hbm, ⟨14, _⟩ => ⟨S18432x512, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S1x512, .f32⟩
  | .local _ .vmem, ⟨4, _⟩ => ⟨S1024x512, .bf16⟩
  | .local _ .vmem, ⟨5, _⟩ => ⟨S1024x512, .bf16⟩
  | _, _ => ⟨S8x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![18, 1], ![false, false]⟩

def k0_mult1 : BitVec 32 :=
  let c31328_i32 : BitVec 32 := 31328#32
  c31328_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c31328_i32 : BitVec 32 := 31328#32
  let v0 : BitVec 32 := c31328_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CkvRefIdeal.lean ====
abbrev S8x256x4096 : Shape := ⟨3, ![8, 256, 4096]⟩
abbrev S8x2048x4096 : Shape := ⟨3, ![8, 2048, 4096]⟩
abbrev S2x4096x30304 : Shape := ⟨3, ![2, 4096, 30304]⟩
abbrev S2x512 : Shape := ⟨2, ![2, 512]⟩
abbrev S8x2304x4096 : Shape := ⟨3, ![8, 2304, 4096]⟩
abbrev S1x4096x30304 : Shape := ⟨3, ![1, 4096, 30304]⟩
abbrev S4096x30304 : Shape := ⟨2, ![4096, 30304]⟩
abbrev S8x2304x30304 : Shape := ⟨3, ![8, 2304, 30304]⟩
abbrev S8x2304x1024 : Shape := ⟨3, ![8, 2304, 1024]⟩
abbrev S8x2304x512 : Shape := ⟨3, ![8, 2304, 512]⟩
abbrev S8x2304x64 : Shape := ⟨3, ![8, 2304, 64]⟩
abbrev S8x2304x2048 : Shape := ⟨3, ![8, 2304, 2048]⟩
abbrev S8x2304x16 : Shape := ⟨3, ![8, 2304, 16]⟩
abbrev S1x512 : Shape := ⟨2, ![1, 512]⟩
abbrev S512 : Shape := ⟨1, ![512]⟩
abbrev S_ : Shape := ⟨0, ![]⟩
abbrev S8x2304 : Shape := ⟨2, ![8, 2304]⟩
abbrev S8x2304x1 : Shape := ⟨3, ![8, 2304, 1]⟩
abbrev S1x1x512 : Shape := ⟨3, ![1, 1, 512]⟩
abbrev S8x256x512 : Shape := ⟨3, ![8, 256, 512]⟩
abbrev S2048x512 : Shape := ⟨2, ![2048, 512]⟩
abbrev S8x2048x512 : Shape := ⟨3, ![8, 2048, 512]⟩
abbrev S16384x512 : Shape := ⟨2, ![16384, 512]⟩
abbrev S18432x512 : Shape := ⟨2, ![18432, 512]⟩

abbrev nBuf : Space → Nat
  | .hbm => 49
  | .vmem => 0
  | .smem => 0
  | _ => 0

abbrev bufTy : (tb : Table) → Fin (tcTables nBuf tb) → BufTy
  | .hbm, ⟨0, _⟩ => ⟨S8x256x4096, .f32⟩
  | .hbm, ⟨1, _⟩ => ⟨S8x2048x4096, .f32⟩
  | .hbm, ⟨2, _⟩ => ⟨S2x4096x30304, .f32⟩
  | .hbm, ⟨3, _⟩ => ⟨S2x512, .f32⟩
  | .hbm, ⟨4, _⟩ => ⟨S8x2304x4096, .f32⟩
  | .hbm, ⟨5, _⟩ => ⟨S1x4096x30304, .f32⟩
  | .hbm, ⟨6, _⟩ => ⟨S4096x30304, .f32⟩
  | .hbm, ⟨7, _⟩ => ⟨S8x2304x30304, .f32⟩
  | .hbm, ⟨8, _⟩ => ⟨S8x2304x1024, .f32⟩
  | .hbm, ⟨9, _⟩ => ⟨S8x2304x512, .f32⟩
  | .hbm, ⟨10, _⟩ => ⟨S8x2304x64, .f32⟩
  | .hbm, ⟨11, _⟩ => ⟨S8x2304x1024, .f32⟩
  | .hbm, ⟨12, _⟩ => ⟨S8x2304x1024, .f32⟩
  | .hbm, ⟨13, _⟩ => ⟨S8x2304x2048, .f32⟩
  | .hbm, ⟨14, _⟩ => ⟨S8x2304x2048, .f32⟩
  | .hbm, ⟨15, _⟩ => ⟨S8x2304x16, .f32⟩
  | .hbm, ⟨16, _⟩ => ⟨S8x2304x16, .f32⟩
  | .hbm, ⟨17, _⟩ => ⟨S8x2304x2048, .f32⟩
  | .hbm, ⟨18, _⟩ => ⟨S8x2304x2048, .f32⟩
  | .hbm, ⟨19, _⟩ => ⟨S8x2304x2048, .f32⟩
  | .hbm, ⟨20, _⟩ => ⟨S8x2304x2048, .f32⟩
  | .hbm, ⟨21, _⟩ => ⟨S8x2304x2048, .f32⟩
  | .hbm, ⟨22, _⟩ => ⟨S8x2304x4096, .f32⟩
  | .hbm, ⟨23, _⟩ => ⟨S8x2304x4096, .f32⟩
  | .hbm, ⟨24, _⟩ => ⟨S8x2304x4096, .f32⟩
  | .hbm, ⟨25, _⟩ => ⟨S1x512, .f32⟩
  | .hbm, ⟨26, _⟩ => ⟨S512, .f32⟩
  | .hbm, ⟨27, _⟩ => ⟨S8x2304x512, .f32⟩
  | .hbm, ⟨28, _⟩ => ⟨S_, .f32⟩
  | .hbm, ⟨29, _⟩ => ⟨S8x2304, .f32⟩
  | .hbm, ⟨30, _⟩ => ⟨S8x2304x1, .f32⟩
  | .hbm, ⟨31, _⟩ => ⟨S_, .f32⟩
  | .hbm, ⟨32, _⟩ => ⟨S8x2304x1, .f32⟩
  | .hbm, ⟨33, _⟩ => ⟨S8x2304x1, .f32⟩
  | .hbm, ⟨34, _⟩ => ⟨S_, .f32⟩
  | .hbm, ⟨35, _⟩ => ⟨S8x2304x1, .f32⟩
  | .hbm, ⟨36, _⟩ => ⟨S8x2304x1, .f32⟩
  | .hbm, ⟨37, _⟩ => ⟨S8x2304x1, .f32⟩
  | .hbm, ⟨38, _⟩ => ⟨S8x2304x512, .f32⟩
  | .hbm, ⟨39, _⟩ => ⟨S8x2304x512, .f32⟩
  | .hbm, ⟨40, _⟩ => ⟨S1x1x512, .f32⟩
  | .hbm, ⟨41, _⟩ => ⟨S8x2304x512, .f32⟩
  | .hbm, ⟨42, _⟩ => ⟨S8x2304x512, .f32⟩
  | .hbm, ⟨43, _⟩ => ⟨S8x256x512, .f32⟩
  | .hbm, ⟨44, _⟩ => ⟨S2048x512, .f32⟩
  | .hbm, ⟨45, _⟩ => ⟨S8x2048x512, .f32⟩
  | .hbm, ⟨46, _⟩ => ⟨S16384x512, .f32⟩
  | .hbm, ⟨47, _⟩ => ⟨S18432x512, .f32⟩
  | .hbm, ⟨48, _⟩ => ⟨S18432x512, .bf16⟩
  | _, _ => ⟨S8x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_v26 : Ref sig .tc := ⟨.hbm, 32, rfl⟩
abbrev main_v27 : Ref sig .tc := ⟨.hbm, 33, rfl⟩
abbrev main_cst_1 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩

abbrev nD : Nat := 1
abbrev τ : Topo := Topo.v7x

variable {F : FTy → Type} [FloatOps F]
-- ==== Merge.lean ====
abbrev S8x2048x2048 : Shape := ⟨3, ![8, 2048, 2048]⟩
abbrev S8x2304x4096 : Shape := ⟨3, ![8, 2304, 4096]⟩
abbrev S2x3x2048x4096 : Shape := ⟨4, ![2, 3, 2048, 4096]⟩
abbrev S16384x2048 : Shape := ⟨2, ![16384, 2048]⟩
abbrev S_ : Shape := ⟨0, ![]⟩
abbrev S18432x12288 : Shape := ⟨2, ![18432, 12288]⟩
abbrev S8x2304x12288 : Shape := ⟨3, ![8, 2304, 12288]⟩
abbrev S8x256x12288 : Shape := ⟨3, ![8, 256, 12288]⟩
abbrev S2048x12288 : Shape := ⟨2, ![2048, 12288]⟩
abbrev S8x2048x12288 : Shape := ⟨3, ![8, 2048, 12288]⟩
abbrev S16384x12288 : Shape := ⟨2, ![16384, 12288]⟩
abbrev S18432x24576 : Shape := ⟨2, ![18432, 24576]⟩
abbrev S6x2048x4096 : Shape := ⟨3, ![6, 2048, 4096]⟩
abbrev S16384x4096 : Shape := ⟨2, ![16384, 4096]⟩
abbrev S1024x2048 : Shape := ⟨2, ![1024, 2048]⟩
abbrev S3x2048x512 : Shape := ⟨3, ![3, 2048, 512]⟩
abbrev S1024x512 : Shape := ⟨2, ![1024, 512]⟩
abbrev S1x2048x512 : Shape := ⟨3, ![1, 2048, 512]⟩
abbrev S2048x512 : Shape := ⟨2, ![2048, 512]⟩

abbrev nBuf : Space → Nat
  | .hbm => 26
  | .vmem => 16
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048x2048, .f32⟩
  | .hbm, ⟨3, _⟩ => ⟨S8x2304x4096, .f32⟩
  | .hbm, ⟨4, _⟩ => ⟨S8x2304x4096, .f32⟩
  | .hbm, ⟨5, _⟩ => ⟨S8x2304x4096, .f32⟩
  | .hbm, ⟨6, _⟩ => ⟨S2x3x2048x4096, .f32⟩
  | .hbm, ⟨7, _⟩ => ⟨S16384x2048, .f32⟩
  | .hbm, ⟨8, _⟩ => ⟨S16384x2048, .bf16⟩
  | .hbm, ⟨9, _⟩ => ⟨S16384x2048, .f32⟩
  | .hbm, ⟨10, _⟩ => ⟨S16384x2048, .bf16⟩
  | .hbm, ⟨11, _⟩ => ⟨S16384x2048, .f32⟩
  | .hbm, ⟨12, _⟩ => ⟨S16384x2048, .bf16⟩
  | .hbm, ⟨13, _⟩ => ⟨S_, .f32⟩
  | .hbm, ⟨14, _⟩ => ⟨S18432x12288, .f32⟩
  | .hbm, ⟨15, _⟩ => ⟨S8x2304x12288, .f32⟩
  | .hbm, ⟨16, _⟩ => ⟨S8x256x12288, .f32⟩
  | .hbm, ⟨17, _⟩ => ⟨S2048x12288, .f32⟩
  | .hbm, ⟨18, _⟩ => ⟨S8x2048x12288, .f32⟩
  | .hbm, ⟨19, _⟩ => ⟨S16384x12288, .f32⟩
  | .hbm, ⟨20, _⟩ => ⟨S18432x12288, .f32⟩
  | .hbm, ⟨21, _⟩ => ⟨S18432x24576, .f32⟩
  | .hbm, ⟨22, _⟩ => ⟨S18432x24576, .bf16⟩
  | .hbm, ⟨23, _⟩ => ⟨S2x3x2048x4096, .bf16⟩
  | .hbm, ⟨24, _⟩ => ⟨S6x2048x4096, .bf16⟩
  | .hbm, ⟨25, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S3x2048x512, .bf16⟩
  | .local _ .vmem, ⟨7, _⟩ => ⟨S3x2048x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c24_i32 : BitVec 32 := 24#32
  let v1 : BitVec 32 := Scalar.addi c24_i32 arg1
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c32_i32 : BitVec 32 := 32#32
  let v1 : BitVec 32 := Scalar.addi c32_i32 arg1
  let c0_i32 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c40_i32 : BitVec 32 := 40#32
  let v1 : BitVec 32 := Scalar.addi c40_i32 arg1
  let c0_i32 : BitVec 32 := 0#32
  ![v0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeRefIdeal.lean ====
abbrev S8x2048x2048 : Shape := ⟨3, ![8, 2048, 2048]⟩
abbrev S8x2304x4096 : Shape := ⟨3, ![8, 2304, 4096]⟩
abbrev S2x3x2048x4096 : Shape := ⟨4, ![2, 3, 2048, 4096]⟩
abbrev S8x2048x4096 : Shape := ⟨3, ![8, 2048, 4096]⟩
abbrev S1x3x2048x4096 : Shape := ⟨4, ![1, 3, 2048, 4096]⟩
abbrev S3x2048x4096 : Shape := ⟨3, ![3, 2048, 4096]⟩
abbrev S_ : Shape := ⟨0, ![]⟩
abbrev S1x2048x4096 : Shape := ⟨3, ![1, 2048, 4096]⟩
abbrev S2048x4096 : Shape := ⟨2, ![2048, 4096]⟩
abbrev S16384x4096 : Shape := ⟨2, ![16384, 4096]⟩

abbrev nBuf : Space → Nat
  | .hbm => 52
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048x2048, .f32⟩
  | .hbm, ⟨3, _⟩ => ⟨S8x2304x4096, .f32⟩
  | .hbm, ⟨4, _⟩ => ⟨S8x2304x4096, .f32⟩
  | .hbm, ⟨5, _⟩ => ⟨S8x2304x4096, .f32⟩
  | .hbm, ⟨6, _⟩ => ⟨S2x3x2048x4096, .f32⟩
  | .hbm, ⟨7, _⟩ => ⟨S8x2048x4096, .f32⟩
  | .hbm, ⟨8, _⟩ => ⟨S8x2048x4096, .f32⟩
  | .hbm, ⟨9, _⟩ => ⟨S8x2048x4096, .f32⟩
  | .hbm, ⟨10, _⟩ => ⟨S1x3x2048x4096, .f32⟩
  | .hbm, ⟨11, _⟩ => ⟨S3x2048x4096, .f32⟩
  | .hbm, ⟨12, _⟩ => ⟨S8x2048x4096, .f32⟩
  | .hbm, ⟨13, _⟩ => ⟨S8x2048x4096, .f32⟩
  | .hbm, ⟨14, _⟩ => ⟨S_, .f32⟩
  | .hbm, ⟨15, _⟩ => ⟨S8x2048x4096, .f32⟩
  | .hbm, ⟨16, _⟩ => ⟨S8x2048x4096, .f32⟩
  | .hbm, ⟨17, _⟩ => ⟨S_, .f32⟩
  | .hbm, ⟨18, _⟩ => ⟨S8x2048x4096, .f32⟩
  | .hbm, ⟨19, _⟩ => ⟨S8x2048x4096, .f32⟩
  | .hbm, ⟨20, _⟩ => ⟨S1x2048x4096, .f32⟩
  | .hbm, ⟨21, _⟩ => ⟨S2048x4096, .f32⟩
  | .hbm, ⟨22, _⟩ => ⟨S8x2048x4096, .f32⟩
  | .hbm, ⟨23, _⟩ => ⟨S8x2048x4096, .f32⟩
  | .hbm, ⟨24, _⟩ => ⟨S8x2048x4096, .f32⟩
  | .hbm, ⟨25, _⟩ => ⟨S8x2048x4096, .f32⟩
  | .hbm, ⟨26, _⟩ => ⟨S_, .f32⟩
  | .hbm, ⟨27, _⟩ => ⟨S8x2048x4096, .f32⟩
  | .hbm, ⟨28, _⟩ => ⟨S8x2048x4096, .f32⟩
  | .hbm, ⟨29, _⟩ => ⟨S_, .f32⟩
  | .hbm, ⟨30, _⟩ => ⟨S8x2048x4096, .f32⟩
  | .hbm, ⟨31, _⟩ => ⟨S8x2048x4096, .f32⟩
  | .hbm, ⟨32, _⟩ => ⟨S1x2048x4096, .f32⟩
  | .hbm, ⟨33, _⟩ => ⟨S2048x4096, .f32⟩
  | .hbm, ⟨34, _⟩ => ⟨S8x2048x4096, .f32⟩
  | .hbm, ⟨35, _⟩ => ⟨S8x2048x4096, .f32⟩
  | .hbm, ⟨36, _⟩ => ⟨S8x2048x4096, .f32⟩
  | .hbm, ⟨37, _⟩ => ⟨S8x2048x4096, .f32⟩
  | .hbm, ⟨38, _⟩ => ⟨S8x2048x4096, .f32⟩
  | .hbm, ⟨39, _⟩ => ⟨S_, .f32⟩
  | .hbm, ⟨40, _⟩ => ⟨S8x2048x4096, .f32⟩
  | .hbm, ⟨41, _⟩ => ⟨S8x2048x4096, .f32⟩
  | .hbm, ⟨42, _⟩ => ⟨S_, .f32⟩
  | .hbm, ⟨43, _⟩ => ⟨S8x2048x4096, .f32⟩
  | .hbm, ⟨44, _⟩ => ⟨S8x2048x4096, .f32⟩
  | .hbm, ⟨45, _⟩ => ⟨S1x2048x4096, .f32⟩
  | .hbm, ⟨46, _⟩ => ⟨S2048x4096, .f32⟩
  | .hbm, ⟨47, _⟩ => ⟨S8x2048x4096, .f32⟩
  | .hbm, ⟨48, _⟩ => ⟨S8x2048x4096, .f32⟩
  | .hbm, ⟨49, _⟩ => ⟨S8x2048x4096, .f32⟩
  | .hbm, ⟨50, _⟩ => ⟨S16384x4096, .f32⟩
  | .hbm, ⟨51, _⟩ => ⟨S16384x4096, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Out.lean ====
abbrev S8x2048x4096 : Shape := ⟨3, ![8, 2048, 4096]⟩
abbrev S8x256x4096 : Shape := ⟨3, ![8, 256, 4096]⟩
abbrev S8x1x24576 : Shape := ⟨3, ![8, 1, 24576]⟩
abbrev S1x1x24576 : Shape := ⟨3, ![1, 1, 24576]⟩
abbrev S2x4096x4096 : Shape := ⟨3, ![2, 4096, 4096]⟩
abbrev S16384x4096 : Shape := ⟨2, ![16384, 4096]⟩
abbrev S2048x4096 : Shape := ⟨2, ![2048, 4096]⟩
abbrev S18432x4096 : Shape := ⟨2, ![18432, 4096]⟩
abbrev S8x24576 : Shape := ⟨2, ![8, 24576]⟩
abbrev S1x24576 : Shape := ⟨2, ![1, 24576]⟩
abbrev S9x24576 : Shape := ⟨2, ![9, 24576]⟩
abbrev S54x1x4096 : Shape := ⟨3, ![54, 1, 4096]⟩
abbrev S8192x4096 : Shape := ⟨2, ![8192, 4096]⟩
abbrev S1024x4096 : Shape := ⟨2, ![1024, 4096]⟩
abbrev S4096x1024 : Shape := ⟨2, ![4096, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 18
  | .vmem => 10
  | .smem => 0
  | _ => 0

abbrev bufTy : (tb : Table) → Fin (tcTables nBuf tb) → BufTy
  | .hbm, ⟨0, _⟩ => ⟨S8x2048x4096, .f32⟩
  | .hbm, ⟨1, _⟩ => ⟨S8x256x4096, .f32⟩
  | .hbm, ⟨2, _⟩ => ⟨S8x2048x4096, .f32⟩
  | .hbm, ⟨3, _⟩ => ⟨S8x1x24576, .f32⟩
  | .hbm, ⟨4, _⟩ => ⟨S1x1x24576, .f32⟩
  | .hbm, ⟨5, _⟩ => ⟨S2x4096x4096, .f32⟩
  | .hbm, ⟨6, _⟩ => ⟨S16384x4096, .f32⟩
  | .hbm, ⟨7, _⟩ => ⟨S16384x4096, .bf16⟩
  | .hbm, ⟨8, _⟩ => ⟨S2048x4096, .f32⟩
  | .hbm, ⟨9, _⟩ => ⟨S16384x4096, .f32⟩
  | .hbm, ⟨10, _⟩ => ⟨S18432x4096, .f32⟩
  | .hbm, ⟨11, _⟩ => ⟨S8x24576, .f32⟩
  | .hbm, ⟨12, _⟩ => ⟨S1x24576, .f32⟩
  | .hbm, ⟨13, _⟩ => ⟨S9x24576, .f32⟩
  | .hbm, ⟨14, _⟩ => ⟨S54x1x4096, .f32⟩
  | .hbm, ⟨15, _⟩ => ⟨S2x4096x4096, .bf16⟩
  | .hbm, ⟨16, _⟩ => ⟨S8192x4096, .bf16⟩
  | .hbm, ⟨17, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![v0.toNat, arg1.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.addi v0 c2048_i32
  let c2048_i32_0 : BitVec 32 := 2048#32
  let v2 : BitVec 1 := Scalar.cmpi .slt v1 c2048_i32_0
  let c2048_i32_1 : BitVec 32 := 2048#32
  let v3 : BitVec 32 := Scalar.subi v1 c2048_i32_1
  let c0_i32 : BitVec 32 := 0#32
  let v4 : BitVec 32 := Scalar.maxsi v3 c0_i32
  let c2048_i32_2 : BitVec 32 := 2048#32
  let v5 : BitVec 32 := Scalar.divsi v4 c2048_i32_2
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c0_i32_5 : BitVec 32 := 0#32
  let v11 : BitVec 1 := Scalar.cmpi .sgt c2048_i32_2 c0_i32_5
  let v12 : BitVec 32 := Scalar.extui v11
  let c0_i32_6 : BitVec 32 := 0#32
  let v13 : BitVec 1 := Scalar.cmpi .slt c2048_i32_2 c0_i32_6
  let v14 : BitVec 32 := Scalar.extui v13
  let v15 : BitVec 32 := Scalar.subi v12 v14
  let v16 : BitVec 1 := Scalar.cmpi .ne v10 v15
  let v17 : BitVec 32 := Scalar.remsi v4 c2048_i32_2
  let c0_i32_7 : BitVec 32 := 0#32
  let v18 : BitVec 1 := Scalar.cmpi .ne v17 c0_i32_7
  let v19 : BitVec 1 := Scalar.andi v16 v18
  let c1_i32 : BitVec 32 := 1#32
  let v20 : BitVec 32 := Scalar.subi v5 c1_i32
  let v21 : BitVec 32 := Scalar.select v19 v20 v5
  let c8_i32 : BitVec 32 := 8#32
  let v22 : BitVec 32 := Scalar.select v2 c8_i32 v21
  let c6_i32 : BitVec 32 := 6#32
  let v23 : BitVec 32 := Scalar.muli v22 c6_i32
  let c2_i32 : BitVec 32 := 2#32
  let v24 : BitVec 32 := Scalar.addi v23 c2_i32
  let c0_i32_8 : BitVec 32 := 0#32
  let c0_i32_9 : BitVec 32 := 0#32
  ![v24.toNat, c0_i32_8.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutRefIdeal.lean ====
abbrev S8x2048x4096 : Shape := ⟨3, ![8, 2048, 4096]⟩
abbrev S8x256x4096 : Shape := ⟨3, ![8, 256, 4096]⟩
abbrev S8x1x24576 : Shape := ⟨3, ![8, 1, 24576]⟩
abbrev S1x1x24576 : Shape := ⟨3, ![1, 1, 24576]⟩
abbrev S2x4096x4096 : Shape := ⟨3, ![2, 4096, 4096]⟩
abbrev S8x1x4096 : Shape := ⟨3, ![8, 1, 4096]⟩
abbrev S1x4096x4096 : Shape := ⟨3, ![1, 4096, 4096]⟩
abbrev S4096x4096 : Shape := ⟨2, ![4096, 4096]⟩
abbrev S16384x4096 : Shape := ⟨2, ![16384, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S8x256x4096, .f32⟩
  | .hbm, ⟨2, _⟩ => ⟨S8x2048x4096, .f32⟩
  | .hbm, ⟨3, _⟩ => ⟨S8x1x24576, .f32⟩
  | .hbm, ⟨4, _⟩ => ⟨S1x1x24576, .f32⟩
  | .hbm, ⟨5, _⟩ => ⟨S2x4096x4096, .f32⟩
  | .hbm, ⟨6, _⟩ => ⟨S8x1x4096, .f32⟩
  | .hbm, ⟨7, _⟩ => ⟨S8x1x4096, .f32⟩
  | .hbm, ⟨8, _⟩ => ⟨S8x1x4096, .f32⟩
  | .hbm, ⟨9, _⟩ => ⟨S8x1x4096, .f32⟩
  | .hbm, ⟨10, _⟩ => ⟨S8x1x4096, .f32⟩
  | .hbm, ⟨11, _⟩ => ⟨S8x1x4096, .f32⟩
  | .hbm, ⟨12, _⟩ => ⟨S1x4096x4096, .f32⟩
  | .hbm, ⟨13, _⟩ => ⟨S4096x4096, .f32⟩
  | .hbm, ⟨14, _⟩ => ⟨S8x2048x4096, .f32⟩
  | .hbm, ⟨15, _⟩ => ⟨S8x2048x4096, .f32⟩
  | .hbm, ⟨16, _⟩ => ⟨S8x2048x4096, .f32⟩
  | .hbm, ⟨17, _⟩ => ⟨S8x2048x4096, .f32⟩
  | .hbm, ⟨18, _⟩ => ⟨S16384x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kv.lean ====
abbrev S8x2304x512 : Shape := ⟨3, ![8, 2304, 512]⟩
abbrev S2x512x16x256 : Shape := ⟨4, ![2, 512, 16, 256]⟩
abbrev S8x256x512 : Shape := ⟨3, ![8, 256, 512]⟩
abbrev S2048x512 : Shape := ⟨2, ![2048, 512]⟩
abbrev S8x2048x512 : Shape := ⟨3, ![8, 2048, 512]⟩
abbrev S16384x512 : Shape := ⟨2, ![16384, 512]⟩
abbrev S18432x512 : Shape := ⟨2, ![18432, 512]⟩
abbrev S1x512x16x256 : Shape := ⟨4, ![1, 512, 16, 256]⟩
abbrev S512x16x256 : Shape := ⟨3, ![512, 16, 256]⟩
abbrev S512x4096 : Shape := ⟨2, ![512, 4096]⟩
abbrev S18432x4096 : Shape := ⟨2, ![18432, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 13
  | .vmem => 6
  | .smem => 0
  | _ => 0

abbrev bufTy : (tb : Table) → Fin (tcTables nBuf tb) → BufTy
  | .hbm, ⟨0, _⟩ => ⟨S8x2304x512, .f32⟩
  | .hbm, ⟨1, _⟩ => ⟨S2x512x16x256, .f32⟩
  | .hbm, ⟨2, _⟩ => ⟨S8x256x512, .f32⟩
  | .hbm, ⟨3, _⟩ => ⟨S2048x512, .f32⟩
  | .hbm, ⟨4, _⟩ => ⟨S8x2048x512, .f32⟩
  | .hbm, ⟨5, _⟩ => ⟨S16384x512, .f32⟩
  | .hbm, ⟨6, _⟩ => ⟨S18432x512, .f32⟩
  | .hbm, ⟨7, _⟩ => ⟨S18432x512, .bf16⟩
  | .hbm, ⟨8, _⟩ => ⟨S1x512x16x256, .f32⟩
  | .hbm, ⟨9, _⟩ => ⟨S512x16x256, .f32⟩
  | .hbm, ⟨10, _⟩ => ⟨S512x4096, .f32⟩
  | .hbm, ⟨11, _⟩ => ⟨S512x4096, .bf16⟩
  | .hbm, ⟨12, _⟩ => ⟨S18432x4096, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S8x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![18, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvRefIdeal.lean ====
abbrev S8x2304x512 : Shape := ⟨3, ![8, 2304, 512]⟩
abbrev S2x512x16x256 : Shape := ⟨4, ![2, 512, 16, 256]⟩
abbrev S1x512x16x256 : Shape := ⟨4, ![1, 512, 16, 256]⟩
abbrev S512x16x256 : Shape := ⟨3, ![512, 16, 256]⟩
abbrev S16x256x8x2304 : Shape := ⟨4, ![16, 256, 8, 2304]⟩
abbrev S8x16x2304x256 : Shape := ⟨4, ![8, 16, 2304, 256]⟩
abbrev S8x2304x16x256 : Shape := ⟨4, ![8, 2304, 16, 256]⟩
abbrev S8x2304x4096 : Shape := ⟨3, ![8, 2304, 4096]⟩
abbrev S8x256x4096 : Shape := ⟨3, ![8, 256, 4096]⟩
abbrev S2048x4096 : Shape := ⟨2, ![2048, 4096]⟩
abbrev S8x2048x4096 : Shape := ⟨3, ![8, 2048, 4096]⟩
abbrev S16384x4096 : Shape := ⟨2, ![16384, 4096]⟩
abbrev S18432x4096 : Shape := ⟨2, ![18432, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8x2304x512, .f32⟩
  | .hbm, ⟨1, _⟩ => ⟨S2x512x16x256, .f32⟩
  | .hbm, ⟨2, _⟩ => ⟨S1x512x16x256, .f32⟩
  | .hbm, ⟨3, _⟩ => ⟨S512x16x256, .f32⟩
  | .hbm, ⟨4, _⟩ => ⟨S16x256x8x2304, .f32⟩
  | .hbm, ⟨5, _⟩ => ⟨S8x16x2304x256, .f32⟩
  | .hbm, ⟨6, _⟩ => ⟨S8x2304x16x256, .f32⟩
  | .hbm, ⟨7, _⟩ => ⟨S8x2304x4096, .f32⟩
  | .hbm, ⟨8, _⟩ => ⟨S8x256x4096, .f32⟩
  | .hbm, ⟨9, _⟩ => ⟨S2048x4096, .f32⟩
  | .hbm, ⟨10, _⟩ => ⟨S8x2048x4096, .f32⟩
  | .hbm, ⟨11, _⟩ => ⟨S16384x4096, .f32⟩
  | .hbm, ⟨12, _⟩ => ⟨S18432x4096, .f32⟩
  | .hbm, ⟨13, _⟩ => ⟨S18432x4096, .bf16⟩
  | _, _ => ⟨S8x2304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Fin.lean ====
abbrev S8x2048x4096 : Shape := ⟨3, ![8, 2048, 4096]⟩
abbrev S16384x2x4096 : Shape := ⟨3, ![16384, 2, 4096]⟩
abbrev S16384x2 : Shape := ⟨2, ![16384, 2]⟩
abbrev S8x1x24576 : Shape := ⟨3, ![8, 1, 24576]⟩
abbrev S1x1x24576 : Shape := ⟨3, ![1, 1, 24576]⟩
abbrev S4096 : Shape := ⟨1, ![4096]⟩
abbrev S16384x4096 : Shape := ⟨2, ![16384, 4096]⟩
abbrev S16384x1x4096 : Shape := ⟨3, ![16384, 1, 4096]⟩
abbrev S_ : Shape := ⟨0, ![]⟩
abbrev S256x4096 : Shape := ⟨2, ![256, 4096]⟩
abbrev S33024x4096 : Shape := ⟨2, ![33024, 4096]⟩
abbrev S8x24576 : Shape := ⟨2, ![8, 24576]⟩
abbrev S1x24576 : Shape := ⟨2, ![1, 24576]⟩
abbrev S9x24576 : Shape := ⟨2, ![9, 24576]⟩
abbrev S54x1x4096 : Shape := ⟨3, ![54, 1, 4096]⟩
abbrev S1x4096 : Shape := ⟨2, ![1, 4096]⟩
abbrev S256x2 : Shape := ⟨2, ![256, 2]⟩
abbrev S1x1x4096 : Shape := ⟨3, ![1, 1, 4096]⟩
abbrev S256x1 : Shape := ⟨2, ![256, 1]⟩
abbrev S256 : Shape := ⟨1, ![256]⟩

abbrev nBuf : Space → Nat
  | .hbm => 20
  | .vmem => 13
  | .smem => 0
  | _ => 0

abbrev bufTy : (tb : Table) → Fin (tcTables nBuf tb) → BufTy
  | .hbm, ⟨0, _⟩ => ⟨S8x2048x4096, .f32⟩
  | .hbm, ⟨1, _⟩ => ⟨S16384x2x4096, .f32⟩
  | .hbm, ⟨2, _⟩ => ⟨S16384x2, .f32⟩
  | .hbm, ⟨3, _⟩ => ⟨S8x1x24576, .f32⟩
  | .hbm, ⟨4, _⟩ => ⟨S1x1x24576, .f32⟩
  | .hbm, ⟨5, _⟩ => ⟨S4096, .f32⟩
  | .hbm, ⟨6, _⟩ => ⟨S16384x4096, .f32⟩
  | .hbm, ⟨7, _⟩ => ⟨S16384x1x4096, .f32⟩
  | .hbm, ⟨8, _⟩ => ⟨S16384x4096, .f32⟩
  | .hbm, ⟨9, _⟩ => ⟨S16384x1x4096, .f32⟩
  | .hbm, ⟨10, _⟩ => ⟨S16384x4096, .f32⟩
  | .hbm, ⟨11, _⟩ => ⟨S_, .f32⟩
  | .hbm, ⟨12, _⟩ => ⟨S256x4096, .f32⟩
  | .hbm, ⟨13, _⟩ => ⟨S33024x4096, .f32⟩
  | .hbm, ⟨14, _⟩ => ⟨S8x24576, .f32⟩
  | .hbm, ⟨15, _⟩ => ⟨S1x24576, .f32⟩
  | .hbm, ⟨16, _⟩ => ⟨S9x24576, .f32⟩
  | .hbm, ⟨17, _⟩ => ⟨S54x1x4096, .f32⟩
  | .hbm, ⟨18, _⟩ => ⟨S1x4096, .f32⟩
  | .hbm, ⟨19, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x2, .f32⟩
  | .local _ .vmem, ⟨7, _⟩ => ⟨S256x2, .f32⟩
  | .local _ .vmem, ⟨8, _⟩ => ⟨S1x1x4096, .f32⟩
  | .local _ .vmem, ⟨9, _⟩ => ⟨S1x1x4096, .f32⟩
  | .local _ .vmem, ⟨10, _⟩ => ⟨S1x4096, .f32⟩
  | .local _ .vmem, ⟨11, _⟩ => ⟨S256x4096, .f32⟩
  | .local _ .vmem, ⟨12, _⟩ => ⟨S256x4096, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.addi v0 c2048_i32
  let c2048_i32_0 : BitVec 32 := 2048#32
  let v2 : BitVec 1 := Scalar.cmpi .slt v1 c2048_i32_0
  let c2048_i32_1 : BitVec 32 := 2048#32
  let v3 : BitVec 32 := Scalar.subi v1 c2048_i32_1
  let c0_i32 : BitVec 32 := 0#32
  let v4 : BitVec 32 := Scalar.maxsi v3 c0_i32
  let c2048_i32_2 : BitVec 32 := 2048#32
  let v5 : BitVec 32 := Scalar.divsi v4 c2048_i32_2
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c0_i32_5 : BitVec 32 := 0#32
  let v11 : BitVec 1 := Scalar.cmpi .sgt c2048_i32_2 c0_i32_5
  let v12 : BitVec 32 := Scalar.extui v11
  let c0_i32_6 : BitVec 32 := 0#32
  let v13 : BitVec 1 := Scalar.cmpi .slt c2048_i32_2 c0_i32_6
  let v14 : BitVec 32 := Scalar.extui v13
  let v15 : BitVec 32 := Scalar.subi v12 v14
  let v16 : BitVec 1 := Scalar.cmpi .ne v10 v15
  let v17 : BitVec 32 := Scalar.remsi v4 c2048_i32_2
  let c0_i32_7 : BitVec 32 := 0#32
  let v18 : BitVec 1 := Scalar.cmpi .ne v17 c0_i32_7
  let v19 : BitVec 1 := Scalar.andi v16 v18
  let c1_i32 : BitVec 32 := 1#32
  let v20 : BitVec 32 := Scalar.subi v5 c1_i32
  let v21 : BitVec 32 := Scalar.select v19 v20 v5
  let c8_i32 : BitVec 32 := 8#32
  let v22 : BitVec 32 := Scalar.select v2 c8_i32 v21
  let c6_i32 : BitVec 32 := 6#32
  let v23 : BitVec 32 := Scalar.muli v22 c6_i32
  let c5_i32 : BitVec 32 := 5#32
  let v24 : BitVec 32 := Scalar.addi v23 c5_i32
  let c0_i32_8 : BitVec 32 := 0#32
  let c0_i32_9 : BitVec 32 := 0#32
  let c0_i32_10 : BitVec 32 := 0#32
  ![v24.toNat, c0_i32_8.toNat, c0_i32_9.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FinRefIdeal.lean ====
abbrev S8x2048x4096 : Shape := ⟨3, ![8, 2048, 4096]⟩
abbrev S16384x2x4096 : Shape := ⟨3, ![16384, 2, 4096]⟩
abbrev S16384x2 : Shape := ⟨2, ![16384, 2]⟩
abbrev S8x1x24576 : Shape := ⟨3, ![8, 1, 24576]⟩
abbrev S1x1x24576 : Shape := ⟨3, ![1, 1, 24576]⟩
abbrev S4096 : Shape := ⟨1, ![4096]⟩
abbrev S8x1x4096 : Shape := ⟨3, ![8, 1, 4096]⟩
abbrev S16384x2x1 : Shape := ⟨3, ![16384, 2, 1]⟩
abbrev S_ : Shape := ⟨0, ![]⟩
abbrev S16384x4096 : Shape := ⟨2, ![16384, 4096]⟩
abbrev S8x2048 : Shape := ⟨2, ![8, 2048]⟩
abbrev S8x2048x1 : Shape := ⟨3, ![8, 2048, 1]⟩
abbrev S1x1x4096 : Shape := ⟨3, ![1, 1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S16384x2x4096, .f32⟩
  | .hbm, ⟨2, _⟩ => ⟨S16384x2, .f32⟩
  | .hbm, ⟨3, _⟩ => ⟨S8x1x24576, .f32⟩
  | .hbm, ⟨4, _⟩ => ⟨S1x1x24576, .f32⟩
  | .hbm, ⟨5, _⟩ => ⟨S4096, .f32⟩
  | .hbm, ⟨6, _⟩ => ⟨S8x1x4096, .f32⟩
  | .hbm, ⟨7, _⟩ => ⟨S8x1x4096, .f32⟩
  | .hbm, ⟨8, _⟩ => ⟨S8x1x4096, .f32⟩
  | .hbm, ⟨9, _⟩ => ⟨S8x1x4096, .f32⟩
  | .hbm, ⟨10, _⟩ => ⟨S8x1x4096, .f32⟩
  | .hbm, ⟨11, _⟩ => ⟨S8x1x4096, .f32⟩
  | .hbm, ⟨12, _⟩ => ⟨S16384x2x1, .f32⟩
  | .hbm, ⟨13, _⟩ => ⟨S16384x2x4096, .f32⟩
  | .hbm, ⟨14, _⟩ => ⟨S16384x2x4096, .f32⟩
  | .hbm, ⟨15, _⟩ => ⟨S_, .f32⟩
  | .hbm, ⟨16, _⟩ => ⟨S16384x4096, .f32⟩
  | .hbm, ⟨17, _⟩ => ⟨S8x2048x4096, .f32⟩
  | .hbm, ⟨18, _⟩ => ⟨S8x2048x4096, .f32⟩
  | .hbm, ⟨19, _⟩ => ⟨S8x2048x4096, .f32⟩
  | .hbm, ⟨20, _⟩ => ⟨S8x2048x4096, .f32⟩
  | .hbm, ⟨21, _⟩ => ⟨S8x2048x4096, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S8x2048x1, .f32⟩
  | .hbm, ⟨32, _⟩ => ⟨S8x2048x4096, .f32⟩
  | .hbm, ⟨33, _⟩ => ⟨S8x2048x4096, .f32⟩
  | .hbm, ⟨34, _⟩ => ⟨S1x1x4096, .f32⟩
  | .hbm, ⟨35, _⟩ => ⟨S8x2048x4096, .f32⟩
  | .hbm, ⟨36, _⟩ => ⟨S8x2048x4096, .f32⟩
  | .hbm, ⟨37, _⟩ => ⟨S16384x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Merge0.lean ====
abbrev S8x2304x2048 : Shape := ⟨3, ![8, 2304, 2048]⟩
abbrev S8x2304x4096 : Shape := ⟨3, ![8, 2304, 4096]⟩
abbrev S2x3x2048x4096 : Shape := ⟨4, ![2, 3, 2048, 4096]⟩
abbrev S8x256x2048 : Shape := ⟨3, ![8, 256, 2048]⟩
abbrev S2048x2048 : Shape := ⟨2, ![2048, 2048]⟩
abbrev S8x2048x2048 : Shape := ⟨3, ![8, 2048, 2048]⟩
abbrev S16384x2048 : Shape := ⟨2, ![16384, 2048]⟩
abbrev S18432x2048 : Shape := ⟨2, ![18432, 2048]⟩
abbrev S_ : Shape := ⟨0, ![]⟩
abbrev S18432x12288 : Shape := ⟨2, ![18432, 12288]⟩
abbrev S8x2304x12288 : Shape := ⟨3, ![8, 2304, 12288]⟩
abbrev S8x256x12288 : Shape := ⟨3, ![8, 256, 12288]⟩
abbrev S2048x12288 : Shape := ⟨2, ![2048, 12288]⟩
abbrev S8x2048x12288 : Shape := ⟨3, ![8, 2048, 12288]⟩
abbrev S16384x12288 : Shape := ⟨2, ![16384, 12288]⟩
abbrev S18432x24576 : Shape := ⟨2, ![18432, 24576]⟩
abbrev S6x2048x4096 : Shape := ⟨3, ![6, 2048, 4096]⟩
abbrev S18432x4096 : Shape := ⟨2, ![18432, 4096]⟩
abbrev S1024x2048 : Shape := ⟨2, ![1024, 2048]⟩
abbrev S3x2048x512 : Shape := ⟨3, ![3, 2048, 512]⟩
abbrev S1024x512 : Shape := ⟨2, ![1024, 512]⟩
abbrev S1x2048x512 : Shape := ⟨3, ![1, 2048, 512]⟩
abbrev S2048x512 : Shape := ⟨2, ![2048, 512]⟩

abbrev nBuf : Space → Nat
  | .hbm => 38
  | .vmem => 16
  | .smem => 0
  | _ => 0

abbrev bufTy : (tb : Table) → Fin (tcTables nBuf tb) → BufTy
  | .hbm, ⟨0, _⟩ => ⟨S8x2304x2048, .f32⟩
  | .hbm, ⟨1, _⟩ => ⟨S8x2304x2048, .f32⟩
  | .hbm, ⟨2, _⟩ => ⟨S8x2304x2048, .f32⟩
  | .hbm, ⟨3, _⟩ => ⟨S8x2304x4096, .f32⟩
  | .hbm, ⟨4, _⟩ => ⟨S8x2304x4096, .f32⟩
  | .hbm, ⟨5, _⟩ => ⟨S8x2304x4096, .f32⟩
  | .hbm, ⟨6, _⟩ => ⟨S2x3x2048x4096, .f32⟩
  | .hbm, ⟨7, _⟩ => ⟨S8x256x2048, .f32⟩
  | .hbm, ⟨8, _⟩ => ⟨S2048x2048, .f32⟩
  | .hbm, ⟨9, _⟩ => ⟨S8x2048x2048, .f32⟩
  | .hbm, ⟨10, _⟩ => ⟨S16384x2048, .f32⟩
  | .hbm, ⟨11, _⟩ => ⟨S18432x2048, .f32⟩
  | .hbm, ⟨12, _⟩ => ⟨S18432x2048, .bf16⟩
  | .hbm, ⟨13, _⟩ => ⟨S8x256x2048, .f32⟩
  | .hbm, ⟨14, _⟩ => ⟨S2048x2048, .f32⟩
  | .hbm, ⟨15, _⟩ => ⟨S8x2048x2048, .f32⟩
  | .hbm, ⟨16, _⟩ => ⟨S16384x2048, .f32⟩
  | .hbm, ⟨17, _⟩ => ⟨S18432x2048, .f32⟩
  | .hbm, ⟨18, _⟩ => ⟨S18432x2048, .bf16⟩
  | .hbm, ⟨19, _⟩ => ⟨S8x256x2048, .f32⟩
  | .hbm, ⟨20, _⟩ => ⟨S2048x2048, .f32⟩
  | .hbm, ⟨21, _⟩ => ⟨S8x2048x2048, .f32⟩
  | .hbm, ⟨22, _⟩ => ⟨S16384x2048, .f32⟩
  | .hbm, ⟨23, _⟩ => ⟨S18432x2048, .f32⟩
  | .hbm, ⟨24, _⟩ => ⟨S18432x2048, .bf16⟩
  | .hbm, ⟨25, _⟩ => ⟨S_, .f32⟩
  | .hbm, ⟨26, _⟩ => ⟨S18432x12288, .f32⟩
  | .hbm, ⟨27, _⟩ => ⟨S8x2304x12288, .f32⟩
  | .hbm, ⟨28, _⟩ => ⟨S8x256x12288, .f32⟩
  | .hbm, ⟨29, _⟩ => ⟨S2048x12288, .f32⟩
  | .hbm, ⟨30, _⟩ => ⟨S8x2048x12288, .f32⟩
  | .hbm, ⟨31, _⟩ => ⟨S16384x12288, .f32⟩
  | .hbm, ⟨32, _⟩ => ⟨S18432x12288, .f32⟩
  | .hbm, ⟨33, _⟩ => ⟨S18432x24576, .f32⟩
  | .hbm, ⟨34, _⟩ => ⟨S18432x24576, .bf16⟩
  | .hbm, ⟨35, _⟩ => ⟨S2x3x2048x4096, .bf16⟩
  | .hbm, ⟨36, _⟩ => ⟨S6x2048x4096, .bf16⟩
  | .hbm, ⟨37, _⟩ => ⟨S18432x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S3x2048x512, .bf16⟩
  | .local _ .vmem, ⟨7, _⟩ => ⟨S3x2048x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | _, _ => ⟨S8x2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![18, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c24_i32 : BitVec 32 := 24#32
  let v1 : BitVec 32 := Scalar.addi c24_i32 arg1
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c32_i32 : BitVec 32 := 32#32
  let v1 : BitVec 32 := Scalar.addi c32_i32 arg1
  let c0_i32_0 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c40_i32 : BitVec 32 := 40#32
  let v1 : BitVec 32 := Scalar.addi c40_i32 arg1
  let c0_i32_0 : BitVec 32 := 0#32
  ![v0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Merge0RefIdeal.lean ====
abbrev S8x2304x2048 : Shape := ⟨3, ![8, 2304, 2048]⟩
abbrev S8x2304x4096 : Shape := ⟨3, ![8, 2304, 4096]⟩
abbrev S2x3x2048x4096 : Shape := ⟨4, ![2, 3, 2048, 4096]⟩
abbrev S1x3x2048x4096 : Shape := ⟨4, ![1, 3, 2048, 4096]⟩
abbrev S3x2048x4096 : Shape := ⟨3, ![3, 2048, 4096]⟩
abbrev S_ : Shape := ⟨0, ![]⟩
abbrev S1x2048x4096 : Shape := ⟨3, ![1, 2048, 4096]⟩
abbrev S2048x4096 : Shape := ⟨2, ![2048, 4096]⟩
abbrev S8x256x4096 : Shape := ⟨3, ![8, 256, 4096]⟩
abbrev S8x2048x4096 : Shape := ⟨3, ![8, 2048, 4096]⟩
abbrev S16384x4096 : Shape := ⟨2, ![16384, 4096]⟩
abbrev S18432x4096 : Shape := ⟨2, ![18432, 4096]⟩

abbrev nBuf : Space → Nat
  | .hbm => 53
  | .vmem => 0
  | .smem => 0
  | _ => 0

abbrev bufTy : (tb : Table) → Fin (tcTables nBuf tb) → BufTy
  | .hbm, ⟨0, _⟩ => ⟨S8x2304x2048, .f32⟩
  | .hbm, ⟨1, _⟩ => ⟨S8x2304x2048, .f32⟩
  | .hbm, ⟨2, _⟩ => ⟨S8x2304x2048, .f32⟩
  | .hbm, ⟨3, _⟩ => ⟨S8x2304x4096, .f32⟩
  | .hbm, ⟨4, _⟩ => ⟨S8x2304x4096, .f32⟩
  | .hbm, ⟨5, _⟩ => ⟨S8x2304x4096, .f32⟩
  | .hbm, ⟨6, _⟩ => ⟨S2x3x2048x4096, .f32⟩
  | .hbm, ⟨7, _⟩ => ⟨S1x3x2048x4096, .f32⟩
  | .hbm, ⟨8, _⟩ => ⟨S3x2048x4096, .f32⟩
  | .hbm, ⟨9, _⟩ => ⟨S8x2304x4096, .f32⟩
  | .hbm, ⟨10, _⟩ => ⟨S8x2304x4096, .f32⟩
  | .hbm, ⟨11, _⟩ => ⟨S_, .f32⟩
  | .hbm, ⟨12, _⟩ => ⟨S8x2304x4096, .f32⟩
  | .hbm, ⟨13, _⟩ => ⟨S8x2304x4096, .f32⟩
  | .hbm, ⟨14, _⟩ => ⟨S_, .f32⟩
  | .hbm, ⟨15, _⟩ => ⟨S8x2304x4096, .f32⟩
  | .hbm, ⟨16, _⟩ => ⟨S8x2304x4096, .f32⟩
  | .hbm, ⟨17, _⟩ => ⟨S1x2048x4096, .f32⟩
  | .hbm, ⟨18, _⟩ => ⟨S2048x4096, .f32⟩
  | .hbm, ⟨19, _⟩ => ⟨S8x2304x4096, .f32⟩
  | .hbm, ⟨20, _⟩ => ⟨S8x2304x4096, .f32⟩
  | .hbm, ⟨21, _⟩ => ⟨S8x2304x4096, .f32⟩
  | .hbm, ⟨22, _⟩ => ⟨S8x2304x4096, .f32⟩
  | .hbm, ⟨23, _⟩ => ⟨S_, .f32⟩
  | .hbm, ⟨24, _⟩ => ⟨S8x2304x4096, .f32⟩
  | .hbm, ⟨25, _⟩ => ⟨S8x2304x4096, .f32⟩
  | .hbm, ⟨26, _⟩ => ⟨S_, .f32⟩
  | .hbm, ⟨27, _⟩ => ⟨S8x2304x4096, .f32⟩
  | .hbm, ⟨28, _⟩ => ⟨S8x2304x4096, .f32⟩
  | .hbm, ⟨29, _⟩ => ⟨S1x2048x4096, .f32⟩
  | .hbm, ⟨30, _⟩ => ⟨S2048x4096, .f32⟩
  | .hbm, ⟨31, _⟩ => ⟨S8x2304x4096, .f32⟩
  | .hbm, ⟨32, _⟩ => ⟨S8x2304x4096, .f32⟩
  | .hbm, ⟨33, _⟩ => ⟨S8x2304x4096, .f32⟩
  | .hbm, ⟨34, _⟩ => ⟨S8x2304x4096, .f32⟩
  | .hbm, ⟨35, _⟩ => ⟨S8x2304x4096, .f32⟩
  | .hbm, ⟨36, _⟩ => ⟨S_, .f32⟩
  | .hbm, ⟨37, _⟩ => ⟨S8x2304x4096, .f32⟩
  | .hbm, ⟨38, _⟩ => ⟨S8x2304x4096, .f32⟩
  | .hbm, ⟨39, _⟩ => ⟨S_, .f32⟩
  | .hbm, ⟨40, _⟩ => ⟨S8x2304x4096, .f32⟩
  | .hbm, ⟨41, _⟩ => ⟨S8x2304x4096, .f32⟩
  | .hbm, ⟨42, _⟩ => ⟨S1x2048x4096, .f32⟩
  | .hbm, ⟨43, _⟩ => ⟨S2048x4096, .f32⟩
  | .hbm, ⟨44, _⟩ => ⟨S8x2304x4096, .f32⟩
  | .hbm, ⟨45, _⟩ => ⟨S8x2304x4096, .f32⟩
  | .hbm, ⟨46, _⟩ => ⟨S8x2304x4096, .f32⟩
  | .hbm, ⟨47, _⟩ => ⟨S8x256x4096, .f32⟩
  | .hbm, ⟨48, _⟩ => ⟨S2048x4096, .f32⟩
  | .hbm, ⟨49, _⟩ => ⟨S8x2048x4096, .f32⟩
  | .hbm, ⟨50, _⟩ => ⟨S16384x4096, .f32⟩
  | .hbm, ⟨51, _⟩ => ⟨S18432x4096, .f32⟩
  | .hbm, ⟨52, _⟩ => ⟨S18432x4096, .bf16⟩
  | _, _ => ⟨S8x2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Out0.lean ====
abbrev S8x2304x4096 : Shape := ⟨3, ![8, 2304, 4096]⟩
abbrev S8x256x4096 : Shape := ⟨3, ![8, 256, 4096]⟩
abbrev S8x2048x4096 : Shape := ⟨3, ![8, 2048, 4096]⟩
abbrev S8x1x24576 : Shape := ⟨3, ![8, 1, 24576]⟩
abbrev S1x1x24576 : Shape := ⟨3, ![1, 1, 24576]⟩
abbrev S2x4096x4096 : Shape := ⟨3, ![2, 4096, 4096]⟩
abbrev S2048x4096 : Shape := ⟨2, ![2048, 4096]⟩
abbrev S16384x4096 : Shape := ⟨2, ![16384, 4096]⟩
abbrev S18432x4096 : Shape := ⟨2, ![18432, 4096]⟩
abbrev S8x24576 : Shape := ⟨2, ![8, 24576]⟩
abbrev S1x24576 : Shape := ⟨2, ![1, 24576]⟩
abbrev S9x24576 : Shape := ⟨2, ![9, 24576]⟩
abbrev S54x1x4096 : Shape := ⟨3, ![54, 1, 4096]⟩
abbrev S8192x4096 : Shape := ⟨2, ![8192, 4096]⟩
abbrev S1024x4096 : Shape := ⟨2, ![1024, 4096]⟩
abbrev S4096x512 : Shape := ⟨2, ![4096, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 21
  | .vmem => 12
  | .smem => 0
  | _ => 0

abbrev bufTy : (tb : Table) → Fin (tcTables nBuf tb) → BufTy
  | .hbm, ⟨0, _⟩ => ⟨S8x2304x4096, .f32⟩
  | .hbm, ⟨1, _⟩ => ⟨S8x256x4096, .f32⟩
  | .hbm, ⟨2, _⟩ => ⟨S8x2048x4096, .f32⟩
  | .hbm, ⟨3, _⟩ => ⟨S8x1x24576, .f32⟩
  | .hbm, ⟨4, _⟩ => ⟨S1x1x24576, .f32⟩
  | .hbm, ⟨5, _⟩ => ⟨S2x4096x4096, .f32⟩
  | .hbm, ⟨6, _⟩ => ⟨S8x256x4096, .f32⟩
  | .hbm, ⟨7, _⟩ => ⟨S2048x4096, .f32⟩
  | .hbm, ⟨8, _⟩ => ⟨S8x2048x4096, .f32⟩
  | .hbm, ⟨9, _⟩ => ⟨S16384x4096, .f32⟩
  | .hbm, ⟨10, _⟩ => ⟨S18432x4096, .f32⟩
  | .hbm, ⟨11, _⟩ => ⟨S18432x4096, .bf16⟩
  | .hbm, ⟨12, _⟩ => ⟨S2048x4096, .f32⟩
  | .hbm, ⟨13, _⟩ => ⟨S16384x4096, .f32⟩
  | .hbm, ⟨14, _⟩ => ⟨S8x24576, .f32⟩
  | .hbm, ⟨15, _⟩ => ⟨S1x24576, .f32⟩
  | .hbm, ⟨16, _⟩ => ⟨S9x24576, .f32⟩
  | .hbm, ⟨17, _⟩ => ⟨S54x1x4096, .f32⟩
  | .hbm, ⟨18, _⟩ => ⟨S2x4096x4096, .bf16⟩
  | .hbm, ⟨19, _⟩ => ⟨S8192x4096, .bf16⟩
  | .hbm, ⟨20, _⟩ => ⟨S18432x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1x1x512, .f32⟩
  | .local _ .vmem, ⟨9, _⟩ => ⟨S1x1x512, .f32⟩
  | .local _ .vmem, ⟨10, _⟩ => ⟨S1024x512, .f32⟩
  | .local _ .vmem, ⟨11, _⟩ => ⟨S1024x512, .f32⟩
  | _, _ => ⟨S8x2304x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![18, 8], ![false, false]⟩

def k0_cond1 (i : grid0.Coords) : BitVec 1 :=
  let arg0 : BitVec 32 := BitVec.ofNat 32 (i 0).val
  let c2_i32 : BitVec 32 := 2#32
  let v5 : BitVec 1 := Scalar.cmpi .slt arg0 c2_i32
  let v6 : BitVec 32 := Scalar.extui v5
  let c0_i32 : BitVec 32 := 0#32
  let v7 : BitVec 1 := Scalar.cmpi .ne v6 c0_i32
  v7

def k0_cond2 (i : grid0.Coords) : BitVec 1 :=
  let arg0 : BitVec 32 := BitVec.ofNat 32 (i 0).val
  let c2_i32_3 : BitVec 32 := 2#32
  let v8 : BitVec 1 := Scalar.cmpi .sge arg0 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let c2_i32 : BitVec 32 := 2#32
  let v1 : BitVec 1 := Scalar.cmpi .slt arg0 c2_i32
  let c7_i32 : BitVec 32 := 7#32
  let v2 : BitVec 32 := Scalar.select v1 arg1 c7_i32
  let c0_i32 : BitVec 32 := 0#32
  ![v0.toNat, v2.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let v1 : BitVec 32 := Scalar.maxsi v0 c0_i32
  let c2_i32_0 : BitVec 32 := 2#32
  let v2 : BitVec 1 := Scalar.cmpi .slt arg0 c2_i32_0
  let c0_i32_1 : BitVec 32 := 0#32
  let v3 : BitVec 32 := Scalar.select v2 c0_i32_1 arg1
  let c0_i32_2 : BitVec 32 := 0#32
  ![v1.toNat, v3.toNat]

def cc0_transform_4 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c0_i32 : BitVec 32 := 0#32
  let v1 : BitVec 32 := Scalar.addi v0 c0_i32
  let c2048_i32 : BitVec 32 := 2048#32
  let v2 : BitVec 1 := Scalar.cmpi .slt v1 c2048_i32
  let c2048_i32_0 : BitVec 32 := 2048#32
  let v3 : BitVec 32 := Scalar.subi v1 c2048_i32_0
  let c0_i32_1 : BitVec 32 := 0#32
  let v4 : BitVec 32 := Scalar.maxsi v3 c0_i32_1
  let c2048_i32_2 : BitVec 32 := 2048#32
  let v5 : BitVec 32 := Scalar.divsi v4 c2048_i32_2
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c0_i32_5 : BitVec 32 := 0#32
  let v11 : BitVec 1 := Scalar.cmpi .sgt c2048_i32_2 c0_i32_5
  let v12 : BitVec 32 := Scalar.extui v11
  let c0_i32_6 : BitVec 32 := 0#32
  let v13 : BitVec 1 := Scalar.cmpi .slt c2048_i32_2 c0_i32_6
  let v14 : BitVec 32 := Scalar.extui v13
  let v15 : BitVec 32 := Scalar.subi v12 v14
  let v16 : BitVec 1 := Scalar.cmpi .ne v10 v15
  let v17 : BitVec 32 := Scalar.remsi v4 c2048_i32_2
  let c0_i32_7 : BitVec 32 := 0#32
  let v18 : BitVec 1 := Scalar.cmpi .ne v17 c0_i32_7
  let v19 : BitVec 1 := Scalar.andi v16 v18
  let c1_i32 : BitVec 32 := 1#32
  let v20 : BitVec 32 := Scalar.subi v5 c1_i32
  let v21 : BitVec 32 := Scalar.select v19 v20 v5
  let c8_i32 : BitVec 32 := 8#32
  let v22 : BitVec 32 := Scalar.select v2 c8_i32 v21
  let c6_i32 : BitVec 32 := 6#32
  let v23 : BitVec 32 := Scalar.muli v22 c6_i32
  let c2_i32 : BitVec 32 := 2#32
  let v24 : BitVec 32 := Scalar.addi v23 c2_i32
  let c0_i32_8 : BitVec 32 := 0#32
  let c0_i32_9 : BitVec 32 := 0#32
  ![v24.toNat, c0_i32_8.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Out0RefIdeal.lean ====
abbrev S8x2304x4096 : Shape := ⟨3, ![8, 2304, 4096]⟩
abbrev S8x256x4096 : Shape := ⟨3, ![8, 256, 4096]⟩
abbrev S8x2048x4096 : Shape := ⟨3, ![8, 2048, 4096]⟩
abbrev S8x1x24576 : Shape := ⟨3, ![8, 1, 24576]⟩
abbrev S1x1x24576 : Shape := ⟨3, ![1, 1, 24576]⟩
abbrev S2x4096x4096 : Shape := ⟨3, ![2, 4096, 4096]⟩
abbrev S1x4096x4096 : Shape := ⟨3, ![1, 4096, 4096]⟩
abbrev S4096x4096 : Shape := ⟨2, ![4096, 4096]⟩
abbrev S8x1x4096 : Shape := ⟨3, ![8, 1, 4096]⟩
abbrev S1x1x4096 : Shape := ⟨3, ![1, 1, 4096]⟩
abbrev S2048x4096 : Shape := ⟨2, ![2048, 4096]⟩
abbrev S16384x4096 : Shape := ⟨2, ![16384, 4096]⟩
abbrev S18432x4096 : Shape := ⟨2, ![18432, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8x2304x4096, .f32⟩
  | .hbm, ⟨1, _⟩ => ⟨S8x256x4096, .f32⟩
  | .hbm, ⟨2, _⟩ => ⟨S8x2048x4096, .f32⟩
  | .hbm, ⟨3, _⟩ => ⟨S8x1x24576, .f32⟩
  | .hbm, ⟨4, _⟩ => ⟨S1x1x24576, .f32⟩
  | .hbm, ⟨5, _⟩ => ⟨S2x4096x4096, .f32⟩
  | .hbm, ⟨6, _⟩ => ⟨S1x4096x4096, .f32⟩
  | .hbm, ⟨7, _⟩ => ⟨S4096x4096, .f32⟩
  | .hbm, ⟨8, _⟩ => ⟨S8x2304x4096, .f32⟩
  | .hbm, ⟨9, _⟩ => ⟨S8x256x4096, .f32⟩
  | .hbm, ⟨10, _⟩ => ⟨S8x2048x4096, .f32⟩
  | .hbm, ⟨11, _⟩ => ⟨S8x1x4096, .f32⟩
  | .hbm, ⟨12, _⟩ => ⟨S8x1x4096, .f32⟩
  | .hbm, ⟨13, _⟩ => ⟨S8x1x4096, .f32⟩
  | .hbm, ⟨14, _⟩ => ⟨S8x1x4096, .f32⟩
  | .hbm, ⟨15, _⟩ => ⟨S8x1x4096, .f32⟩
  | .hbm, ⟨16, _⟩ => ⟨S8x1x4096, .f32⟩
  | .hbm, ⟨17, _⟩ => ⟨S1x1x4096, .f32⟩
  | .hbm, ⟨18, _⟩ => ⟨S1x1x4096, .f32⟩
  | .hbm, ⟨19, _⟩ => ⟨S1x1x4096, .f32⟩
  | .hbm, ⟨20, _⟩ => ⟨S1x1x4096, .f32⟩
  | .hbm, ⟨21, _⟩ => ⟨S1x1x4096, .f32⟩
  | .hbm, ⟨22, _⟩ => ⟨S1x1x4096, .f32⟩
  | .hbm, ⟨23, _⟩ => ⟨S8x2048x4096, .f32⟩
  | .hbm, ⟨24, _⟩ => ⟨S8x2048x4096, .f32⟩
  | .hbm, ⟨25, _⟩ => ⟨S8x2048x4096, .f32⟩
  | .hbm, ⟨26, _⟩ => ⟨S8x256x4096, .f32⟩
  | .hbm, ⟨27, _⟩ => ⟨S8x256x4096, .f32⟩
  | .hbm, ⟨28, _⟩ => ⟨S8x256x4096, .f32⟩
  | .hbm, ⟨29, _⟩ => ⟨S2048x4096, .f32⟩
  | .hbm, ⟨30, _⟩ => ⟨S16384x4096, .f32⟩
  | .hbm, ⟨31, _⟩ => ⟨S18432x4096, .f32⟩
  | _, _ => ⟨S8x2304x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Attn.lean ====
abbrev S8x16x2304x192 : Shape := ⟨4, ![8, 16, 2304, 192]⟩
abbrev S8x16x2304x128 : Shape := ⟨4, ![8, 16, 2304, 128]⟩
abbrev S8x2304x64 : Shape := ⟨3, ![8, 2304, 64]⟩
abbrev S_ : Shape := ⟨0, ![]⟩
abbrev S8x16x2304x64 : Shape := ⟨4, ![8, 16, 2304, 64]⟩
abbrev S8x16x2304x256 : Shape := ⟨4, ![8, 16, 2304, 256]⟩
abbrev S8x2304x16x256 : Shape := ⟨4, ![8, 2304, 16, 256]⟩
abbrev S8x2304x4096 : Shape := ⟨3, ![8, 2304, 4096]⟩
abbrev S8x256x4096 : Shape := ⟨3, ![8, 256, 4096]⟩
abbrev S2048x4096 : Shape := ⟨2, ![2048, 4096]⟩
abbrev S8x2048x4096 : Shape := ⟨3, ![8, 2048, 4096]⟩
abbrev S16384x4096 : Shape := ⟨2, ![16384, 4096]⟩
abbrev S18432x4096 : Shape := ⟨2, ![18432, 4096]⟩
abbrev S8x2304x128 : Shape := ⟨3, ![8, 2304, 128]⟩
abbrev S8x256x128 : Shape := ⟨3, ![8, 256, 128]⟩
abbrev S2048x128 : Shape := ⟨2, ![2048, 128]⟩
abbrev S8x2048x128 : Shape := ⟨3, ![8, 2048, 128]⟩
abbrev S16384x128 : Shape := ⟨2, ![16384, 128]⟩
abbrev S18432x128 : Shape := ⟨2, ![18432, 128]⟩
abbrev S16384x2048 : Shape := ⟨2, ![16384, 2048]⟩
abbrev S2048x256 : Shape := ⟨2, ![2048, 256]⟩
abbrev S256x128 : Shape := ⟨2, ![256, 128]⟩
abbrev S2304x256 : Shape := ⟨2, ![2304, 256]⟩
abbrev S2304x128 : Shape := ⟨2, ![2304, 128]⟩
abbrev S256x256 : Shape := ⟨2, ![256, 256]⟩
abbrev S256x2304 : Shape := ⟨2, ![256, 2304]⟩
abbrev S256 : Shape := ⟨1, ![256]⟩
abbrev S256x1 : Shape := ⟨2, ![256, 1]⟩

abbrev nBuf : Space → Nat
  | .hbm => 34
  | .vmem => 18
  | .smem => 0
  | _ => 0

abbrev bufTy : (tb : Table) → Fin (tcTables nBuf tb) → BufTy
  | .hbm, ⟨0, _⟩ => ⟨S8x16x2304x192, .f32⟩
  | .hbm, ⟨1, _⟩ => ⟨S8x16x2304x128, .f32⟩
  | .hbm, ⟨2, _⟩ => ⟨S8x2304x64, .f32⟩
  | .hbm, ⟨3, _⟩ => ⟨S8x16x2304x128, .f32⟩
  | .hbm, ⟨4, _⟩ => ⟨S_, .f32⟩
  | .hbm, ⟨5, _⟩ => ⟨S8x16x2304x64, .f32⟩
  | .hbm, ⟨6, _⟩ => ⟨S8x16x2304x256, .f32⟩
  | .hbm, ⟨7, _⟩ => ⟨S8x2304x16x256, .f32⟩
  | .hbm, ⟨8, _⟩ => ⟨S8x2304x4096, .f32⟩
  | .hbm, ⟨9, _⟩ => ⟨S8x256x4096, .f32⟩
  | .hbm, ⟨10, _⟩ => ⟨S2048x4096, .f32⟩
  | .hbm, ⟨11, _⟩ => ⟨S8x2048x4096, .f32⟩
  | .hbm, ⟨12, _⟩ => ⟨S16384x4096, .f32⟩
  | .hbm, ⟨13, _⟩ => ⟨S18432x4096, .f32⟩
  | .hbm, ⟨14, _⟩ => ⟨S18432x4096, .bf16⟩
  | .hbm, ⟨15, _⟩ => ⟨S8x16x2304x256, .f32⟩
  | .hbm, ⟨16, _⟩ => ⟨S8x2304x16x256, .f32⟩
  | .hbm, ⟨17, _⟩ => ⟨S8x2304x4096, .f32⟩
  | .hbm, ⟨18, _⟩ => ⟨S8x256x4096, .f32⟩
  | .hbm, ⟨19, _⟩ => ⟨S2048x4096, .f32⟩
  | .hbm, ⟨20, _⟩ => ⟨S8x2048x4096, .f32⟩
  | .hbm, ⟨21, _⟩ => ⟨S16384x4096, .f32⟩
  | .hbm, ⟨22, _⟩ => ⟨S18432x4096, .f32⟩
  | .hbm, ⟨23, _⟩ => ⟨S18432x4096, .bf16⟩
  | .hbm, ⟨24, _⟩ => ⟨S_, .f32⟩
  | .hbm, ⟨25, _⟩ => ⟨S8x2304x64, .f32⟩
  | .hbm, ⟨26, _⟩ => ⟨S8x2304x128, .f32⟩
  | .hbm, ⟨27, _⟩ => ⟨S8x256x128, .f32⟩
  | .hbm, ⟨28, _⟩ => ⟨S2048x128, .f32⟩
  | .hbm, ⟨29, _⟩ => ⟨S8x2048x128, .f32⟩
  | .hbm, ⟨30, _⟩ => ⟨S16384x128, .f32⟩
  | .hbm, ⟨31, _⟩ => ⟨S18432x128, .f32⟩
  | .hbm, ⟨32, _⟩ => ⟨S18432x128, .bf16⟩
  | .hbm, ⟨33, _⟩ => ⟨S16384x2048, .bf16⟩
  | .local _ .vmem, ⟨0, _⟩ => ⟨S2048x256, .bf16⟩
  | .local _ .vmem, ⟨1, _⟩ => ⟨S2048x256, .bf16⟩
  | .local _ .vmem, ⟨2, _⟩ => ⟨S256x128, .bf16⟩
  | .local _ .vmem, ⟨3, _⟩ => ⟨S256x128, .bf16⟩
  | .local _ .vmem, ⟨4, _⟩ => ⟨S2048x128, .bf16⟩
  | .local _ .vmem, ⟨5, _⟩ => ⟨S2048x128, .bf16⟩
  | .local _ .vmem, ⟨6, _⟩ => ⟨S256x128, .bf16⟩
  | .local _ .vmem, ⟨7, _⟩ => ⟨S256x128, .bf16⟩
  | .local _ .vmem, ⟨8, _⟩ => ⟨S2048x128, .bf16⟩
  | .local _ .vmem, ⟨9, _⟩ => ⟨S2048x128, .bf16⟩
  | .local _ .vmem, ⟨10, _⟩ => ⟨S256x128, .bf16⟩
  | .local _ .vmem, ⟨11, _⟩ => ⟨S256x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2304x256, .bf16⟩
  | .local _ .vmem, ⟨17, _⟩ => ⟨S2304x128, .bf16⟩
  | _, _ => ⟨S8x16x2304x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32 : BitVec 32 := 0#32
  let c2_i32 : BitVec 32 := 2#32
  let v30 : BitVec 32 := Scalar.addi c0_i32 c2_i32
  let c1_i32 : BitVec 32 := 1#32
  ⟨c0_i32, v30, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c4_i32 : BitVec 32 := 4#32
  let v31 : BitVec 32 := Scalar.muli arg12 c4_i32
  let c0_i32_22 : BitVec 32 := 0#32
  let v32 : BitVec 32 := Scalar.addi v31 c0_i32_22
  let c256_i32 : BitVec 32 := 256#32
  let v33 : BitVec 32 := Scalar.muli v32 c256_i32
  v33
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c4_i32_23 : BitVec 32 := 4#32
  let v35 : BitVec 32 := Scalar.muli arg12 c4_i32_23
  let c1_i32_24 : BitVec 32 := 1#32
  let v36 : BitVec 32 := Scalar.addi v35 c1_i32_24
  let c256_i32_25 : BitVec 32 := 256#32
  let v37 : BitVec 32 := Scalar.muli v36 c256_i32_25
  v37
def k0_mult3 (k0_t1 : Fin k0_t1_loop.trips) : BitVec 32 :=
  let c0_i32 : BitVec 32 := 0#32
  let c1_i32 : BitVec 32 := 1#32
  let arg12 : BitVec 32 := Scf.iv c0_i32 c1_i32 k0_t1
  let c4_i32_26 : BitVec 32 := 4#32
  let v39 : BitVec 32 := Scalar.muli arg12 c4_i32_26
  let c2_i32_27 : BitVec 32 := 2#32
  let v40 : BitVec 32 := Scalar.addi v39 c2_i32_27
  let c256_i32_28 : BitVec 32 := 256#32
  let v41 : BitVec 32 := Scalar.muli v40 c256_i32_28
  v41
def k0_mult4 (k0_t1 : Fin k0_t1_loop.trips) : BitVec 32 :=
  let c0_i32 : BitVec 32 := 0#32
  let c1_i32 : BitVec 32 := 1#32
  let arg12 : BitVec 32 := Scf.iv c0_i32 c1_i32 k0_t1
  let c4_i32_29 : BitVec 32 := 4#32
  let v43 : BitVec 32 := Scalar.muli arg12 c4_i32_29
  let c3_i32 : BitVec 32 := 3#32
  let v44 : BitVec 32 := Scalar.addi v43 c3_i32
  let c256_i32_30 : BitVec 32 := 256#32
  let v45 : BitVec 32 := Scalar.muli v44 c256_i32_30
  v45
def k0_off1 (k0_t1 : Fin k0_t1_loop.trips) (c0_i32_22 : BitVec 32) : Fin 2 → Nat :=
  let c0_i32 : BitVec 32 := 0#32
  let c1_i32 : BitVec 32 := 1#32
  let arg12 : BitVec 32 := Scf.iv c0_i32 c1_i32 k0_t1
  let c4_i32 : BitVec 32 := 4#32
  let v31 : BitVec 32 := Scalar.muli arg12 c4_i32
  let v32 : BitVec 32 := Scalar.addi v31 c0_i32_22
  let c256_i32 : BitVec 32 := 256#32
  let v33 : BitVec 32 := Scalar.muli v32 c256_i32
  let v34 : BitVec 32 := v33
  let v47 : Index := Scalar.indexCast v34
  let c0_31 : Index := 0#32
  ![v47.toNat, 0]
def k0_off2 (k0_t1 : Fin k0_t1_loop.trips) (c0_i32_22 : BitVec 32) : Fin 2 → Nat :=
  let c0_i32 : BitVec 32 := 0#32
  let c1_i32 : BitVec 32 := 1#32
  let arg12 : BitVec 32 := Scf.iv c0_i32 c1_i32 k0_t1
  let c4_i32 : BitVec 32 := 4#32
  let v31 : BitVec 32 := Scalar.muli arg12 c4_i32
  let v32 : BitVec 32 := Scalar.addi v31 c0_i32_22
  let c256_i32 : BitVec 32 := 256#32
  let v33 : BitVec 32 := Scalar.muli v32 c256_i32
  let v34 : BitVec 32 := v33
  let v126 : Index := Scalar.indexCast v34
  let c0_74 : Index := 0#32
  ![v126.toNat, 0]
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c2_i32 : BitVec 32 := 2#32
  let v1 : BitVec 32 := Scalar.muli c2_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  ![arg0.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c2_i32 : BitVec 32 := 2#32
  let v1 : BitVec 32 := Scalar.muli c2_i32 arg1
  let c1_i32_0 : BitVec 32 := 1#32
  let v2 : BitVec 32 := Scalar.addi v1 c1_i32_0
  let c0_i32 : BitVec 32 := 0#32
  ![v0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnIdeal.lean ====
variable {F : FTy → Type} [FloatOps F] [Named F]
def κ : String → Option EReal := fun
  | "score_scale" => some (((Real.log 2)⁻¹ * (Real.sqrt 192)⁻¹ : ℝ) : EReal)
  | _ => none
-- ==== AttnRefIdeal.lean ====
abbrev S8x16x2304x192 : Shape := ⟨4, ![8, 16, 2304, 192]⟩
abbrev S8x16x2304x128 : Shape := ⟨4, ![8, 16, 2304, 128]⟩
abbrev S8x2304x64 : Shape := ⟨3, ![8, 2304, 64]⟩
abbrev S8x1x2304x64 : Shape := ⟨4, ![8, 1, 2304, 64]⟩
abbrev S8x16x2304x64 : Shape := ⟨4, ![8, 16, 2304, 64]⟩
abbrev S8x16x2048x192 : Shape := ⟨4, ![8, 16, 2048, 192]⟩
abbrev S8x16x2048x2304 : Shape := ⟨4, ![8, 16, 2048, 2304]⟩
abbrev S_ : Shape := ⟨0, ![]⟩
abbrev S8x16x2048 : Shape := ⟨3, ![8, 16, 2048]⟩
abbrev S8x16x2048x1 : Shape := ⟨4, ![8, 16, 2048, 1]⟩
abbrev S8x16x2048x128 : Shape := ⟨4, ![8, 16, 2048, 128]⟩
abbrev S8x2048x16x128 : Shape := ⟨4, ![8, 2048, 16, 128]⟩
abbrev S16384x2048 : Shape := ⟨2, ![16384, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8x16x2304x192, .f32⟩
  | .hbm, ⟨1, _⟩ => ⟨S8x16x2304x128, .f32⟩
  | .hbm, ⟨2, _⟩ => ⟨S8x2304x64, .f32⟩
  | .hbm, ⟨3, _⟩ => ⟨S8x16x2304x128, .f32⟩
  | .hbm, ⟨4, _⟩ => ⟨S8x1x2304x64, .f32⟩
  | .hbm, ⟨5, _⟩ => ⟨S8x16x2304x64, .f32⟩
  | .hbm, ⟨6, _⟩ => ⟨S8x16x2304x192, .f32⟩
  | .hbm, ⟨7, _⟩ => ⟨S8x16x2048x192, .f32⟩
  | .hbm, ⟨8, _⟩ => ⟨S8x16x2048x2304, .f32⟩
  | .hbm, ⟨9, _⟩ => ⟨S_, .f32⟩
  | .hbm, ⟨10, _⟩ => ⟨S_, .f32⟩
  | .hbm, ⟨11, _⟩ => ⟨S8x16x2048x2304, .f32⟩
  | .hbm, ⟨12, _⟩ => ⟨S8x16x2048x2304, .f32⟩
  | .hbm, ⟨13, _⟩ => ⟨S_, .f32⟩
  | .hbm, ⟨14, _⟩ => ⟨S8x16x2048, .f32⟩
  | .hbm, ⟨15, _⟩ => ⟨S_, .f32⟩
  | .hbm, ⟨16, _⟩ => ⟨S8x16x2048, .f32⟩
  | .hbm, ⟨17, _⟩ => ⟨S8x16x2048, .f32⟩
  | .hbm, ⟨18, _⟩ => ⟨S8x16x2048x1, .f32⟩
  | .hbm, ⟨19, _⟩ => ⟨S8x16x2048x2304, .f32⟩
  | .hbm, ⟨20, _⟩ => ⟨S8x16x2048x2304, .f32⟩
  | .hbm, ⟨21, _⟩ => ⟨S8x16x2048x2304, .f32⟩
  | .hbm, ⟨22, _⟩ => ⟨S_, .f32⟩
  | .hbm, ⟨23, _⟩ => ⟨S8x16x2048, .f32⟩
  | .hbm, ⟨24, _⟩ => ⟨S8x16x2048x1, .f32⟩
  | .hbm, ⟨25, _⟩ => ⟨S8x16x2048x2304, .f32⟩
  | .hbm, ⟨26, _⟩ => ⟨S8x16x2048x2304, .f32⟩
  | .hbm, ⟨27, _⟩ => ⟨S8x16x2048x128, .f32⟩
  | .hbm, ⟨28, _⟩ => ⟨S8x2048x16x128, .f32⟩
  | .hbm, ⟨29, _⟩ => ⟨S16384x2048, .f32⟩
  | .hbm, ⟨30, _⟩ => ⟨S16384x2048, .bf16⟩
  | _, _ => ⟨S8x16x2304x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Qup.lean ====
abbrev S8x2304x1024 : Shape := ⟨3, ![8, 2304, 1024]⟩
abbrev S2x1024x16x192 : Shape := ⟨4, ![2, 1024, 16, 192]⟩
abbrev S8x256x1024 : Shape := ⟨3, ![8, 256, 1024]⟩
abbrev S2048x1024 : Shape := ⟨2, ![2048, 1024]⟩
abbrev S8x2048x1024 : Shape := ⟨3, ![8, 2048, 1024]⟩
abbrev S16384x1024 : Shape := ⟨2, ![16384, 1024]⟩
abbrev S18432x1024 : Shape := ⟨2, ![18432, 1024]⟩
abbrev S1x1024x16x192 : Shape := ⟨4, ![1, 1024, 16, 192]⟩
abbrev S1024x16x192 : Shape := ⟨3, ![1024, 16, 192]⟩
abbrev S1024x16x64 : Shape := ⟨3, ![1024, 16, 64]⟩
abbrev S1024x16x128 : Shape := ⟨3, ![1024, 16, 128]⟩
abbrev S1024x16x16 : Shape := ⟨3, ![1024, 16, 16]⟩
abbrev S1024x16x256 : Shape := ⟨3, ![1024, 16, 256]⟩
abbrev S1024x4096 : Shape := ⟨2, ![1024, 4096]⟩
abbrev S16 : Shape := ⟨1, ![16]⟩
abbrev S_ : Shape := ⟨0, ![]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x128 : Shape := ⟨2, ![2048, 128]⟩
abbrev S1024x64 : Shape := ⟨2, ![1024, 64]⟩
abbrev S1024x128 : Shape := ⟨2, ![1024, 128]⟩
abbrev S3072x128 : Shape := ⟨2, ![3072, 128]⟩
abbrev S18432x4096 : Shape := ⟨2, ![18432, 4096]⟩
abbrev S1024x1024 : Shape := ⟨2, ![1024, 1024]⟩

abbrev nBuf : Space → Nat
  | .hbm => 69
  | .vmem => 10
  | .smem => 0
  | _ => 0

abbrev bufTy : (tb : Table) → Fin (tcTables nBuf tb) → BufTy
  | .hbm, ⟨0, _⟩ => ⟨S8x2304x1024, .f32⟩
  | .hbm, ⟨1, _⟩ => ⟨S2x1024x16x192, .f32⟩
  | .hbm, ⟨2, _⟩ => ⟨S8x256x1024, .f32⟩
  | .hbm, ⟨3, _⟩ => ⟨S2048x1024, .f32⟩
  | .hbm, ⟨4, _⟩ => ⟨S8x2048x1024, .f32⟩
  | .hbm, ⟨5, _⟩ => ⟨S16384x1024, .f32⟩
  | .hbm, ⟨6, _⟩ => ⟨S18432x1024, .f32⟩
  | .hbm, ⟨7, _⟩ => ⟨S18432x1024, .bf16⟩
  | .hbm, ⟨8, _⟩ => ⟨S1x1024x16x192, .f32⟩
  | .hbm, ⟨9, _⟩ => ⟨S1024x16x192, .f32⟩
  | .hbm, ⟨10, _⟩ => ⟨S1024x16x64, .f32⟩
  | .hbm, ⟨11, _⟩ => ⟨S1024x16x128, .f32⟩
  | .hbm, ⟨12, _⟩ => ⟨S1024x16x16, .f32⟩
  | .hbm, ⟨13, _⟩ => ⟨S1024x16x16, .f32⟩
  | .hbm, ⟨14, _⟩ => ⟨S1024x16x16, .f32⟩
  | .hbm, ⟨15, _⟩ => ⟨S1024x16x16, .f32⟩
  | .hbm, ⟨16, _⟩ => ⟨S1024x16x16, .f32⟩
  | .hbm, ⟨17, _⟩ => ⟨S1024x16x16, .f32⟩
  | .hbm, ⟨18, _⟩ => ⟨S1024x16x64, .f32⟩
  | .hbm, ⟨19, _⟩ => ⟨S1024x16x256, .f32⟩
  | .hbm, ⟨20, _⟩ => ⟨S1024x4096, .f32⟩
  | .hbm, ⟨21, _⟩ => ⟨S1024x4096, .bf16⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S32, .f32⟩
  | .hbm, ⟨31, _⟩ => ⟨S32x64, .f32⟩
  | .hbm, ⟨32, _⟩ => ⟨S2048, .f32⟩
  | .hbm, ⟨33, _⟩ => ⟨S64, .f32⟩
  | .hbm, ⟨34, _⟩ => ⟨S1x64, .f32⟩
  | .hbm, ⟨35, _⟩ => ⟨S32x64, .f32⟩
  | .hbm, ⟨36, _⟩ => ⟨S2048, .f32⟩
  | .hbm, ⟨37, _⟩ => ⟨S2048x1, .f32⟩
  | .hbm, ⟨38, _⟩ => ⟨S1x16, .f32⟩
  | .hbm, ⟨39, _⟩ => ⟨S2048x16, .f32⟩
  | .hbm, ⟨40, _⟩ => ⟨S2048x16, .f32⟩
  | .hbm, ⟨41, _⟩ => ⟨S2048x16, .f32⟩
  | .hbm, ⟨42, _⟩ => ⟨S2048x1, .f32⟩
  | .hbm, ⟨43, _⟩ => ⟨S1x16, .f32⟩
  | .hbm, ⟨44, _⟩ => ⟨S2048x16, .f32⟩
  | .hbm, ⟨45, _⟩ => ⟨S2048x16, .f32⟩
  | .hbm, ⟨46, _⟩ => ⟨S2048x16, .f32⟩
  | .hbm, ⟨47, _⟩ => ⟨S_, .f32⟩
  | .hbm, ⟨48, _⟩ => ⟨S2048x64, .f32⟩
  | .hbm, ⟨49, _⟩ => ⟨S2048x16, .f32⟩
  | .hbm, ⟨50, _⟩ => ⟨S2048x16, .f32⟩
  | .hbm, ⟨51, _⟩ => ⟨S2048x16, .f32⟩
  | .hbm, ⟨52, _⟩ => ⟨S2048x16, .f32⟩
  | .hbm, ⟨53, _⟩ => ⟨S2048x128, .f32⟩
  | .hbm, ⟨54, _⟩ => ⟨S2048x16, .f32⟩
  | .hbm, ⟨55, _⟩ => ⟨S2048x16, .f32⟩
  | .hbm, ⟨56, _⟩ => ⟨S2048x16, .f32⟩
  | .hbm, ⟨57, _⟩ => ⟨S2048x16, .f32⟩
  | .hbm, ⟨58, _⟩ => ⟨S2048x128, .f32⟩
  | .hbm, ⟨59, _⟩ => ⟨S_, .f32⟩
  | .hbm, ⟨60, _⟩ => ⟨S1024x64, .f32⟩
  | .hbm, ⟨61, _⟩ => ⟨S_, .f32⟩
  | .hbm, ⟨62, _⟩ => ⟨S1024x64, .f32⟩
  | .hbm, ⟨63, _⟩ => ⟨S1024x128, .f32⟩
  | .hbm, ⟨64, _⟩ => ⟨S3072x128, .f32⟩
  | .hbm, ⟨65, _⟩ => ⟨S_, .f32⟩
  | .hbm, ⟨66, _⟩ => ⟨S1024x128, .f32⟩
  | .hbm, ⟨67, _⟩ => ⟨S3072x128, .f32⟩
  | .hbm, ⟨68, _⟩ => ⟨S18432x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_cst : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_cst_1 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_cst_2 : Ref sig .tc := ⟨.hbm, 59, rfl⟩
abbrev main_v54 : Ref sig .tc := ⟨.hbm, 60, rfl⟩
abbrev main_cst_3 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_cst_4 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![18, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 1 := Scalar.cmpi .slt v0 c2048_i32
  let c2048_i32_0 : BitVec 32 := 2048#32
  let v2 : BitVec 32 := Scalar.subi v0 c2048_i32_0
  let c0_i32 : BitVec 32 := 0#32
  let v3 : BitVec 32 := Scalar.maxsi v2 c0_i32
  let c2048_i32_1 : BitVec 32 := 2048#32
  let c0_i32_2 : BitVec 32 := 0#32
  let v4 : BitVec 1 := Scalar.cmpi .eq c2048_i32_1 c0_i32_2
  let c1_i32 : BitVec 32 := 1#32
  let v5 : BitVec 32 := Scalar.select v4 c1_i32 c2048_i32_1
  let v6 : BitVec 32 := Scalar.remsi v3 v5
  let c0_i32_3 : BitVec 32 := 0#32
  let v7 : BitVec 1 := Scalar.cmpi .ne v6 c0_i32_3
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let v11 : BitVec 1 := Scalar.andi v10 v7
  let v12 : BitVec 32 := Scalar.addi v6 v5
  let v13 : BitVec 32 := Scalar.select v11 v12 v6
  let c1024_i32_6 : BitVec 32 := 1024#32
  let v14 : BitVec 32 := Scalar.divsi v13 c1024_i32_6
  let c0_i32_7 : BitVec 32 := 0#32
  let v15 : BitVec 1 := Scalar.cmpi .sgt v13 c0_i32_7
  let v16 : BitVec 32 := Scalar.extui v15
  let c0_i32_8 : BitVec 32 := 0#32
  let v17 : BitVec 1 := Scalar.cmpi .slt v13 c0_i32_8
  let v18 : BitVec 32 := Scalar.extui v17
  let v19 : BitVec 32 := Scalar.subi v16 v18
  let c0_i32_9 : BitVec 32 := 0#32
  let v20 : BitVec 1 := Scalar.cmpi .sgt c1024_i32_6 c0_i32_9
  let v21 : BitVec 32 := Scalar.extui v20
  let c0_i32_10 : BitVec 32 := 0#32
  let v22 : BitVec 1 := Scalar.cmpi .slt c1024_i32_6 c0_i32_10
  let v23 : BitVec 32 := Scalar.extui v22
  let v24 : BitVec 32 := Scalar.subi v21 v23
  let v25 : BitVec 1 := Scalar.cmpi .ne v19 v24
  let v26 : BitVec 32 := Scalar.remsi v13 c1024_i32_6
  let c0_i32_11 : BitVec 32 := 0#32
  let v27 : BitVec 1 := Scalar.cmpi .ne v26 c0_i32_11
  let v28 : BitVec 1 := Scalar.andi v25 v27
  let c1_i32_12 : BitVec 32 := 1#32
  let v29 : BitVec 32 := Scalar.subi v14 c1_i32_12
  let v30 : BitVec 32 := Scalar.select v28 v29 v14
  let c1_i32_13 : BitVec 32 := 1#32
  let v31 : BitVec 32 := Scalar.addi c1_i32_13 v30
  let c0_i32_14 : BitVec 32 := 0#32
  let v32 : BitVec 32 := Scalar.select v1 c0_i32_14 v31
  let c0_i32_15 : BitVec 32 := 0#32
  let c0_i32_16 : BitVec 32 := 0#32
  ![v32.toNat, c0_i32_15.toNat]

def cc0_transform_3 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 1 := Scalar.cmpi .slt v0 c2048_i32
  let c2048_i32_0 : BitVec 32 := 2048#32
  let v2 : BitVec 32 := Scalar.subi v0 c2048_i32_0
  let c0_i32 : BitVec 32 := 0#32
  let v3 : BitVec 32 := Scalar.maxsi v2 c0_i32
  let c2048_i32_1 : BitVec 32 := 2048#32
  let c0_i32_2 : BitVec 32 := 0#32
  let v4 : BitVec 1 := Scalar.cmpi .eq c2048_i32_1 c0_i32_2
  let c1_i32 : BitVec 32 := 1#32
  let v5 : BitVec 32 := Scalar.select v4 c1_i32 c2048_i32_1
  let v6 : BitVec 32 := Scalar.remsi v3 v5
  let c0_i32_3 : BitVec 32 := 0#32
  let v7 : BitVec 1 := Scalar.cmpi .ne v6 c0_i32_3
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let v11 : BitVec 1 := Scalar.andi v10 v7
  let v12 : BitVec 32 := Scalar.addi v6 v5
  let v13 : BitVec 32 := Scalar.select v11 v12 v6
  let c1024_i32_6 : BitVec 32 := 1024#32
  let v14 : BitVec 32 := Scalar.divsi v13 c1024_i32_6
  let c0_i32_7 : BitVec 32 := 0#32
  let v15 : BitVec 1 := Scalar.cmpi .sgt v13 c0_i32_7
  let v16 : BitVec 32 := Scalar.extui v15
  let c0_i32_8 : BitVec 32 := 0#32
  let v17 : BitVec 1 := Scalar.cmpi .slt v13 c0_i32_8
  let v18 : BitVec 32 := Scalar.extui v17
  let v19 : BitVec 32 := Scalar.subi v16 v18
  let c0_i32_9 : BitVec 32 := 0#32
  let v20 : BitVec 1 := Scalar.cmpi .sgt c1024_i32_6 c0_i32_9
  let v21 : BitVec 32 := Scalar.extui v20
  let c0_i32_10 : BitVec 32 := 0#32
  let v22 : BitVec 1 := Scalar.cmpi .slt c1024_i32_6 c0_i32_10
  let v23 : BitVec 32 := Scalar.extui v22
  let v24 : BitVec 32 := Scalar.subi v21 v23
  let v25 : BitVec 1 := Scalar.cmpi .ne v19 v24
  let v26 : BitVec 32 := Scalar.remsi v13 c1024_i32_6
  let c0_i32_11 : BitVec 32 := 0#32
  let v27 : BitVec 1 := Scalar.cmpi .ne v26 c0_i32_11
  let v28 : BitVec 1 := Scalar.andi v25 v27
  let c1_i32_12 : BitVec 32 := 1#32
  let v29 : BitVec 32 := Scalar.subi v14 c1_i32_12
  let v30 : BitVec 32 := Scalar.select v28 v29 v14
  let c1_i32_13 : BitVec 32 := 1#32
  let v31 : BitVec 32 := Scalar.addi c1_i32_13 v30
  let c0_i32_14 : BitVec 32 := 0#32
  let v32 : BitVec 32 := Scalar.select v1 c0_i32_14 v31
  let c0_i32_15 : BitVec 32 := 0#32
  let c0_i32_16 : BitVec 32 := 0#32
  ![v32.toNat, c0_i32_15.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QupRefIdeal.lean ====
abbrev S8x2304x1024 : Shape := ⟨3, ![8, 2304, 1024]⟩
abbrev S2x1024x16x192 : Shape := ⟨4, ![2, 1024, 16, 192]⟩
abbrev S1x1024x16x192 : Shape := ⟨4, ![1, 1024, 16, 192]⟩
abbrev S1024x16x192 : Shape := ⟨3, ![1024, 16, 192]⟩
abbrev S16x192x8x2304 : Shape := ⟨4, ![16, 192, 8, 2304]⟩
abbrev S8x16x2304x192 : Shape := ⟨4, ![8, 16, 2304, 192]⟩
abbrev S16 : Shape := ⟨1, ![16]⟩
abbrev S_ : Shape := ⟨0, ![]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S8x16x2048x192 : Shape := ⟨4, ![8, 16, 2048, 192]⟩
abbrev S8x16x2048x128 : Shape := ⟨4, ![8, 16, 2048, 128]⟩
abbrev S8x16x2048x64 : Shape := ⟨4, ![8, 16, 2048, 64]⟩
abbrev S8x16x2048x16 : Shape := ⟨4, ![8, 16, 2048, 16]⟩
abbrev S1x1x2048x16 : Shape := ⟨4, ![1, 1, 2048, 16]⟩
abbrev S8x16x256x192 : Shape := ⟨4, ![8, 16, 256, 192]⟩
abbrev S8x16x2304x64 : Shape := ⟨4, ![8, 16, 2304, 64]⟩
abbrev S8x16x2304x256 : Shape := ⟨4, ![8, 16, 2304, 256]⟩
abbrev S8x2304x16x256 : Shape := ⟨4, ![8, 2304, 16, 256]⟩
abbrev S8x2304x4096 : Shape := ⟨3, ![8, 2304, 4096]⟩
abbrev S8x256x4096 : Shape := ⟨3, ![8, 256, 4096]⟩
abbrev S2048x4096 : Shape := ⟨2, ![2048, 4096]⟩
abbrev S8x2048x4096 : Shape := ⟨3, ![8, 2048, 4096]⟩
abbrev S16384x4096 : Shape := ⟨2, ![16384, 4096]⟩
abbrev S18432x4096 : Shape := ⟨2, ![18432, 4096]⟩

abbrev nBuf : Space → Nat
  | .hbm => 88
  | .vmem => 0
  | .smem => 0
  | _ => 0

abbrev bufTy : (tb : Table) → Fin (tcTables nBuf tb) → BufTy
  | .hbm, ⟨0, _⟩ => ⟨S8x2304x1024, .f32⟩
  | .hbm, ⟨1, _⟩ => ⟨S2x1024x16x192, .f32⟩
  | .hbm, ⟨2, _⟩ => ⟨S1x1024x16x192, .f32⟩
  | .hbm, ⟨3, _⟩ => ⟨S1024x16x192, .f32⟩
  | .hbm, ⟨4, _⟩ => ⟨S16x192x8x2304, .f32⟩
  | .hbm, ⟨5, _⟩ => ⟨S8x16x2304x192, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S32, .f32⟩
  | .hbm, ⟨15, _⟩ => ⟨S32x64, .f32⟩
  | .hbm, ⟨16, _⟩ => ⟨S2048, .f32⟩
  | .hbm, ⟨17, _⟩ => ⟨S64, .f32⟩
  | .hbm, ⟨18, _⟩ => ⟨S1x64, .f32⟩
  | .hbm, ⟨19, _⟩ => ⟨S32x64, .f32⟩
  | .hbm, ⟨20, _⟩ => ⟨S2048, .f32⟩
  | .hbm, ⟨21, _⟩ => ⟨S2048x1, .f32⟩
  | .hbm, ⟨22, _⟩ => ⟨S1x16, .f32⟩
  | .hbm, ⟨23, _⟩ => ⟨S2048x16, .f32⟩
  | .hbm, ⟨24, _⟩ => ⟨S2048x16, .f32⟩
  | .hbm, ⟨25, _⟩ => ⟨S2048x16, .f32⟩
  | .hbm, ⟨26, _⟩ => ⟨S2048x1, .f32⟩
  | .hbm, ⟨27, _⟩ => ⟨S1x16, .f32⟩
  | .hbm, ⟨28, _⟩ => ⟨S2048x16, .f32⟩
  | .hbm, ⟨29, _⟩ => ⟨S2048x16, .f32⟩
  | .hbm, ⟨30, _⟩ => ⟨S2048x16, .f32⟩
  | .hbm, ⟨31, _⟩ => ⟨S2048x32, .f32⟩
  | .hbm, ⟨32, _⟩ => ⟨S2048x32, .f32⟩
  | .hbm, ⟨33, _⟩ => ⟨S2048x32, .f32⟩
  | .hbm, ⟨34, _⟩ => ⟨S8x16x2048x192, .f32⟩
  | .hbm, ⟨35, _⟩ => ⟨S8x16x2048x128, .f32⟩
  | .hbm, ⟨36, _⟩ => ⟨S8x16x2048x64, .f32⟩
  | .hbm, ⟨37, _⟩ => ⟨S8x16x2048x16, .f32⟩
  | .hbm, ⟨38, _⟩ => ⟨S8x16x2048x16, .f32⟩
  | .hbm, ⟨39, _⟩ => ⟨S8x16x2048x16, .f32⟩
  | .hbm, ⟨40, _⟩ => ⟨S8x16x2048x16, .f32⟩
  | .hbm, ⟨41, _⟩ => ⟨S2048x16, .f32⟩
  | .hbm, ⟨42, _⟩ => ⟨S2048x16, .f32⟩
  | .hbm, ⟨43, _⟩ => ⟨S2048x16, .f32⟩
  | .hbm, ⟨44, _⟩ => ⟨S2048x16, .f32⟩
  | .hbm, ⟨45, _⟩ => ⟨S1x1x2048x16, .f32⟩
  | .hbm, ⟨46, _⟩ => ⟨S8x16x2048x16, .f32⟩
  | .hbm, ⟨47, _⟩ => ⟨S8x16x2048x16, .f32⟩
  | .hbm, ⟨48, _⟩ => ⟨S1x1x2048x16, .f32⟩
  | .hbm, ⟨49, _⟩ => ⟨S8x16x2048x16, .f32⟩
  | .hbm, ⟨50, _⟩ => ⟨S8x16x2048x16, .f32⟩
  | .hbm, ⟨51, _⟩ => ⟨S8x16x2048x16, .f32⟩
  | .hbm, ⟨52, _⟩ => ⟨S1x1x2048x16, .f32⟩
  | .hbm, ⟨53, _⟩ => ⟨S8x16x2048x16, .f32⟩
  | .hbm, ⟨54, _⟩ => ⟨S8x16x2048x16, .f32⟩
  | .hbm, ⟨55, _⟩ => ⟨S1x1x2048x16, .f32⟩
  | .hbm, ⟨56, _⟩ => ⟨S8x16x2048x16, .f32⟩
  | .hbm, ⟨57, _⟩ => ⟨S8x16x2048x16, .f32⟩
  | .hbm, ⟨58, _⟩ => ⟨S8x16x2048x16, .f32⟩
  | .hbm, ⟨59, _⟩ => ⟨S1x1x2048x16, .f32⟩
  | .hbm, ⟨60, _⟩ => ⟨S8x16x2048x16, .f32⟩
  | .hbm, ⟨61, _⟩ => ⟨S8x16x2048x16, .f32⟩
  | .hbm, ⟨62, _⟩ => ⟨S1x1x2048x16, .f32⟩
  | .hbm, ⟨63, _⟩ => ⟨S8x16x2048x16, .f32⟩
  | .hbm, ⟨64, _⟩ => ⟨S8x16x2048x16, .f32⟩
  | .hbm, ⟨65, _⟩ => ⟨S8x16x2048x16, .f32⟩
  | .hbm, ⟨66, _⟩ => ⟨S1x1x2048x16, .f32⟩
  | .hbm, ⟨67, _⟩ => ⟨S8x16x2048x16, .f32⟩
  | .hbm, ⟨68, _⟩ => ⟨S8x16x2048x16, .f32⟩
  | .hbm, ⟨69, _⟩ => ⟨S1x1x2048x16, .f32⟩
  | .hbm, ⟨70, _⟩ => ⟨S8x16x2048x16, .f32⟩
  | .hbm, ⟨71, _⟩ => ⟨S8x16x2048x16, .f32⟩
  | .hbm, ⟨72, _⟩ => ⟨S8x16x2048x16, .f32⟩
  | .hbm, ⟨73, _⟩ => ⟨S8x16x2048x64, .f32⟩
  | .hbm, ⟨74, _⟩ => ⟨S8x16x2048x192, .f32⟩
  | .hbm, ⟨75, _⟩ => ⟨S8x16x256x192, .f32⟩
  | .hbm, ⟨76, _⟩ => ⟨S8x16x2304x192, .f32⟩
  | .hbm, ⟨77, _⟩ => ⟨S_, .f32⟩
  | .hbm, ⟨78, _⟩ => ⟨S8x16x2304x64, .f32⟩
  | .hbm, ⟨79, _⟩ => ⟨S8x16x2304x256, .f32⟩
  | .hbm, ⟨80, _⟩ => ⟨S8x2304x16x256, .f32⟩
  | .hbm, ⟨81, _⟩ => ⟨S8x2304x4096, .f32⟩
  | .hbm, ⟨82, _⟩ => ⟨S8x256x4096, .f32⟩
  | .hbm, ⟨83, _⟩ => ⟨S2048x4096, .f32⟩
  | .hbm, ⟨84, _⟩ => ⟨S8x2048x4096, .f32⟩
  | .hbm, ⟨85, _⟩ => ⟨S16384x4096, .f32⟩
  | .hbm, ⟨86, _⟩ => ⟨S18432x4096, .f32⟩
  | .hbm, ⟨87, _⟩ => ⟨S18432x4096, .bf16⟩
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_cst_1 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩

abbrev nD : Nat := 1
abbrev τ : Topo := Topo.v7x

variable {F : FTy → Type} [FloatOps F]
-- ==== Proof.InProj.Spec.lean ====
/-
  What the input projection computes, with no program in it: the row order of the stacked hidden states, the projection of
  one row onto one column, and the layout operations around it read at an index.
-/
module

public import Idealize.ShloMosaic.PureOps.Ideal
public import Idealize.ShloMosaic.PureOps.Ideal.Laws
public import Idealize.ShloMosaic.Lib.Pipeline.Value
public import Idealize.ShloMosaic.Lib.ValueIdx

@[expose] public section

noncomputable section

namespace Cert.Proof.Spec

open Idealize.ShloMosaic Idealize.ShloMosaic.ValueIdx
open scoped BigOperators

/-- The sample a stacked row belongs to: the 8×256 context rows come first, then the 8×2048 latent rows. -/
def sample (r : Fin 18432) : Fin 8 :=
  ⟨if r.val < 2048 then r.val / 256 else (r.val - 2048) / 2048, by have := r.isLt; split <;> omega⟩

/-- The token of its sample a stacked row is: 256 context tokens, then 2048 latent tokens. -/
def token (r : Fin 18432) : Fin 2304 :=
  ⟨if r.val < 2048 then r.val % 256 else 256 + (r.val - 2048) % 2048, by have := r.isLt; split <;> omega⟩

/-- Component `k` of token `n` of sample `b`: from the context array for the first 256 tokens, from the latent array after. -/
def hid (x0 : (⟨3, ![8, 256, 4096]⟩ : Shape).Idx → EReal) (x1 : (⟨3, ![8, 2048, 4096]⟩ : Shape).Idx → EReal)
    (b : Fin 8) (n : Fin 2304) (k : Fin 4096) : EReal :=
  if h : n.val < 256 then x0 (ix3 b ⟨n.val, h⟩ k) else x1 (ix3 b ⟨n.val - 256, by have := n.isLt; omega⟩ k)

/-- The projection of a token onto column `c` of layer 1's weight. -/
def proj (x0 : (⟨3, ![8, 256, 4096]⟩ : Shape).Idx → EReal) (x1 : (⟨3, ![8, 2048, 4096]⟩ : Shape).Idx → EReal)
    (x2 : (⟨3, ![2, 4096, 30304]⟩ : Shape).Idx → EReal) (b : Fin 8) (n : Fin 2304) (c : Fin 30304) : EReal :=
  ∑ k : Fin 4096, hid x0 x1 b n k * x2 (ix3 1 k c)

/-! ## The kernels' host code -/

/-- The two arrays flattened to rows and put one after the other, read at a row. -/
theorem rows_apply (x0 : (⟨3, ![8, 256, 4096]⟩ : Shape).Idx → EReal) (x1 : (⟨3, ![8, 2048, 4096]⟩ : Shape).Idx → EReal)
    (h0 : (⟨3, ![8, 256, 4096]⟩ : Shape).ShapeCasts ⟨2, ![2048, 4096]⟩)
    (h1 : (⟨3, ![8, 2048, 4096]⟩ : Shape).ShapeCasts ⟨2, ![16384, 4096]⟩)
    (hc : Shape.Concatenates [⟨2, ![2048, 4096]⟩, ⟨2, ![16384, 4096]⟩] ⟨2, ![18432, 4096]⟩ 0)
    (r : Fin 18432) (k : Fin 4096) :
    concatenate (⟨2, ![18432, 4096]⟩ : Shape) 0 [⟨⟨2, ![2048, 4096]⟩, shapeCast _ x0 h0⟩, ⟨⟨2, ![16384, 4096]⟩, shapeCast _ x1 h1⟩] hc (ix2 r k)
      = hid x0 x1 (sample r) (token r) k := by
  have hr := r.isLt
  by_cases h : r.val < 2048
  · rw [concatenate_pair_apply_left (t := ⟨2, ![18432, 4096]⟩) (s₁ := ⟨2, ![2048, 4096]⟩) (s₂ := ⟨2, ![16384, 4096]⟩) (0 : Fin 2) _ _ hc (ix2 r k) rfl (ix2 (n0 := 2048) ⟨r.val, h⟩ k)
      (fun b => by match b with | ⟨0, _⟩ => rfl | ⟨1, _⟩ => rfl)]
    rw [shapeCast_apply x0 h0 _ (ix3 ⟨r.val / 256, by omega⟩ ⟨r.val % 256, by omega⟩ k) (by
      rw [Shape.rowMajor_val_three, Shape.rowMajor_val_two]
      show (r.val / 256 * 256 + r.val % 256) * 4096 + k.val = r.val * 4096 + k.val
      omega)]
    have ht : (token r).val = r.val % 256 := if_pos h
    unfold hid
    rw [dif_pos (by rw [ht]; omega)]
    congr 1
    have hs : (sample r).val = r.val / 256 := if_pos h
    exact congrArg₂ (fun a b => ix3 a b k) (Fin.ext hs.symm) (Fin.ext ht.symm)
  · rw [concatenate_pair_apply_right (t := ⟨2, ![18432, 4096]⟩) (s₁ := ⟨2, ![2048, 4096]⟩) (s₂ := ⟨2, ![16384, 4096]⟩) (0 : Fin 2) _ _ hc (ix2 r k) rfl rfl (ix2 (n0 := 16384) ⟨r.val - 2048, by omega⟩ k)
      (fun b hb => by match b with | ⟨0, _⟩ => exact absurd rfl hb | ⟨1, _⟩ => rfl)
      (by show r.val - 2048 + 2048 = r.val; omega)]
    rw [shapeCast_apply x1 h1 _ (ix3 ⟨(r.val - 2048) / 2048, by omega⟩ ⟨(r.val - 2048) % 2048, by omega⟩ k) (by
      rw [Shape.rowMajor_val_three, Shape.rowMajor_val_two]
      show ((r.val - 2048) / 2048 * 2048 + (r.val - 2048) % 2048) * 4096 + k.val = (r.val - 2048) * 4096 + k.val
      omega)]
    have ht : (token r).val = 256 + (r.val - 2048) % 2048 := if_neg h
    unfold hid
    rw [dif_neg (by rw [ht]; omega)]
    congr 1
    have hs : (sample r).val = (r.val - 2048) / 2048 := if_neg h
    exact congrArg₂ (fun a b => ix3 a b k) (Fin.ext hs.symm) (Fin.ext (by show (r.val - 2048) % 2048 = (token r).val - 256; omega))

/-- The weights with their last two axes exchanged and the layers' columns put one after the other as rows: row
    `30304 + c` is layer 1's column `c`. -/
theorem weights_apply (x2 : (⟨3, ![2, 4096, 30304]⟩ : Shape).Idx → EReal)
    (ht : (⟨3, ![2, 4096, 30304]⟩ : Shape).Transposes [0, 2, 1] ⟨3, ![2, 30304, 4096]⟩)
    (hs : (⟨3, ![2, 30304, 4096]⟩ : Shape).ShapeCasts ⟨2, ![60608, 4096]⟩)
    (q : Fin 60608) (c : Fin 30304) (hq : q.val = 30304 + c.val) (k : Fin 4096) :
    shapeCast (⟨2, ![60608, 4096]⟩ : Shape) (transpose (⟨3, ![2, 30304, 4096]⟩ : Shape) [0, 2, 1] x2 ht) hs (ix2 q k) = x2 (ix3 1 k c) := by
  have hc := c.isLt
  rw [shapeCast_apply _ hs _ (ix3 (1 : Fin 2) c k) (by
    rw [Shape.rowMajor_val_three, Shape.rowMajor_val_two]
    show (1 * 30304 + c.val) * 4096 + k.val = q.val * 4096 + k.val
    omega)]
  exact transpose_apply _ x2 ht _ _ (fun b => by match b with | ⟨0, _⟩ => rfl | ⟨1, _⟩ => rfl | ⟨2, _⟩ => rfl)

/-! ## The references' host code -/

/-- The context and latent tokens of every sample put one after the other, read at a token. -/
theorem tokens_apply (x0 : (⟨3, ![8, 256, 4096]⟩ : Shape).Idx → EReal) (x1 : (⟨3, ![8, 2048, 4096]⟩ : Shape).Idx → EReal)
    (hc : Shape.Concatenates [⟨3, ![8, 256, 4096]⟩, ⟨3, ![8, 2048, 4096]⟩] ⟨3, ![8, 2304, 4096]⟩ 1)
    (b : Fin 8) (n : Fin 2304) (k : Fin 4096) :
    concatenate (⟨3, ![8, 2304, 4096]⟩ : Shape) 1 [⟨⟨3, ![8, 256, 4096]⟩, x0⟩, ⟨⟨3, ![8, 2048, 4096]⟩, x1⟩] hc (ix3 b n k)
      = hid x0 x1 b n k := by
  have hn := n.isLt
  unfold hid
  by_cases h : n.val < 256
  · rw [dif_pos h]
    exact concatenate_pair_apply_left (t := ⟨3, ![8, 2304, 4096]⟩) (s₁ := ⟨3, ![8, 256, 4096]⟩) (s₂ := ⟨3, ![8, 2048, 4096]⟩) (1 : Fin 3) _ _ hc (ix3 b n k) rfl _
      (fun b => by match b with | ⟨0, _⟩ => rfl | ⟨1, _⟩ => rfl | ⟨2, _⟩ => rfl)
  · rw [dif_neg h]
    exact concatenate_pair_apply_right (t := ⟨3, ![8, 2304, 4096]⟩) (s₁ := ⟨3, ![8, 256, 4096]⟩) (s₂ := ⟨3, ![8, 2048, 4096]⟩) (1 : Fin 3) _ _ hc (ix3 b n k) rfl rfl _
      (fun b hb => by match b with | ⟨0, _⟩ => rfl | ⟨1, _⟩ => exact absurd rfl hb | ⟨2, _⟩ => rfl)
      (by show n.val - 256 + 256 = n.val; omega)

/-- Rows of all samples' context tokens, then of all samples' latent tokens, read at a row: the row's token of its sample. -/
theorem stacked_apply {α : Type} (w : Nat) (y : (⟨3, ![8, 2304, w]⟩ : Shape).Idx → α)
    (hs0 : (⟨3, ![8, 2304, w]⟩ : Shape).Slices ![0, 0, 0] ⟨3, ![8, 256, w]⟩)
    (hs1 : (⟨3, ![8, 2304, w]⟩ : Shape).Slices ![0, 256, 0] ⟨3, ![8, 2048, w]⟩)
    (h0 : (⟨3, ![8, 256, w]⟩ : Shape).ShapeCasts ⟨2, ![2048, w]⟩)
    (h1 : (⟨3, ![8, 2048, w]⟩ : Shape).ShapeCasts ⟨2, ![16384, w]⟩)
    (hc : Shape.Concatenates [⟨2, ![2048, w]⟩, ⟨2, ![16384, w]⟩] ⟨2, ![18432, w]⟩ 0)
    (r : Fin 18432) (k : Fin w) :
    concatenate (⟨2, ![18432, w]⟩ : Shape) 0
        [⟨⟨2, ![2048, w]⟩, shapeCast _ (extractStridedSlice ⟨3, ![8, 256, w]⟩ ![0, 0, 0] y hs0) h0⟩,
         ⟨⟨2, ![16384, w]⟩, shapeCast _ (extractStridedSlice ⟨3, ![8, 2048, w]⟩ ![0, 256, 0] y hs1) h1⟩] hc (ix2 r k)
      = y (ix3 (sample r) (token r) k) := by
  have hr := r.isLt
  by_cases h : r.val < 2048
  · have ht : (token r).val = r.val % 256 := if_pos h
    have hs : (sample r).val = r.val / 256 := if_pos h
    rw [concatenate_pair_apply_left (t := ⟨2, ![18432, w]⟩) (s₁ := ⟨2, ![2048, w]⟩) (s₂ := ⟨2, ![16384, w]⟩) (0 : Fin 2) _ _ hc (ix2 r k) rfl (ix2 (n0 := 2048) ⟨r.val, h⟩ k)
      (fun b => by match b with | ⟨0, _⟩ => rfl | ⟨1, _⟩ => rfl)]
    rw [shapeCast_apply _ h0 _ (ix3 ⟨r.val / 256, by omega⟩ ⟨r.val % 256, by omega⟩ k) (by
      rw [Shape.rowMajor_val_three, Shape.rowMajor_val_two]
      show (r.val / 256 * 256 + r.val % 256) * w + k.val = r.val * w + k.val
      rw [show r.val / 256 * 256 + r.val % 256 = r.val by omega])]
    refine extractStridedSlice_apply _ y hs0 _ _ (fun a => ?_)
    match a with
    | ⟨0, _⟩ => show (sample r).val = 0 + r.val / 256; omega
    | ⟨1, _⟩ => show (token r).val = 0 + r.val % 256; omega
    | ⟨2, _⟩ => show k.val = 0 + k.val; omega
  · have ht : (token r).val = 256 + (r.val - 2048) % 2048 := if_neg h
    have hs : (sample r).val = (r.val - 2048) / 2048 := if_neg h
    rw [concatenate_pair_apply_right (t := ⟨2, ![18432, w]⟩) (s₁ := ⟨2, ![2048, w]⟩) (s₂ := ⟨2, ![16384, w]⟩) (0 : Fin 2) _ _ hc (ix2 r k) rfl rfl (ix2 (n0 := 16384) ⟨r.val - 2048, by omega⟩ k)
      (fun b hb => by match b with | ⟨0, _⟩ => exact absurd rfl hb | ⟨1, _⟩ => rfl)
      (by show r.val - 2048 + 2048 = r.val; omega)]
    rw [shapeCast_apply _ h1 _ (ix3 ⟨(r.val - 2048) / 2048, by omega⟩ ⟨(r.val - 2048) % 2048, by omega⟩ k) (by
      rw [Shape.rowMajor_val_three, Shape.rowMajor_val_two]
      show ((r.val - 2048) / 2048 * 2048 + (r.val - 2048) % 2048) * w + k.val = (r.val - 2048) * w + k.val
      rw [show (r.val - 2048) / 2048 * 2048 + (r.val - 2048) % 2048 = r.val - 2048 by omega])]
    refine extractStridedSlice_apply _ y hs1 _ _ (fun a => ?_)
    match a with
    | ⟨0, _⟩ => show (sample r).val = 0 + (r.val - 2048) / 2048; omega
    | ⟨1, _⟩ => show (token r).val = 256 + (r.val - 2048) % 2048; omega
    | ⟨2, _⟩ => show k.val = 0 + k.val; omega

/-- A run of `w` columns from column `o`, read at an index. -/
theorem cols_apply {α : Type} (w o : Nat) (y : (⟨3, ![8, 2304, 30304]⟩ : Shape).Idx → α)
    (hs : (⟨3, ![8, 2304, 30304]⟩ : Shape).Slices ![0, 0, o] ⟨3, ![8, 2304, w]⟩)
    (b : Fin 8) (n : Fin 2304) (j : Fin w) (c : Fin 30304) (hc : c.val = o + j.val) :
    extractStridedSlice (⟨3, ![8, 2304, w]⟩ : Shape) ![0, 0, o] y hs (ix3 b n j) = y (ix3 b n c) := by
  refine extractStridedSlice_apply _ y hs _ _ (fun a => ?_)
  match a with
  | ⟨0, _⟩ => show b.val = 0 + b.val; omega
  | ⟨1, _⟩ => show n.val = 0 + n.val; omega
  | ⟨2, _⟩ => exact hc

/-! ## Root-mean-square normalization -/

/-- A row of `n` numbers scaled by the reciprocal square root of (their mean square plus the constant), times a gain. -/
def rms (n : Nat) (count eps : BitVec 32) (p : Fin n → EReal) (gain : EReal) (j : Fin n) : EReal :=
  p j * Ideal.rsqrt (Ideal.div (∑ k : Fin n, p k * p k) (Ideal.ofBits .f32 count) + Ideal.ofBits .f32 eps) * gain

/-- The normalization as a block computes it, read at an index: `P` is the block of projections, `g` the row of gains. -/
theorem rms_block (n : Nat) (count eps : BitVec 32) (P : FVec Ideal (⟨2, ![1024, n]⟩ : Shape) .f32) (g : FVec Ideal (⟨2, ![1, n]⟩ : Shape) .f32)
    (hr : (⟨2, ![1024, n]⟩ : Shape).Reduces [1] ⟨1, ![1024]⟩) (hφ : FKind.Formats .f32) (ha : (0x00000000#32 : BitVec 32) = FKind.add.neutral .f32 hφ)
    (hs : (⟨1, ![1024]⟩ : Shape).ShapeCasts ⟨2, ![1024, 1]⟩) (hb : (⟨2, ![1024, 1]⟩ : Shape).Broadcasts ⟨2, ![1024, n]⟩)
    (hg : (⟨2, ![1, n]⟩ : Shape).Broadcasts ⟨2, ![1024, n]⟩) (ht : FTy.bits .bf16 < FTy.bits .f32)
    (p : Fin 1024 → Fin n → EReal) (hp : ∀ a j, P (ix2 a j) = p a j) (a : Fin 1024) (b : Fin n) :
    (truncf (F := Ideal) .bf16
      (mulf (mulf P (broadcastTo ⟨2, ![1024, n]⟩
          (rsqrt (addf (divf (shapeCast ⟨2, ![1024, 1]⟩ (multiReduction .add [1] ⟨1, ![1024]⟩ (mulf P P) 0x00000000#32 hr hφ ha) hs)
              (broadcast ⟨2, ![1024, 1]⟩ (Scalar.ofBits .f32 count))) (broadcast ⟨2, ![1024, 1]⟩ (Scalar.ofBits .f32 eps)))) hb))
        (broadcastTo ⟨2, ![1024, n]⟩ g hg)) ht : FVec Ideal (⟨2, ![1024, n]⟩ : Shape) .bf16) (ix2 a b)
      = rms n count eps (p a) (g (ix2 0 b)) b := by
  show P (ix2 a b) * broadcastTo ⟨2, ![1024, n]⟩ _ hb (ix2 a b) * broadcastTo ⟨2, ![1024, n]⟩ g hg (ix2 a b) = _
  rw [broadcastTo_apply g hg (ix2 a b) (ix2 0 b) (fun x => by
      match x with
      | ⟨0, _⟩ => rfl
      | ⟨1, _⟩ =>
        have := b.isLt
        show b.val = if n = 1 then 0 else b.val
        split <;> omega),
    broadcastTo_apply _ hb (ix2 a b) (ix2 a 0) (fun x => by match x with | ⟨0, _⟩ => rfl | ⟨1, _⟩ => rfl), hp]
  unfold rms
  refine congrArg (fun z => p a b * Ideal.rsqrt (Ideal.div z (Ideal.ofBits .f32 count) + Ideal.ofBits .f32 eps) * g (ix2 0 b)) ?_
  rw [shapeCast_apply _ hs (ix2 a 0) (ix1 a) (by
    rw [Shape.rowMajor_val_one, Shape.rowMajor_val_two]
    show a.val = a.val * 1 + 0
    omega), Ideal.multiReduction_add_single]
  refine Finset.sum_congr rfl fun k _ => ?_
  have e : hr.lift (ix1 a) k = ix2 a k := by
    funext x; match x with | ⟨0, _⟩ => rfl | ⟨1, _⟩ => rfl
  rw [e]
  exact congrArg₂ (· * ·) (hp a k) (hp a k)

/-- Row 1 of a two-row array, flattened and made a row again, read at an index. -/
theorem gains_apply (n : Nat) (x : (⟨2, ![2, n]⟩ : Shape).Idx → EReal) (hs : (⟨2, ![2, n]⟩ : Shape).Slices ![1, 0] ⟨2, ![1, n]⟩)
    (h1 : (⟨2, ![1, n]⟩ : Shape).ShapeCasts ⟨1, ![n]⟩) (h2 : (⟨1, ![n]⟩ : Shape).ShapeCasts ⟨2, ![1, n]⟩) (j : Fin n) :
    shapeCast (⟨2, ![1, n]⟩ : Shape) (shapeCast (⟨1, ![n]⟩ : Shape) (extractStridedSlice (⟨2, ![1, n]⟩ : Shape) ![1, 0] x hs) h1) h2 (ix2 0 j)
      = x (ix2 1 j) := by
  rw [shapeCast_apply _ h2 (ix2 0 j) (ix1 j) (by
      rw [Shape.rowMajor_val_one, Shape.rowMajor_val_two]
      show j.val = 0 * n + j.val
      omega),
    shapeCast_apply _ h1 (ix1 j) (ix2 0 j) (by
      rw [Shape.rowMajor_val_one, Shape.rowMajor_val_two]
      show 0 * n + j.val = j.val
      omega)]
  refine extractStridedSlice_apply _ x hs _ _ (fun a => ?_)
  match a with
  | ⟨0, _⟩ => rfl
  | ⟨1, _⟩ => show j.val = 0 + j.val; omega

end Cert.Proof.Spec

end
-- ==== Proof.InProj.Big.lean ====
/-
  The value of the wide projection kernel: after the run its output array holds, at row `r` and column `j`, the projection of
  row `r`'s token onto the weight's column `bigCol j`.
-/
module

public import proofs.«01_k».proof.Proof.Gen.BigIdeal.Value
public import proofs.«01_k».proof.Proof.InProj.Spec
public import Idealize.ShloMosaic.Lib.MatmulPlain

@[expose] public section

noncomputable section

namespace Cert.Proof.Big

open Cert.BigIdeal Cert.BigIdeal.Gen Idealize.ShloMosaic Idealize.ShloMosaic.TcCoe Idealize.SL.Sem
open Idealize.ShloMosaic.Pipeline (Dat)
open Idealize.ShloMosaic.ValueIdx
open Cert.Proof.Spec
open scoped BigOperators

variable (m : (ℓ : Loc nD τ sig) → Buf (Elt Ideal) ℓ)

/-- The weight's column that output column `j` is the projection onto: four runs of neighbouring columns. -/
def bigCol (j : Fin 24576) : Fin 30304 :=
  ⟨if j.val < 6144 then 1600 + j.val else if j.val < 10240 then 1632 + j.val else 5728 + j.val,
    by have := j.isLt; split <;> [skip; split] <;> omega⟩

/-! ## One block -/

/-- What the body leaves in its output block: entry (a, b) is the inner product of row `a` of the first block and row `b` of
    the second. -/
theorem out_apply (x0 x1 : Vec Ideal S1024x4096 .bf16) (a b : Fin 1024) :
    out0_2 (F := Ideal) x0 x1 (ix2 a b) = ∑ k : Fin 4096, x0 (ix2 a k) * x1 (ix2 b k) := by
  have hz : (![0, 0] : Fin S1024x4096.rank → Nat) = fun _ => 0 := funext fun a => by fin_cases a <;> rfl
  have hz' : (![0, 0] : Fin S1024x1024.rank → Nat) = fun _ => 0 := funext fun a => by fin_cases a <;> rfl
  unfold out0_2
  rw [View.canon_unit_zero hz', View.ld_unit_zero hz, View.ld_unit_zero hz]
  unfold k0_pay1
  simp only [shapeCast_self]
  refine (Ideal.matmul_transposedRhs_apply (M := 1024) (K := 4096) (N := 1024) (φ₁ := .bf16) (φ₂ := .bf16) none x0 x1 _ a b).trans ?_
  show Ideal.ofBits .f32 0x00000000#32 + _ = _
  rw [Ideal.ofBits_zero_f32, zero_add]

/-! ## The index maps -/

/-- Where each window stands at each grid point: the rows move with the first grid coordinate, the columns with the second;
    the weight's window starts at an element row. -/
theorem idx_facts : ∀ t : Fin cfg0.N,
    (win0_0.index t 0 = t.val / 24 ∧ win0_0.index t 1 = 0) ∧
    (win0_1.index t 0 = 30304 + (bigCol ⟨1024 * (t.val % 24), by omega⟩).val ∧ win0_1.index t 1 = 0) ∧
    (win0_2.index t 0 = t.val / 24 ∧ win0_2.index t 1 = t.val % 24) := by
  decide +kernel

/-- Within one block of columns the weight's columns are neighbours. -/
theorem bigCol_add (q : Fin 24) (b : Fin 1024) :
    (bigCol ⟨q.val * 1024 + b.val, by omega⟩).val = (bigCol ⟨1024 * q.val, by omega⟩).val + b.val := by
  have := b.isLt
  unfold bigCol
  dsimp only
  split <;> split <;> (try split) <;> (try split) <;> omega

/-! ## The arrays the region finds -/

/-- The launched arguments on a device. -/
abbrev a0 (c : Dev nD) : (⟨3, ![8, 256, 4096]⟩ : Shape).Idx → EReal := m ((c : Thread nD τ).loc main_arg0)
abbrev a1 (c : Dev nD) : (⟨3, ![8, 2048, 4096]⟩ : Shape).Idx → EReal := m ((c : Thread nD τ).loc main_arg1)
abbrev a2 (c : Dev nD) : (⟨3, ![2, 4096, 30304]⟩ : Shape).Idx → EReal := m ((c : Thread nD τ).loc main_arg2)

/-- The first operand array: the hidden states by row. -/
theorem V_rows (c : Dev nD) (r : Fin 18432) (k : Fin 4096) :
    (V m c main_v3 : S18432x4096.Idx → EReal) (ix2 r k) = hid (a0 m c) (a1 m c) (sample r) (token r) k := by
  unfold_abbrev_sides
  after_results
  exact rows_apply (a0 m c) (a1 m c) shapeCasts_S8x256x4096_S2048x4096 shapeCasts_S8x2048x4096_S16384x4096
    concatenates_S2048x4096_S16384x4096_S18432x4096_d0 r k

/-- The second operand array: the weight's columns as rows. -/
theorem V_weights (c : Dev nD) (q : Fin 60608) (j : Fin 30304) (hq : q.val = 30304 + j.val) (k : Fin 4096) :
    (V m c main_v6 : S60608x4096.Idx → EReal) (ix2 q k) = a2 m c (ix3 1 k j) := by
  unfold_abbrev_sides
  after_results
  exact weights_apply (a2 m c) _ _ q j hq k

/-! ## The blocks -/

/-- Point `t`'s block of the hidden states. -/
theorem blk_rows (c : Dev nD) (t : Fin cfg0.N) (a : Fin 1024) (k : Fin 4096) (r : Fin 18432)
    (hr : r.val = t.val / 24 * 1024 + a.val) :
    (iblk (F := Ideal) m c 0 t : S1024x4096.Idx → EReal) (ix2 a k) = hid (a0 m c) (a1 m c) (sample r) (token r) k := by
  have hf := (idx_facts t).1
  rw [← V_rows m c r k]
  show (V m c main_v3 : S18432x4096.Idx → EReal) ((win0_0.rect t).emb (ix2 a k)) = _
  congr 1
  apply Shape.idx_ext₂
  · rw [win0_0.rect_emb_val, hf.1]; exact hr.symm
  · rw [win0_0.rect_emb_val, hf.2]; exact (Nat.zero_mul _).symm ▸ Nat.zero_add _

/-- Point `t`'s block of the weights: row `b` is the column of the weight that the block's output column `b` belongs to. -/
theorem blk_weights (c : Dev nD) (t : Fin cfg0.N) (b : Fin 1024) (k : Fin 4096) (j : Fin 24576)
    (hj : j.val = t.val % 24 * 1024 + b.val) :
    (iblk (F := Ideal) m c 1 t : S1024x4096.Idx → EReal) (ix2 b k) = a2 m c (ix3 1 k (bigCol j)) := by
  have hf := (idx_facts t).2.1
  have hb := bigCol_add ⟨t.val % 24, by omega⟩ b
  have ej : j = ⟨t.val % 24 * 1024 + b.val, by omega⟩ := Fin.ext hj
  rw [← V_weights m c ⟨30304 + (bigCol j).val, by have := (bigCol j).isLt; omega⟩ (bigCol j) rfl k]
  show (V m c main_v6 : S60608x4096.Idx → EReal) ((win0_1.rect t).emb (ix2 b k)) = _
  congr 1
  apply Shape.idx_ext₂
  · rw [win0_1.rect_emb_val_off, hf.1]
    show 30304 + (bigCol ⟨1024 * (t.val % 24), _⟩).val + b.val = 30304 + (bigCol j).val
    rw [ej, hb, Nat.add_assoc]
  · rw [win0_1.rect_emb_val_off, hf.2]
    show 0 + k.val = k.val
    omega

/-! ## The array after the run -/

/-- The output array: at row `r`, column `j`, the projection of row `r`'s token onto column `bigCol j`. -/
def G (c : Dev nD) : S18432x24576.Idx → EReal :=
  fun i => proj (a0 m c) (a1 m c) (a2 m c) (sample (i 0)) (token (i 0)) (bigCol (i 1))

/-- What point `t` writes back is block `t` of that array. -/
theorem flushed_eq (c : Dev nD) (t : Fin cfg0.N) :
    (dats (F := Ideal) m 0 c).flushed 2 t = ((cfg0.win 2).blk t).view.read (Elt Ideal) (G m c) := by
  rw [Value.flushed2]
  funext y
  obtain ⟨a, b, rfl⟩ : ∃ a b : Fin 1024, y = ix2 a b := ⟨y 0, y 1, eq_ix2 y⟩
  have hf := (idx_facts t).2.2
  have ht : t.val < 432 := t.isLt
  show out0_2 (F := Ideal) (iblk m c 0 t) (iblk m c 1 t) (ix2 a b) = G m c ((win0_2.rect t).emb (ix2 a b))
  rw [out_apply]
  have e : (win0_2.rect t).emb (ix2 a b)
      = ix2 (n0 := 18432) (n1 := 24576) ⟨t.val / 24 * 1024 + a.val, by omega⟩ ⟨t.val % 24 * 1024 + b.val, by omega⟩ := by
    apply Shape.idx_ext₂
    · rw [win0_2.rect_emb_val, hf.1]; rfl
    · rw [win0_2.rect_emb_val, hf.2]; rfl
  rw [e]
  show _ = proj _ _ _ _ _ _
  unfold proj
  exact Finset.sum_congr rfl fun k _ => congrArg₂ (· * ·) (blk_rows m c t a k _ rfl) (blk_weights m c t b k _ rfl)

/-- Every index of the output array lies in some point's block. -/
theorem cover (i : S18432x24576.Idx) : ∃ t : Fin cfg0.N, (cfg0.win 2).flush t = true ∧ i ∈ ((cfg0.win 2).blk t).view.set := by
  have h0 : (i 0 : Nat) < 18432 := (i 0).isLt
  have h1 : (i 1 : Nat) < 24576 := (i 1).isLt
  let t : Fin cfg0.N := ⟨(i 0).val / 1024 * 24 + (i 1).val / 1024, by show _ < 432; omega⟩
  have hf := (idx_facts t).2.2
  have e0 : t.val / 24 = (i 0).val / 1024 := by show ((i 0).val / 1024 * 24 + (i 1).val / 1024) / 24 = _; omega
  have e1 : t.val % 24 = (i 1).val / 1024 := by show ((i 0).val / 1024 * 24 + (i 1).val / 1024) % 24 = _; omega
  refine ⟨t, flush0_2 t, ?_⟩
  show i ∈ ((View.whole main_v7).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [hf.1, e0]; omega
  | ⟨1, _⟩ =>
    show win0_2.index t 1 * 1024 ≤ (i 1 : Nat) ∧ (i 1 : Nat) < win0_2.index t 1 * 1024 + 1024
    rw [hf.2, e1]; omega

/-- After the run the output array is `G`. -/
theorem final (c : Dev nD) : (dats (F := Ideal) m 0 c).arrAt 2 cfg0.N = G m c :=
  (dats (F := Ideal) m 0 c).arrAt_eq_of_cover 2 (G m c) (fun t _ => flushed_eq m c t) cover

end Cert.Proof.Big

end
-- ==== Proof.InProj.BigRef.lean ====
/-
  The value of the wide projection's reference, and the two programs' agreement: the reference projects every token onto every
  column, keeps ten of the pieces the projection is split into, and stacks the tokens by row; at row `r` and column `j` that
  is again the projection of row `r`'s token onto the weight's column `bigCol j`.
-/
module

public import proofs.«01_k».proof.Proof.Gen.BigRefIdeal.Run
public import proofs.«01_k».proof.Proof.Gen.BigRefIdeal.Read
public import proofs.«01_k».proof.Proof.InProj.Big
public import proofs.«01_k».proof.Defs

@[expose] public section

noncomputable section

namespace Cert.Proof.BigRef

open Cert.BigRefIdeal Cert.BigRefIdeal.Gen Cert.BigRefIdeal.Read Idealize.ShloMosaic Idealize.ShloMosaic.TcCoe Idealize.SL.Sem
open Idealize.ShloMosaic.ValueIdx
open Cert.Proof.Spec
open Cert.Proof.Big (bigCol)
open scoped BigOperators

variable (x0 : (⟨S8x256x4096, .f32⟩ : BufTy).Contents (Elt Ideal)) (x1 : (⟨S8x2048x4096, .f32⟩ : BufTy).Contents (Elt Ideal))
  (x2 : (⟨S2x4096x30304, .f32⟩ : BufTy).Contents (Elt Ideal))

/-- The whole projection at a token and a column. -/
theorem proj_apply (b : Fin 8) (n : Fin 2304) (c : Fin 30304) :
    val_main_v3 (F := Ideal) x0 x1 x2 (ix3 b n c) = proj x0 x1 x2 b n c := by
  rw [val_main_v3_apply]
  unfold proj
  refine Finset.sum_congr rfl fun k _ => congrArg₂ (· * ·) ?_ ?_
  · refine Eq.trans (congrArg _ ?_) (tokens_apply x0 x1 concatenates_S8x256x4096_S8x2048x4096_S8x2304x4096_d1 b n k)
    funext a
    match a with | ⟨0, _⟩ => rfl | ⟨1, _⟩ => rfl | ⟨2, _⟩ => rfl
  · rw [val_main_v2_apply, val_main_v1_apply]
    congr 1
    funext a
    have := k.isLt
    have := c.isLt
    match a with
    | ⟨0, _⟩ => rfl
    | ⟨1, _⟩ => exact Fin.ext (by show (k.val * 30304 + c.val) / 30304 % 4096 = k.val; omega)
    | ⟨2, _⟩ => exact Fin.ext (by show (k.val * 30304 + c.val) % 30304 = c.val; omega)

/-- The shapes of the pieces kept. -/
abbrev pieces : List Shape := [S8x2304x1024, S8x2304x1024, S8x2304x2048, S8x2304x2048, S8x2304x2048, S8x2304x2048, S8x2304x2048,
  S8x2304x4096, S8x2304x4096, S8x2304x4096]

/-- The kept pieces one after the other: column `j` is the projection's column `bigCol j`. -/
theorem cols (b : Fin 8) (n : Fin 2304) (j : Fin 24576) :
    val_main_v21 (F := Ideal) x0 x1 x2 (ix3 b n j) = val_main_v3 (F := Ideal) x0 x1 x2 (ix3 b n (bigCol j)) := by
  have hj := j.isLt
  have key : ∀ (k w o pre : Nat) (xs : List ((s : Shape) × (s.Idx → EReal))) (hc : Shape.Concatenates (xs.map (·.1)) S8x2304x24576 2)
      (hs : (⟨3, ![8, 2304, 30304]⟩ : Shape).Slices ![0, 0, o] ⟨3, ![8, 2304, w]⟩),
      xs.map (·.1) = pieces → (hk : k < xs.length) →
      xs[k] = ⟨⟨3, ![8, 2304, w]⟩, extractStridedSlice (⟨3, ![8, 2304, w]⟩ : Shape) ![0, 0, o] (val_main_v3 (F := Ideal) x0 x1 x2) hs⟩ →
      ((pieces.take k).map fun s => if h : s.rank = 3 then s.size ((2 : Fin 3).cast h.symm) else 0).sum = pre →
      (hlo : pre ≤ j.val) → (hhi : j.val < pre + w) → (bigCol j).val = o + (j.val - pre) →
      concatenate S8x2304x24576 2 xs hc (ix3 b n j) = val_main_v3 (F := Ideal) x0 x1 x2 (ix3 b n (bigCol j)) := by
    intro k w o pre xs hc hs hp hk hxk hpre hlo hhi hcol
    refine (concatenate_apply_piece (t := S8x2304x24576) (2 : Fin 3) xs hc (ix3 b n j) k hk (⟨3, ![8, 2304, w]⟩ : Shape) _ hxk rfl pre
      (by rw [List.map_take, hp]; exact hpre)
      (ix3 (n2 := w) b n ⟨j.val - pre, by omega⟩)
      (fun b hb => by match b with | ⟨0, _⟩ => rfl | ⟨1, _⟩ => rfl | ⟨2, _⟩ => exact absurd rfl hb)
      (by show pre + (j.val - pre) = j.val; omega)).trans ?_
    exact cols_apply w o _ hs b n ⟨j.val - pre, by omega⟩ (bigCol j) hcol
  have hlt : ∀ {k : Nat} {xs : List ((s : Shape) × (s.Idx → EReal))}, xs.map (·.1) = pieces → k < 10 → k < xs.length := by
    intro k xs h hk
    have := congrArg List.length h
    rw [List.length_map] at this
    rw [this]; exact hk
  have hb : (bigCol j).val = if j.val < 6144 then 1600 + j.val else if j.val < 10240 then 1632 + j.val else 5728 + j.val := rfl
  unfold val_main_v21
  rcases Nat.lt_or_ge j.val 1024 with h | h
  · exact key 0 1024 1600 0 _ _ slices_S8x2304x30304_S8x2304x1024_0_0_1600 rfl (hlt rfl (by decide)) rfl (by decide +kernel) (by omega) (by omega)
      (by rw [hb]; rw [if_pos (by omega)]; omega)
  rcases Nat.lt_or_ge j.val 2048 with h | h
  · exact key 1 1024 2624 1024 _ _ slices_S8x2304x30304_S8x2304x1024_0_0_2624 rfl (hlt rfl (by decide)) rfl (by decide +kernel) (by omega) (by omega)
      (by rw [hb]; rw [if_pos (by omega)]; omega)
  rcases Nat.lt_or_ge j.val 4096 with h | h
  · exact key 2 2048 3648 2048 _ _ slices_S8x2304x30304_S8x2304x2048_0_0_3648 rfl (hlt rfl (by decide)) rfl (by decide +kernel) (by omega) (by omega)
      (by rw [hb]; rw [if_pos (by omega)]; omega)
  rcases Nat.lt_or_ge j.val 6144 with h | h
  · exact key 3 2048 5696 4096 _ _ slices_S8x2304x30304_S8x2304x2048_0_0_5696 rfl (hlt rfl (by decide)) rfl (by decide +kernel) (by omega) (by omega)
      (by rw [hb]; rw [if_pos (by omega)]; omega)
  rcases Nat.lt_or_ge j.val 8192 with h | h
  · exact key 4 2048 7776 6144 _ _ slices_S8x2304x30304_S8x2304x2048_0_0_7776 rfl (hlt rfl (by decide)) rfl (by decide +kernel) (by omega) (by omega)
      (by rw [hb]; rw [if_neg (by omega), if_pos (by omega)]; omega)
  rcases Nat.lt_or_ge j.val 10240 with h | h
  · exact key 5 2048 9824 8192 _ _ slices_S8x2304x30304_S8x2304x2048_0_0_9824 rfl (hlt rfl (by decide)) rfl (by decide +kernel) (by omega) (by omega)
      (by rw [hb]; rw [if_neg (by omega), if_pos (by omega)]; omega)
  rcases Nat.lt_or_ge j.val 12288 with h | h
  · exact key 6 2048 15968 10240 _ _ slices_S8x2304x30304_S8x2304x2048_0_0_15968 rfl (hlt rfl (by decide)) rfl (by decide +kernel) (by omega) (by omega)
      (by rw [hb]; rw [if_neg (by omega), if_neg (by omega)]; omega)
  rcases Nat.lt_or_ge j.val 16384 with h | h
  · exact key 7 4096 18016 12288 _ _ slices_S8x2304x30304_S8x2304x4096_0_0_18016 rfl (hlt rfl (by decide)) rfl (by decide +kernel) (by omega) (by omega)
      (by rw [hb]; rw [if_neg (by omega), if_neg (by omega)]; omega)
  rcases Nat.lt_or_ge j.val 20480 with h | h
  · exact key 8 4096 22112 16384 _ _ slices_S8x2304x30304_S8x2304x4096_0_0_22112 rfl (hlt rfl (by decide)) rfl (by decide +kernel) (by omega) (by omega)
      (by rw [hb]; rw [if_neg (by omega), if_neg (by omega)]; omega)
  · exact key 9 4096 26208 20480 _ _ slices_S8x2304x30304_S8x2304x4096_0_0_26208 rfl (hlt rfl (by decide)) rfl (by decide +kernel) (by omega) (by omega)
      (by rw [hb]; rw [if_neg (by omega), if_neg (by omega)]; omega)

/-- The reference's result at a row and a column. -/
theorem result_apply (r : Fin 18432) (j : Fin 24576) :
    val_main_v27 (F := Ideal) x0 x1 x2 (ix2 r j) = proj x0 x1 x2 (sample r) (token r) (bigCol j) := by
  refine Eq.trans ?_ (proj_apply x0 x1 x2 _ _ _)
  refine Eq.trans ?_ (cols x0 x1 x2 _ _ _)
  exact stacked_apply 24576 (val_main_v21 (F := Ideal) x0 x1 x2) slices_S8x2304x24576_S8x256x24576_0_0_0
    slices_S8x2304x24576_S8x2048x24576_0_256_0 shapeCasts_S8x256x24576_S2048x24576 shapeCasts_S8x2048x24576_S16384x24576
    concatenates_S2048x24576_S16384x24576_S18432x24576_d0 r j

/-- The reference's run leaves in its result what the kernel's leaves in its output array, from the same arguments. -/
theorem agree (m : (ℓ : Loc Cert.BigIdeal.nD Cert.BigIdeal.τ Cert.BigIdeal.sig) → Buf (Elt Ideal) ℓ) (c : Dev Cert.BigIdeal.nD) :
    val_main_v27 (F := Ideal) (Big.a0 m c) (Big.a1 m c) (Big.a2 m c) = Big.G m c := by
  funext i
  obtain ⟨r, j, rfl⟩ : ∃ (r : Fin 18432) (j : Fin 24576), i = ix2 r j := ⟨i 0, i 1, eq_ix2 i⟩
  exact result_apply _ _ _ r j

end Cert.Proof.BigRef

end
-- ==== Proof.InProj.Hf.lean ====
/-
  The value of the forget-gate projection kernel: after the run its output array holds, at row `r` and column `j`, the projection of
  row `r`'s token onto the weight's column `hfCol j`.
-/
module

public import proofs.«01_k».proof.Proof.Gen.HfIdeal.Value
public import proofs.«01_k».proof.Proof.InProj.Spec
public import Idealize.ShloMosaic.Lib.MatmulPlain

@[expose] public section

noncomputable section

namespace Cert.Proof.Hf

open Cert.HfIdeal Cert.HfIdeal.Gen Idealize.ShloMosaic Idealize.ShloMosaic.TcCoe Idealize.SL.Sem
open Idealize.ShloMosaic.Pipeline (Dat)
open Idealize.ShloMosaic.ValueIdx
open Cert.Proof.Spec
open scoped BigOperators

variable (m : (ℓ : Loc nD τ sig) → Buf (Elt Ideal) ℓ)

/-- The weight's column that output column `j` is the projection onto: one run of neighbouring columns. -/
def hfCol (j : Fin 4096) : Fin 30304 := ⟨11872 + j.val, by have := j.isLt; omega⟩

/-! ## One block -/

/-- What the body leaves in its output block: entry (a, b) is the inner product of row `a` of the first block and row `b` of
    the second. -/
theorem out_apply (x0 x1 : Vec Ideal S1024x4096 .bf16) (a b : Fin 1024) :
    out0_2 (F := Ideal) x0 x1 (ix2 a b) = ∑ k : Fin 4096, x0 (ix2 a k) * x1 (ix2 b k) := by
  have hz : (![0, 0] : Fin S1024x4096.rank → Nat) = fun _ => 0 := funext fun a => by fin_cases a <;> rfl
  have hz' : (![0, 0] : Fin S1024x1024.rank → Nat) = fun _ => 0 := funext fun a => by fin_cases a <;> rfl
  unfold out0_2
  rw [View.canon_unit_zero hz', View.ld_unit_zero hz, View.ld_unit_zero hz]
  unfold k0_pay1
  simp only [shapeCast_self]
  refine (Ideal.matmul_transposedRhs_apply (M := 1024) (K := 4096) (N := 1024) (φ₁ := .bf16) (φ₂ := .bf16) none x0 x1 _ a b).trans ?_
  show Ideal.ofBits .f32 0x00000000#32 + _ = _
  rw [Ideal.ofBits_zero_f32, zero_add]

/-! ## The index maps -/

/-- Where each window stands at each grid point: the rows move with the first grid coordinate, the columns with the second;
    the weight's window starts at an element row. -/
theorem idx_facts : ∀ t : Fin cfg0.N,
    (win0_0.index t 0 = t.val / 4 ∧ win0_0.index t 1 = 0) ∧
    (win0_1.index t 0 = 30304 + (hfCol ⟨1024 * (t.val % 4), by omega⟩).val ∧ win0_1.index t 1 = 0) ∧
    (win0_2.index t 0 = t.val / 4 ∧ win0_2.index t 1 = t.val % 4) := by
  decide +kernel

/-! ## The arrays the region finds -/

/-- The launched arguments on a device. -/
abbrev a0 (c : Dev nD) : (⟨3, ![8, 256, 4096]⟩ : Shape).Idx → EReal := m ((c : Thread nD τ).loc main_arg0)
abbrev a1 (c : Dev nD) : (⟨3, ![8, 2048, 4096]⟩ : Shape).Idx → EReal := m ((c : Thread nD τ).loc main_arg1)
abbrev a2 (c : Dev nD) : (⟨3, ![2, 4096, 30304]⟩ : Shape).Idx → EReal := m ((c : Thread nD τ).loc main_arg2)

/-- The first operand array: the hidden states by row. -/
theorem V_rows (c : Dev nD) (r : Fin 18432) (k : Fin 4096) :
    (V m c main_v3 : S18432x4096.Idx → EReal) (ix2 r k) = hid (a0 m c) (a1 m c) (sample r) (token r) k := by
  unfold_abbrev_sides
  after_results
  exact rows_apply (a0 m c) (a1 m c) shapeCasts_S8x256x4096_S2048x4096 shapeCasts_S8x2048x4096_S16384x4096
    concatenates_S2048x4096_S16384x4096_S18432x4096_d0 r k

/-- The second operand array: the weight's columns as rows. -/
theorem V_weights (c : Dev nD) (q : Fin 60608) (j : Fin 30304) (hq : q.val = 30304 + j.val) (k : Fin 4096) :
    (V m c main_v6 : S60608x4096.Idx → EReal) (ix2 q k) = a2 m c (ix3 1 k j) := by
  unfold_abbrev_sides
  after_results
  exact weights_apply (a2 m c) _ _ q j hq k

/-! ## The blocks -/

/-- Point `t`'s block of the hidden states. -/
theorem blk_rows (c : Dev nD) (t : Fin cfg0.N) (a : Fin 1024) (k : Fin 4096) (r : Fin 18432)
    (hr : r.val = t.val / 4 * 1024 + a.val) :
    (iblk (F := Ideal) m c 0 t : S1024x4096.Idx → EReal) (ix2 a k) = hid (a0 m c) (a1 m c) (sample r) (token r) k := by
  have hf := (idx_facts t).1
  rw [← V_rows m c r k]
  show (V m c main_v3 : S18432x4096.Idx → EReal) ((win0_0.rect t).emb (ix2 a k)) = _
  congr 1
  apply Shape.idx_ext₂
  · rw [win0_0.rect_emb_val, hf.1]; exact hr.symm
  · rw [win0_0.rect_emb_val, hf.2]; exact (Nat.zero_mul _).symm ▸ Nat.zero_add _

/-- Point `t`'s block of the weights: row `b` is the column of the weight that the block's output column `b` belongs to. -/
theorem blk_weights (c : Dev nD) (t : Fin cfg0.N) (b : Fin 1024) (k : Fin 4096) (j : Fin 4096)
    (hj : j.val = t.val % 4 * 1024 + b.val) :
    (iblk (F := Ideal) m c 1 t : S1024x4096.Idx → EReal) (ix2 b k) = a2 m c (ix3 1 k (hfCol j)) := by
  have hf := (idx_facts t).2.1
  rw [← V_weights m c ⟨30304 + (hfCol j).val, by have := (hfCol j).isLt; omega⟩ (hfCol j) rfl k]
  show (V m c main_v6 : S60608x4096.Idx → EReal) ((win0_1.rect t).emb (ix2 b k)) = _
  congr 1
  apply Shape.idx_ext₂
  · rw [win0_1.rect_emb_val_off, hf.1]
    show 30304 + (11872 + 1024 * (t.val % 4)) + b.val = 30304 + (11872 + j.val)
    omega
  · rw [win0_1.rect_emb_val_off, hf.2]
    show 0 + k.val = k.val
    omega

/-! ## The array after the run -/

/-- The output array: at row `r`, column `j`, the projection of row `r`'s token onto column `hfCol j`. -/
def G (c : Dev nD) : S18432x4096.Idx → EReal :=
  fun i => proj (a0 m c) (a1 m c) (a2 m c) (sample (i 0)) (token (i 0)) (hfCol (i 1))

/-- What point `t` writes back is block `t` of that array. -/
theorem flushed_eq (c : Dev nD) (t : Fin cfg0.N) :
    (dats (F := Ideal) m 0 c).flushed 2 t = ((cfg0.win 2).blk t).view.read (Elt Ideal) (G m c) := by
  rw [Value.flushed2]
  funext y
  obtain ⟨a, b, rfl⟩ : ∃ a b : Fin 1024, y = ix2 a b := ⟨y 0, y 1, eq_ix2 y⟩
  have hf := (idx_facts t).2.2
  have ht : t.val < 72 := t.isLt
  show out0_2 (F := Ideal) (iblk m c 0 t) (iblk m c 1 t) (ix2 a b) = G m c ((win0_2.rect t).emb (ix2 a b))
  rw [out_apply]
  have e : (win0_2.rect t).emb (ix2 a b)
      = ix2 (n0 := 18432) (n1 := 4096) ⟨t.val / 4 * 1024 + a.val, by omega⟩ ⟨t.val % 4 * 1024 + b.val, by omega⟩ := by
    apply Shape.idx_ext₂
    · rw [win0_2.rect_emb_val, hf.1]; rfl
    · rw [win0_2.rect_emb_val, hf.2]; rfl
  rw [e]
  show _ = proj _ _ _ _ _ _
  unfold proj
  exact Finset.sum_congr rfl fun k _ => congrArg₂ (· * ·) (blk_rows m c t a k _ rfl) (blk_weights m c t b k _ rfl)

/-- Every index of the output array lies in some point's block. -/
theorem cover (i : S18432x4096.Idx) : ∃ t : Fin cfg0.N, (cfg0.win 2).flush t = true ∧ i ∈ ((cfg0.win 2).blk t).view.set := by
  have h0 : (i 0 : Nat) < 18432 := (i 0).isLt
  have h1 : (i 1 : Nat) < 4096 := (i 1).isLt
  let t : Fin cfg0.N := ⟨(i 0).val / 1024 * 4 + (i 1).val / 1024, by show _ < 72; omega⟩
  have hf := (idx_facts t).2.2
  have e0 : t.val / 4 = (i 0).val / 1024 := by show ((i 0).val / 1024 * 4 + (i 1).val / 1024) / 4 = _; omega
  have e1 : t.val % 4 = (i 1).val / 1024 := by show ((i 0).val / 1024 * 4 + (i 1).val / 1024) % 4 = _; omega
  refine ⟨t, flush0_2 t, ?_⟩
  show i ∈ ((View.whole main_v7).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [hf.1, e0]; omega
  | ⟨1, _⟩ =>
    show win0_2.index t 1 * 1024 ≤ (i 1 : Nat) ∧ (i 1 : Nat) < win0_2.index t 1 * 1024 + 1024
    rw [hf.2, e1]; omega

/-- After the run the output array is `G`. -/
theorem final (c : Dev nD) : (dats (F := Ideal) m 0 c).arrAt 2 cfg0.N = G m c :=
  (dats (F := Ideal) m 0 c).arrAt_eq_of_cover 2 (G m c) (fun t _ => flushed_eq m c t) cover

end Cert.Proof.Hf

end
-- ==== Proof.InProj.HfRef.lean ====
/-
  The value of the forget-gate projection's reference, and the two programs' agreement: the reference projects every token onto every
  column, keeps the two forget-gate pieces of the projection, and stacks the tokens by row; at row `r` and column `j` that
  is again the projection of row `r`'s token onto the weight's column `hfCol j`.
-/
module

public import proofs.«01_k».proof.Proof.Gen.HfRefIdeal.Run
public import proofs.«01_k».proof.Proof.Gen.HfRefIdeal.Read
public import proofs.«01_k».proof.Proof.InProj.Hf
public import proofs.«01_k».proof.Defs

@[expose] public section

noncomputable section

namespace Cert.Proof.HfRef

open Cert.HfRefIdeal Cert.HfRefIdeal.Gen Cert.HfRefIdeal.Read Idealize.ShloMosaic Idealize.ShloMosaic.TcCoe Idealize.SL.Sem
open Idealize.ShloMosaic.ValueIdx
open Cert.Proof.Spec
open Cert.Proof.Hf (hfCol)
open scoped BigOperators

variable (x0 : (⟨S8x256x4096, .f32⟩ : BufTy).Contents (Elt Ideal)) (x1 : (⟨S8x2048x4096, .f32⟩ : BufTy).Contents (Elt Ideal))
  (x2 : (⟨S2x4096x30304, .f32⟩ : BufTy).Contents (Elt Ideal))

/-- The whole projection at a token and a column. -/
theorem proj_apply (b : Fin 8) (n : Fin 2304) (c : Fin 30304) :
    val_main_v3 (F := Ideal) x0 x1 x2 (ix3 b n c) = proj x0 x1 x2 b n c := by
  rw [val_main_v3_apply]
  unfold proj
  refine Finset.sum_congr rfl fun k _ => congrArg₂ (· * ·) ?_ ?_
  · refine Eq.trans (congrArg _ ?_) (tokens_apply x0 x1 concatenates_S8x256x4096_S8x2048x4096_S8x2304x4096_d1 b n k)
    funext a
    match a with | ⟨0, _⟩ => rfl | ⟨1, _⟩ => rfl | ⟨2, _⟩ => rfl
  · rw [val_main_v2_apply, val_main_v1_apply]
    congr 1
    funext a
    have := k.isLt
    have := c.isLt
    match a with
    | ⟨0, _⟩ => rfl
    | ⟨1, _⟩ => exact Fin.ext (by show (k.val * 30304 + c.val) / 30304 % 4096 = k.val; omega)
    | ⟨2, _⟩ => exact Fin.ext (by show (k.val * 30304 + c.val) % 30304 = c.val; omega)

/-- The kept pieces one after the other: column `j` is the projection's column `hfCol j`. -/
theorem cols (b : Fin 8) (n : Fin 2304) (j : Fin 4096) :
    val_main_v21 (F := Ideal) x0 x1 x2 (ix3 b n j) = val_main_v3 (F := Ideal) x0 x1 x2 (ix3 b n (hfCol j)) := by
  have hj := j.isLt
  unfold val_main_v21
  by_cases h : j.val < 2048
  · refine (concatenate_pair_apply_left (t := S8x2304x4096) (s₁ := S8x2304x2048) (s₂ := S8x2304x2048) (2 : Fin 3) _ _
      concatenates_S8x2304x2048_S8x2304x2048_S8x2304x4096_d2 (ix3 b n j) rfl (ix3 (n2 := 2048) b n ⟨j.val, h⟩)
      (fun b => by match b with | ⟨0, _⟩ => rfl | ⟨1, _⟩ => rfl | ⟨2, _⟩ => rfl)).trans ?_
    exact cols_apply 2048 11872 _ slices_S8x2304x30304_S8x2304x2048_0_0_11872 b n ⟨j.val, h⟩ (hfCol j) rfl
  · refine (concatenate_pair_apply_right (t := S8x2304x4096) (s₁ := S8x2304x2048) (s₂ := S8x2304x2048) (2 : Fin 3) _ _
      concatenates_S8x2304x2048_S8x2304x2048_S8x2304x4096_d2 (ix3 b n j) rfl rfl (ix3 (n2 := 2048) b n ⟨j.val - 2048, by omega⟩)
      (fun b hb => by match b with | ⟨0, _⟩ => rfl | ⟨1, _⟩ => rfl | ⟨2, _⟩ => exact absurd rfl hb)
      (by show j.val - 2048 + 2048 = j.val; omega)).trans ?_
    exact cols_apply 2048 13920 _ slices_S8x2304x30304_S8x2304x2048_0_0_13920 b n ⟨j.val - 2048, by omega⟩ (hfCol j)
      (by show 11872 + j.val = 13920 + (j.val - 2048); omega)

/-- The reference's result at a row and a column. -/
theorem result_apply (r : Fin 18432) (j : Fin 4096) :
    val_main_v26 (F := Ideal) x0 x1 x2 (ix2 r j) = proj x0 x1 x2 (sample r) (token r) (hfCol j) := by
  refine Eq.trans ?_ (proj_apply x0 x1 x2 _ _ _)
  refine Eq.trans ?_ (cols x0 x1 x2 _ _ _)
  exact stacked_apply 4096 (val_main_v21 (F := Ideal) x0 x1 x2) slices_S8x2304x4096_S8x256x4096_0_0_0
    slices_S8x2304x4096_S8x2048x4096_0_256_0 shapeCasts_S8x256x4096_S2048x4096 shapeCasts_S8x2048x4096_S16384x4096
    concatenates_S2048x4096_S16384x4096_S18432x4096_d0 r j

/-- The reference's run leaves in its result what the kernel's leaves in its output array, from the same arguments. -/
theorem agree (m : (ℓ : Loc Cert.HfIdeal.nD Cert.HfIdeal.τ Cert.HfIdeal.sig) → Buf (Elt Ideal) ℓ) (c : Dev Cert.HfIdeal.nD) :
    val_main_v26 (F := Ideal) (Hf.a0 m c) (Hf.a1 m c) (Hf.a2 m c) = Hf.G m c := by
  funext i
  obtain ⟨r, j, rfl⟩ : ∃ (r : Fin 18432) (j : Fin 4096), i = ix2 r j := ⟨i 0, i 1, eq_ix2 i⟩
  exact result_apply _ _ _ r j

end Cert.Proof.HfRef

end
-- ==== Proof.InProj.Cq.lean ====
/-
  The value of the normalized query-latent projection kernel: after the run its output array holds, at row `r` and column `j`, entry `j` of
  the root-mean-square normalized projection of row `r`'s token onto the weight's columns `col 0 … col 1023`.
-/
module

public import proofs.«01_k».proof.Proof.Gen.CqIdeal.Value
public import proofs.«01_k».proof.Proof.InProj.Spec
public import Idealize.ShloMosaic.Lib.MatmulPlain

@[expose] public section

noncomputable section

namespace Cert.Proof.Cq

open Cert.CqIdeal Cert.CqIdeal.Gen Idealize.ShloMosaic Idealize.ShloMosaic.TcCoe Idealize.SL.Sem
open Idealize.ShloMosaic.Pipeline (Dat)
open Idealize.ShloMosaic.ValueIdx
open Cert.Proof.Spec
open scoped BigOperators

variable (m : (ℓ : Loc nD τ sig) → Buf (Elt Ideal) ℓ)

/-- The weight's column that output column `j` is the projection onto: one run of neighbouring columns. -/
def col (j : Fin 1024) : Fin 30304 := ⟨0 + j.val, by have := j.isLt; omega⟩

/-! ## One block -/

/-- What the body leaves in its output block: entry (a, b) is entry `b` of the normalized row of inner products of row `a` of
    the first block with the rows of the second, with the gain's entry `b`. -/
theorem out_apply (x0 : Vec Ideal S1024x4096 .bf16) (x1 : Vec Ideal S1024x4096 .bf16) (x2 : Vec Ideal S1x1024 .f32) (a : Fin 1024) (b : Fin 1024) :
    out0_3 (F := Ideal) x0 x1 x2 (ix2 a b)
      = rms 1024 0x44800000#32 0x358637BD#32 (fun j => ∑ k : Fin 4096, x0 (ix2 a k) * x1 (ix2 j k)) (x2 (ix2 0 b)) b := by
  have hz : (![0, 0] : Fin S1024x4096.rank → Nat) = fun _ => 0 := funext fun a => by fin_cases a <;> rfl
  have hy : (![0, 0] : Fin S1024x4096.rank → Nat) = fun _ => 0 := funext fun a => by fin_cases a <;> rfl
  have hg : (![0, 0] : Fin S1x1024.rank → Nat) = fun _ => 0 := funext fun a => by fin_cases a <;> rfl
  have hz' : (![0, 0] : Fin S1024x1024.rank → Nat) = fun _ => 0 := funext fun a => by fin_cases a <;> rfl
  unfold out0_3
  rw [View.canon_unit_zero hz', View.ld_unit_zero hz, View.ld_unit_zero hy, View.ld_unit_zero hg]
  unfold k0_pay1
  simp only [shapeCast_self]
  have hp : ∀ (a : Fin 1024) (j : Fin 1024), (matmul (F := Ideal) (φ₁ := .bf16) (φ₂ := .bf16) dot_S1024x4096_S1024x4096_S1024x1024_1_1_0_0_n_n none x0 x1
      (constant S1024x1024 .f32 0x00000000#32) : FVec Ideal S1024x1024 .f32) (ix2 a j) = ∑ k : Fin 4096, x0 (ix2 a k) * x1 (ix2 j k) := by
    intro a j
    refine (Ideal.matmul_transposedRhs_apply (M := 1024) (K := 4096) (N := 1024) (φ₁ := .bf16) (φ₂ := .bf16) none x0 x1 _ a j).trans ?_
    show Ideal.ofBits .f32 0x00000000#32 + _ = _
    rw [Ideal.ofBits_zero_f32, zero_add]
  exact rms_block 1024 0x44800000#32 0x358637BD#32 _ x2 _ _ _ _ _ _ _ _ hp a b

/-! ## The index maps -/

/-- Where each window stands at each grid point: the rows move with the grid, the weight and the gain stay; the weight's window
    starts at an element row. -/
theorem idx_facts : ∀ t : Fin cfg0.N,
    (win0_0.index t 0 = t.val ∧ win0_0.index t 1 = 0) ∧
    (win0_1.index t 0 = 30304 ∧ win0_1.index t 1 = 0) ∧
    (win0_2.index t 0 = 0 ∧ win0_2.index t 1 = 0) ∧
    (win0_3.index t 0 = t.val ∧ win0_3.index t 1 = 0) := by
  decide +kernel

/-! ## The arrays the region finds -/

/-- The launched arguments on a device. -/
abbrev a0 (c : Dev nD) : (⟨3, ![8, 256, 4096]⟩ : Shape).Idx → EReal := m ((c : Thread nD τ).loc main_arg0)
abbrev a1 (c : Dev nD) : (⟨3, ![8, 2048, 4096]⟩ : Shape).Idx → EReal := m ((c : Thread nD τ).loc main_arg1)
abbrev a2 (c : Dev nD) : (⟨3, ![2, 4096, 30304]⟩ : Shape).Idx → EReal := m ((c : Thread nD τ).loc main_arg2)
abbrev a3 (c : Dev nD) : (⟨2, ![2, 1024]⟩ : Shape).Idx → EReal := m ((c : Thread nD τ).loc main_arg3)

/-- The first operand array: the hidden states by row. -/
theorem V_rows (c : Dev nD) (r : Fin 18432) (k : Fin 4096) :
    (V m c main_v3 : S18432x4096.Idx → EReal) (ix2 r k) = hid (a0 m c) (a1 m c) (sample r) (token r) k := by
  unfold_abbrev_sides
  after_results
  exact rows_apply (a0 m c) (a1 m c) shapeCasts_S8x256x4096_S2048x4096 shapeCasts_S8x2048x4096_S16384x4096
    concatenates_S2048x4096_S16384x4096_S18432x4096_d0 r k

/-- The second operand array: the weight's columns as rows. -/
theorem V_weights (c : Dev nD) (q : Fin 60608) (j : Fin 30304) (hq : q.val = 30304 + j.val) (k : Fin 4096) :
    (V m c main_v6 : S60608x4096.Idx → EReal) (ix2 q k) = a2 m c (ix3 1 k j) := by
  unfold_abbrev_sides
  after_results
  exact weights_apply (a2 m c) _ _ q j hq k

/-- The third operand array: layer 1's gains. -/
theorem V_gains (c : Dev nD) (j : Fin 1024) :
    (V m c main_v9 : S1x1024.Idx → EReal) (ix2 0 j) = a3 m c (ix2 1 j) := by
  unfold_abbrev_sides
  after_results
  exact gains_apply 1024 (a3 m c) slices_S2x1024_S1x1024_1_0 shapeCasts_S1x1024_S1024 shapeCasts_S1024_S1x1024 j

/-! ## The blocks -/

/-- Point `t`'s block of the hidden states. -/
theorem blk_rows (c : Dev nD) (t : Fin cfg0.N) (a : Fin 1024) (k : Fin 4096) (r : Fin 18432)
    (hr : r.val = t.val * 1024 + a.val) :
    (iblk (F := Ideal) m c 0 t : S1024x4096.Idx → EReal) (ix2 a k) = hid (a0 m c) (a1 m c) (sample r) (token r) k := by
  have hf := (idx_facts t).1
  rw [← V_rows m c r k]
  show (V m c main_v3 : S18432x4096.Idx → EReal) ((win0_0.rect t).emb (ix2 a k)) = _
  congr 1
  apply Shape.idx_ext₂
  · rw [win0_0.rect_emb_val, hf.1]; exact hr.symm
  · rw [win0_0.rect_emb_val, hf.2]; exact (Nat.zero_mul _).symm ▸ Nat.zero_add _

/-- The weights' block: row `b` is the column of the weight that output column `b` belongs to. -/
theorem blk_weights (c : Dev nD) (t : Fin cfg0.N) (b : Fin 1024) (k : Fin 4096) :
    (iblk (F := Ideal) m c 1 t : S1024x4096.Idx → EReal) (ix2 b k) = a2 m c (ix3 1 k (col b)) := by
  have hf := (idx_facts t).2.1
  rw [← V_weights m c ⟨30304 + (col b).val, by have := (col b).isLt; omega⟩ (col b) rfl k]
  show (V m c main_v6 : S60608x4096.Idx → EReal) ((win0_1.rect t).emb (ix2 b k)) = _
  congr 1
  apply Shape.idx_ext₂
  · rw [win0_1.rect_emb_val_off, hf.1]
    show 30304 + b.val = 30304 + (0 + b.val)
    omega
  · rw [win0_1.rect_emb_val_off, hf.2]
    show 0 + k.val = k.val
    omega

/-- The gains' block. -/
theorem blk_gains (c : Dev nD) (t : Fin cfg0.N) (b : Fin 1024) :
    (iblk (F := Ideal) m c 2 t : S1x1024.Idx → EReal) (ix2 0 b) = a3 m c (ix2 1 b) := by
  have hf := (idx_facts t).2.2.1
  rw [← V_gains m c b]
  show (V m c main_v9 : S1x1024.Idx → EReal) ((win0_2.rect t).emb (ix2 0 b)) = _
  congr 1
  apply Shape.idx_ext₂
  · rw [win0_2.rect_emb_val, hf.1]; rfl
  · rw [win0_2.rect_emb_val, hf.2]
    show 0 * 1024 + b.val = b.val
    omega

/-! ## The array after the run -/

/-- The output array: row `r` is the normalized projection of row `r`'s token. -/
def G (c : Dev nD) : S18432x1024.Idx → EReal :=
  fun i => rms 1024 0x44800000#32 0x358637BD#32 (fun j => proj (a0 m c) (a1 m c) (a2 m c) (sample (i 0)) (token (i 0)) (col j))
    (a3 m c (ix2 1 (i 1))) (i 1)

/-- What point `t` writes back is block `t` of that array. -/
theorem flushed_eq (c : Dev nD) (t : Fin cfg0.N) :
    (dats (F := Ideal) m 0 c).flushed 3 t = ((cfg0.win 3).blk t).view.read (Elt Ideal) (G m c) := by
  rw [Value.flushed3]
  funext y
  obtain ⟨a, b, rfl⟩ : ∃ (a : Fin 1024) (b : Fin 1024), y = ix2 a b := ⟨y 0, y 1, eq_ix2 y⟩
  have hf := (idx_facts t).2.2.2
  have ht : t.val < 18 := t.isLt
  show out0_3 (F := Ideal) (iblk m c 0 t) (iblk m c 1 t) (iblk m c 2 t) (ix2 a b) = G m c ((win0_3.rect t).emb (ix2 a b))
  rw [out_apply]
  have e : (win0_3.rect t).emb (ix2 a b) = ix2 (n0 := 18432) (n1 := 1024) ⟨t.val * 1024 + a.val, by omega⟩ b := by
    apply Shape.idx_ext₂
    · rw [win0_3.rect_emb_val, hf.1]; rfl
    · rw [win0_3.rect_emb_val, hf.2]
      show 0 * 1024 + b.val = b.val
      omega
  rw [e, blk_gains m c t b]
  show rms _ _ _ _ _ _ = rms _ _ _ _ _ _
  congr 1
  funext j
  unfold proj
  exact Finset.sum_congr rfl fun k _ => congrArg₂ (· * ·) (blk_rows m c t a k _ rfl) (blk_weights m c t j k)

/-- Every index of the output array lies in some point's block. -/
theorem cover (i : S18432x1024.Idx) : ∃ t : Fin cfg0.N, (cfg0.win 3).flush t = true ∧ i ∈ ((cfg0.win 3).blk t).view.set := by
  have h0 : (i 0 : Nat) < 18432 := (i 0).isLt
  have h1 : (i 1 : Nat) < 1024 := (i 1).isLt
  let t : Fin cfg0.N := ⟨(i 0).val / 1024, by show _ < 18; omega⟩
  have hf := (idx_facts t).2.2.2
  have e0 : t.val = (i 0).val / 1024 := rfl
  refine ⟨t, flush0_3 t, ?_⟩
  show i ∈ ((View.whole main_v10).slice (win0_3.rect t)).set
  rw [View.set_slice_whole, Rect.mem_set_unit]
  intro a
  match a with
  | ⟨0, _⟩ =>
    show win0_3.index t 0 * 1024 ≤ (i 0 : Nat) ∧ (i 0 : Nat) < win0_3.index t 0 * 1024 + 1024
    rw [hf.1, e0]; omega
  | ⟨1, _⟩ =>
    show win0_3.index t 1 * 1024 ≤ (i 1 : Nat) ∧ (i 1 : Nat) < win0_3.index t 1 * 1024 + 1024
    rw [hf.2]; omega

/-- After the run the output array is `G`. -/
theorem final (c : Dev nD) : (dats (F := Ideal) m 0 c).arrAt 3 cfg0.N = G m c :=
  (dats (F := Ideal) m 0 c).arrAt_eq_of_cover 3 (G m c) (fun t _ => flushed_eq m c t) cover

end Cert.Proof.Cq

end
-- ==== Proof.InProj.CqRef.lean ====
/-
  The value of the normalized query-latent projection's reference, and the two programs' agreement: the reference projects every token
  onto every column, keeps the query-latent piece, normalizes it and stacks the tokens by row.
-/
module

public import proofs.«01_k».proof.Proof.Gen.CqRefIdeal.Run
public import proofs.«01_k».proof.Proof.Gen.CqRefIdeal.Read
public import proofs.«01_k».proof.Proof.InProj.Cq
public import proofs.«01_k».proof.Defs

@[expose] public section

noncomputable section

namespace Cert.Proof.CqRef

open Cert.CqRefIdeal Cert.CqRefIdeal.Gen Cert.CqRefIdeal.Read Idealize.ShloMosaic Idealize.ShloMosaic.TcCoe Idealize.SL.Sem
open Idealize.ShloMosaic.ValueIdx
open Cert.Proof.Spec
open Cert.Proof.Cq (col)
open scoped BigOperators

variable (x0 : (⟨S8x256x4096, .f32⟩ : BufTy).Contents (Elt Ideal)) (x1 : (⟨S8x2048x4096, .f32⟩ : BufTy).Contents (Elt Ideal))
  (x2 : (⟨S2x4096x30304, .f32⟩ : BufTy).Contents (Elt Ideal))
  (x3 : (⟨S2x1024, .f32⟩ : BufTy).Contents (Elt Ideal))

/-- The whole projection at a token and a column. -/
theorem proj_apply (b : Fin 8) (n : Fin 2304) (c : Fin 30304) :
    val_main_v3 (F := Ideal) x0 x1 x2 (ix3 b n c) = proj x0 x1 x2 b n c := by
  rw [val_main_v3_apply]
  unfold proj
  refine Finset.sum_congr rfl fun k _ => congrArg₂ (· * ·) ?_ ?_
  · refine Eq.trans (congrArg _ ?_) (tokens_apply x0 x1 concatenates_S8x256x4096_S8x2048x4096_S8x2304x4096_d1 b n k)
    funext a
    match a with | ⟨0, _⟩ => rfl | ⟨1, _⟩ => rfl | ⟨2, _⟩ => rfl
  · rw [val_main_v2_apply, val_main_v1_apply]
    congr 1
    funext a
    have := k.isLt
    have := c.isLt
    match a with
    | ⟨0, _⟩ => rfl
    | ⟨1, _⟩ => exact Fin.ext (by show (k.val * 30304 + c.val) / 30304 % 4096 = k.val; omega)
    | ⟨2, _⟩ => exact Fin.ext (by show (k.val * 30304 + c.val) % 30304 = c.val; omega)

/-- The query-latent piece at a token: a run of neighbouring columns of the projection. -/
theorem piece_apply (b : Fin 8) (n : Fin 2304) (j : Fin 1024) :
    val_main_v4 (F := Ideal) x0 x1 x2 (ix3 b n j) = proj x0 x1 x2 b n (col j) := by
  refine Eq.trans ?_ (proj_apply x0 x1 x2 b n (col j))
  unfold val_main_v4
  exact cols_apply 1024 0 _ slices_S8x2304x30304_S8x2304x1024_0_0_0 b n j (col j) (by show _ = _; first | rfl | exact Nat.zero_add _)

/-- Layer 1's gains. -/
theorem gain_apply (j : Fin 1024) (i : S1x1x1024.Idx) (hi : i = ix3 0 0 j) : val_main_v33 (F := Ideal) x3 i = x3 (ix2 1 j) := by
  subst hi
  have := j.isLt
  rw [val_main_v33_apply, val_main_v22_apply, val_main_v21_apply]
  congr 1
  funext a
  match a with
  | ⟨0, _⟩ => rfl
  | ⟨1, _⟩ => exact Fin.ext (by show j.val % 1024 = j.val; omega)

/-- The normalized piece at a token. -/
theorem normed_apply (b : Fin 8) (n : Fin 2304) (j : Fin 1024) :
    val_main_v35 (F := Ideal) x0 x1 x2 x3 (ix3 b n j)
      = rms 1024 0x44800000#32 0x358637BD#32 (fun j => proj x0 x1 x2 b n (col j)) (x3 (ix2 1 j)) j := by
  have hv : val_main_v24 (F := Ideal) x0 x1 x2 (ix2 b n) = ∑ k : Fin 1024, proj x0 x1 x2 b n (col k) * proj x0 x1 x2 b n (col k) := by
    rw [val_main_v24_apply, val_main_cst_apply]
    refine (congrArg (· + _) Ideal.ofBits_zero_f32).trans ((zero_add _).trans ?_)
    refine Finset.sum_congr rfl fun k _ => ?_
    have e : idx_main_v24 (ix2 b n) k = ix3 b n k := by
      funext a; match a with | ⟨0, _⟩ => rfl | ⟨1, _⟩ => rfl | ⟨2, _⟩ => rfl
    rw [val_main_v23_apply, e, piece_apply]
    rfl
  have e31 : idx_main_v31 (ix3 b n j) = ix3 (n2 := 1) b n 0 := by
    funext a; match a with | ⟨0, _⟩ => rfl | ⟨1, _⟩ => rfl | ⟨2, _⟩ => rfl
  have e25 : idx_main_v25 (ix3 (n2 := 1) b n 0) = ix2 b n := by
    funext a; match a with | ⟨0, _⟩ => rfl | ⟨1, _⟩ => rfl
  rw [val_main_v35_apply, val_main_v34_apply, val_main_v32_apply, val_main_v31_apply, val_main_v30_apply, val_main_v29_apply,
    val_main_v28_apply, val_main_v27_apply, val_main_v26_apply, val_main_v25_apply, val_main_cst_0_apply, val_main_cst_1_apply,
    piece_apply, e31, e25, hv, gain_apply x3 j _ (by funext a; match a with | ⟨0, _⟩ => rfl | ⟨1, _⟩ => rfl | ⟨2, _⟩ => rfl)]
  rfl

/-- The reference's result at a row and a column. -/
theorem result_apply (r : Fin 18432) (j : Fin 1024) :
    val_main_v41 (F := Ideal) x0 x1 x2 x3 (ix2 r j)
      = rms 1024 0x44800000#32 0x358637BD#32 (fun j => proj x0 x1 x2 (sample r) (token r) (col j)) (x3 (ix2 1 j)) j := by
  refine Eq.trans ?_ (normed_apply x0 x1 x2 x3 _ _ _)
  exact stacked_apply 1024 (val_main_v35 (F := Ideal) x0 x1 x2 x3) slices_S8x2304x1024_S8x256x1024_0_0_0
    slices_S8x2304x1024_S8x2048x1024_0_256_0 shapeCasts_S8x256x1024_S2048x1024 shapeCasts_S8x2048x1024_S16384x1024
    concatenates_S2048x1024_S16384x1024_S18432x1024_d0 r j

/-- The reference's run leaves in its result what the kernel's leaves in its output array, from the same arguments. -/
theorem agree (m : (ℓ : Loc Cert.CqIdeal.nD Cert.CqIdeal.τ Cert.CqIdeal.sig) → Buf (Elt Ideal) ℓ) (c : Dev Cert.CqIdeal.nD) :
    val_main_v41 (F := Ideal) (Cq.a0 m c) (Cq.a1 m c) (Cq.a2 m c) (Cq.a3 m c) = Cq.G m c := by
  funext i
  obtain ⟨r, j, rfl⟩ : ∃ (r : Fin 18432) (j : Fin 1024), i = ix2 r j := ⟨i 0, i 1, eq_ix2 i⟩
  exact result_apply _ _ _ _ r j

end Cert.Proof.CqRef

end
-- ==== Proof.InProj.Ckv.lean ====
/-
  The value of the normalized key-value-latent projection kernel: after the run its output array holds, at row `r` and column `j`, entry `j` of
  the root-mean-square normalized projection of row `r`'s token onto the weight's columns `col 0 … col 511`.
-/
module

public import proofs.«01_k».proof.Proof.Gen.CkvIdeal.Value
public import proofs.«01_k».proof.Proof.InProj.Spec
public import Idealize.ShloMosaic.Lib.MatmulPlain

@[expose] public section

noncomputable section

namespace Cert.Proof.Ckv

open Cert.CkvIdeal Cert.CkvIdeal.Gen Idealize.ShloMosaic Idealize.ShloMosaic.TcCoe Idealize.SL.Sem
open Idealize.ShloMosaic.Pipeline (Dat)
open Idealize.ShloMosaic.ValueIdx
open Cert.Proof.Spec
open scoped BigOperators

variable (m : (ℓ : Loc nD τ sig) → Buf (Elt Ideal) ℓ)

/-- The weight's column that output column `j` is the projection onto: one run of neighbouring columns. -/
def col (j : Fin 512) : Fin 30304 := ⟨1024 + j.val, by have := j.isLt; omega⟩

/-! ## One block -/

/-- What the body leaves in its output block: entry (a, b) is entry `b` of the normalized row of inner products of row `a` of
    the first block with the rows of the second, with the gain's entry `b`. -/
theorem out_apply (x0 : Vec Ideal S1024x4096 .bf16) (x1 : Vec Ideal S512x4096 .bf16) (x2 : Vec Ideal S1x512 .f32) (a : Fin 1024) (b : Fin 512) :
    out0_3 (F := Ideal) x0 x1 x2 (ix2 a b)
      = rms 512 0x44000000#32 0x358637BD#32 (fun j => ∑ k : Fin 4096, x0 (ix2 a k) * x1 (ix2 j k)) (x2 (ix2 0 b)) b := by
  have hz : (![0, 0] : Fin S1024x4096.rank → Nat) = fun _ => 0 := funext fun a => by fin_cases a <;> rfl
  have hy : (![0, 0] : Fin S512x4096.rank → Nat) = fun _ => 0 := funext fun a => by fin_cases a <;> rfl
  have hg : (![0, 0] : Fin S1x512.rank → Nat) = fun _ => 0 := funext fun a => by fin_cases a <;> rfl
  have hz' : (![0, 0] : Fin S1024x512.rank → Nat) = fun _ => 0 := funext fun a => by fin_cases a <;> rfl
  unfold out0_3
  rw [View.canon_unit_zero hz', View.ld_unit_zero hz, View.ld_unit_zero hy, View.ld_unit_zero hg]
  unfold k0_pay1
  simp only [shapeCast_self]
  have hp : ∀ (a : Fin 1024) (j : Fin 512), (matmul (F := Ideal) (φ₁ := .bf16) (φ₂ := .bf16) dot_S1024x4096_S512x4096_S1024x512_1_1_0_0_n_n none x0 x1
      (constant S1024x512 .f32 0x00000000#32) : FVec Ideal S1024x512 .f32) (ix2 a j) = ∑ k : Fin 4096, x0 (ix2 a k) * x1 (ix2 j k) := by
    intro a j
    refine (Ideal.matmul_transposedRhs_apply (M := 1024) (K := 4096) (N := 512) (φ₁ := .bf16) (φ₂ := .bf16) none x0 x1 _ a j).trans ?_
    show Ideal.ofBits .f32 0x00000000#32 + _ = _
    rw [Ideal.ofBits_zero_f32, zero_add]
  exact rms_block 512 0x44000000#32 0x358637BD#32 _ x2 _ _ _ _ _ _ _ _ hp a b

/-! ## The index maps -/

/-- Where each window stands at each grid point: the rows move with the grid, the weight and the gain stay; the weight's window
    starts at an element row. -/
theorem idx_facts : ∀ t : Fin cfg0.N,
    (win0_0.index t 0 = t.val ∧ win0_0.index t 1 = 0) ∧
    (win0_1.index t 0 = 31328 ∧ win0_1.index t 1 = 0) ∧
    (win0_2.index t 0 = 0 ∧ win0_2.index t 1 = 0) ∧
    (win0_3.index t 0 = t.val ∧ win0_3.index t 1 = 0) := by
  decide +kernel

/-! ## The arrays the region finds -/

/-- The launched arguments on a device. -/
abbrev a0 (c : Dev nD) : (⟨3, ![8, 256, 4096]⟩ : Shape).Idx → EReal := m ((c : Thread nD τ).loc main_arg0)
abbrev a1 (c : Dev nD) : (⟨3, ![8, 2048, 4096]⟩ : Shape).Idx → EReal := m ((c : Thread nD τ).loc main_arg1)
abbrev a2 (c : Dev nD) : (⟨3, ![2, 4096, 30304]⟩ : Shape).Idx → EReal := m ((c : Thread nD τ).loc main_arg2)
abbrev a3 (c : Dev nD) : (⟨2, ![2, 512]⟩ : Shape).Idx → EReal := m ((c : Thread nD τ).loc main_arg3)

/-- The first operand array: the hidden states by row. -/
theorem V_rows (c : Dev nD) (r : Fin 18432) (k : Fin 4096) :
    (V m c main_v3 : S18432x4096.Idx → EReal) (ix2 r k) = hid (a0 m c) (a1 m c) (sample r) (token r) k := by
  unfold_abbrev_sides
  after_results
  exact rows_apply (a0 m c) (a1 m c) shapeCasts_S8x256x4096_S2048x4096 shapeCasts_S8x2048x4096_S16384x4096
    concatenates_S2048x4096_S16384x4096_S18432x4096_d0 r k

/-- The second operand array: the weight's columns as rows. -/
theorem V_weights (c : Dev nD) (q : Fin 60608) (j : Fin 30304) (hq : q.val = 30304 + j.val) (k : Fin 4096) :
    (V m c main_v6 : S60608x4096.Idx → EReal) (ix2 q k) = a2 m c (ix3 1 k j) := by
  unfold_abbrev_sides
  after_results
  exact weights_apply (a2 m c) _ _ q j hq k

/-- The third operand array: layer 1's gains. -/
theorem V_gains (c : Dev nD) (j : Fin 512) :
    (V m c main_v9 : S1x512.Idx → EReal) (ix2 0 j) = a3 m c (ix2 1 j) := by
  unfold_abbrev_sides
  after_results
  exact gains_apply 512 (a3 m c) slices_S2x512_S1x512_1_0 shapeCasts_S1x512_S512 shapeCasts_S512_S1x512 j

/-! ## The blocks -/

/-- Point `t`'s block of the hidden states. -/
theorem blk_rows (c : Dev nD) (t : Fin cfg0.N) (a : Fin 1024) (k : Fin 4096) (r : Fin 18432)
    (hr : r.val = t.val * 1024 + a.val) :
    (iblk (F := Ideal) m c 0 t : S1024x4096.Idx → EReal) (ix2 a k) = hid (a0 m c) (a1 m c) (sample r) (token r) k := by
  have hf := (idx_facts t).1
  rw [← V_rows m c r k]
  show (V m c main_v3 : S18432x4096.Idx → EReal) ((win0_0.rect t).emb (ix2 a k)) = _
  congr 1
  apply Shape.idx_ext₂
  · rw [win0_0.rect_emb_val, hf.1]; exact hr.symm
  · rw [win0_0.rect_emb_val, hf.2]; exact (Nat.zero_mul _).symm ▸ Nat.zero_add _

/-- The weights' block: row `b` is the column of the weight that output column `b` belongs to. -/
theorem blk_weights (c : Dev nD) (t : Fin cfg0.N) (b : Fin 512) (k : Fin 4096) :
    (iblk (F := Ideal) m c 1 t : S512x4096.Idx → EReal) (ix2 b k) = a2 m c (ix3 1 k (col b)) := by
  have hf := (idx_facts t).2.1
  rw [← V_weights m c ⟨30304 + (col b).val, by have := (col b).isLt; omega⟩ (col b) rfl k]
  show (V m c main_v6 : S60608x4096.Idx → EReal) ((win0_1.rect t).emb (ix2 b k)) = _
  congr 1
  apply Shape.idx_ext₂
  · rw [win0_1.rect_emb_val_off, hf.1]
    show 31328 + b.val = 30304 + (1024 + b.val)
    omega
  · rw [win0_1.rect_emb_val_off, hf.2]
    show 0 + k.val = k.val
    omega

/-- The gains' block. -/
theorem blk_gains (c : Dev nD) (t : Fin cfg0.N) (b : Fin 512) :
    (iblk (F := Ideal) m c 2 t : S1x512.Idx → EReal) (ix2 0 b) = a3 m c (ix2 1 b) := by
  have hf := (idx_facts t).2.2.1
  rw [← V_gains m c b]
  show (V m c main_v9 : S1x512.Idx → EReal) ((win0_2.rect t).emb (ix2 0 b)) = _
  congr 1
  apply Shape.idx_ext₂
  · rw [win0_2.rect_emb_val, hf.1]; rfl
  · rw [win0_2.rect_emb_val, hf.2]
    show 0 * 512 + b.val = b.val
    omega

/-! ## The array after the run -/

/-- The output array: row `r` is the normalized projection of row `r`'s token. -/
def G (c : Dev nD) : S18432x512.Idx → EReal :=
  fun i => rms 512 0x44000000#32 0x358637BD#32 (fun j => proj (a0 m c) (a1 m c) (a2 m c) (sample (i 0)) (token (i 0)) (col j))
    (a3 m c (ix2 1 (i 1))) (i 1)

/-- What point `t` writes back is block `t` of that array. -/
theorem flushed_eq (c : Dev nD) (t : Fin cfg0.N) :
    (dats (F := Ideal) m 0 c).flushed 3 t = ((cfg0.win 3).blk t).view.read (Elt Ideal) (G m c) := by
  rw [Value.flushed3]
  funext y
  obtain ⟨a, b, rfl⟩ : ∃ (a : Fin 1024) (b : Fin 512), y = ix2 a b := ⟨y 0, y 1, eq_ix2 y⟩
  have hf := (idx_facts t).2.2.2
  have ht : t.val < 18 := t.isLt
  show out0_3 (F := Ideal) (iblk m c 0 t) (iblk m c 1 t) (iblk m c 2 t) (ix2 a b) = G m c ((win0_3.rect t).emb (ix2 a b))
  rw [out_apply]
  have e : (win0_3.rect t).emb (ix2 a b) = ix2 (n0 := 18432) (n1 := 512) ⟨t.val * 1024 + a.val, by omega⟩ b := by
    apply Shape.idx_ext₂
    · rw [win0_3.rect_emb_val, hf.1]; rfl
    · rw [win0_3.rect_emb_val, hf.2]
      show 0 * 512 + b.val = b.val
      omega
  rw [e, blk_gains m c t b]
  show rms _ _ _ _ _ _ = rms _ _ _ _ _ _
  congr 1
  funext j
  unfold proj
  exact Finset.sum_congr rfl fun k _ => congrArg₂ (· * ·) (blk_rows m c t a k _ rfl) (blk_weights m c t j k)

/-- Every index of the output array lies in some point's block. -/
theorem cover (i : S18432x512.Idx) : ∃ t : Fin cfg0.N, (cfg0.win 3).flush t = true ∧ i ∈ ((cfg0.win 3).blk t).view.set := by
  have h0 : (i 0 : Nat) < 18432 := (i 0).isLt
  have h1 : (i 1 : Nat) < 512 := (i 1).isLt
  let t : Fin cfg0.N := ⟨(i 0).val / 1024, by show _ < 18; omega⟩
  have hf := (idx_facts t).2.2.2
  have e0 : t.val = (i 0).val / 1024 := rfl
  refine ⟨t, flush0_3 t, ?_⟩
  show i ∈ ((View.whole main_v10).slice (win0_3.rect t)).set
  rw [View.set_slice_whole, Rect.mem_set_unit]
  intro a
  match a with
  | ⟨0, _⟩ =>
    show win0_3.index t 0 * 1024 ≤ (i 0 : Nat) ∧ (i 0 : Nat) < win0_3.index t 0 * 1024 + 1024
    rw [hf.1, e0]; omega
  | ⟨1, _⟩ =>
    show win0_3.index t 1 * 512 ≤ (i 1 : Nat) ∧ (i 1 : Nat) < win0_3.index t 1 * 512 + 512
    rw [hf.2]; omega

/-- After the run the output array is `G`. -/
theorem final (c : Dev nD) : (dats (F := Ideal) m 0 c).arrAt 3 cfg0.N = G m c :=
  (dats (F := Ideal) m 0 c).arrAt_eq_of_cover 3 (G m c) (fun t _ => flushed_eq m c t) cover

end Cert.Proof.Ckv

end
-- ==== Proof.InProj.CkvRef.lean ====
/-
  The value of the normalized key-value-latent projection's reference, and the two programs' agreement: the reference projects every token
  onto every column, keeps the key-value-latent piece, normalizes it and stacks the tokens by row.
-/
module

public import proofs.«01_k».proof.Proof.Gen.CkvRefIdeal.Run
public import proofs.«01_k».proof.Proof.Gen.CkvRefIdeal.Read
public import proofs.«01_k».proof.Proof.InProj.Ckv
public import proofs.«01_k».proof.Defs

@[expose] public section

noncomputable section

namespace Cert.Proof.CkvRef

open Cert.CkvRefIdeal Cert.CkvRefIdeal.Gen Cert.CkvRefIdeal.Read Idealize.ShloMosaic Idealize.ShloMosaic.TcCoe Idealize.SL.Sem
open Idealize.ShloMosaic.ValueIdx
open Cert.Proof.Spec
open Cert.Proof.Ckv (col)
open scoped BigOperators

variable (x0 : (⟨S8x256x4096, .f32⟩ : BufTy).Contents (Elt Ideal)) (x1 : (⟨S8x2048x4096, .f32⟩ : BufTy).Contents (Elt Ideal))
  (x2 : (⟨S2x4096x30304, .f32⟩ : BufTy).Contents (Elt Ideal))
  (x3 : (⟨S2x512, .f32⟩ : BufTy).Contents (Elt Ideal))

/-- The whole projection at a token and a column. -/
theorem proj_apply (b : Fin 8) (n : Fin 2304) (c : Fin 30304) :
    val_main_v3 (F := Ideal) x0 x1 x2 (ix3 b n c) = proj x0 x1 x2 b n c := by
  rw [val_main_v3_apply]
  unfold proj
  refine Finset.sum_congr rfl fun k _ => congrArg₂ (· * ·) ?_ ?_
  · refine Eq.trans (congrArg _ ?_) (tokens_apply x0 x1 concatenates_S8x256x4096_S8x2048x4096_S8x2304x4096_d1 b n k)
    funext a
    match a with | ⟨0, _⟩ => rfl | ⟨1, _⟩ => rfl | ⟨2, _⟩ => rfl
  · rw [val_main_v2_apply, val_main_v1_apply]
    congr 1
    funext a
    have := k.isLt
    have := c.isLt
    match a with
    | ⟨0, _⟩ => rfl
    | ⟨1, _⟩ => exact Fin.ext (by show (k.val * 30304 + c.val) / 30304 % 4096 = k.val; omega)
    | ⟨2, _⟩ => exact Fin.ext (by show (k.val * 30304 + c.val) % 30304 = c.val; omega)

/-- The key-value-latent piece at a token: a run of neighbouring columns of the projection. -/
theorem piece_apply (b : Fin 8) (n : Fin 2304) (j : Fin 512) :
    val_main_v5 (F := Ideal) x0 x1 x2 (ix3 b n j) = proj x0 x1 x2 b n (col j) := by
  refine Eq.trans ?_ (proj_apply x0 x1 x2 b n (col j))
  unfold val_main_v5
  exact cols_apply 512 1024 _ slices_S8x2304x30304_S8x2304x512_0_0_1024 b n j (col j) (by show _ = _; first | rfl | exact Nat.zero_add _)

/-- Layer 1's gains. -/
theorem gain_apply (j : Fin 512) (i : S1x1x512.Idx) (hi : i = ix3 0 0 j) : val_main_v33 (F := Ideal) x3 i = x3 (ix2 1 j) := by
  subst hi
  have := j.isLt
  rw [val_main_v33_apply, val_main_v22_apply, val_main_v21_apply]
  congr 1
  funext a
  match a with
  | ⟨0, _⟩ => rfl
  | ⟨1, _⟩ => exact Fin.ext (by show j.val % 512 = j.val; omega)

/-- The normalized piece at a token. -/
theorem normed_apply (b : Fin 8) (n : Fin 2304) (j : Fin 512) :
    val_main_v35 (F := Ideal) x0 x1 x2 x3 (ix3 b n j)
      = rms 512 0x44000000#32 0x358637BD#32 (fun j => proj x0 x1 x2 b n (col j)) (x3 (ix2 1 j)) j := by
  have hv : val_main_v24 (F := Ideal) x0 x1 x2 (ix2 b n) = ∑ k : Fin 512, proj x0 x1 x2 b n (col k) * proj x0 x1 x2 b n (col k) := by
    rw [val_main_v24_apply, val_main_cst_apply]
    refine (congrArg (· + _) Ideal.ofBits_zero_f32).trans ((zero_add _).trans ?_)
    refine Finset.sum_congr rfl fun k _ => ?_
    have e : idx_main_v24 (ix2 b n) k = ix3 b n k := by
      funext a; match a with | ⟨0, _⟩ => rfl | ⟨1, _⟩ => rfl | ⟨2, _⟩ => rfl
    rw [val_main_v23_apply, e, piece_apply]
    rfl
  have e31 : idx_main_v31 (ix3 b n j) = ix3 (n2 := 1) b n 0 := by
    funext a; match a with | ⟨0, _⟩ => rfl | ⟨1, _⟩ => rfl | ⟨2, _⟩ => rfl
  have e25 : idx_main_v25 (ix3 (n2 := 1) b n 0) = ix2 b n := by
    funext a; match a with | ⟨0, _⟩ => rfl | ⟨1, _⟩ => rfl
  rw [val_main_v35_apply, val_main_v34_apply, val_main_v32_apply, val_main_v31_apply, val_main_v30_apply, val_main_v29_apply,
    val_main_v28_apply, val_main_v27_apply, val_main_v26_apply, val_main_v25_apply, val_main_cst_0_apply, val_main_cst_1_apply,
    piece_apply, e31, e25, hv, gain_apply x3 j _ (by funext a; match a with | ⟨0, _⟩ => rfl | ⟨1, _⟩ => rfl | ⟨2, _⟩ => rfl)]
  rfl

/-- The reference's result at a row and a column. -/
theorem result_apply (r : Fin 18432) (j : Fin 512) :
    val_main_v41 (F := Ideal) x0 x1 x2 x3 (ix2 r j)
      = rms 512 0x44000000#32 0x358637BD#32 (fun j => proj x0 x1 x2 (sample r) (token r) (col j)) (x3 (ix2 1 j)) j := by
  refine Eq.trans ?_ (normed_apply x0 x1 x2 x3 _ _ _)
  exact stacked_apply 512 (val_main_v35 (F := Ideal) x0 x1 x2 x3) slices_S8x2304x512_S8x256x512_0_0_0
    slices_S8x2304x512_S8x2048x512_0_256_0 shapeCasts_S8x256x512_S2048x512 shapeCasts_S8x2048x512_S16384x512
    concatenates_S2048x512_S16384x512_S18432x512_d0 r j

/-- The reference's run leaves in its result what the kernel's leaves in its output array, from the same arguments. -/
theorem agree (m : (ℓ : Loc Cert.CkvIdeal.nD Cert.CkvIdeal.τ Cert.CkvIdeal.sig) → Buf (Elt Ideal) ℓ) (c : Dev Cert.CkvIdeal.nD) :
    val_main_v41 (F := Ideal) (Ckv.a0 m c) (Ckv.a1 m c) (Ckv.a2 m c) (Ckv.a3 m c) = Ckv.G m c := by
  funext i
  obtain ⟨r, j, rfl⟩ : ∃ (r : Fin 18432) (j : Fin 512), i = ix2 r j := ⟨i 0, i 1, eq_ix2 i⟩
  exact result_apply _ _ _ _ r j

end Cert.Proof.CkvRef

end
-- ==== Proof.Mix.Spec.lean ====
/-
  What the calls after the token mixers share, with no program in it: the order of the latent rows, the gate function, a block
  product read at an index, and the layout operations around the calls read at an index.
-/
module

public import Idealize.ShloMosaic.PureOps.Ideal
public import Idealize.ShloMosaic.PureOps.Ideal.Laws
public import Idealize.ShloMosaic.Lib.Pipeline.Value
public import Idealize.ShloMosaic.Lib.ValueIdx
public import Idealize.ShloMosaic.Lib.MatmulPlain
public import proofs.«01_k».proof.Proof.InProj.Spec

@[expose] public section

noncomputable section

namespace Cert.Proof.Mix

open Idealize.ShloMosaic Idealize.ShloMosaic.ValueIdx
open Cert.Proof.Spec
open scoped BigOperators

/-- The sample a latent row belongs to: 2048 rows per sample. -/
def smp (r : Fin 16384) : Fin 8 := ⟨r.val / 2048, by have := r.isLt; omega⟩

/-- The latent token of its sample a latent row is. -/
def tok (r : Fin 16384) : Fin 2048 := ⟨r.val % 2048, by omega⟩

/-- The token of its sample a latent row is, counted from the context's first token. -/
def tokAll (r : Fin 16384) : Fin 2304 := ⟨256 + r.val % 2048, by omega⟩

/-- The gate function `1 / (1 + e^(-z))`. -/
def sig (z : EReal) : EReal :=
  Ideal.div (Ideal.ofBits .f32 0x3F800000#32) (Ideal.ofBits .f32 0x3F800000#32 + Ideal.exp (-z))

/-- The merged branches at a latent row and a column: over the three branches, the gate at the row's token times the product of
    the branch's row with the column of the branch's weight of layer 1. -/
def merged (o0 o1 o2 : (⟨3, ![8, 2048, 2048]⟩ : Shape).Idx → EReal) (z0 z1 z2 : (⟨3, ![8, 2304, 4096]⟩ : Shape).Idx → EReal)
    (w : (⟨4, ![2, 3, 2048, 4096]⟩ : Shape).Idx → EReal) (r : Fin 16384) (j : Fin 4096) : EReal :=
  sig (z0 (ix3 (smp r) (tokAll r) j)) * (∑ k : Fin 2048, o0 (ix3 (smp r) (tok r) k) * w (ix4 1 0 k j))
    + sig (z1 (ix3 (smp r) (tokAll r) j)) * (∑ k : Fin 2048, o1 (ix3 (smp r) (tok r) k) * w (ix4 1 1 k j))
    + sig (z2 (ix3 (smp r) (tokAll r) j)) * (∑ k : Fin 2048, o2 (ix3 (smp r) (tok r) k) * w (ix4 1 2 k j))

/-- Latent row `r` is row `2048 + r` of the stacked rows: its sample there. -/
theorem sample_lat (q : Fin 18432) (r : Fin 16384) (hq : q.val = 2048 + r.val) : sample q = smp r := by
  have := r.isLt
  apply Fin.ext
  show (if q.val < 2048 then q.val / 256 else (q.val - 2048) / 2048) = r.val / 2048
  rw [if_neg (by omega), hq, show 2048 + r.val - 2048 = r.val by omega]

/-- Its token there. -/
theorem token_lat (q : Fin 18432) (r : Fin 16384) (hq : q.val = 2048 + r.val) : token q = tokAll r := by
  have := r.isLt
  apply Fin.ext
  show (if q.val < 2048 then q.val % 256 else 256 + (q.val - 2048) % 2048) = 256 + r.val % 2048
  rw [if_neg (by omega), hq, show 2048 + r.val - 2048 = r.val by omega]

/-- A latent array flattened to rows, read at a row. -/
theorem flat_apply {α : Type} (w : Nat) (x : (⟨3, ![8, 2048, w]⟩ : Shape).Idx → α)
    (h : (⟨3, ![8, 2048, w]⟩ : Shape).ShapeCasts ⟨2, ![16384, w]⟩) (r : Fin 16384) (k : Fin w) :
    shapeCast (⟨2, ![16384, w]⟩ : Shape) x h (ix2 r k) = x (ix3 (smp r) (tok r) k) := by
  refine shapeCast_apply x h _ _ ?_
  rw [Shape.rowMajor_val_three, Shape.rowMajor_val_two]
  show (r.val / 2048 * 2048 + r.val % 2048) * w + k.val = r.val * w + k.val
  rw [show r.val / 2048 * 2048 + r.val % 2048 = r.val by omega]

/-- A product of two blocks onto zeros, read at an index. -/
theorem product_apply {M K N : ℕ} {φ₁ φ₂ : FTy} (x : FVec Ideal ⟨2, ![M, K]⟩ φ₁) (y : FVec Ideal ⟨2, ![K, N]⟩ φ₂) (a : Fin M) (b : Fin N) :
    (FloatOps.matmul (DotDims.plain M K N) none x y (constant ⟨2, ![M, N]⟩ .f32 0x00000000#32) : FVec Ideal ⟨2, ![M, N]⟩ .f32) (ix2 a b)
      = ∑ k : Fin K, x (ix2 a k) * y (ix2 k b) := by
  refine (Ideal.matmul_plain_apply none x y _ a b).trans ?_
  show Ideal.ofBits .f32 0x00000000#32 + _ = _
  rw [Ideal.ofBits_zero_f32, zero_add]

/-- The gate as a block computes it: a negation as a difference from zero, an exponential, and the quotient. -/
theorem gate_eq (z : EReal) :
    Ideal.div (Ideal.ofBits .f32 0x3F800000#32) (Ideal.ofBits .f32 0x3F800000#32 + Ideal.exp (Ideal.ofBits .f32 0x00000000#32 - z)) = sig z := by
  rw [Ideal.ofBits_zero_f32, zero_sub]
  rfl

/-- The modulation vectors of the eight samples, then of the context, cut in six pieces each: piece `s` of sample `b` is row
    `6 b + s`. -/
theorem modv_apply (x : (⟨3, ![8, 1, 24576]⟩ : Shape).Idx → EReal) (y : (⟨3, ![1, 1, 24576]⟩ : Shape).Idx → EReal)
    (h0 : (⟨3, ![8, 1, 24576]⟩ : Shape).ShapeCasts ⟨2, ![8, 24576]⟩)
    (h1 : (⟨3, ![1, 1, 24576]⟩ : Shape).ShapeCasts ⟨2, ![1, 24576]⟩)
    (hc : Shape.Concatenates [⟨2, ![8, 24576]⟩, ⟨2, ![1, 24576]⟩] ⟨2, ![9, 24576]⟩ 0)
    (h2 : (⟨2, ![9, 24576]⟩ : Shape).ShapeCasts ⟨3, ![54, 1, 4096]⟩)
    (q : Fin 54) (b : Fin 8) (s : Fin 6) (hq : q.val = 6 * b.val + s.val) (j : Fin 4096) (c : Fin 24576) (hc' : c.val = 4096 * s.val + j.val) :
    shapeCast (⟨3, ![54, 1, 4096]⟩ : Shape)
        (concatenate (⟨2, ![9, 24576]⟩ : Shape) 0 [⟨⟨2, ![8, 24576]⟩, shapeCast _ x h0⟩, ⟨⟨2, ![1, 24576]⟩, shapeCast _ y h1⟩] hc) h2 (ix3 q 0 j)
      = x (ix3 b 0 c) := by
  have hb := b.isLt
  have hj := j.isLt
  rw [shapeCast_apply _ h2 _ (ix2 (n0 := 9) ⟨b.val, by omega⟩ c) (by
      rw [Shape.rowMajor_val_three, Shape.rowMajor_val_two]
      show b.val * 24576 + c.val = (q.val * 1 + 0) * 4096 + j.val
      omega),
    concatenate_pair_apply_left (t := ⟨2, ![9, 24576]⟩) (s₁ := ⟨2, ![8, 24576]⟩) (s₂ := ⟨2, ![1, 24576]⟩) (0 : Fin 2) _ _ hc _ rfl (ix2 (n0 := 8) b c)
      (fun a => by match a with | ⟨0, _⟩ => rfl | ⟨1, _⟩ => rfl)]
  refine shapeCast_apply x h0 _ _ ?_
  rw [Shape.rowMajor_val_three, Shape.rowMajor_val_two]
  show (b.val * 1 + 0) * 24576 + c.val = b.val * 24576 + c.val
  omega

/-- The hidden state at a latent row. -/
theorem hid_lat (x0 : (⟨3, ![8, 256, 4096]⟩ : Shape).Idx → EReal) (x1 : (⟨3, ![8, 2048, 4096]⟩ : Shape).Idx → EReal) (r : Fin 16384) (k : Fin 4096) :
    hid x0 x1 (smp r) (tokAll r) k = x1 (ix3 (smp r) (tok r) k) := by
  unfold hid
  rw [dif_neg (by show ¬ 256 + r.val % 2048 < 256; omega)]
  congr 1
  funext a
  match a with
  | ⟨0, _⟩ => rfl
  | ⟨1, _⟩ => exact Fin.ext (by show 256 + r.val % 2048 - 256 = r.val % 2048; omega)
  | ⟨2, _⟩ => rfl

/-- A row of gates, cast from a plane and repeated over a block's rows, read at an index. -/
theorem gate_row_apply {M N : Nat} (x : (⟨3, ![1, 1, N]⟩ : Shape).Idx → EReal) (hs : (⟨3, ![1, 1, N]⟩ : Shape).ShapeCasts ⟨2, ![1, N]⟩)
    (hb : (⟨2, ![1, N]⟩ : Shape).Broadcasts ⟨2, ![M, N]⟩) (a : Fin M) (b : Fin N) :
    broadcastTo (⟨2, ![M, N]⟩ : Shape) (shapeCast (⟨2, ![1, N]⟩ : Shape) x hs) hb (ix2 a b) = x (ix3 0 0 b) := by
  rw [broadcastTo_apply _ hb (ix2 a b) (ix2 0 b) (fun c => by
      match c with
      | ⟨0, _⟩ => rfl
      | ⟨1, _⟩ =>
        have := b.isLt
        show b.val = if N = 1 then 0 else b.val
        split <;> omega)]
  refine shapeCast_apply x hs _ _ ?_
  rw [Shape.rowMajor_val_three, Shape.rowMajor_val_two]
  show (0 * 1 + 0) * N + b.val = 0 * N + b.val
  omega

/-- A column of a block's weights, repeated over the block's columns, read at an index. -/
theorem weight_col_apply {M N K : Nat} (x : (⟨2, ![M, K]⟩ : Shape).Idx → EReal) (q : Fin K) (hs : (⟨2, ![M, K]⟩ : Shape).Slices ![0, q.val] ⟨2, ![M, 1]⟩)
    (hb : (⟨2, ![M, 1]⟩ : Shape).Broadcasts ⟨2, ![M, N]⟩) (a : Fin M) (b : Fin N) :
    broadcastTo (⟨2, ![M, N]⟩ : Shape) (extractStridedSlice (⟨2, ![M, 1]⟩ : Shape) ![0, q.val] x hs) hb (ix2 a b) = x (ix2 a q) := by
  rw [broadcastTo_apply _ hb (ix2 a b) (ix2 a 0) (fun c => by
      match c with
      | ⟨0, _⟩ =>
        have := a.isLt
        show a.val = if M = 1 then 0 else a.val
        split <;> omega
      | ⟨1, _⟩ => rfl)]
  refine extractStridedSlice_apply _ x hs _ _ (fun c => ?_)
  match c with
  | ⟨0, _⟩ => show a.val = 0 + a.val; omega
  | ⟨1, _⟩ => show q.val = q.val + 0; omega

/-- The gated residual of the output projection at a latent row and a column: the hidden state plus the sample's third
    modulation vector times the product of the merged row with the weight of layer 1. -/
def resid (mm x : (⟨3, ![8, 2048, 4096]⟩ : Shape).Idx → EReal) (mv : (⟨3, ![8, 1, 24576]⟩ : Shape).Idx → EReal)
    (w : (⟨3, ![2, 4096, 4096]⟩ : Shape).Idx → EReal) (r : Fin 16384) (j : Fin 4096) : EReal :=
  x (ix3 (smp r) (tok r) j)
    + mv (ix3 (smp r) 0 ⟨8192 + j.val, by have := j.isLt; omega⟩) * ∑ k : Fin 4096, mm (ix3 (smp r) (tok r) k) * w (ix3 1 k j)

/-- The keys and values of layer 1 at a stacked row: the product of the row's latent with the weight's column of head
    `j / 256`, entry `j % 256`. -/
def keyval (x : (⟨3, ![8, 2304, 512]⟩ : Shape).Idx → EReal) (w : (⟨4, ![2, 512, 16, 256]⟩ : Shape).Idx → EReal) (r : Fin 18432) (j : Fin 4096) : EReal :=
  ∑ k : Fin 512, x (ix3 (sample r) (token r) k)
    * w (ix4 1 k ⟨j.val / 256, by have := j.isLt; omega⟩ ⟨j.val % 256, by omega⟩)

/-- The residual with the experts' two weighted outputs at a latent row and a column. -/
def combined (x : (⟨3, ![8, 2048, 4096]⟩ : Shape).Idx → EReal) (y : (⟨3, ![16384, 2, 4096]⟩ : Shape).Idx → EReal)
    (wt : (⟨2, ![16384, 2]⟩ : Shape).Idx → EReal) (mv : (⟨3, ![8, 1, 24576]⟩ : Shape).Idx → EReal) (r : Fin 16384) (j : Fin 4096) : EReal :=
  x (ix3 (smp r) (tok r) j)
    + mv (ix3 (smp r) 0 ⟨20480 + j.val, by have := j.isLt; omega⟩) * (y (ix3 r 0 j) * wt (ix2 r 0) + y (ix3 r 1 j) * wt (ix2 r 1))

/-- The normalization of a block's rows with no rounding after it, read at an index: `P` is the block, `g` the row of gains. -/
theorem rms_rows (R n : Nat) (count eps : BitVec 32) (P : FVec Ideal (⟨2, ![R, n]⟩ : Shape) .f32) (g : FVec Ideal (⟨2, ![1, n]⟩ : Shape) .f32)
    (hr : (⟨2, ![R, n]⟩ : Shape).Reduces [1] ⟨1, ![R]⟩) (hφ : FKind.Formats .f32) (ha : (0x00000000#32 : BitVec 32) = FKind.add.neutral .f32 hφ)
    (hs : (⟨1, ![R]⟩ : Shape).ShapeCasts ⟨2, ![R, 1]⟩) (hb : (⟨2, ![R, 1]⟩ : Shape).Broadcasts ⟨2, ![R, n]⟩)
    (hg : (⟨2, ![1, n]⟩ : Shape).Broadcasts ⟨2, ![R, n]⟩)
    (p : Fin R → Fin n → EReal) (hp : ∀ a j, P (ix2 a j) = p a j) (a : Fin R) (b : Fin n) :
    (mulf (F := Ideal) (mulf P (broadcastTo ⟨2, ![R, n]⟩
          (rsqrt (addf (divf (shapeCast ⟨2, ![R, 1]⟩ (multiReduction .add [1] ⟨1, ![R]⟩ (mulf P P) 0x00000000#32 hr hφ ha) hs)
              (broadcast ⟨2, ![R, 1]⟩ (Scalar.ofBits .f32 count))) (broadcast ⟨2, ![R, 1]⟩ (Scalar.ofBits .f32 eps)))) hb))
        (broadcastTo ⟨2, ![R, n]⟩ g hg) : FVec Ideal (⟨2, ![R, n]⟩ : Shape) .f32) (ix2 a b)
      = rms n count eps (p a) (g (ix2 0 b)) b := by
  show P (ix2 a b) * broadcastTo ⟨2, ![R, n]⟩ _ hb (ix2 a b) * broadcastTo ⟨2, ![R, n]⟩ g hg (ix2 a b) = _
  rw [broadcastTo_apply g hg (ix2 a b) (ix2 0 b) (fun x => by
      match x with
      | ⟨0, _⟩ => rfl
      | ⟨1, _⟩ =>
        have := b.isLt
        show b.val = if n = 1 then 0 else b.val
        split <;> omega),
    broadcastTo_apply _ hb (ix2 a b) (ix2 a 0) (fun x => by
      match x with
      | ⟨0, _⟩ =>
        have := a.isLt
        show a.val = if R = 1 then 0 else a.val
        split <;> omega
      | ⟨1, _⟩ => rfl), hp]
  unfold rms
  refine congrArg (fun z => p a b * Ideal.rsqrt (Ideal.div z (Ideal.ofBits .f32 count) + Ideal.ofBits .f32 eps) * g (ix2 0 b)) ?_
  rw [shapeCast_apply _ hs (ix2 a 0) (ix1 a) (by
    rw [Shape.rowMajor_val_one, Shape.rowMajor_val_two]
    show a.val = a.val * 1 + 0
    omega), Ideal.multiReduction_add_single]
  refine Finset.sum_congr rfl fun k _ => ?_
  have e : hr.lift (ix1 a) k = ix2 a k := by
    funext x; match x with | ⟨0, _⟩ => rfl | ⟨1, _⟩ => rfl
  rw [e]
  exact congrArg₂ (· * ·) (hp a k) (hp a k)

/-- The merged branches of layer 0 at a stacked row and a column: over the three branches, the gate at the row's token times the
    product of the branch's row with the column of its weight. -/
def merged0 (o0 o1 o2 : (⟨3, ![8, 2304, 2048]⟩ : Shape).Idx → EReal) (z0 z1 z2 : (⟨3, ![8, 2304, 4096]⟩ : Shape).Idx → EReal)
    (w : (⟨4, ![2, 3, 2048, 4096]⟩ : Shape).Idx → EReal) (r : Fin 18432) (j : Fin 4096) : EReal :=
  sig (z0 (ix3 (sample r) (token r) j)) * (∑ k : Fin 2048, o0 (ix3 (sample r) (token r) k) * w (ix4 0 0 k j))
    + sig (z1 (ix3 (sample r) (token r) j)) * (∑ k : Fin 2048, o1 (ix3 (sample r) (token r) k) * w (ix4 0 1 k j))
    + sig (z2 (ix3 (sample r) (token r) j)) * (∑ k : Fin 2048, o2 (ix3 (sample r) (token r) k) * w (ix4 0 2 k j))

/-- The gated residual of layer 0's output projection at a token and a column: the hidden state plus the third modulation vector of
    the token's sample, or of the context, times the product of the merged row with the weight of layer 0. -/
def resid0 (mm : (⟨3, ![8, 2304, 4096]⟩ : Shape).Idx → EReal) (xc : (⟨3, ![8, 256, 4096]⟩ : Shape).Idx → EReal)
    (xl : (⟨3, ![8, 2048, 4096]⟩ : Shape).Idx → EReal) (ml : (⟨3, ![8, 1, 24576]⟩ : Shape).Idx → EReal) (mc : (⟨3, ![1, 1, 24576]⟩ : Shape).Idx → EReal)
    (w : (⟨3, ![2, 4096, 4096]⟩ : Shape).Idx → EReal) (b : Fin 8) (n : Fin 2304) (j : Fin 4096) : EReal :=
  let p : Fin 24576 := ⟨8192 + j.val, by have := j.isLt; omega⟩
  hid xc xl b n j + (if n.val < 256 then mc (ix3 0 0 p) else ml (ix3 b 0 p)) * ∑ k : Fin 4096, mm (ix3 b n k) * w (ix3 0 k j)

/-- A context row's token comes before the context's end, and the hidden state there is the context's row. -/
theorem hid_ctx (x0 : (⟨3, ![8, 256, 4096]⟩ : Shape).Idx → EReal) (x1 : (⟨3, ![8, 2048, 4096]⟩ : Shape).Idx → EReal) (q : Fin 18432) (r : Fin 2048)
    (hq : q.val = r.val) (k : Fin 4096) :
    hid x0 x1 (sample q) (token q) k = x0 (ix3 ⟨r.val / 256, by have := r.isLt; omega⟩ ⟨r.val % 256, by omega⟩ k) := by
  have hr := r.isLt
  have h : q.val < 2048 := by omega
  have ht : (token q).val = q.val % 256 := if_pos h
  have hs : (sample q).val = q.val / 256 := if_pos h
  unfold hid
  rw [dif_pos (by rw [ht]; omega)]
  congr 1
  exact congrArg₂ (fun a b => ix3 a b k) (Fin.ext (hs.trans (by rw [hq]))) (Fin.ext (ht.trans (by rw [hq])))

/-- The context array flattened to rows, read at a row. -/
theorem flat_ctx_apply {α : Type} (w : Nat) (x : (⟨3, ![8, 256, w]⟩ : Shape).Idx → α)
    (h : (⟨3, ![8, 256, w]⟩ : Shape).ShapeCasts ⟨2, ![2048, w]⟩) (r : Fin 2048) (k : Fin w) :
    shapeCast (⟨2, ![2048, w]⟩ : Shape) x h (ix2 r k) = x (ix3 ⟨r.val / 256, by have := r.isLt; omega⟩ ⟨r.val % 256, by omega⟩ k) := by
  refine shapeCast_apply x h _ _ ?_
  rw [Shape.rowMajor_val_three, Shape.rowMajor_val_two]
  show (r.val / 256 * 256 + r.val % 256) * w + k.val = r.val * w + k.val
  rw [show r.val / 256 * 256 + r.val % 256 = r.val by omega]

/-- The modulation vectors cut in six pieces each, read in the context's: piece `s` is row `48 + s`. -/
theorem modv_ctx_apply (x : (⟨3, ![8, 1, 24576]⟩ : Shape).Idx → EReal) (y : (⟨3, ![1, 1, 24576]⟩ : Shape).Idx → EReal)
    (h0 : (⟨3, ![8, 1, 24576]⟩ : Shape).ShapeCasts ⟨2, ![8, 24576]⟩)
    (h1 : (⟨3, ![1, 1, 24576]⟩ : Shape).ShapeCasts ⟨2, ![1, 24576]⟩)
    (hc : Shape.Concatenates [⟨2, ![8, 24576]⟩, ⟨2, ![1, 24576]⟩] ⟨2, ![9, 24576]⟩ 0)
    (h2 : (⟨2, ![9, 24576]⟩ : Shape).ShapeCasts ⟨3, ![54, 1, 4096]⟩)
    (q : Fin 54) (s : Fin 6) (hq : q.val = 48 + s.val) (j : Fin 4096) (c : Fin 24576) (hc' : c.val = 4096 * s.val + j.val) :
    shapeCast (⟨3, ![54, 1, 4096]⟩ : Shape)
        (concatenate (⟨2, ![9, 24576]⟩ : Shape) 0 [⟨⟨2, ![8, 24576]⟩, shapeCast _ x h0⟩, ⟨⟨2, ![1, 24576]⟩, shapeCast _ y h1⟩] hc) h2 (ix3 q 0 j)
      = y (ix3 0 0 c) := by
  have hj := j.isLt
  rw [shapeCast_apply _ h2 _ (ix2 (n0 := 9) 8 c) (by
      rw [Shape.rowMajor_val_three, Shape.rowMajor_val_two]
      show 8 * 24576 + c.val = (q.val * 1 + 0) * 4096 + j.val
      omega),
    concatenate_pair_apply_right (t := ⟨2, ![9, 24576]⟩) (s₁ := ⟨2, ![8, 24576]⟩) (s₂ := ⟨2, ![1, 24576]⟩) (0 : Fin 2) _ _ hc _ rfl rfl (ix2 (n0 := 1) 0 c)
      (fun a ha => by match a with | ⟨0, _⟩ => exact absurd rfl ha | ⟨1, _⟩ => rfl) rfl]
  refine shapeCast_apply y h1 _ _ ?_
  rw [Shape.rowMajor_val_three, Shape.rowMajor_val_two]
  show (0 * 1 + 0) * 24576 + c.val = 0 * 24576 + c.val
  omega

end Cert.Proof.Mix

end
-- ==== Proof.Mix.Merge.lean ====
/-
  The value of the branch-merge kernel: after the run its output array holds, at latent row `r` and column `j`, the sum over the three
  branches of the gate of that branch at row `r` times the product of the branch's row `r` with column `j` of its weight.
-/
module

public import proofs.«01_k».proof.Proof.Gen.MergeIdeal.Value
public import proofs.«01_k».proof.Proof.Mix.Spec

@[expose] public section

noncomputable section

namespace Cert.Proof.Merge

open Cert.MergeIdeal Cert.MergeIdeal.Gen Idealize.ShloMosaic Idealize.ShloMosaic.TcCoe Idealize.SL.Sem
open Idealize.ShloMosaic.Pipeline (Dat)
open Idealize.ShloMosaic.ValueIdx
open Cert.Proof.Spec Cert.Proof.Mix
open scoped BigOperators

variable (m : (ℓ : Loc nD τ sig) → Buf (Elt Ideal) ℓ)

/-! ## One block -/

/-- A plane of the weight's block, read as a matrix. -/
theorem plane_apply (x : Vec Ideal S3x2048x512 .bf16) (s : Fin 3) (off : Fin 3 → Nat) (hoff : off = ![s.val, 0, 0])
    (hin : ∀ i, off i + S1x2048x512.size i ≤ S3x2048x512.size i) (hs : S1x2048x512.ShapeCasts S2048x512) (k : Fin 2048) (b : Fin 512) :
    shapeCast S2048x512 (View.ld x (Rect.unit (s := S3x2048x512) off S1x2048x512.size hin)) hs (ix2 k b) = x (ix3 s k b) := by
  subst hoff
  rw [shapeCast_apply _ hs (ix2 k b) (ix3 (0 : Fin 1) k b) (by
    rw [Shape.rowMajor_val_three, Shape.rowMajor_val_two]
    show (0 * 2048 + k.val) * 512 + b.val = k.val * 512 + b.val
    omega)]
  show x ((Rect.unit (s := S3x2048x512) ![s.val, 0, 0] S1x2048x512.size hin).emb (ix3 0 k b)) = _
  congr 1
  funext a
  apply Fin.ext
  rw [Rect.emb_apply]
  match a with
  | ⟨0, _⟩ => show s.val + 1 * 0 = s.val; omega
  | ⟨1, _⟩ => show 0 + 1 * k.val = k.val; omega
  | ⟨2, _⟩ => show 0 + 1 * b.val = b.val; omega

/-- What the body leaves in its output block. -/
theorem out_apply (x0 x1 x2 : Vec Ideal S1024x2048 .bf16) (x3 : Vec Ideal S3x2048x512 .bf16) (x4 x5 x6 : Vec Ideal S1024x512 .bf16)
    (a : Fin 1024) (b : Fin 512) :
    out0_7 (F := Ideal) x0 x1 x2 x3 x4 x5 x6 (ix2 a b)
      = sig (x4 (ix2 a b)) * (∑ k : Fin 2048, x0 (ix2 a k) * x3 (ix3 0 k b))
        + sig (x5 (ix2 a b)) * (∑ k : Fin 2048, x1 (ix2 a k) * x3 (ix3 1 k b))
        + sig (x6 (ix2 a b)) * (∑ k : Fin 2048, x2 (ix2 a k) * x3 (ix3 2 k b)) := by
  have hz : (![0, 0] : Fin S1024x512.rank → Nat) = fun _ => 0 := funext fun a => by fin_cases a <;> rfl
  have hy : (![0, 0] : Fin S1024x2048.rank → Nat) = fun _ => 0 := funext fun a => by fin_cases a <;> rfl
  have hm : ∀ (x : Vec Ideal S1024x2048 .bf16) (s : Fin 3) (off : Fin 3 → Nat) (hoff : off = ![s.val, 0, 0])
      (hin : ∀ i, off i + S1x2048x512.size i ≤ S3x2048x512.size i),
      (matmul (F := Ideal) (φ₁ := .bf16) (φ₂ := .bf16) dot_S1024x2048_S2048x512_S1024x512_1_0_0_1_n_n none x
        (shapeCast S2048x512 (View.ld x3 (Rect.unit (s := S3x2048x512) off S1x2048x512.size hin)) shapeCasts_S1x2048x512_S2048x512 : FVec Ideal S2048x512 .bf16)
        (constant S1024x512 .f32 0x00000000#32) : FVec Ideal S1024x512 .f32) (ix2 a b) = ∑ k : Fin 2048, x (ix2 a k) * x3 (ix3 s k b) := by
    intro x s off hoff hin
    refine (product_apply (M := 1024) (K := 2048) (N := 512) (φ₁ := .bf16) (φ₂ := .bf16) x _ a b).trans ?_
    exact Finset.sum_congr rfl fun k _ => congrArg (x (ix2 a k) * ·) (plane_apply x3 s off hoff hin _ k b)
  unfold out0_7
  rw [View.canon_unit_zero hz]
  simp only [View.ld_unit_zero (S := S1024x512) hz, View.ld_unit_zero (S := S1024x2048) hy]
  unfold k0_pay1 k0_pay2
  simp only [shapeCast_self]
  refine congrArg₂ (· + ·) (congrArg₂ (· + ·) (congrArg₂ (· * ·) (gate_eq _) (hm x0 0 _ rfl _)) (congrArg₂ (· * ·) (gate_eq _) (hm x1 1 _ rfl _)))
    (congrArg₂ (· * ·) (gate_eq _) (hm x2 2 _ rfl _))

/-! ## The index maps -/

/-- Where each window stands at each grid point: the rows move with the first coordinate, the columns with the second; the
    gates' windows start at the latent rows and at each gate's columns. -/
theorem idx_facts : ∀ t : Fin cfg0.N,
    (win0_0.index t 0 = t.val / 8 ∧ win0_0.index t 1 = 0) ∧
    (win0_1.index t 0 = t.val / 8 ∧ win0_1.index t 1 = 0) ∧
    (win0_2.index t 0 = t.val / 8 ∧ win0_2.index t 1 = 0) ∧
    (win0_3.index t 0 = 1 ∧ win0_3.index t 1 = 0 ∧ win0_3.index t 2 = t.val % 8) ∧
    (win0_4.index t 0 = 2 + t.val / 8 ∧ win0_4.index t 1 = 24 + t.val % 8) ∧
    (win0_5.index t 0 = 2 + t.val / 8 ∧ win0_5.index t 1 = 32 + t.val % 8) ∧
    (win0_6.index t 0 = 2 + t.val / 8 ∧ win0_6.index t 1 = 40 + t.val % 8) ∧
    (win0_7.index t 0 = t.val / 8 ∧ win0_7.index t 1 = t.val % 8) := by
  decide +kernel

/-! ## The arrays the region finds -/

/-- The launched arguments on a device. -/
abbrev a0 (c : Dev nD) : (⟨3, ![8, 2048, 2048]⟩ : Shape).Idx → EReal := m ((c : Thread nD τ).loc main_arg0)
abbrev a1 (c : Dev nD) : (⟨3, ![8, 2048, 2048]⟩ : Shape).Idx → EReal := m ((c : Thread nD τ).loc main_arg1)
abbrev a2 (c : Dev nD) : (⟨3, ![8, 2048, 2048]⟩ : Shape).Idx → EReal := m ((c : Thread nD τ).loc main_arg2)
abbrev a3 (c : Dev nD) : (⟨3, ![8, 2304, 4096]⟩ : Shape).Idx → EReal := m ((c : Thread nD τ).loc main_arg3)
abbrev a4 (c : Dev nD) : (⟨3, ![8, 2304, 4096]⟩ : Shape).Idx → EReal := m ((c : Thread nD τ).loc main_arg4)
abbrev a5 (c : Dev nD) : (⟨3, ![8, 2304, 4096]⟩ : Shape).Idx → EReal := m ((c : Thread nD τ).loc main_arg5)
abbrev a6 (c : Dev nD) : (⟨4, ![2, 3, 2048, 4096]⟩ : Shape).Idx → EReal := m ((c : Thread nD τ).loc main_arg6)

/-- The first branch's operand array, by row. -/
theorem V_a (c : Dev nD) (r : Fin 16384) (k : Fin 2048) :
    (V m c main_v1 : S16384x2048.Idx → EReal) (ix2 r k) = a0 m c (ix3 (smp r) (tok r) k) := by
  unfold_abbrev_sides
  after_results
  exact flat_apply 2048 (a0 m c) shapeCasts_S8x2048x2048_S16384x2048 r k

/-- The second branch's operand array, by row. -/
theorem V_b (c : Dev nD) (r : Fin 16384) (k : Fin 2048) :
    (V m c main_v3 : S16384x2048.Idx → EReal) (ix2 r k) = a1 m c (ix3 (smp r) (tok r) k) := by
  unfold_abbrev_sides
  after_results
  exact flat_apply 2048 (a1 m c) shapeCasts_S8x2048x2048_S16384x2048 r k

/-- The third branch's operand array, by row. -/
theorem V_c (c : Dev nD) (r : Fin 16384) (k : Fin 2048) :
    (V m c main_v5 : S16384x2048.Idx → EReal) (ix2 r k) = a2 m c (ix3 (smp r) (tok r) k) := by
  unfold_abbrev_sides
  after_results
  exact flat_apply 2048 (a2 m c) shapeCasts_S8x2048x2048_S16384x2048 r k

/-- The branches' weights: the layers' planes one after the other. -/
theorem V_weights (c : Dev nD) (q : Fin 6) (s : Fin 3) (hq : q.val = 3 + s.val) (k : Fin 2048) (j : Fin 4096) :
    (V m c main_v16 : S6x2048x4096.Idx → EReal) (ix3 q k j) = a6 m c (ix4 1 s k j) := by
  unfold_abbrev_sides
  after_results
  refine shapeCast_apply (a6 m c) shapeCasts_S2x3x2048x4096_S6x2048x4096 _ _ ?_
  rw [Shape.rowMajor_val_three, Shape.rowMajor_val_four]
  show ((1 * 3 + s.val) * 2048 + k.val) * 4096 + j.val = (q.val * 2048 + k.val) * 4096 + j.val
  omega

/-- One of the three gates' arrays. -/
def gateOf (c : Dev nD) (g : Fin 3) : (⟨3, ![8, 2304, 4096]⟩ : Shape).Idx → EReal :=
  match g with
  | ⟨0, _⟩ => a3 m c
  | ⟨1, _⟩ => a4 m c
  | ⟨2, _⟩ => a5 m c

/-- The three gates put side by side, read in the columns of gate `g`. -/
theorem gates_apply (x y z : (⟨3, ![8, 2304, 4096]⟩ : Shape).Idx → EReal)
    (hc : Shape.Concatenates [S8x2304x4096, S8x2304x4096, S8x2304x4096] S8x2304x12288 2)
    (p : Fin 8) (n : Fin 2304) (k : Fin 12288) (g : Fin 3) (j : Fin 4096) (hk : k.val = 4096 * g.val + j.val) :
    concatenate S8x2304x12288 2 [⟨S8x2304x4096, x⟩, ⟨S8x2304x4096, y⟩, ⟨S8x2304x4096, z⟩] hc (ix3 p n k)
      = (match g with | ⟨0, _⟩ => x | ⟨1, _⟩ => y | ⟨2, _⟩ => z) (ix3 p n j) := by
  have hoff : ∀ b : Fin S8x2304x4096.rank, b.cast rfl ≠ (2 : Fin 3) → ((ix3 p n j : S8x2304x4096.Idx) b).val = ((ix3 p n k : S8x2304x12288.Idx) (b.cast rfl)).val :=
    fun a ha => by
      match a with
      | ⟨0, _⟩ => rfl
      | ⟨1, _⟩ => rfl
      | ⟨2, _⟩ => exact absurd rfl ha
  match g with
  | ⟨0, _⟩ =>
    exact concatenate_apply_piece (t := S8x2304x12288) 2 [⟨S8x2304x4096, x⟩, ⟨S8x2304x4096, y⟩, ⟨S8x2304x4096, z⟩] hc (ix3 p n k) 0 (by show 0 < 3; omega) S8x2304x4096 x rfl rfl 0 rfl (ix3 p n j) hoff
      (by show 0 + j.val = k.val; rw [hk]; show 0 + j.val = 4096 * 0 + j.val; omega)
  | ⟨1, _⟩ =>
    exact concatenate_apply_piece (t := S8x2304x12288) 2 [⟨S8x2304x4096, x⟩, ⟨S8x2304x4096, y⟩, ⟨S8x2304x4096, z⟩] hc (ix3 p n k) 1 (by show 1 < 3; omega) S8x2304x4096 y rfl rfl 4096 rfl (ix3 p n j) hoff
      (by show 4096 + j.val = k.val; rw [hk]; show 4096 + j.val = 4096 * 1 + j.val; omega)
  | ⟨2, _⟩ =>
    exact concatenate_apply_piece (t := S8x2304x12288) 2 [⟨S8x2304x4096, x⟩, ⟨S8x2304x4096, y⟩, ⟨S8x2304x4096, z⟩] hc (ix3 p n k) 2 (by show 2 < 3; omega) S8x2304x4096 z rfl rfl 8192 rfl (ix3 p n j) hoff
      (by show 8192 + j.val = k.val; rw [hk]; show 8192 + j.val = 4096 * 2 + j.val; omega)

/-- The gates' operand array in the columns of gate `g`, at a latent row. -/
theorem V_gates (c : Dev nD) (q : Fin 18432) (r : Fin 16384) (hq : q.val = 2048 + r.val) (p : Fin 24576) (g : Fin 3) (j : Fin 4096)
    (hp : p.val = 12288 + (4096 * g.val + j.val)) :
    (V m c main_v14 : S18432x24576.Idx → EReal) (ix2 q p) = gateOf m c g (ix3 (smp r) (tokAll r) j) := by
  unfold_abbrev_sides
  after_results
  have hj := j.isLt
  have hg := g.isLt
  refine (concatenate_pair_apply_right (t := S18432x24576) (s₁ := S18432x12288) (s₂ := S18432x12288) (1 : Fin 2) _ _
    concatenates_S18432x12288_S18432x12288_S18432x24576_d1 (ix2 q p) rfl rfl (ix2 (n1 := 12288) q ⟨4096 * g.val + j.val, by omega⟩)
    (fun b hb => by match b with | ⟨0, _⟩ => rfl | ⟨1, _⟩ => exact absurd rfl hb)
    (by show 4096 * g.val + j.val + 12288 = p.val; omega)).trans ?_
  refine (stacked_apply 12288 _ slices_S8x2304x12288_S8x256x12288_0_0_0 slices_S8x2304x12288_S8x2048x12288_0_256_0
    shapeCasts_S8x256x12288_S2048x12288 shapeCasts_S8x2048x12288_S16384x12288 concatenates_S2048x12288_S16384x12288_S18432x12288_d0 q _).trans ?_
  rw [sample_lat q r hq, token_lat q r hq]
  refine (gates_apply _ _ _ concatenates_S8x2304x4096_S8x2304x4096_S8x2304x4096_S8x2304x12288_d2 _ _ _ g j rfl).trans ?_
  match g with
  | ⟨0, _⟩ => rfl
  | ⟨1, _⟩ => rfl
  | ⟨2, _⟩ => rfl

/-! ## The blocks -/

/-- Point `t`'s block of the first branch: row `a` is the latent row that block row `a` belongs to. -/
theorem blk_a (c : Dev nD) (t : Fin cfg0.N) (a : Fin 1024) (k : Fin 2048) (r : Fin 16384) (hr : r.val = t.val / 8 * 1024 + a.val) :
    (iblk (F := Ideal) m c 0 t : S1024x2048.Idx → EReal) (ix2 a k) = a0 m c (ix3 (smp r) (tok r) k) := by
  have hf := (idx_facts t).1
  rw [← V_a m c r k]
  show (V m c main_v1 : S16384x2048.Idx → EReal) ((win0_0.rect t).emb (ix2 a k)) = _
  congr 1
  apply Shape.idx_ext₂
  · rw [win0_0.rect_emb_val, hf.1]; exact hr.symm
  · rw [win0_0.rect_emb_val, hf.2]; exact (Nat.zero_mul _).symm ▸ Nat.zero_add _

/-- Point `t`'s block of the second branch. -/
theorem blk_b (c : Dev nD) (t : Fin cfg0.N) (a : Fin 1024) (k : Fin 2048) (r : Fin 16384) (hr : r.val = t.val / 8 * 1024 + a.val) :
    (iblk (F := Ideal) m c 1 t : S1024x2048.Idx → EReal) (ix2 a k) = a1 m c (ix3 (smp r) (tok r) k) := by
  have hf := (idx_facts t).2.1
  rw [← V_b m c r k]
  show (V m c main_v3 : S16384x2048.Idx → EReal) ((win0_1.rect t).emb (ix2 a k)) = _
  congr 1
  apply Shape.idx_ext₂
  · rw [win0_1.rect_emb_val, hf.1]; exact hr.symm
  · rw [win0_1.rect_emb_val, hf.2]; exact (Nat.zero_mul _).symm ▸ Nat.zero_add _

/-- Point `t`'s block of the third branch. -/
theorem blk_c (c : Dev nD) (t : Fin cfg0.N) (a : Fin 1024) (k : Fin 2048) (r : Fin 16384) (hr : r.val = t.val / 8 * 1024 + a.val) :
    (iblk (F := Ideal) m c 2 t : S1024x2048.Idx → EReal) (ix2 a k) = a2 m c (ix3 (smp r) (tok r) k) := by
  have hf := (idx_facts t).2.2.1
  rw [← V_c m c r k]
  show (V m c main_v5 : S16384x2048.Idx → EReal) ((win0_2.rect t).emb (ix2 a k)) = _
  congr 1
  apply Shape.idx_ext₂
  · rw [win0_2.rect_emb_val, hf.1]; exact hr.symm
  · rw [win0_2.rect_emb_val, hf.2]; exact (Nat.zero_mul _).symm ▸ Nat.zero_add _

/-- Point `t`'s block of the weights: the three planes of layer 1 in the block's columns. -/
theorem blk_weights (c : Dev nD) (t : Fin cfg0.N) (s : Fin 3) (k : Fin 2048) (b : Fin 512) (j : Fin 4096)
    (hj : j.val = t.val % 8 * 512 + b.val) :
    (iblk (F := Ideal) m c 3 t : S3x2048x512.Idx → EReal) (ix3 s k b) = a6 m c (ix4 1 s k j) := by
  have hf := (idx_facts t).2.2.2.1
  have hs := s.isLt
  rw [← V_weights m c ⟨3 + s.val, by omega⟩ s rfl k j]
  show (V m c main_v16 : S6x2048x4096.Idx → EReal) ((win0_3.rect t).emb (ix3 s k b)) = _
  congr 1
  funext a
  apply Fin.ext
  match a with
  | ⟨0, _⟩ => rw [win0_3.rect_emb_val]; show win0_3.index t 0 * 3 + s.val = 3 + s.val; rw [hf.1]
  | ⟨1, _⟩ => rw [win0_3.rect_emb_val]; show win0_3.index t 1 * 2048 + k.val = k.val; rw [hf.2.1]; omega
  | ⟨2, _⟩ => rw [win0_3.rect_emb_val]; show win0_3.index t 2 * 512 + b.val = j.val; rw [hf.2.2]; exact hj.symm

/-- Point `t`'s block of the first gate. -/
theorem blk_ga (c : Dev nD) (t : Fin cfg0.N) (a : Fin 1024) (b : Fin 512) (r : Fin 16384) (j : Fin 4096)
    (hr : r.val = t.val / 8 * 1024 + a.val) (hj : j.val = t.val % 8 * 512 + b.val) :
    (iblk (F := Ideal) m c 4 t : S1024x512.Idx → EReal) (ix2 a b) = a3 m c (ix3 (smp r) (tokAll r) j) := by
  have hf := (idx_facts t).2.2.2.2.1
  have h0 := r.isLt
  have h1 := j.isLt
  refine Eq.trans ?_ (V_gates m c ⟨2048 + r.val, by omega⟩ r rfl ⟨12288 + j.val, by omega⟩ 0 j (by show 12288 + j.val = 12288 + (4096 * 0 + j.val); omega))
  show (V m c main_v14 : S18432x24576.Idx → EReal) ((win0_4.rect t).emb (ix2 a b)) = _
  congr 1
  apply Shape.idx_ext₂
  · rw [win0_4.rect_emb_val, hf.1]; show (2 + t.val / 8) * 1024 + a.val = 2048 + r.val; omega
  · rw [win0_4.rect_emb_val, hf.2]; show (24 + t.val % 8) * 512 + b.val = 12288 + j.val; omega

/-- Point `t`'s block of the second gate. -/
theorem blk_gb (c : Dev nD) (t : Fin cfg0.N) (a : Fin 1024) (b : Fin 512) (r : Fin 16384) (j : Fin 4096)
    (hr : r.val = t.val / 8 * 1024 + a.val) (hj : j.val = t.val % 8 * 512 + b.val) :
    (iblk (F := Ideal) m c 5 t : S1024x512.Idx → EReal) (ix2 a b) = a4 m c (ix3 (smp r) (tokAll r) j) := by
  have hf := (idx_facts t).2.2.2.2.2.1
  have h0 := r.isLt
  have h1 := j.isLt
  refine Eq.trans ?_ (V_gates m c ⟨2048 + r.val, by omega⟩ r rfl ⟨16384 + j.val, by omega⟩ 1 j (by show 16384 + j.val = 12288 + (4096 * 1 + j.val); omega))
  show (V m c main_v14 : S18432x24576.Idx → EReal) ((win0_5.rect t).emb (ix2 a b)) = _
  congr 1
  apply Shape.idx_ext₂
  · rw [win0_5.rect_emb_val, hf.1]; show (2 + t.val / 8) * 1024 + a.val = 2048 + r.val; omega
  · rw [win0_5.rect_emb_val, hf.2]; show (32 + t.val % 8) * 512 + b.val = 16384 + j.val; omega

/-- Point `t`'s block of the third gate. -/
theorem blk_gc (c : Dev nD) (t : Fin cfg0.N) (a : Fin 1024) (b : Fin 512) (r : Fin 16384) (j : Fin 4096)
    (hr : r.val = t.val / 8 * 1024 + a.val) (hj : j.val = t.val % 8 * 512 + b.val) :
    (iblk (F := Ideal) m c 6 t : S1024x512.Idx → EReal) (ix2 a b) = a5 m c (ix3 (smp r) (tokAll r) j) := by
  have hf := (idx_facts t).2.2.2.2.2.2.1
  have h0 := r.isLt
  have h1 := j.isLt
  refine Eq.trans ?_ (V_gates m c ⟨2048 + r.val, by omega⟩ r rfl ⟨20480 + j.val, by omega⟩ 2 j (by show 20480 + j.val = 12288 + (4096 * 2 + j.val); omega))
  show (V m c main_v14 : S18432x24576.Idx → EReal) ((win0_6.rect t).emb (ix2 a b)) = _
  congr 1
  apply Shape.idx_ext₂
  · rw [win0_6.rect_emb_val, hf.1]; show (2 + t.val / 8) * 1024 + a.val = 2048 + r.val; omega
  · rw [win0_6.rect_emb_val, hf.2]; show (40 + t.val % 8) * 512 + b.val = 20480 + j.val; omega

/-! ## The array after the run -/

/-- The output array: at latent row `r`, column `j`, the three gated products of row `r`'s token. -/
def G (c : Dev nD) : S16384x4096.Idx → EReal :=
  fun i => merged (a0 m c) (a1 m c) (a2 m c) (a3 m c) (a4 m c) (a5 m c) (a6 m c) (i 0) (i 1)

/-- What point `t` writes back is block `t` of that array. -/
theorem flushed_eq (c : Dev nD) (t : Fin cfg0.N) :
    (dats (F := Ideal) m 0 c).flushed 7 t = ((cfg0.win 7).blk t).view.read (Elt Ideal) (G m c) := by
  rw [Value.flushed7]
  funext y
  obtain ⟨a, b, rfl⟩ : ∃ (a : Fin 1024) (b : Fin 512), y = ix2 a b := ⟨y 0, y 1, eq_ix2 y⟩
  have hf := (idx_facts t).2.2.2.2.2.2.2
  have ht : t.val < 128 := t.isLt
  show out0_7 (F := Ideal) (iblk m c 0 t) (iblk m c 1 t) (iblk m c 2 t) (iblk m c 3 t) (iblk m c 4 t) (iblk m c 5 t) (iblk m c 6 t) (ix2 a b)
    = G m c ((win0_7.rect t).emb (ix2 a b))
  rw [out_apply]
  have e : (win0_7.rect t).emb (ix2 a b)
      = ix2 (n0 := 16384) (n1 := 4096) ⟨t.val / 8 * 1024 + a.val, by omega⟩ ⟨t.val % 8 * 512 + b.val, by omega⟩ := by
    apply Shape.idx_ext₂
    · rw [win0_7.rect_emb_val, hf.1]; rfl
    · rw [win0_7.rect_emb_val, hf.2]; rfl
  rw [e]
  show _ = merged _ _ _ _ _ _ _ _ _
  unfold merged
  exact congrArg₂ (· + ·) (congrArg₂ (· + ·)
    (congrArg₂ (· * ·) (congrArg sig (blk_ga m c t a b _ _ rfl rfl))
      (Finset.sum_congr rfl fun k _ => congrArg₂ (· * ·) (blk_a m c t a k _ rfl) (blk_weights m c t 0 k b _ rfl)))
    (congrArg₂ (· * ·) (congrArg sig (blk_gb m c t a b _ _ rfl rfl))
      (Finset.sum_congr rfl fun k _ => congrArg₂ (· * ·) (blk_b m c t a k _ rfl) (blk_weights m c t 1 k b _ rfl))))
    (congrArg₂ (· * ·) (congrArg sig (blk_gc m c t a b _ _ rfl rfl))
      (Finset.sum_congr rfl fun k _ => congrArg₂ (· * ·) (blk_c m c t a k _ rfl) (blk_weights m c t 2 k b _ rfl)))

/-- Every index of the output array lies in some point's block. -/
theorem cover (i : S16384x4096.Idx) : ∃ t : Fin cfg0.N, (cfg0.win 7).flush t = true ∧ i ∈ ((cfg0.win 7).blk t).view.set := by
  have h0 : (i 0 : Nat) < 16384 := (i 0).isLt
  have h1 : (i 1 : Nat) < 4096 := (i 1).isLt
  let t : Fin cfg0.N := ⟨(i 0).val / 1024 * 8 + (i 1).val / 512, by show _ < 128; omega⟩
  have hf := (idx_facts t).2.2.2.2.2.2.2
  have e0 : t.val / 8 = (i 0).val / 1024 := by show ((i 0).val / 1024 * 8 + (i 1).val / 512) / 8 = _; omega
  have e1 : t.val % 8 = (i 1).val / 512 := by show ((i 0).val / 1024 * 8 + (i 1).val / 512) % 8 = _; omega
  refine ⟨t, flush0_7 t, ?_⟩
  show i ∈ ((View.whole main_v17).slice (win0_7.rect t)).set
  rw [View.set_slice_whole, Rect.mem_set_unit]
  intro a
  match a with
  | ⟨0, _⟩ =>
    show win0_7.index t 0 * 1024 ≤ (i 0 : Nat) ∧ (i 0 : Nat) < win0_7.index t 0 * 1024 + 1024
    rw [hf.1, e0]; omega
  | ⟨1, _⟩ =>
    show win0_7.index t 1 * 512 ≤ (i 1 : Nat) ∧ (i 1 : Nat) < win0_7.index t 1 * 512 + 512
    rw [hf.2, e1]; omega

/-- After the run the output array is `G`. -/
theorem final (c : Dev nD) : (dats (F := Ideal) m 0 c).arrAt 7 cfg0.N = G m c :=
  (dats (F := Ideal) m 0 c).arrAt_eq_of_cover 7 (G m c) (fun t _ => flushed_eq m c t) cover

end Cert.Proof.Merge

end
-- ==== Proof.Mix.MergeRef.lean ====
/-
  The value of the branch-merge reference, and the two programs' agreement: the reference multiplies each branch by its weight of
  layer 1, gates the products at the latent tokens, adds the three and flattens; at latent row `r` and column `j` that is again
  `merged`.
-/
module

public import proofs.«01_k».proof.Proof.Gen.MergeRefIdeal.Run
public import proofs.«01_k».proof.Proof.Gen.MergeRefIdeal.Read
public import proofs.«01_k».proof.Proof.Mix.Merge
public import proofs.«01_k».proof.Defs

@[expose] public section

noncomputable section

namespace Cert.Proof.MergeRef

open Cert.MergeRefIdeal Cert.MergeRefIdeal.Gen Cert.MergeRefIdeal.Read Idealize.ShloMosaic Idealize.ShloMosaic.TcCoe Idealize.SL.Sem
open Idealize.ShloMosaic.ValueIdx
open Cert.Proof.Spec Cert.Proof.Mix
open scoped BigOperators

variable (x0 x1 x2 : (⟨S8x2048x2048, .f32⟩ : BufTy).Contents (Elt Ideal)) (x3 x4 x5 : (⟨S8x2304x4096, .f32⟩ : BufTy).Contents (Elt Ideal))
  (x6 : (⟨S2x3x2048x4096, .f32⟩ : BufTy).Contents (Elt Ideal))

/-- The first gate at a latent token and a column. -/
theorem gate0 (b : Fin 8) (n : Fin 2048) (q : Fin 2304) (hq : q.val = 256 + n.val) (j : Fin 4096) :
    val_main_v10 (F := Ideal) x3 (ix3 b n j) = sig (x3 (ix3 b q j)) := by
  rw [val_main_v10_apply, val_main_v8_apply, val_main_v9_apply, val_main_v7_apply, val_main_v6_apply, val_main_v5_apply, val_main_v0_apply]
  have e : idx_main_v0 (ix3 b n j) = ix3 b q j := by
    funext a
    match a with | ⟨0, _⟩ => rfl | ⟨1, _⟩ => exact Fin.ext hq.symm | ⟨2, _⟩ => rfl
  rw [e]
  rfl

/-- The second gate. -/
theorem gate1 (b : Fin 8) (n : Fin 2048) (q : Fin 2304) (hq : q.val = 256 + n.val) (j : Fin 4096) :
    val_main_v20 (F := Ideal) x4 (ix3 b n j) = sig (x4 (ix3 b q j)) := by
  rw [val_main_v20_apply, val_main_v18_apply, val_main_v19_apply, val_main_v17_apply, val_main_v16_apply, val_main_v15_apply, val_main_v1_apply]
  have e : idx_main_v1 (ix3 b n j) = ix3 b q j := by
    funext a
    match a with | ⟨0, _⟩ => rfl | ⟨1, _⟩ => exact Fin.ext hq.symm | ⟨2, _⟩ => rfl
  rw [e]
  rfl

/-- The third gate. -/
theorem gate2 (b : Fin 8) (n : Fin 2048) (q : Fin 2304) (hq : q.val = 256 + n.val) (j : Fin 4096) :
    val_main_v31 (F := Ideal) x5 (ix3 b n j) = sig (x5 (ix3 b q j)) := by
  rw [val_main_v31_apply, val_main_v29_apply, val_main_v30_apply, val_main_v28_apply, val_main_v27_apply, val_main_v26_apply, val_main_v2_apply]
  have e : idx_main_v2 (ix3 b n j) = ix3 b q j := by
    funext a
    match a with | ⟨0, _⟩ => rfl | ⟨1, _⟩ => exact Fin.ext hq.symm | ⟨2, _⟩ => rfl
  rw [e]
  rfl

/-- The weight of layer 1, one plane per branch. -/
theorem plane (s : Fin 3) (k : Fin 2048) (j : Fin 4096) : val_main_v4 (F := Ideal) x6 (ix3 s k j) = x6 (ix4 1 s k j) := by
  have := s.isLt
  have := k.isLt
  have := j.isLt
  rw [val_main_v4_apply, val_main_v3_apply]
  congr 1
  funext a
  match a with
  | ⟨0, _⟩ => rfl
  | ⟨1, _⟩ => exact Fin.ext (by show ((s.val * 2048 + k.val) * 4096 + j.val) / 8388608 % 3 = s.val; omega)
  | ⟨2, _⟩ => exact Fin.ext (by show ((s.val * 2048 + k.val) * 4096 + j.val) / 4096 % 2048 = k.val; omega)
  | ⟨3, _⟩ => exact Fin.ext (by show ((s.val * 2048 + k.val) * 4096 + j.val) % 4096 = j.val; omega)

/-- The first branch's weight. -/
theorem weight0 (k : Fin 2048) (j : Fin 4096) : val_main_v12 (F := Ideal) x6 (ix2 k j) = x6 (ix4 1 0 k j) := by
  have := k.isLt
  have := j.isLt
  rw [val_main_v12_apply, val_main_v11_apply]
  refine Eq.trans (congrArg _ ?_) (plane x6 0 k j)
  funext a
  match a with
  | ⟨0, _⟩ => rfl
  | ⟨1, _⟩ => exact Fin.ext (by show (k.val * 4096 + j.val) / 4096 % 2048 = k.val; omega)
  | ⟨2, _⟩ => exact Fin.ext (by show (k.val * 4096 + j.val) % 4096 = j.val; omega)

/-- The second branch's weight. -/
theorem weight1 (k : Fin 2048) (j : Fin 4096) : val_main_v22 (F := Ideal) x6 (ix2 k j) = x6 (ix4 1 1 k j) := by
  have := k.isLt
  have := j.isLt
  rw [val_main_v22_apply, val_main_v21_apply]
  refine Eq.trans (congrArg _ ?_) (plane x6 1 k j)
  funext a
  match a with
  | ⟨0, _⟩ => rfl
  | ⟨1, _⟩ => exact Fin.ext (by show (k.val * 4096 + j.val) / 4096 % 2048 = k.val; omega)
  | ⟨2, _⟩ => exact Fin.ext (by show (k.val * 4096 + j.val) % 4096 = j.val; omega)

/-- The third branch's weight. -/
theorem weight2 (k : Fin 2048) (j : Fin 4096) : val_main_v33 (F := Ideal) x6 (ix2 k j) = x6 (ix4 1 2 k j) := by
  have := k.isLt
  have := j.isLt
  rw [val_main_v33_apply, val_main_v32_apply]
  refine Eq.trans (congrArg _ ?_) (plane x6 2 k j)
  funext a
  match a with
  | ⟨0, _⟩ => rfl
  | ⟨1, _⟩ => exact Fin.ext (by show (k.val * 4096 + j.val) / 4096 % 2048 = k.val; omega)
  | ⟨2, _⟩ => exact Fin.ext (by show (k.val * 4096 + j.val) % 4096 = j.val; omega)

/-- The reference's result at a latent row and a column. -/
theorem result_apply (r : Fin 16384) (j : Fin 4096) :
    val_main_v38 (F := Ideal) x0 x1 x2 x3 x4 x5 x6 (ix2 r j) = merged x0 x1 x2 x3 x4 x5 x6 r j := by
  refine (flat_apply 4096 (val_main_v36 (F := Ideal) x0 x1 x2 x3 x4 x5 x6) shapeCasts_S8x2048x4096_S16384x4096 r j).trans ?_
  rw [val_main_v36_apply, val_main_v25_apply, val_main_v14_apply, val_main_v24_apply, val_main_v35_apply,
    gate0 x3 (smp r) (tok r) (tokAll r) rfl j, gate1 x4 (smp r) (tok r) (tokAll r) rfl j, gate2 x5 (smp r) (tok r) (tokAll r) rfl j,
    val_main_v13_apply, val_main_v23_apply, val_main_v34_apply]
  unfold merged
  refine congrArg₂ (· + ·) (congrArg₂ (· + ·) (congrArg (sig _ * ·) ?_) (congrArg (sig _ * ·) ?_)) (congrArg (sig _ * ·) ?_)
  · refine Finset.sum_congr rfl fun k _ => congrArg₂ (· * ·) (congrArg x0 ?_) (Eq.trans (congrArg _ ?_) (weight0 x6 k j))
    · funext a; match a with | ⟨0, _⟩ => rfl | ⟨1, _⟩ => rfl | ⟨2, _⟩ => rfl
    · funext a; match a with | ⟨0, _⟩ => rfl | ⟨1, _⟩ => rfl
  · refine Finset.sum_congr rfl fun k _ => congrArg₂ (· * ·) (congrArg x1 ?_) (Eq.trans (congrArg _ ?_) (weight1 x6 k j))
    · funext a; match a with | ⟨0, _⟩ => rfl | ⟨1, _⟩ => rfl | ⟨2, _⟩ => rfl
    · funext a; match a with | ⟨0, _⟩ => rfl | ⟨1, _⟩ => rfl
  · refine Finset.sum_congr rfl fun k _ => congrArg₂ (· * ·) (congrArg x2 ?_) (Eq.trans (congrArg _ ?_) (weight2 x6 k j))
    · funext a; match a with | ⟨0, _⟩ => rfl | ⟨1, _⟩ => rfl | ⟨2, _⟩ => rfl
    · funext a; match a with | ⟨0, _⟩ => rfl | ⟨1, _⟩ => rfl

/-- The reference's run leaves in its result what the kernel's leaves in its output array, from the same arguments. -/
theorem agree (m : (ℓ : Loc Cert.MergeIdeal.nD Cert.MergeIdeal.τ Cert.MergeIdeal.sig) → Buf (Elt Ideal) ℓ) (c : Dev Cert.MergeIdeal.nD) :
    val_main_v38 (F := Ideal) (Merge.a0 m c) (Merge.a1 m c) (Merge.a2 m c) (Merge.a3 m c) (Merge.a4 m c) (Merge.a5 m c) (Merge.a6 m c)
      = Merge.G m c := by
  funext i
  obtain ⟨r, j, rfl⟩ : ∃ (r : Fin 16384) (j : Fin 4096), i = ix2 r j := ⟨i 0, i 1, eq_ix2 i⟩
  exact result_apply _ _ _ _ _ _ _ r j

end Cert.Proof.MergeRef

end
-- ==== Proof.Mix.Out.lean ====
/-
  The value of the output projection's kernel: after the run its output array holds, at latent row `r` and column `j`, the hidden
  state plus the gate of the row's sample times the product of the merged row with the weight's column.
-/
module

public import proofs.«01_k».proof.Proof.Gen.OutIdeal.Value
public import proofs.«01_k».proof.Proof.Mix.Spec

@[expose] public section

noncomputable section

namespace Cert.Proof.Out

open Cert.OutIdeal Cert.OutIdeal.Gen Idealize.ShloMosaic Idealize.ShloMosaic.TcCoe Idealize.SL.Sem
open Idealize.ShloMosaic.Pipeline (Dat)
open Idealize.ShloMosaic.ValueIdx
open Cert.Proof.Spec Cert.Proof.Mix
open scoped BigOperators

variable (m : (ℓ : Loc nD τ sig) → Buf (Elt Ideal) ℓ)

/-! ## One block -/

/-- What the body leaves in its output block. -/
theorem out_apply (x0 : Vec Ideal S1024x4096 .bf16) (x1 : Vec Ideal S4096x1024 .bf16) (x2 : Vec Ideal S1024x1024 .f32) (x3 : Vec Ideal S1x1x1024 .f32)
    (a : Fin 1024) (b : Fin 1024) :
    out0_4 (F := Ideal) x0 x1 x2 x3 (ix2 a b) = x2 (ix2 a b) + x3 (ix3 0 0 b) * ∑ k : Fin 4096, x0 (ix2 a k) * x1 (ix2 k b) := by
  have h0 : (![0, 0] : Fin S1024x4096.rank → Nat) = fun _ => 0 := funext fun a => by fin_cases a <;> rfl
  have h1 : (![0, 0] : Fin S4096x1024.rank → Nat) = fun _ => 0 := funext fun a => by fin_cases a <;> rfl
  have h2 : (![0, 0] : Fin S1024x1024.rank → Nat) = fun _ => 0 := funext fun a => by fin_cases a <;> rfl
  have h3 : (![0, 0, 0] : Fin S1x1x1024.rank → Nat) = fun _ => 0 := funext fun a => by fin_cases a <;> rfl
  unfold out0_4
  rw [View.canon_unit_zero h2]
  simp only [View.ld_unit_zero (S := S1024x4096) h0, View.ld_unit_zero (S := S4096x1024) h1, View.ld_unit_zero (S := S1024x1024) h2,
    View.ld_unit_zero (S := S1x1x1024) h3]
  unfold k0_pay1
  simp only [shapeCast_self]
  exact congrArg (x2 (ix2 a b) + ·) (congrArg₂ (· * ·) (gate_row_apply x3 _ _ a b)
    (product_apply (M := 1024) (K := 4096) (N := 1024) (φ₁ := .bf16) (φ₂ := .bf16) x0 x1 a b))

/-! ## The index maps -/

/-- Where each window stands at each grid point: the rows move with the first coordinate, the columns with the second; the
    hidden states' window starts at the latent rows, the gate's window at the third vector of the rows' sample. -/
theorem idx_facts : ∀ t : Fin cfg0.N,
    (win0_0.index t 0 = t.val / 4 ∧ win0_0.index t 1 = 0) ∧
    (win0_1.index t 0 = 1 ∧ win0_1.index t 1 = t.val % 4) ∧
    (win0_2.index t 0 = 2 + t.val / 4 ∧ win0_2.index t 1 = t.val % 4) ∧
    (win0_3.index t 0 = 6 * (t.val / 8) + 2 ∧ win0_3.index t 1 = 0 ∧ win0_3.index t 2 = t.val % 4) ∧
    (win0_4.index t 0 = t.val / 4 ∧ win0_4.index t 1 = t.val % 4) := by
  decide +kernel

/-! ## The arrays the region finds -/

/-- The launched arguments on a device. -/
abbrev a0 (c : Dev nD) : (⟨3, ![8, 2048, 4096]⟩ : Shape).Idx → EReal := m ((c : Thread nD τ).loc main_arg0)
abbrev a1 (c : Dev nD) : (⟨3, ![8, 256, 4096]⟩ : Shape).Idx → EReal := m ((c : Thread nD τ).loc main_arg1)
abbrev a2 (c : Dev nD) : (⟨3, ![8, 2048, 4096]⟩ : Shape).Idx → EReal := m ((c : Thread nD τ).loc main_arg2)
abbrev a3 (c : Dev nD) : (⟨3, ![8, 1, 24576]⟩ : Shape).Idx → EReal := m ((c : Thread nD τ).loc main_arg3)
abbrev a4 (c : Dev nD) : (⟨3, ![1, 1, 24576]⟩ : Shape).Idx → EReal := m ((c : Thread nD τ).loc main_arg4)
abbrev a5 (c : Dev nD) : (⟨3, ![2, 4096, 4096]⟩ : Shape).Idx → EReal := m ((c : Thread nD τ).loc main_arg5)

/-- The merged rows. -/
theorem V_merged (c : Dev nD) (r : Fin 16384) (k : Fin 4096) :
    (V m c main_v1 : S16384x4096.Idx → EReal) (ix2 r k) = a0 m c (ix3 (smp r) (tok r) k) := by
  unfold_abbrev_sides
  after_results
  exact flat_apply 4096 (a0 m c) shapeCasts_S8x2048x4096_S16384x4096 r k

/-- The weights: the layers' rows one after the other. -/
theorem V_weights (c : Dev nD) (q : Fin 8192) (k : Fin 4096) (hq : q.val = 4096 + k.val) (j : Fin 4096) :
    (V m c main_v10 : S8192x4096.Idx → EReal) (ix2 q j) = a5 m c (ix3 1 k j) := by
  unfold_abbrev_sides
  after_results
  refine shapeCast_apply (a5 m c) shapeCasts_S2x4096x4096_S8192x4096 _ _ ?_
  rw [Shape.rowMajor_val_three, Shape.rowMajor_val_two]
  show (1 * 4096 + k.val) * 4096 + j.val = q.val * 4096 + j.val
  omega

/-- The hidden states at a latent row. -/
theorem V_rows (c : Dev nD) (q : Fin 18432) (r : Fin 16384) (hq : q.val = 2048 + r.val) (j : Fin 4096) :
    (V m c main_v4 : S18432x4096.Idx → EReal) (ix2 q j) = a2 m c (ix3 (smp r) (tok r) j) := by
  unfold_abbrev_sides
  after_results
  refine (rows_apply (a1 m c) (a2 m c) shapeCasts_S8x256x4096_S2048x4096 shapeCasts_S8x2048x4096_S16384x4096
    concatenates_S2048x4096_S16384x4096_S18432x4096_d0 q j).trans ?_
  rw [sample_lat q r hq, token_lat q r hq]
  exact hid_lat _ _ r j

/-- The modulation vectors: the third of sample `b`. -/
theorem V_gates (c : Dev nD) (q : Fin 54) (b : Fin 8) (hq : q.val = 6 * b.val + 2) (j : Fin 4096) (p : Fin 24576) (hp : p.val = 8192 + j.val) :
    (V m c main_v8 : S54x1x4096.Idx → EReal) (ix3 q 0 j) = a3 m c (ix3 b 0 p) := by
  unfold_abbrev_sides
  after_results
  exact modv_apply (a3 m c) (a4 m c) shapeCasts_S8x1x24576_S8x24576 shapeCasts_S1x1x24576_S1x24576
    concatenates_S8x24576_S1x24576_S9x24576_d0 shapeCasts_S9x24576_S54x1x4096 q b 2 hq j p hp

/-! ## The blocks -/

/-- Point `t`'s block of the merged rows. -/
theorem blk_merged (c : Dev nD) (t : Fin cfg0.N) (a : Fin 1024) (k : Fin 4096) (r : Fin 16384) (hr : r.val = t.val / 4 * 1024 + a.val) :
    (iblk (F := Ideal) m c 0 t : S1024x4096.Idx → EReal) (ix2 a k) = a0 m c (ix3 (smp r) (tok r) k) := by
  have hf := (idx_facts t).1
  rw [← V_merged m c r k]
  show (V m c main_v1 : S16384x4096.Idx → EReal) ((win0_0.rect t).emb (ix2 a k)) = _
  congr 1
  apply Shape.idx_ext₂
  · rw [win0_0.rect_emb_val, hf.1]; exact hr.symm
  · rw [win0_0.rect_emb_val, hf.2]; exact (Nat.zero_mul _).symm ▸ Nat.zero_add _

/-- Point `t`'s block of the weights: layer 1's rows in the block's columns. -/
theorem blk_weights (c : Dev nD) (t : Fin cfg0.N) (k : Fin 4096) (b : Fin 1024) (j : Fin 4096) (hj : j.val = t.val % 4 * 1024 + b.val) :
    (iblk (F := Ideal) m c 1 t : S4096x1024.Idx → EReal) (ix2 k b) = a5 m c (ix3 1 k j) := by
  have hf := (idx_facts t).2.1
  have hk := k.isLt
  rw [← V_weights m c ⟨4096 + k.val, by omega⟩ k rfl j]
  show (V m c main_v10 : S8192x4096.Idx → EReal) ((win0_1.rect t).emb (ix2 k b)) = _
  congr 1
  apply Shape.idx_ext₂
  · rw [win0_1.rect_emb_val, hf.1]; show 1 * 4096 + k.val = 4096 + k.val; omega
  · rw [win0_1.rect_emb_val, hf.2]; exact hj.symm

/-- Point `t`'s block of the hidden states. -/
theorem blk_rows (c : Dev nD) (t : Fin cfg0.N) (a b : Fin 1024) (r : Fin 16384) (j : Fin 4096)
    (hr : r.val = t.val / 4 * 1024 + a.val) (hj : j.val = t.val % 4 * 1024 + b.val) :
    (iblk (F := Ideal) m c 2 t : S1024x1024.Idx → EReal) (ix2 a b) = a2 m c (ix3 (smp r) (tok r) j) := by
  have hf := (idx_facts t).2.2.1
  have h0 := r.isLt
  refine Eq.trans ?_ (V_rows m c ⟨2048 + r.val, by omega⟩ r rfl j)
  show (V m c main_v4 : S18432x4096.Idx → EReal) ((win0_2.rect t).emb (ix2 a b)) = _
  congr 1
  apply Shape.idx_ext₂
  · rw [win0_2.rect_emb_val, hf.1]; show (2 + t.val / 4) * 1024 + a.val = 2048 + r.val; omega
  · rw [win0_2.rect_emb_val, hf.2]; exact hj.symm

/-- Point `t`'s block of the gates: the third modulation vector of the rows' sample, in the block's columns. -/
theorem blk_gates (c : Dev nD) (t : Fin cfg0.N) (a b : Fin 1024) (r : Fin 16384) (j : Fin 4096) (p : Fin 24576)
    (hr : r.val = t.val / 4 * 1024 + a.val) (hj : j.val = t.val % 4 * 1024 + b.val) (hp : p.val = 8192 + j.val) :
    (iblk (F := Ideal) m c 3 t : S1x1x1024.Idx → EReal) (ix3 0 0 b) = a3 m c (ix3 (smp r) 0 p) := by
  have hf := (idx_facts t).2.2.2.1
  have ht : t.val < 64 := t.isLt
  have ha := a.isLt
  have hs : r.val / 2048 = t.val / 8 := by omega
  refine Eq.trans ?_ (V_gates m c ⟨6 * (t.val / 8) + 2, by omega⟩ (smp r) (by show 6 * (t.val / 8) + 2 = 6 * (r.val / 2048) + 2; rw [hs]) j p hp)
  show (V m c main_v8 : S54x1x4096.Idx → EReal) ((win0_3.rect t).emb (ix3 0 0 b)) = _
  congr 1
  funext x
  apply Fin.ext
  match x with
  | ⟨0, _⟩ => rw [win0_3.rect_emb_val]; show win0_3.index t 0 * 1 + 0 = 6 * (t.val / 8) + 2; rw [hf.1]; omega
  | ⟨1, _⟩ => rw [win0_3.rect_emb_val]; show win0_3.index t 1 * 1 + 0 = 0; rw [hf.2.1]
  | ⟨2, _⟩ => rw [win0_3.rect_emb_val]; show win0_3.index t 2 * 1024 + b.val = j.val; rw [hf.2.2]; exact hj.symm

/-! ## The array after the run -/

/-- The output array: at latent row `r`, column `j`, the gated residual. -/
def G (c : Dev nD) : S16384x4096.Idx → EReal :=
  fun i => resid (a0 m c) (a2 m c) (a3 m c) (a5 m c) (i 0) (i 1)

/-- What point `t` writes back is block `t` of that array. -/
theorem flushed_eq (c : Dev nD) (t : Fin cfg0.N) :
    (dats (F := Ideal) m 0 c).flushed 4 t = ((cfg0.win 4).blk t).view.read (Elt Ideal) (G m c) := by
  rw [Value.flushed4]
  funext y
  obtain ⟨a, b, rfl⟩ : ∃ a b : Fin 1024, y = ix2 a b := ⟨y 0, y 1, eq_ix2 y⟩
  have hf := (idx_facts t).2.2.2.2
  have ht : t.val < 64 := t.isLt
  show out0_4 (F := Ideal) (iblk m c 0 t) (iblk m c 1 t) (iblk m c 2 t) (iblk m c 3 t) (ix2 a b) = G m c ((win0_4.rect t).emb (ix2 a b))
  rw [out_apply]
  have e : (win0_4.rect t).emb (ix2 a b)
      = ix2 (n0 := 16384) (n1 := 4096) ⟨t.val / 4 * 1024 + a.val, by omega⟩ ⟨t.val % 4 * 1024 + b.val, by omega⟩ := by
    apply Shape.idx_ext₂
    · rw [win0_4.rect_emb_val, hf.1]; rfl
    · rw [win0_4.rect_emb_val, hf.2]; rfl
  rw [e]
  show _ = resid _ _ _ _ _ _
  unfold resid
  exact congrArg₂ (· + ·) (blk_rows m c t a b _ _ rfl rfl) (congrArg₂ (· * ·) (blk_gates m c t a b _ _ _ rfl rfl rfl)
    (Finset.sum_congr rfl fun k _ => congrArg₂ (· * ·) (blk_merged m c t a k _ rfl) (blk_weights m c t k b _ rfl)))

/-- Every index of the output array lies in some point's block. -/
theorem cover (i : S16384x4096.Idx) : ∃ t : Fin cfg0.N, (cfg0.win 4).flush t = true ∧ i ∈ ((cfg0.win 4).blk t).view.set := by
  have h0 : (i 0 : Nat) < 16384 := (i 0).isLt
  have h1 : (i 1 : Nat) < 4096 := (i 1).isLt
  let t : Fin cfg0.N := ⟨(i 0).val / 1024 * 4 + (i 1).val / 1024, by show _ < 64; omega⟩
  have hf := (idx_facts t).2.2.2.2
  have e0 : t.val / 4 = (i 0).val / 1024 := by show ((i 0).val / 1024 * 4 + (i 1).val / 1024) / 4 = _; omega
  have e1 : t.val % 4 = (i 1).val / 1024 := by show ((i 0).val / 1024 * 4 + (i 1).val / 1024) % 4 = _; omega
  refine ⟨t, flush0_4 t, ?_⟩
  show i ∈ ((View.whole main_v11).slice (win0_4.rect t)).set
  rw [View.set_slice_whole, Rect.mem_set_unit]
  intro a
  match a with
  | ⟨0, _⟩ =>
    show win0_4.index t 0 * 1024 ≤ (i 0 : Nat) ∧ (i 0 : Nat) < win0_4.index t 0 * 1024 + 1024
    rw [hf.1, e0]; omega
  | ⟨1, _⟩ =>
    show win0_4.index t 1 * 1024 ≤ (i 1 : Nat) ∧ (i 1 : Nat) < win0_4.index t 1 * 1024 + 1024
    rw [hf.2, e1]; omega

/-- After the run the output array is `G`. -/
theorem final (c : Dev nD) : (dats (F := Ideal) m 0 c).arrAt 4 cfg0.N = G m c :=
  (dats (F := Ideal) m 0 c).arrAt_eq_of_cover 4 (G m c) (fun t _ => flushed_eq m c t) cover

end Cert.Proof.Out

end
-- ==== Proof.Mix.OutRef.lean ====
/-
  The value of the output projection's reference, and the two programs' agreement: the hidden state plus the third modulation vector
  times the product, flattened; at latent row `r` and column `j` that is again `resid`.
-/
module

public import proofs.«01_k».proof.Proof.Gen.OutRefIdeal.Run
public import proofs.«01_k».proof.Proof.Gen.OutRefIdeal.Read
public import proofs.«01_k».proof.Proof.Mix.Out
public import proofs.«01_k».proof.Defs

@[expose] public section

noncomputable section

namespace Cert.Proof.OutRef

open Cert.OutRefIdeal Cert.OutRefIdeal.Gen Cert.OutRefIdeal.Read Idealize.ShloMosaic Idealize.ShloMosaic.TcCoe Idealize.SL.Sem
open Idealize.ShloMosaic.ValueIdx
open Cert.Proof.Spec Cert.Proof.Mix
open scoped BigOperators

variable (x0 x2 : (⟨S8x2048x4096, .f32⟩ : BufTy).Contents (Elt Ideal)) (x3 : (⟨S8x1x24576, .f32⟩ : BufTy).Contents (Elt Ideal))
  (x5 : (⟨S2x4096x4096, .f32⟩ : BufTy).Contents (Elt Ideal))

/-- The weight of layer 1. -/
theorem weight_apply (k j : Fin 4096) : val_main_v7 (F := Ideal) x5 (ix2 k j) = x5 (ix3 1 k j) := by
  have := k.isLt
  have := j.isLt
  rw [val_main_v7_apply, val_main_v6_apply]
  congr 1
  funext a
  match a with
  | ⟨0, _⟩ => rfl
  | ⟨1, _⟩ => exact Fin.ext (by show (k.val * 4096 + j.val) / 4096 % 4096 = k.val; omega)
  | ⟨2, _⟩ => exact Fin.ext (by show (k.val * 4096 + j.val) % 4096 = j.val; omega)

/-- The reference's result at a latent row and a column. -/
theorem result_apply (r : Fin 16384) (j : Fin 4096) :
    val_main_v12 (F := Ideal) x0 x2 x3 x5 (ix2 r j) = resid x0 x2 x3 x5 r j := by
  refine (flat_apply 4096 (val_main_v11 (F := Ideal) x0 x2 x3 x5) shapeCasts_S8x2048x4096_S16384x4096 r j).trans ?_
  rw [val_main_v11_apply, val_main_v10_apply, val_main_v9_apply, val_main_v2_apply, val_main_v8_apply]
  unfold resid
  refine congrArg (x2 _ + ·) (congrArg₂ (· * ·) (congrArg x3 ?_) ?_)
  · funext a; match a with | ⟨0, _⟩ => rfl | ⟨1, _⟩ => rfl | ⟨2, _⟩ => rfl
  · refine Finset.sum_congr rfl fun k _ => congrArg₂ (· * ·) (congrArg x0 ?_) (Eq.trans (congrArg _ ?_) (weight_apply x5 k j))
    · funext a; match a with | ⟨0, _⟩ => rfl | ⟨1, _⟩ => rfl | ⟨2, _⟩ => rfl
    · funext a; match a with | ⟨0, _⟩ => rfl | ⟨1, _⟩ => rfl

/-- The reference's run leaves in its result what the kernel's leaves in its output array, from the same arguments. -/
theorem agree (m : (ℓ : Loc Cert.OutIdeal.nD Cert.OutIdeal.τ Cert.OutIdeal.sig) → Buf (Elt Ideal) ℓ) (c : Dev Cert.OutIdeal.nD) :
    val_main_v12 (F := Ideal) (Out.a0 m c) (Out.a2 m c) (Out.a3 m c) (Out.a5 m c) = Out.G m c := by
  funext i
  obtain ⟨r, j, rfl⟩ : ∃ (r : Fin 16384) (j : Fin 4096), i = ix2 r j := ⟨i 0, i 1, eq_ix2 i⟩
  exact result_apply _ _ _ _ r j

end Cert.Proof.OutRef

end
-- ==== Proof.Mix.Kv.lean ====
/-
  The value of the key-value projection's kernel: after the run its output array holds, at stacked row `r` and column `j`, the product
  of the row's normalized latent with the weight's column `j`.
-/
module

public import proofs.«01_k».proof.Proof.Gen.KvIdeal.Value
public import proofs.«01_k».proof.Proof.Mix.Spec

@[expose] public section

noncomputable section

namespace Cert.Proof.Kv

open Cert.KvIdeal Cert.KvIdeal.Gen Idealize.ShloMosaic Idealize.ShloMosaic.TcCoe Idealize.SL.Sem
open Idealize.ShloMosaic.Pipeline (Dat)
open Idealize.ShloMosaic.ValueIdx
open Cert.Proof.Spec Cert.Proof.Mix
open scoped BigOperators

variable (m : (ℓ : Loc nD τ sig) → Buf (Elt Ideal) ℓ)

/-! ## One block -/

/-- What the body leaves in its output block. -/
theorem out_apply (x0 : Vec Ideal S1024x512 .bf16) (x1 : Vec Ideal S512x1024 .bf16) (a : Fin 1024) (b : Fin 1024) :
    out0_2 (F := Ideal) x0 x1 (ix2 a b) = ∑ k : Fin 512, x0 (ix2 a k) * x1 (ix2 k b) := by
  have h0 : (![0, 0] : Fin S1024x512.rank → Nat) = fun _ => 0 := funext fun a => by fin_cases a <;> rfl
  have h1 : (![0, 0] : Fin S512x1024.rank → Nat) = fun _ => 0 := funext fun a => by fin_cases a <;> rfl
  have h2 : (![0, 0] : Fin S1024x1024.rank → Nat) = fun _ => 0 := funext fun a => by fin_cases a <;> rfl
  unfold out0_2
  rw [View.canon_unit_zero h2]
  simp only [View.ld_unit_zero (S := S1024x512) h0, View.ld_unit_zero (S := S512x1024) h1]
  unfold k0_pay1
  simp only [shapeCast_self]
  exact product_apply (M := 1024) (K := 512) (N := 1024) (φ₁ := .bf16) (φ₂ := .bf16) x0 x1 a b

/-! ## The index maps -/

/-- Where each window stands at each grid point: the rows move with the first coordinate, the columns with the second. -/
theorem idx_facts : ∀ t : Fin cfg0.N,
    (win0_0.index t 0 = t.val / 4 ∧ win0_0.index t 1 = 0) ∧
    (win0_1.index t 0 = 0 ∧ win0_1.index t 1 = t.val % 4) ∧
    (win0_2.index t 0 = t.val / 4 ∧ win0_2.index t 1 = t.val % 4) := by
  decide +kernel

/-! ## The arrays the region finds -/

/-- The launched arguments on a device. -/
abbrev a0 (c : Dev nD) : (⟨3, ![8, 2304, 512]⟩ : Shape).Idx → EReal := m ((c : Thread nD τ).loc main_arg0)
abbrev a1 (c : Dev nD) : (⟨4, ![2, 512, 16, 256]⟩ : Shape).Idx → EReal := m ((c : Thread nD τ).loc main_arg1)

/-- The stacked rows of latents. -/
theorem V_rows (c : Dev nD) (r : Fin 18432) (k : Fin 512) :
    (V m c main_v5 : S18432x512.Idx → EReal) (ix2 r k) = a0 m c (ix3 (sample r) (token r) k) := by
  unfold_abbrev_sides
  after_results
  exact stacked_apply 512 (a0 m c) slices_S8x2304x512_S8x256x512_0_0_0 slices_S8x2304x512_S8x2048x512_0_256_0
    shapeCasts_S8x256x512_S2048x512 shapeCasts_S8x2048x512_S16384x512 concatenates_S2048x512_S16384x512_S18432x512_d0 r k

/-- The weight of layer 1, its heads side by side. -/
theorem V_weights (c : Dev nD) (k : Fin 512) (j : Fin 4096) (h : Fin 16) (d : Fin 256) (hj : j.val = 256 * h.val + d.val) :
    (V m c main_v9 : S512x4096.Idx → EReal) (ix2 k j) = a1 m c (ix4 1 k h d) := by
  unfold_abbrev_sides
  after_results
  refine (shapeCast_apply _ shapeCasts_S512x16x256_S512x4096 (ix2 k j) (ix3 k h d) ?_).trans
    ((shapeCast_apply _ shapeCasts_S1x512x16x256_S512x16x256 (ix3 k h d) (ix4 0 k h d) ?_).trans
      (extractStridedSlice_apply _ (a1 m c) slices_S2x512x16x256_S1x512x16x256_1_0_0_0 _ (ix4 1 k h d) fun a => ?_))
  · rw [Shape.rowMajor_val_three, Shape.rowMajor_val_two]
    show (k.val * 16 + h.val) * 256 + d.val = k.val * 4096 + j.val
    omega
  · rw [Shape.rowMajor_val_three, Shape.rowMajor_val_four]
    show ((0 * 512 + k.val) * 16 + h.val) * 256 + d.val = (k.val * 16 + h.val) * 256 + d.val
    omega
  · match a with
    | ⟨0, _⟩ => rfl
    | ⟨1, _⟩ => show k.val = 0 + k.val; omega
    | ⟨2, _⟩ => show h.val = 0 + h.val; omega
    | ⟨3, _⟩ => show d.val = 0 + d.val; omega

/-! ## The blocks -/

/-- Point `t`'s block of the rows. -/
theorem blk_rows (c : Dev nD) (t : Fin cfg0.N) (a : Fin 1024) (k : Fin 512) (r : Fin 18432) (hr : r.val = t.val / 4 * 1024 + a.val) :
    (iblk (F := Ideal) m c 0 t : S1024x512.Idx → EReal) (ix2 a k) = a0 m c (ix3 (sample r) (token r) k) := by
  have hf := (idx_facts t).1
  rw [← V_rows m c r k]
  show (V m c main_v5 : S18432x512.Idx → EReal) ((win0_0.rect t).emb (ix2 a k)) = _
  congr 1
  apply Shape.idx_ext₂
  · rw [win0_0.rect_emb_val, hf.1]; exact hr.symm
  · rw [win0_0.rect_emb_val, hf.2]; exact (Nat.zero_mul _).symm ▸ Nat.zero_add _

/-- Point `t`'s block of the weight. -/
theorem blk_weights (c : Dev nD) (t : Fin cfg0.N) (k : Fin 512) (b : Fin 1024) (j : Fin 4096) (h : Fin 16) (d : Fin 256)
    (hj : j.val = t.val % 4 * 1024 + b.val) (hh : j.val = 256 * h.val + d.val) :
    (iblk (F := Ideal) m c 1 t : S512x1024.Idx → EReal) (ix2 k b) = a1 m c (ix4 1 k h d) := by
  have hf := (idx_facts t).2.1
  rw [← V_weights m c k j h d hh]
  show (V m c main_v9 : S512x4096.Idx → EReal) ((win0_1.rect t).emb (ix2 k b)) = _
  congr 1
  apply Shape.idx_ext₂
  · rw [win0_1.rect_emb_val, hf.1]; show 0 * 512 + k.val = k.val; omega
  · rw [win0_1.rect_emb_val, hf.2]; exact hj.symm

/-! ## The array after the run -/

/-- The output array: at stacked row `r`, column `j`, the product. -/
def G (c : Dev nD) : S18432x4096.Idx → EReal :=
  fun i => keyval (a0 m c) (a1 m c) (i 0) (i 1)

/-- What point `t` writes back is block `t` of that array. -/
theorem flushed_eq (c : Dev nD) (t : Fin cfg0.N) :
    (dats (F := Ideal) m 0 c).flushed 2 t = ((cfg0.win 2).blk t).view.read (Elt Ideal) (G m c) := by
  rw [Value.flushed2]
  funext y
  obtain ⟨a, b, rfl⟩ : ∃ a b : Fin 1024, y = ix2 a b := ⟨y 0, y 1, eq_ix2 y⟩
  have hf := (idx_facts t).2.2
  have ht : t.val < 72 := t.isLt
  show out0_2 (F := Ideal) (iblk m c 0 t) (iblk m c 1 t) (ix2 a b) = G m c ((win0_2.rect t).emb (ix2 a b))
  rw [out_apply]
  have e : (win0_2.rect t).emb (ix2 a b)
      = ix2 (n0 := 18432) (n1 := 4096) ⟨t.val / 4 * 1024 + a.val, by omega⟩ ⟨t.val % 4 * 1024 + b.val, by omega⟩ := by
    apply Shape.idx_ext₂
    · rw [win0_2.rect_emb_val, hf.1]; rfl
    · rw [win0_2.rect_emb_val, hf.2]; rfl
  rw [e]
  show _ = keyval _ _ _ _
  unfold keyval
  exact Finset.sum_congr rfl fun k _ => congrArg₂ (· * ·) (blk_rows m c t a k _ rfl)
    (blk_weights m c t k b ⟨t.val % 4 * 1024 + b.val, by omega⟩ _ _ rfl (by
      show t.val % 4 * 1024 + b.val = 256 * ((t.val % 4 * 1024 + b.val) / 256) + (t.val % 4 * 1024 + b.val) % 256
      omega))

/-- Every index of the output array lies in some point's block. -/
theorem cover (i : S18432x4096.Idx) : ∃ t : Fin cfg0.N, (cfg0.win 2).flush t = true ∧ i ∈ ((cfg0.win 2).blk t).view.set := by
  have h0 : (i 0 : Nat) < 18432 := (i 0).isLt
  have h1 : (i 1 : Nat) < 4096 := (i 1).isLt
  let t : Fin cfg0.N := ⟨(i 0).val / 1024 * 4 + (i 1).val / 1024, by show _ < 72; omega⟩
  have hf := (idx_facts t).2.2
  have e0 : t.val / 4 = (i 0).val / 1024 := by show ((i 0).val / 1024 * 4 + (i 1).val / 1024) / 4 = _; omega
  have e1 : t.val % 4 = (i 1).val / 1024 := by show ((i 0).val / 1024 * 4 + (i 1).val / 1024) % 4 = _; omega
  refine ⟨t, flush0_2 t, ?_⟩
  show i ∈ ((View.whole main_v10).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [hf.1, e0]; omega
  | ⟨1, _⟩ =>
    show win0_2.index t 1 * 1024 ≤ (i 1 : Nat) ∧ (i 1 : Nat) < win0_2.index t 1 * 1024 + 1024
    rw [hf.2, e1]; omega

/-- After the run the output array is `G`. -/
theorem final (c : Dev nD) : (dats (F := Ideal) m 0 c).arrAt 2 cfg0.N = G m c :=
  (dats (F := Ideal) m 0 c).arrAt_eq_of_cover 2 (G m c) (fun t _ => flushed_eq m c t) cover

end Cert.Proof.Kv

end
-- ==== Proof.Mix.KvRef.lean ====
/-
  The value of the key-value projection's reference, and the two programs' agreement: the product per head, its heads laid side by
  side and the tokens stacked; at row `r` and column `j` that is again `keyval`.
-/
module

public import proofs.«01_k».proof.Proof.Gen.KvRefIdeal.Run
public import proofs.«01_k».proof.Proof.Gen.KvRefIdeal.Read
public import proofs.«01_k».proof.Proof.Mix.Kv
public import proofs.«01_k».proof.Defs

@[expose] public section

noncomputable section

namespace Cert.Proof.KvRef

open Cert.KvRefIdeal Cert.KvRefIdeal.Gen Cert.KvRefIdeal.Read Idealize.ShloMosaic Idealize.ShloMosaic.TcCoe Idealize.SL.Sem
open Idealize.ShloMosaic.ValueIdx
open Cert.Proof.Spec Cert.Proof.Mix
open scoped BigOperators

variable (x0 : (⟨S8x2304x512, .f32⟩ : BufTy).Contents (Elt Ideal)) (x1 : (⟨S2x512x16x256, .f32⟩ : BufTy).Contents (Elt Ideal))

/-- The weight of layer 1. -/
theorem weight_apply (k : Fin 512) (h : Fin 16) (d : Fin 256) : val_main_v1 (F := Ideal) x1 (ix3 k h d) = x1 (ix4 1 k h d) := by
  have := k.isLt
  have := h.isLt
  have := d.isLt
  rw [val_main_v1_apply, val_main_v0_apply]
  congr 1
  funext a
  match a with
  | ⟨0, _⟩ => rfl
  | ⟨1, _⟩ => exact Fin.ext (by show ((k.val * 16 + h.val) * 256 + d.val) / 4096 % 512 = k.val; omega)
  | ⟨2, _⟩ => exact Fin.ext (by show ((k.val * 16 + h.val) * 256 + d.val) / 256 % 16 = h.val; omega)
  | ⟨3, _⟩ => exact Fin.ext (by show ((k.val * 16 + h.val) * 256 + d.val) % 256 = d.val; omega)

/-- The product at a token, a head and an entry. -/
theorem heads_apply (b : Fin 8) (n : Fin 2304) (h : Fin 16) (d : Fin 256) :
    val_main_v4 (F := Ideal) x0 x1 (ix4 b n h d) = ∑ k : Fin 512, x0 (ix3 b n k) * x1 (ix4 1 k h d) := by
  rw [val_main_v4_apply, val_main_v3_apply, val_main_v2_apply]
  refine Finset.sum_congr rfl fun k _ => (mul_comm _ _).trans (congrArg₂ (· * ·) (congrArg x0 ?_) (Eq.trans (congrArg _ ?_) (weight_apply x1 k h d)))
  · funext a; match a with | ⟨0, _⟩ => rfl | ⟨1, _⟩ => rfl | ⟨2, _⟩ => rfl
  · funext a; match a with | ⟨0, _⟩ => rfl | ⟨1, _⟩ => rfl | ⟨2, _⟩ => rfl

/-- The heads side by side at a token and a column. -/
theorem side_apply (b : Fin 8) (n : Fin 2304) (j : Fin 4096) :
    val_main_v5 (F := Ideal) x0 x1 (ix3 b n j)
      = ∑ k : Fin 512, x0 (ix3 b n k) * x1 (ix4 1 k ⟨j.val / 256, by have := j.isLt; omega⟩ ⟨j.val % 256, by omega⟩) := by
  have hj := j.isLt
  refine Eq.trans ?_ (heads_apply x0 x1 b n ⟨j.val / 256, by omega⟩ ⟨j.val % 256, by omega⟩)
  unfold val_main_v5
  refine shapeCast_apply _ shapeCasts_S8x2304x16x256_S8x2304x4096 _ _ ?_
  rw [Shape.rowMajor_val_three, Shape.rowMajor_val_four]
  show ((b.val * 2304 + n.val) * 16 + j.val / 256) * 256 + j.val % 256 = (b.val * 2304 + n.val) * 4096 + j.val
  omega

/-- The reference's result at a row and a column. -/
theorem result_apply (r : Fin 18432) (j : Fin 4096) :
    val_main_v11 (F := Ideal) x0 x1 (ix2 r j) = keyval x0 x1 r j := by
  refine Eq.trans ?_ (side_apply x0 x1 _ _ _)
  exact stacked_apply 4096 (val_main_v5 (F := Ideal) x0 x1) slices_S8x2304x4096_S8x256x4096_0_0_0
    slices_S8x2304x4096_S8x2048x4096_0_256_0 shapeCasts_S8x256x4096_S2048x4096 shapeCasts_S8x2048x4096_S16384x4096
    concatenates_S2048x4096_S16384x4096_S18432x4096_d0 r j

/-- The reference's run leaves in its result what the kernel's leaves in its output array, from the same arguments. -/
theorem agree (m : (ℓ : Loc Cert.KvIdeal.nD Cert.KvIdeal.τ Cert.KvIdeal.sig) → Buf (Elt Ideal) ℓ) (c : Dev Cert.KvIdeal.nD) :
    val_main_v11 (F := Ideal) (Kv.a0 m c) (Kv.a1 m c) = Kv.G m c := by
  funext i
  obtain ⟨r, j, rfl⟩ : ∃ (r : Fin 18432) (j : Fin 4096), i = ix2 r j := ⟨i 0, i 1, eq_ix2 i⟩
  exact result_apply _ _ r j

end Cert.Proof.KvRef

end
-- ==== Proof.Mix.Last.lean ====
/-
  The value of the final kernel: after the run its output array holds, at latent row `r` and column `j`, entry `j` of the normalized
  row that the residual and the experts' two weighted outputs add up to.
-/
module

public import proofs.«01_k».proof.Proof.Gen.FinIdeal.Value
public import proofs.«01_k».proof.Proof.Mix.Spec

@[expose] public section

noncomputable section

namespace Cert.Proof.Last

open Cert.FinIdeal Cert.FinIdeal.Gen Idealize.ShloMosaic Idealize.ShloMosaic.TcCoe Idealize.SL.Sem
open Idealize.ShloMosaic.Pipeline (Dat)
open Idealize.ShloMosaic.ValueIdx
open Cert.Proof.Spec Cert.Proof.Mix
open scoped BigOperators

variable (m : (ℓ : Loc nD τ sig) → Buf (Elt Ideal) ℓ)

/-! ## One block -/

/-- What the body leaves in its output block. -/
theorem out_apply (x0 x1 x2 : Vec Ideal S256x4096 .f32) (x3 : Vec Ideal S256x2 .f32) (x4 : Vec Ideal S1x1x4096 .f32) (x5 : Vec Ideal S1x4096 .f32)
    (a : Fin 256) (b : Fin 4096) :
    out0_6 (F := Ideal) x0 x1 x2 x3 x4 x5 (ix2 a b)
      = rms 4096 0x45800000#32 0x358637BD#32
          (fun j => x0 (ix2 a j) + x4 (ix3 0 0 j) * (x1 (ix2 a j) * x3 (ix2 a 0) + x2 (ix2 a j) * x3 (ix2 a 1))) (x5 (ix2 0 b)) b := by
  have h0 : (![0, 0] : Fin S256x4096.rank → Nat) = fun _ => 0 := funext fun a => by fin_cases a <;> rfl
  have h1 : (![0, 0] : Fin S256x2.rank → Nat) = fun _ => 0 := funext fun a => by fin_cases a <;> rfl
  have h2 : (![0, 0] : Fin S1x4096.rank → Nat) = fun _ => 0 := funext fun a => by fin_cases a <;> rfl
  have h3 : (![0, 0, 0] : Fin S1x1x4096.rank → Nat) = fun _ => 0 := funext fun a => by fin_cases a <;> rfl
  unfold out0_6
  rw [View.canon_unit_zero h0]
  simp only [View.ld_unit_zero (S := S256x4096) h0, View.ld_unit_zero (S := S256x2) h1, View.ld_unit_zero (S := S1x4096) h2,
    View.ld_unit_zero (S := S1x1x4096) h3]
  unfold k0_pay1
  simp only [shapeCast_self]
  refine rms_rows 256 4096 0x45800000#32 0x358637BD#32 _ x5 _ _ _ _ _ _
    (fun a j => x0 (ix2 a j) + x4 (ix3 0 0 j) * (x1 (ix2 a j) * x3 (ix2 a 0) + x2 (ix2 a j) * x3 (ix2 a 1))) (fun a j => ?_) a b
  exact congrArg (x0 (ix2 a j) + ·) (congrArg₂ (· * ·) (gate_row_apply x4 _ _ a j)
    (congrArg₂ (· + ·) (congrArg (x1 (ix2 a j) * ·) (weight_col_apply x3 0 _ _ a j)) (congrArg (x2 (ix2 a j) * ·) (weight_col_apply x3 1 _ _ a j))))

/-! ## The index maps -/

/-- Where each window stands at each grid point: the rows move with the grid, the second output's rows 64 blocks on; the
    gate's window stands at the sixth vector of the rows' sample. -/
theorem idx_facts : ∀ t : Fin cfg0.N,
    (win0_0.index t 0 = t.val ∧ win0_0.index t 1 = 0) ∧
    (win0_1.index t 0 = t.val ∧ win0_1.index t 1 = 0) ∧
    (win0_2.index t 0 = 64 + t.val ∧ win0_2.index t 1 = 0) ∧
    (win0_3.index t 0 = t.val ∧ win0_3.index t 1 = 0) ∧
    (win0_4.index t 0 = 6 * (t.val / 8) + 5 ∧ win0_4.index t 1 = 0 ∧ win0_4.index t 2 = 0) ∧
    (win0_5.index t 0 = 0 ∧ win0_5.index t 1 = 0) ∧
    (win0_6.index t 0 = t.val ∧ win0_6.index t 1 = 0) := by
  decide +kernel

/-! ## The arrays the region finds -/

/-- The launched arguments on a device. -/
abbrev a0 (c : Dev nD) : (⟨3, ![8, 2048, 4096]⟩ : Shape).Idx → EReal := m ((c : Thread nD τ).loc main_arg0)
abbrev a1 (c : Dev nD) : (⟨3, ![16384, 2, 4096]⟩ : Shape).Idx → EReal := m ((c : Thread nD τ).loc main_arg1)
abbrev a2 (c : Dev nD) : (⟨2, ![16384, 2]⟩ : Shape).Idx → EReal := m ((c : Thread nD τ).loc main_arg2)
abbrev a3 (c : Dev nD) : (⟨3, ![8, 1, 24576]⟩ : Shape).Idx → EReal := m ((c : Thread nD τ).loc main_arg3)
abbrev a4 (c : Dev nD) : (⟨3, ![1, 1, 24576]⟩ : Shape).Idx → EReal := m ((c : Thread nD τ).loc main_arg4)
abbrev a5 (c : Dev nD) : (⟨1, ![4096]⟩ : Shape).Idx → EReal := m ((c : Thread nD τ).loc main_arg5)

/-- The residual by row. -/
theorem V_rows (c : Dev nD) (r : Fin 16384) (k : Fin 4096) :
    (V m c main_v0 : S16384x4096.Idx → EReal) (ix2 r k) = a0 m c (ix3 (smp r) (tok r) k) := by
  unfold_abbrev_sides
  after_results
  exact flat_apply 4096 (a0 m c) shapeCasts_S8x2048x4096_S16384x4096 r k

/-- One expert output of every row, cut out and flattened, read at an index. -/
theorem pick_apply (y : (⟨3, ![16384, 2, 4096]⟩ : Shape).Idx → EReal) (s : Fin 2) (hs : S16384x2x4096.Slices ![0, s.val, 0] S16384x1x4096)
    (r : Fin 16384) (j : Fin 4096) :
    shapeCast S16384x4096 (extractStridedSlice S16384x1x4096 ![0, s.val, 0] y hs) shapeCasts_S16384x1x4096_S16384x4096 (ix2 r j) = y (ix3 r s j) := by
  refine (shapeCast_apply _ shapeCasts_S16384x1x4096_S16384x4096 (ix2 r j) (ix3 (n1 := 1) r 0 j) ?_).trans
    (extractStridedSlice_apply _ y hs _ (ix3 r s j) fun a => ?_)
  · rw [Shape.rowMajor_val_three, Shape.rowMajor_val_two]
    show (r.val * 1 + 0) * 4096 + j.val = r.val * 4096 + j.val
    omega
  · match a with
    | ⟨0, _⟩ => show r.val = 0 + r.val; omega
    | ⟨1, _⟩ => show s.val = s.val + 0; omega
    | ⟨2, _⟩ => show j.val = 0 + j.val; omega

/-- The experts' first outputs. -/
theorem V_first (c : Dev nD) (q : Fin 33024) (r : Fin 16384) (hq : q.val = r.val) (j : Fin 4096) :
    (V m c main_v6 : S33024x4096.Idx → EReal) (ix2 q j) = a1 m c (ix3 r 0 j) := by
  unfold_abbrev_sides
  after_results
  refine Eq.trans ?_ (pick_apply (a1 m c) 0 slices_S16384x2x4096_S16384x1x4096_0_0_0 r j)
  exact concatenate_apply_piece (t := S33024x4096) 0 _ _ (ix2 q j) 0 (by show 0 < 3; omega) S16384x4096 _ rfl rfl 0 rfl (ix2 r j)
    (fun a ha => by match a with | ⟨0, _⟩ => exact absurd rfl ha | ⟨1, _⟩ => rfl) (by show 0 + r.val = q.val; omega)

/-- The experts' second outputs. -/
theorem V_second (c : Dev nD) (q : Fin 33024) (r : Fin 16384) (hq : q.val = 16384 + r.val) (j : Fin 4096) :
    (V m c main_v6 : S33024x4096.Idx → EReal) (ix2 q j) = a1 m c (ix3 r 1 j) := by
  unfold_abbrev_sides
  after_results
  refine Eq.trans ?_ (pick_apply (a1 m c) 1 slices_S16384x2x4096_S16384x1x4096_0_1_0 r j)
  exact concatenate_apply_piece (t := S33024x4096) 0 _ _ (ix2 q j) 1 (by show 1 < 3; omega) S16384x4096 _ rfl rfl 16384 rfl (ix2 r j)
    (fun a ha => by match a with | ⟨0, _⟩ => exact absurd rfl ha | ⟨1, _⟩ => rfl) (by show 16384 + r.val = q.val; omega)

/-- The modulation vectors: the sixth of sample `b`. -/
theorem V_gates (c : Dev nD) (q : Fin 54) (b : Fin 8) (hq : q.val = 6 * b.val + 5) (j : Fin 4096) (p : Fin 24576) (hp : p.val = 20480 + j.val) :
    (V m c main_v10 : S54x1x4096.Idx → EReal) (ix3 q 0 j) = a3 m c (ix3 b 0 p) := by
  unfold_abbrev_sides
  after_results
  exact modv_apply (a3 m c) (a4 m c) shapeCasts_S8x1x24576_S8x24576 shapeCasts_S1x1x24576_S1x24576
    concatenates_S8x24576_S1x24576_S9x24576_d0 shapeCasts_S9x24576_S54x1x4096 q b 5 hq j p hp

/-- The gains as a row. -/
theorem V_gains (c : Dev nD) (j : Fin 4096) :
    (V m c main_v11 : S1x4096.Idx → EReal) (ix2 0 j) = a5 m c (ix1 j) := by
  unfold_abbrev_sides
  after_results
  refine shapeCast_apply (a5 m c) shapeCasts_S4096_S1x4096 _ _ ?_
  rw [Shape.rowMajor_val_one, Shape.rowMajor_val_two]
  show j.val = 0 * 4096 + j.val
  omega

/-- The experts' weights, as they were launched. -/
theorem V_mix (c : Dev nD) : (V m c main_arg2 : S16384x2.Idx → EReal) = a2 m c := by
  unfold_abbrev_sides
  after_results

/-! ## The blocks -/

/-- Point `t`'s block of the residual. -/
theorem blk_rows (c : Dev nD) (t : Fin cfg0.N) (a : Fin 256) (k : Fin 4096) (r : Fin 16384) (hr : r.val = t.val * 256 + a.val) :
    (iblk (F := Ideal) m c 0 t : S256x4096.Idx → EReal) (ix2 a k) = a0 m c (ix3 (smp r) (tok r) k) := by
  have hf := (idx_facts t).1
  rw [← V_rows m c r k]
  show (V m c main_v0 : S16384x4096.Idx → EReal) ((win0_0.rect t).emb (ix2 a k)) = _
  congr 1
  apply Shape.idx_ext₂
  · rw [win0_0.rect_emb_val, hf.1]; exact hr.symm
  · rw [win0_0.rect_emb_val, hf.2]; exact (Nat.zero_mul _).symm ▸ Nat.zero_add _

/-- Point `t`'s block of the experts' first outputs. -/
theorem blk_first (c : Dev nD) (t : Fin cfg0.N) (a : Fin 256) (k : Fin 4096) (r : Fin 16384) (hr : r.val = t.val * 256 + a.val) :
    (iblk (F := Ideal) m c 1 t : S256x4096.Idx → EReal) (ix2 a k) = a1 m c (ix3 r 0 k) := by
  have hf := (idx_facts t).2.1
  have h := r.isLt
  rw [← V_first m c ⟨r.val, by omega⟩ r rfl k]
  show (V m c main_v6 : S33024x4096.Idx → EReal) ((win0_1.rect t).emb (ix2 a k)) = _
  congr 1
  apply Shape.idx_ext₂
  · rw [win0_1.rect_emb_val, hf.1]; exact hr.symm
  · rw [win0_1.rect_emb_val, hf.2]; exact (Nat.zero_mul _).symm ▸ Nat.zero_add _

/-- Point `t`'s block of the experts' second outputs. -/
theorem blk_second (c : Dev nD) (t : Fin cfg0.N) (a : Fin 256) (k : Fin 4096) (r : Fin 16384) (hr : r.val = t.val * 256 + a.val) :
    (iblk (F := Ideal) m c 2 t : S256x4096.Idx → EReal) (ix2 a k) = a1 m c (ix3 r 1 k) := by
  have hf := (idx_facts t).2.2.1
  have h := r.isLt
  rw [← V_second m c ⟨16384 + r.val, by omega⟩ r rfl k]
  show (V m c main_v6 : S33024x4096.Idx → EReal) ((win0_2.rect t).emb (ix2 a k)) = _
  congr 1
  apply Shape.idx_ext₂
  · rw [win0_2.rect_emb_val, hf.1]; show (64 + t.val) * 256 + a.val = 16384 + r.val; omega
  · rw [win0_2.rect_emb_val, hf.2]; exact (Nat.zero_mul _).symm ▸ Nat.zero_add _

/-- Point `t`'s block of the experts' weights. -/
theorem blk_mix (c : Dev nD) (t : Fin cfg0.N) (a : Fin 256) (s : Fin 2) (r : Fin 16384) (hr : r.val = t.val * 256 + a.val) :
    (iblk (F := Ideal) m c 3 t : S256x2.Idx → EReal) (ix2 a s) = a2 m c (ix2 r s) := by
  have hf := (idx_facts t).2.2.2.1
  rw [← V_mix m c]
  show (V m c main_arg2 : S16384x2.Idx → EReal) ((win0_3.rect t).emb (ix2 a s)) = _
  congr 1
  apply Shape.idx_ext₂
  · rw [win0_3.rect_emb_val, hf.1]; exact hr.symm
  · rw [win0_3.rect_emb_val, hf.2]; exact (Nat.zero_mul _).symm ▸ Nat.zero_add _

/-- Point `t`'s block of the gates: the sixth modulation vector of the rows' sample. -/
theorem blk_gates (c : Dev nD) (t : Fin cfg0.N) (a : Fin 256) (r : Fin 16384) (j : Fin 4096) (p : Fin 24576)
    (hr : r.val = t.val * 256 + a.val) (hp : p.val = 20480 + j.val) :
    (iblk (F := Ideal) m c 4 t : S1x1x4096.Idx → EReal) (ix3 0 0 j) = a3 m c (ix3 (smp r) 0 p) := by
  have hf := (idx_facts t).2.2.2.2.1
  have ht : t.val < 64 := t.isLt
  have ha := a.isLt
  have hs : r.val / 2048 = t.val / 8 := by omega
  refine Eq.trans ?_ (V_gates m c ⟨6 * (t.val / 8) + 5, by omega⟩ (smp r) (by show 6 * (t.val / 8) + 5 = 6 * (r.val / 2048) + 5; rw [hs]) j p hp)
  show (V m c main_v10 : S54x1x4096.Idx → EReal) ((win0_4.rect t).emb (ix3 0 0 j)) = _
  congr 1
  funext x
  apply Fin.ext
  match x with
  | ⟨0, _⟩ => rw [win0_4.rect_emb_val]; show win0_4.index t 0 * 1 + 0 = 6 * (t.val / 8) + 5; rw [hf.1]; omega
  | ⟨1, _⟩ => rw [win0_4.rect_emb_val]; show win0_4.index t 1 * 1 + 0 = 0; rw [hf.2.1]
  | ⟨2, _⟩ => rw [win0_4.rect_emb_val]; show win0_4.index t 2 * 4096 + j.val = j.val; rw [hf.2.2]; omega

/-- Point `t`'s block of the gains: all of them. -/
theorem blk_gains (c : Dev nD) (t : Fin cfg0.N) (j : Fin 4096) :
    (iblk (F := Ideal) m c 5 t : S1x4096.Idx → EReal) (ix2 0 j) = a5 m c (ix1 j) := by
  have hf := (idx_facts t).2.2.2.2.2.1
  rw [← V_gains m c j]
  show (V m c main_v11 : S1x4096.Idx → EReal) ((win0_5.rect t).emb (ix2 0 j)) = _
  congr 1
  apply Shape.idx_ext₂
  · rw [win0_5.rect_emb_val, hf.1]; rfl
  · rw [win0_5.rect_emb_val, hf.2]; exact (Nat.zero_mul _).symm ▸ Nat.zero_add _

/-! ## The array after the run -/

/-- The output array: at latent row `r`, column `j`, entry `j` of the normalized row. -/
def G (c : Dev nD) : S16384x4096.Idx → EReal :=
  fun i => rms 4096 0x45800000#32 0x358637BD#32 (combined (a0 m c) (a1 m c) (a2 m c) (a3 m c) (i 0)) (a5 m c (ix1 (i 1))) (i 1)

/-- What point `t` writes back is block `t` of that array. -/
theorem flushed_eq (c : Dev nD) (t : Fin cfg0.N) :
    (dats (F := Ideal) m 0 c).flushed 6 t = ((cfg0.win 6).blk t).view.read (Elt Ideal) (G m c) := by
  rw [Value.flushed6]
  funext y
  obtain ⟨a, b, rfl⟩ : ∃ (a : Fin 256) (b : Fin 4096), y = ix2 a b := ⟨y 0, y 1, eq_ix2 y⟩
  have hf := (idx_facts t).2.2.2.2.2.2
  have ht : t.val < 64 := t.isLt
  show out0_6 (F := Ideal) (iblk m c 0 t) (iblk m c 1 t) (iblk m c 2 t) (iblk m c 3 t) (iblk m c 4 t) (iblk m c 5 t) (ix2 a b)
    = G m c ((win0_6.rect t).emb (ix2 a b))
  rw [out_apply]
  have e : (win0_6.rect t).emb (ix2 a b) = ix2 (n0 := 16384) (n1 := 4096) ⟨t.val * 256 + a.val, by omega⟩ b := by
    apply Shape.idx_ext₂
    · rw [win0_6.rect_emb_val, hf.1]; rfl
    · rw [win0_6.rect_emb_val, hf.2]; show 0 * 4096 + b.val = b.val; omega
  rw [e]
  show _ = rms _ _ _ (combined _ _ _ _ ⟨t.val * 256 + a.val, _⟩) (a5 m c (ix1 b)) b
  rw [blk_gains m c t b]
  refine congrArg (fun z => rms 4096 0x45800000#32 0x358637BD#32 z (a5 m c (ix1 b)) b) (funext fun j => ?_)
  unfold combined
  exact congrArg₂ (· + ·) (blk_rows m c t a j _ rfl) (congrArg₂ (· * ·) (blk_gates m c t a _ j _ rfl rfl)
    (congrArg₂ (· + ·) (congrArg₂ (· * ·) (blk_first m c t a j _ rfl) (blk_mix m c t a 0 _ rfl))
      (congrArg₂ (· * ·) (blk_second m c t a j _ rfl) (blk_mix m c t a 1 _ rfl))))

/-- Every index of the output array lies in some point's block. -/
theorem cover (i : S16384x4096.Idx) : ∃ t : Fin cfg0.N, (cfg0.win 6).flush t = true ∧ i ∈ ((cfg0.win 6).blk t).view.set := by
  have h0 : (i 0 : Nat) < 16384 := (i 0).isLt
  have h1 : (i 1 : Nat) < 4096 := (i 1).isLt
  let t : Fin cfg0.N := ⟨(i 0).val / 256, by show _ < 64; omega⟩
  have hf := (idx_facts t).2.2.2.2.2.2
  have e0 : t.val = (i 0).val / 256 := rfl
  refine ⟨t, flush0_6 t, ?_⟩
  show i ∈ ((View.whole main_v12).slice (win0_6.rect t)).set
  rw [View.set_slice_whole, Rect.mem_set_unit]
  intro a
  match a with
  | ⟨0, _⟩ =>
    show win0_6.index t 0 * 256 ≤ (i 0 : Nat) ∧ (i 0 : Nat) < win0_6.index t 0 * 256 + 256
    rw [hf.1, e0]; omega
  | ⟨1, _⟩ =>
    show win0_6.index t 1 * 4096 ≤ (i 1 : Nat) ∧ (i 1 : Nat) < win0_6.index t 1 * 4096 + 4096
    rw [hf.2]; omega

/-- After the run the output array is `G`. -/
theorem final (c : Dev nD) : (dats (F := Ideal) m 0 c).arrAt 6 cfg0.N = G m c :=
  (dats (F := Ideal) m 0 c).arrAt_eq_of_cover 6 (G m c) (fun t _ => flushed_eq m c t) cover

end Cert.Proof.Last

end
-- ==== Proof.Mix.LastRef.lean ====
/-
  The value of the final step's reference, and the two programs' agreement: the experts' outputs weighted and summed, gated, added to
  the residual and normalized; at latent row `r` and column `j` that is again entry `j` of the normalized row.
-/
module

public import proofs.«01_k».proof.Proof.Gen.FinRefIdeal.Run
public import proofs.«01_k».proof.Proof.Gen.FinRefIdeal.Read
public import proofs.«01_k».proof.Proof.Mix.Last
public import proofs.«01_k».proof.Defs

@[expose] public section

noncomputable section

namespace Cert.Proof.LastRef

open Cert.FinRefIdeal Cert.FinRefIdeal.Gen Cert.FinRefIdeal.Read Idealize.ShloMosaic Idealize.ShloMosaic.TcCoe Idealize.SL.Sem
open Idealize.ShloMosaic.ValueIdx
open Cert.Proof.Spec Cert.Proof.Mix
open scoped BigOperators

variable (x0 : (⟨S8x2048x4096, .f32⟩ : BufTy).Contents (Elt Ideal)) (x1 : (⟨S16384x2x4096, .f32⟩ : BufTy).Contents (Elt Ideal))
  (x2 : (⟨S16384x2, .f32⟩ : BufTy).Contents (Elt Ideal)) (x3 : (⟨S8x1x24576, .f32⟩ : BufTy).Contents (Elt Ideal))
  (x5 : (⟨S4096, .f32⟩ : BufTy).Contents (Elt Ideal))

/-- The weighted sum of the experts' outputs at a latent row and a column. -/
theorem sum_apply (r : Fin 16384) (j : Fin 4096) :
    val_main_v9 (F := Ideal) x1 x2 (ix2 r j) = x1 (ix3 r 0 j) * x2 (ix2 r 0) + x1 (ix3 r 1 j) * x2 (ix2 r 1) := by
  have ht : ∀ k : Fin 2, val_main_v8 (F := Ideal) x1 x2 (idx_main_v9 (ix2 r j) k) = x1 (ix3 r k j) * x2 (ix2 r k) := by
    intro k
    have e : idx_main_v9 (ix2 r j) k = ix3 r k j := by
      funext a; match a with | ⟨0, _⟩ => rfl | ⟨1, _⟩ => rfl | ⟨2, _⟩ => rfl
    rw [e, val_main_v8_apply, val_main_v7_apply, val_main_v6_apply]
    refine congrArg (x1 (ix3 r k j) * ·) (congrArg x2 ?_)
    funext a; match a with | ⟨0, _⟩ => rfl | ⟨1, _⟩ => rfl
  rw [val_main_v9_apply, val_main_cst_apply]
  refine (congrArg (· + _) Ideal.ofBits_zero_f32).trans ((zero_add _).trans ?_)
  rw [Fin.sum_univ_two, ht 0, ht 1]

/-- The residual with the weighted sum, at a latent token and a column. -/
theorem combined_apply (b : Fin 8) (n : Fin 2048) (r : Fin 16384) (hb : smp r = b) (hn : tok r = n) (j : Fin 4096) :
    val_main_v13 (F := Ideal) x0 x1 x2 x3 (ix3 b n j) = combined x0 x1 x2 x3 r j := by
  subst hb
  subst hn
  have hj := j.isLt
  have hr := r.isLt
  rw [val_main_v13_apply, val_main_v12_apply, val_main_v11_apply, val_main_v5_apply, val_main_v10_apply]
  unfold combined
  refine congrArg (x0 _ + ·) (congrArg₂ (· * ·) (congrArg x3 ?_) (Eq.trans (congrArg _ ?_) (sum_apply x1 x2 r j)))
  · funext a; match a with | ⟨0, _⟩ => rfl | ⟨1, _⟩ => rfl | ⟨2, _⟩ => rfl
  · funext a
    match a with
    | ⟨0, _⟩ => exact Fin.ext (by show ((r.val / 2048 * 2048 + r.val % 2048) * 4096 + j.val) / 4096 = r.val; omega)
    | ⟨1, _⟩ => exact Fin.ext (by show ((r.val / 2048 * 2048 + r.val % 2048) * 4096 + j.val) % 4096 = j.val; omega)

/-- The normalized row at a latent token. -/
theorem normed_apply (r : Fin 16384) (j : Fin 4096) :
    val_main_v26 (F := Ideal) x0 x1 x2 x3 x5 (ix3 (smp r) (tok r) j)
      = rms 4096 0x45800000#32 0x358637BD#32 (combined x0 x1 x2 x3 r) (x5 (ix1 j)) j := by
  have hv : val_main_v15 (F := Ideal) x0 x1 x2 x3 (ix2 (smp r) (tok r)) = ∑ k : Fin 4096, combined x0 x1 x2 x3 r k * combined x0 x1 x2 x3 r k := by
    rw [val_main_v15_apply, val_main_cst_0_apply]
    refine (congrArg (· + _) Ideal.ofBits_zero_f32).trans ((zero_add _).trans ?_)
    refine Finset.sum_congr rfl fun k _ => ?_
    have e : idx_main_v15 (ix2 (smp r) (tok r)) k = ix3 (smp r) (tok r) k := by
      funext a; match a with | ⟨0, _⟩ => rfl | ⟨1, _⟩ => rfl | ⟨2, _⟩ => rfl
    rw [val_main_v14_apply, e, combined_apply x0 x1 x2 x3 _ _ r rfl rfl]
    rfl
  have e22 : idx_main_v22 (ix3 (smp r) (tok r) j) = ix3 (n2 := 1) (smp r) (tok r) 0 := by
    funext a; match a with | ⟨0, _⟩ => rfl | ⟨1, _⟩ => rfl | ⟨2, _⟩ => rfl
  have e16 : idx_main_v16 (ix3 (n2 := 1) (smp r) (tok r) 0) = ix2 (smp r) (tok r) := by
    funext a; match a with | ⟨0, _⟩ => rfl | ⟨1, _⟩ => rfl
  have e24 : idx_main_v24 (idx_main_v25 (ix3 (smp r) (tok r) j)) = ix1 j := by
    funext a; match a with | ⟨0, _⟩ => rfl
  rw [val_main_v26_apply, val_main_v25_apply, val_main_v24_apply, e24, val_main_v23_apply, val_main_v22_apply, e22, val_main_v21_apply,
    val_main_v20_apply, val_main_v19_apply, val_main_v18_apply, val_main_v17_apply, val_main_v16_apply, e16, hv, val_main_cst_1_apply,
    val_main_cst_2_apply, combined_apply x0 x1 x2 x3 _ _ r rfl rfl]
  rfl

/-- The reference's result at a latent row and a column. -/
theorem result_apply (r : Fin 16384) (j : Fin 4096) :
    val_main_v27 (F := Ideal) x0 x1 x2 x3 x5 (ix2 r j)
      = rms 4096 0x45800000#32 0x358637BD#32 (combined x0 x1 x2 x3 r) (x5 (ix1 j)) j :=
  (flat_apply 4096 (val_main_v26 (F := Ideal) x0 x1 x2 x3 x5) shapeCasts_S8x2048x4096_S16384x4096 r j).trans (normed_apply x0 x1 x2 x3 x5 r j)

/-- The reference's run leaves in its result what the kernel's leaves in its output array, from the same arguments. -/
theorem agree (m : (ℓ : Loc Cert.FinIdeal.nD Cert.FinIdeal.τ Cert.FinIdeal.sig) → Buf (Elt Ideal) ℓ) (c : Dev Cert.FinIdeal.nD) :
    val_main_v27 (F := Ideal) (Last.a0 m c) (Last.a1 m c) (Last.a2 m c) (Last.a3 m c) (Last.a5 m c) = Last.G m c := by
  funext i
  obtain ⟨r, j, rfl⟩ : ∃ (r : Fin 16384) (j : Fin 4096), i = ix2 r j := ⟨i 0, i 1, eq_ix2 i⟩
  exact result_apply _ _ _ _ _ r j

end Cert.Proof.LastRef

end
-- ==== Proof.Mix.Merge0.lean ====
/-
  The value of the branch-merge kernel of layer 0: after the run its output array holds, at stacked row `r` and column `j`, the sum over the three
  branches of the gate of that branch at row `r` times the product of the branch's row `r` with column `j` of its weight.
-/
module

public import proofs.«01_k».proof.Proof.Gen.Merge0Ideal.Value
public import proofs.«01_k».proof.Proof.Mix.Spec

@[expose] public section

noncomputable section

namespace Cert.Proof.Merge0

open Cert.Merge0Ideal Cert.Merge0Ideal.Gen Idealize.ShloMosaic Idealize.ShloMosaic.TcCoe Idealize.SL.Sem
open Idealize.ShloMosaic.Pipeline (Dat)
open Idealize.ShloMosaic.ValueIdx
open Cert.Proof.Spec Cert.Proof.Mix
open scoped BigOperators

variable (m : (ℓ : Loc nD τ sig) → Buf (Elt Ideal) ℓ)

/-! ## One block -/

/-- A plane of the weight's block, read as a matrix. -/
theorem plane_apply (x : Vec Ideal S3x2048x512 .bf16) (s : Fin 3) (off : Fin 3 → Nat) (hoff : off = ![s.val, 0, 0])
    (hin : ∀ i, off i + S1x2048x512.size i ≤ S3x2048x512.size i) (hs : S1x2048x512.ShapeCasts S2048x512) (k : Fin 2048) (b : Fin 512) :
    shapeCast S2048x512 (View.ld x (Rect.unit (s := S3x2048x512) off S1x2048x512.size hin)) hs (ix2 k b) = x (ix3 s k b) := by
  subst hoff
  rw [shapeCast_apply _ hs (ix2 k b) (ix3 (0 : Fin 1) k b) (by
    rw [Shape.rowMajor_val_three, Shape.rowMajor_val_two]
    show (0 * 2048 + k.val) * 512 + b.val = k.val * 512 + b.val
    omega)]
  show x ((Rect.unit (s := S3x2048x512) ![s.val, 0, 0] S1x2048x512.size hin).emb (ix3 0 k b)) = _
  congr 1
  funext a
  apply Fin.ext
  rw [Rect.emb_apply]
  match a with
  | ⟨0, _⟩ => show s.val + 1 * 0 = s.val; omega
  | ⟨1, _⟩ => show 0 + 1 * k.val = k.val; omega
  | ⟨2, _⟩ => show 0 + 1 * b.val = b.val; omega

/-- What the body leaves in its output block. -/
theorem out_apply (x0 x1 x2 : Vec Ideal S1024x2048 .bf16) (x3 : Vec Ideal S3x2048x512 .bf16) (x4 x5 x6 : Vec Ideal S1024x512 .bf16)
    (a : Fin 1024) (b : Fin 512) :
    out0_7 (F := Ideal) x0 x1 x2 x3 x4 x5 x6 (ix2 a b)
      = sig (x4 (ix2 a b)) * (∑ k : Fin 2048, x0 (ix2 a k) * x3 (ix3 0 k b))
        + sig (x5 (ix2 a b)) * (∑ k : Fin 2048, x1 (ix2 a k) * x3 (ix3 1 k b))
        + sig (x6 (ix2 a b)) * (∑ k : Fin 2048, x2 (ix2 a k) * x3 (ix3 2 k b)) := by
  have hz : (![0, 0] : Fin S1024x512.rank → Nat) = fun _ => 0 := funext fun a => by fin_cases a <;> rfl
  have hy : (![0, 0] : Fin S1024x2048.rank → Nat) = fun _ => 0 := funext fun a => by fin_cases a <;> rfl
  have hm : ∀ (x : Vec Ideal S1024x2048 .bf16) (s : Fin 3) (off : Fin 3 → Nat) (hoff : off = ![s.val, 0, 0])
      (hin : ∀ i, off i + S1x2048x512.size i ≤ S3x2048x512.size i),
      (matmul (F := Ideal) (φ₁ := .bf16) (φ₂ := .bf16) dot_S1024x2048_S2048x512_S1024x512_1_0_0_1_n_n none x
        (shapeCast S2048x512 (View.ld x3 (Rect.unit (s := S3x2048x512) off S1x2048x512.size hin)) shapeCasts_S1x2048x512_S2048x512 : FVec Ideal S2048x512 .bf16)
        (constant S1024x512 .f32 0x00000000#32) : FVec Ideal S1024x512 .f32) (ix2 a b) = ∑ k : Fin 2048, x (ix2 a k) * x3 (ix3 s k b) := by
    intro x s off hoff hin
    refine (product_apply (M := 1024) (K := 2048) (N := 512) (φ₁ := .bf16) (φ₂ := .bf16) x _ a b).trans ?_
    exact Finset.sum_congr rfl fun k _ => congrArg (x (ix2 a k) * ·) (plane_apply x3 s off hoff hin _ k b)
  unfold out0_7
  rw [View.canon_unit_zero hz]
  simp only [View.ld_unit_zero (S := S1024x512) hz, View.ld_unit_zero (S := S1024x2048) hy]
  unfold k0_pay1 k0_pay2
  simp only [shapeCast_self]
  refine congrArg₂ (· + ·) (congrArg₂ (· + ·) (congrArg₂ (· * ·) (gate_eq _) (hm x0 0 _ rfl _)) (congrArg₂ (· * ·) (gate_eq _) (hm x1 1 _ rfl _)))
    (congrArg₂ (· * ·) (gate_eq _) (hm x2 2 _ rfl _))

/-! ## The index maps -/

/-- Where each window stands at each grid point: the rows move with the first coordinate, the columns with the second; the
    gates' windows start at each gate's columns. -/
theorem idx_facts : ∀ t : Fin cfg0.N,
    (win0_0.index t 0 = t.val / 8 ∧ win0_0.index t 1 = 0) ∧
    (win0_1.index t 0 = t.val / 8 ∧ win0_1.index t 1 = 0) ∧
    (win0_2.index t 0 = t.val / 8 ∧ win0_2.index t 1 = 0) ∧
    (win0_3.index t 0 = 0 ∧ win0_3.index t 1 = 0 ∧ win0_3.index t 2 = t.val % 8) ∧
    (win0_4.index t 0 = t.val / 8 ∧ win0_4.index t 1 = 24 + t.val % 8) ∧
    (win0_5.index t 0 = t.val / 8 ∧ win0_5.index t 1 = 32 + t.val % 8) ∧
    (win0_6.index t 0 = t.val / 8 ∧ win0_6.index t 1 = 40 + t.val % 8) ∧
    (win0_7.index t 0 = t.val / 8 ∧ win0_7.index t 1 = t.val % 8) := by
  decide +kernel

/-! ## The arrays the region finds -/

/-- The launched arguments on a device. -/
abbrev a0 (c : Dev nD) : (⟨3, ![8, 2304, 2048]⟩ : Shape).Idx → EReal := m ((c : Thread nD τ).loc main_arg0)
abbrev a1 (c : Dev nD) : (⟨3, ![8, 2304, 2048]⟩ : Shape).Idx → EReal := m ((c : Thread nD τ).loc main_arg1)
abbrev a2 (c : Dev nD) : (⟨3, ![8, 2304, 2048]⟩ : Shape).Idx → EReal := m ((c : Thread nD τ).loc main_arg2)
abbrev a3 (c : Dev nD) : (⟨3, ![8, 2304, 4096]⟩ : Shape).Idx → EReal := m ((c : Thread nD τ).loc main_arg3)
abbrev a4 (c : Dev nD) : (⟨3, ![8, 2304, 4096]⟩ : Shape).Idx → EReal := m ((c : Thread nD τ).loc main_arg4)
abbrev a5 (c : Dev nD) : (⟨3, ![8, 2304, 4096]⟩ : Shape).Idx → EReal := m ((c : Thread nD τ).loc main_arg5)
abbrev a6 (c : Dev nD) : (⟨4, ![2, 3, 2048, 4096]⟩ : Shape).Idx → EReal := m ((c : Thread nD τ).loc main_arg6)

/-- The first branch's operand array, by row. -/
theorem V_a (c : Dev nD) (r : Fin 18432) (k : Fin 2048) :
    (V m c main_v5 : S18432x2048.Idx → EReal) (ix2 r k) = a0 m c (ix3 (sample r) (token r) k) := by
  unfold_abbrev_sides
  after_results
  exact stacked_apply 2048 (a0 m c) slices_S8x2304x2048_S8x256x2048_0_0_0 slices_S8x2304x2048_S8x2048x2048_0_256_0
    shapeCasts_S8x256x2048_S2048x2048 shapeCasts_S8x2048x2048_S16384x2048 concatenates_S2048x2048_S16384x2048_S18432x2048_d0 r k

/-- The second branch's operand array, by row. -/
theorem V_b (c : Dev nD) (r : Fin 18432) (k : Fin 2048) :
    (V m c main_v11 : S18432x2048.Idx → EReal) (ix2 r k) = a1 m c (ix3 (sample r) (token r) k) := by
  unfold_abbrev_sides
  after_results
  exact stacked_apply 2048 (a1 m c) slices_S8x2304x2048_S8x256x2048_0_0_0 slices_S8x2304x2048_S8x2048x2048_0_256_0
    shapeCasts_S8x256x2048_S2048x2048 shapeCasts_S8x2048x2048_S16384x2048 concatenates_S2048x2048_S16384x2048_S18432x2048_d0 r k

/-- The third branch's operand array, by row. -/
theorem V_c (c : Dev nD) (r : Fin 18432) (k : Fin 2048) :
    (V m c main_v17 : S18432x2048.Idx → EReal) (ix2 r k) = a2 m c (ix3 (sample r) (token r) k) := by
  unfold_abbrev_sides
  after_results
  exact stacked_apply 2048 (a2 m c) slices_S8x2304x2048_S8x256x2048_0_0_0 slices_S8x2304x2048_S8x2048x2048_0_256_0
    shapeCasts_S8x256x2048_S2048x2048 shapeCasts_S8x2048x2048_S16384x2048 concatenates_S2048x2048_S16384x2048_S18432x2048_d0 r k

/-- The branches' weights: the layers' planes one after the other. -/
theorem V_weights (c : Dev nD) (q : Fin 6) (s : Fin 3) (hq : q.val = s.val) (k : Fin 2048) (j : Fin 4096) :
    (V m c main_v28 : S6x2048x4096.Idx → EReal) (ix3 q k j) = a6 m c (ix4 0 s k j) := by
  unfold_abbrev_sides
  after_results
  refine shapeCast_apply (a6 m c) shapeCasts_S2x3x2048x4096_S6x2048x4096 _ _ ?_
  rw [Shape.rowMajor_val_three, Shape.rowMajor_val_four]
  show ((0 * 3 + s.val) * 2048 + k.val) * 4096 + j.val = (q.val * 2048 + k.val) * 4096 + j.val
  omega

/-- One of the three gates' arrays. -/
def gateOf (c : Dev nD) (g : Fin 3) : (⟨3, ![8, 2304, 4096]⟩ : Shape).Idx → EReal :=
  match g with
  | ⟨0, _⟩ => a3 m c
  | ⟨1, _⟩ => a4 m c
  | ⟨2, _⟩ => a5 m c

/-- The three gates put side by side, read in the columns of gate `g`. -/
theorem gates_apply (x y z : (⟨3, ![8, 2304, 4096]⟩ : Shape).Idx → EReal)
    (hc : Shape.Concatenates [S8x2304x4096, S8x2304x4096, S8x2304x4096] S8x2304x12288 2)
    (p : Fin 8) (n : Fin 2304) (k : Fin 12288) (g : Fin 3) (j : Fin 4096) (hk : k.val = 4096 * g.val + j.val) :
    concatenate S8x2304x12288 2 [⟨S8x2304x4096, x⟩, ⟨S8x2304x4096, y⟩, ⟨S8x2304x4096, z⟩] hc (ix3 p n k)
      = (match g with | ⟨0, _⟩ => x | ⟨1, _⟩ => y | ⟨2, _⟩ => z) (ix3 p n j) := by
  have hoff : ∀ b : Fin S8x2304x4096.rank, b.cast rfl ≠ (2 : Fin 3) → ((ix3 p n j : S8x2304x4096.Idx) b).val = ((ix3 p n k : S8x2304x12288.Idx) (b.cast rfl)).val :=
    fun a ha => by
      match a with
      | ⟨0, _⟩ => rfl
      | ⟨1, _⟩ => rfl
      | ⟨2, _⟩ => exact absurd rfl ha
  match g with
  | ⟨0, _⟩ =>
    exact concatenate_apply_piece (t := S8x2304x12288) 2 [⟨S8x2304x4096, x⟩, ⟨S8x2304x4096, y⟩, ⟨S8x2304x4096, z⟩] hc (ix3 p n k) 0 (by show 0 < 3; omega) S8x2304x4096 x rfl rfl 0 rfl (ix3 p n j) hoff
      (by show 0 + j.val = k.val; rw [hk]; show 0 + j.val = 4096 * 0 + j.val; omega)
  | ⟨1, _⟩ =>
    exact concatenate_apply_piece (t := S8x2304x12288) 2 [⟨S8x2304x4096, x⟩, ⟨S8x2304x4096, y⟩, ⟨S8x2304x4096, z⟩] hc (ix3 p n k) 1 (by show 1 < 3; omega) S8x2304x4096 y rfl rfl 4096 rfl (ix3 p n j) hoff
      (by show 4096 + j.val = k.val; rw [hk]; show 4096 + j.val = 4096 * 1 + j.val; omega)
  | ⟨2, _⟩ =>
    exact concatenate_apply_piece (t := S8x2304x12288) 2 [⟨S8x2304x4096, x⟩, ⟨S8x2304x4096, y⟩, ⟨S8x2304x4096, z⟩] hc (ix3 p n k) 2 (by show 2 < 3; omega) S8x2304x4096 z rfl rfl 8192 rfl (ix3 p n j) hoff
      (by show 8192 + j.val = k.val; rw [hk]; show 8192 + j.val = 4096 * 2 + j.val; omega)

/-- The gates' operand array in the columns of gate `g`, at a stacked row. -/
theorem V_gates (c : Dev nD) (r : Fin 18432) (p : Fin 24576) (g : Fin 3) (j : Fin 4096)
    (hp : p.val = 12288 + (4096 * g.val + j.val)) :
    (V m c main_v26 : S18432x24576.Idx → EReal) (ix2 r p) = gateOf m c g (ix3 (sample r) (token r) j) := by
  unfold_abbrev_sides
  after_results
  have hj := j.isLt
  have hg := g.isLt
  refine (concatenate_pair_apply_right (t := S18432x24576) (s₁ := S18432x12288) (s₂ := S18432x12288) (1 : Fin 2) _ _
    concatenates_S18432x12288_S18432x12288_S18432x24576_d1 (ix2 r p) rfl rfl (ix2 (n1 := 12288) r ⟨4096 * g.val + j.val, by omega⟩)
    (fun b hb => by match b with | ⟨0, _⟩ => rfl | ⟨1, _⟩ => exact absurd rfl hb)
    (by show 4096 * g.val + j.val + 12288 = p.val; omega)).trans ?_
  refine (stacked_apply 12288 _ slices_S8x2304x12288_S8x256x12288_0_0_0 slices_S8x2304x12288_S8x2048x12288_0_256_0
    shapeCasts_S8x256x12288_S2048x12288 shapeCasts_S8x2048x12288_S16384x12288 concatenates_S2048x12288_S16384x12288_S18432x12288_d0 r _).trans ?_
  refine (gates_apply _ _ _ concatenates_S8x2304x4096_S8x2304x4096_S8x2304x4096_S8x2304x12288_d2 _ _ _ g j rfl).trans ?_
  match g with
  | ⟨0, _⟩ => rfl
  | ⟨1, _⟩ => rfl
  | ⟨2, _⟩ => rfl

/-! ## The blocks -/

/-- Point `t`'s block of the first branch: row `a` is the stacked row that block row `a` belongs to. -/
theorem blk_a (c : Dev nD) (t : Fin cfg0.N) (a : Fin 1024) (k : Fin 2048) (r : Fin 18432) (hr : r.val = t.val / 8 * 1024 + a.val) :
    (iblk (F := Ideal) m c 0 t : S1024x2048.Idx → EReal) (ix2 a k) = a0 m c (ix3 (sample r) (token r) k) := by
  have hf := (idx_facts t).1
  rw [← V_a m c r k]
  show (V m c main_v5 : S18432x2048.Idx → EReal) ((win0_0.rect t).emb (ix2 a k)) = _
  congr 1
  apply Shape.idx_ext₂
  · rw [win0_0.rect_emb_val, hf.1]; exact hr.symm
  · rw [win0_0.rect_emb_val, hf.2]; exact (Nat.zero_mul _).symm ▸ Nat.zero_add _

/-- Point `t`'s block of the second branch. -/
theorem blk_b (c : Dev nD) (t : Fin cfg0.N) (a : Fin 1024) (k : Fin 2048) (r : Fin 18432) (hr : r.val = t.val / 8 * 1024 + a.val) :
    (iblk (F := Ideal) m c 1 t : S1024x2048.Idx → EReal) (ix2 a k) = a1 m c (ix3 (sample r) (token r) k) := by
  have hf := (idx_facts t).2.1
  rw [← V_b m c r k]
  show (V m c main_v11 : S18432x2048.Idx → EReal) ((win0_1.rect t).emb (ix2 a k)) = _
  congr 1
  apply Shape.idx_ext₂
  · rw [win0_1.rect_emb_val, hf.1]; exact hr.symm
  · rw [win0_1.rect_emb_val, hf.2]; exact (Nat.zero_mul _).symm ▸ Nat.zero_add _

/-- Point `t`'s block of the third branch. -/
theorem blk_c (c : Dev nD) (t : Fin cfg0.N) (a : Fin 1024) (k : Fin 2048) (r : Fin 18432) (hr : r.val = t.val / 8 * 1024 + a.val) :
    (iblk (F := Ideal) m c 2 t : S1024x2048.Idx → EReal) (ix2 a k) = a2 m c (ix3 (sample r) (token r) k) := by
  have hf := (idx_facts t).2.2.1
  rw [← V_c m c r k]
  show (V m c main_v17 : S18432x2048.Idx → EReal) ((win0_2.rect t).emb (ix2 a k)) = _
  congr 1
  apply Shape.idx_ext₂
  · rw [win0_2.rect_emb_val, hf.1]; exact hr.symm
  · rw [win0_2.rect_emb_val, hf.2]; exact (Nat.zero_mul _).symm ▸ Nat.zero_add _

/-- Point `t`'s block of the weights: the three planes of layer 0 in the block's columns. -/
theorem blk_weights (c : Dev nD) (t : Fin cfg0.N) (s : Fin 3) (k : Fin 2048) (b : Fin 512) (j : Fin 4096)
    (hj : j.val = t.val % 8 * 512 + b.val) :
    (iblk (F := Ideal) m c 3 t : S3x2048x512.Idx → EReal) (ix3 s k b) = a6 m c (ix4 0 s k j) := by
  have hf := (idx_facts t).2.2.2.1
  have hs := s.isLt
  rw [← V_weights m c ⟨s.val, by omega⟩ s rfl k j]
  show (V m c main_v28 : S6x2048x4096.Idx → EReal) ((win0_3.rect t).emb (ix3 s k b)) = _
  congr 1
  funext a
  apply Fin.ext
  match a with
  | ⟨0, _⟩ => rw [win0_3.rect_emb_val]; show win0_3.index t 0 * 3 + s.val = s.val; rw [hf.1]; omega
  | ⟨1, _⟩ => rw [win0_3.rect_emb_val]; show win0_3.index t 1 * 2048 + k.val = k.val; rw [hf.2.1]; omega
  | ⟨2, _⟩ => rw [win0_3.rect_emb_val]; show win0_3.index t 2 * 512 + b.val = j.val; rw [hf.2.2]; exact hj.symm

/-- Point `t`'s block of the first gate. -/
theorem blk_ga (c : Dev nD) (t : Fin cfg0.N) (a : Fin 1024) (b : Fin 512) (r : Fin 18432) (j : Fin 4096)
    (hr : r.val = t.val / 8 * 1024 + a.val) (hj : j.val = t.val % 8 * 512 + b.val) :
    (iblk (F := Ideal) m c 4 t : S1024x512.Idx → EReal) (ix2 a b) = a3 m c (ix3 (sample r) (token r) j) := by
  have hf := (idx_facts t).2.2.2.2.1
  have h0 := r.isLt
  have h1 := j.isLt
  refine Eq.trans ?_ (V_gates m c r ⟨12288 + j.val, by omega⟩ 0 j (by show 12288 + j.val = 12288 + (4096 * 0 + j.val); omega))
  show (V m c main_v26 : S18432x24576.Idx → EReal) ((win0_4.rect t).emb (ix2 a b)) = _
  congr 1
  apply Shape.idx_ext₂
  · rw [win0_4.rect_emb_val, hf.1]; show (t.val / 8) * 1024 + a.val = r.val; omega
  · rw [win0_4.rect_emb_val, hf.2]; show (24 + t.val % 8) * 512 + b.val = 12288 + j.val; omega

/-- Point `t`'s block of the second gate. -/
theorem blk_gb (c : Dev nD) (t : Fin cfg0.N) (a : Fin 1024) (b : Fin 512) (r : Fin 18432) (j : Fin 4096)
    (hr : r.val = t.val / 8 * 1024 + a.val) (hj : j.val = t.val % 8 * 512 + b.val) :
    (iblk (F := Ideal) m c 5 t : S1024x512.Idx → EReal) (ix2 a b) = a4 m c (ix3 (sample r) (token r) j) := by
  have hf := (idx_facts t).2.2.2.2.2.1
  have h0 := r.isLt
  have h1 := j.isLt
  refine Eq.trans ?_ (V_gates m c r ⟨16384 + j.val, by omega⟩ 1 j (by show 16384 + j.val = 12288 + (4096 * 1 + j.val); omega))
  show (V m c main_v26 : S18432x24576.Idx → EReal) ((win0_5.rect t).emb (ix2 a b)) = _
  congr 1
  apply Shape.idx_ext₂
  · rw [win0_5.rect_emb_val, hf.1]; show (t.val / 8) * 1024 + a.val = r.val; omega
  · rw [win0_5.rect_emb_val, hf.2]; show (32 + t.val % 8) * 512 + b.val = 16384 + j.val; omega

/-- Point `t`'s block of the third gate. -/
theorem blk_gc (c : Dev nD) (t : Fin cfg0.N) (a : Fin 1024) (b : Fin 512) (r : Fin 18432) (j : Fin 4096)
    (hr : r.val = t.val / 8 * 1024 + a.val) (hj : j.val = t.val % 8 * 512 + b.val) :
    (iblk (F := Ideal) m c 6 t : S1024x512.Idx → EReal) (ix2 a b) = a5 m c (ix3 (sample r) (token r) j) := by
  have hf := (idx_facts t).2.2.2.2.2.2.1
  have h0 := r.isLt
  have h1 := j.isLt
  refine Eq.trans ?_ (V_gates m c r ⟨20480 + j.val, by omega⟩ 2 j (by show 20480 + j.val = 12288 + (4096 * 2 + j.val); omega))
  show (V m c main_v26 : S18432x24576.Idx → EReal) ((win0_6.rect t).emb (ix2 a b)) = _
  congr 1
  apply Shape.idx_ext₂
  · rw [win0_6.rect_emb_val, hf.1]; show (t.val / 8) * 1024 + a.val = r.val; omega
  · rw [win0_6.rect_emb_val, hf.2]; show (40 + t.val % 8) * 512 + b.val = 20480 + j.val; omega

/-! ## The array after the run -/

/-- The output array: at stacked row `r`, column `j`, the three gated products of row `r`'s token. -/
def G (c : Dev nD) : S18432x4096.Idx → EReal :=
  fun i => merged0 (a0 m c) (a1 m c) (a2 m c) (a3 m c) (a4 m c) (a5 m c) (a6 m c) (i 0) (i 1)

/-- What point `t` writes back is block `t` of that array. -/
theorem flushed_eq (c : Dev nD) (t : Fin cfg0.N) :
    (dats (F := Ideal) m 0 c).flushed 7 t = ((cfg0.win 7).blk t).view.read (Elt Ideal) (G m c) := by
  rw [Value.flushed7]
  funext y
  obtain ⟨a, b, rfl⟩ : ∃ (a : Fin 1024) (b : Fin 512), y = ix2 a b := ⟨y 0, y 1, eq_ix2 y⟩
  have hf := (idx_facts t).2.2.2.2.2.2.2
  have ht : t.val < 144 := t.isLt
  show out0_7 (F := Ideal) (iblk m c 0 t) (iblk m c 1 t) (iblk m c 2 t) (iblk m c 3 t) (iblk m c 4 t) (iblk m c 5 t) (iblk m c 6 t) (ix2 a b)
    = G m c ((win0_7.rect t).emb (ix2 a b))
  rw [out_apply]
  have e : (win0_7.rect t).emb (ix2 a b)
      = ix2 (n0 := 18432) (n1 := 4096) ⟨t.val / 8 * 1024 + a.val, by omega⟩ ⟨t.val % 8 * 512 + b.val, by omega⟩ := by
    apply Shape.idx_ext₂
    · rw [win0_7.rect_emb_val, hf.1]; rfl
    · rw [win0_7.rect_emb_val, hf.2]; rfl
  rw [e]
  show _ = merged0 _ _ _ _ _ _ _ _ _
  unfold merged0
  exact congrArg₂ (· + ·) (congrArg₂ (· + ·)
    (congrArg₂ (· * ·) (congrArg sig (blk_ga m c t a b _ _ rfl rfl))
      (Finset.sum_congr rfl fun k _ => congrArg₂ (· * ·) (blk_a m c t a k _ rfl) (blk_weights m c t 0 k b _ rfl)))
    (congrArg₂ (· * ·) (congrArg sig (blk_gb m c t a b _ _ rfl rfl))
      (Finset.sum_congr rfl fun k _ => congrArg₂ (· * ·) (blk_b m c t a k _ rfl) (blk_weights m c t 1 k b _ rfl))))
    (congrArg₂ (· * ·) (congrArg sig (blk_gc m c t a b _ _ rfl rfl))
      (Finset.sum_congr rfl fun k _ => congrArg₂ (· * ·) (blk_c m c t a k _ rfl) (blk_weights m c t 2 k b _ rfl)))

/-- Every index of the output array lies in some point's block. -/
theorem cover (i : S18432x4096.Idx) : ∃ t : Fin cfg0.N, (cfg0.win 7).flush t = true ∧ i ∈ ((cfg0.win 7).blk t).view.set := by
  have h0 : (i 0 : Nat) < 18432 := (i 0).isLt
  have h1 : (i 1 : Nat) < 4096 := (i 1).isLt
  let t : Fin cfg0.N := ⟨(i 0).val / 1024 * 8 + (i 1).val / 512, by show _ < 144; omega⟩
  have hf := (idx_facts t).2.2.2.2.2.2.2
  have e0 : t.val / 8 = (i 0).val / 1024 := by show ((i 0).val / 1024 * 8 + (i 1).val / 512) / 8 = _; omega
  have e1 : t.val % 8 = (i 1).val / 512 := by show ((i 0).val / 1024 * 8 + (i 1).val / 512) % 8 = _; omega
  refine ⟨t, flush0_7 t, ?_⟩
  show i ∈ ((View.whole main_v29).slice (win0_7.rect t)).set
  rw [View.set_slice_whole, Rect.mem_set_unit]
  intro a
  match a with
  | ⟨0, _⟩ =>
    show win0_7.index t 0 * 1024 ≤ (i 0 : Nat) ∧ (i 0 : Nat) < win0_7.index t 0 * 1024 + 1024
    rw [hf.1, e0]; omega
  | ⟨1, _⟩ =>
    show win0_7.index t 1 * 512 ≤ (i 1 : Nat) ∧ (i 1 : Nat) < win0_7.index t 1 * 512 + 512
    rw [hf.2, e1]; omega

/-- After the run the output array is `G`. -/
theorem final (c : Dev nD) : (dats (F := Ideal) m 0 c).arrAt 7 cfg0.N = G m c :=
  (dats (F := Ideal) m 0 c).arrAt_eq_of_cover 7 (G m c) (fun t _ => flushed_eq m c t) cover

end Cert.Proof.Merge0

end
-- ==== Proof.Mix.Merge0Ref.lean ====
/-
  The value of layer 0's branch-merge reference, and the two programs' agreement: the reference multiplies each branch by its weight of
  layer 0, gates the products, adds the three and puts the context's rows before the latent rows; at stacked row `r` and column `j`
  that is `merged0`.
-/
module

public import proofs.«01_k».proof.Proof.Gen.Merge0RefIdeal.Run
public import proofs.«01_k».proof.Proof.Gen.Merge0RefIdeal.Read
public import proofs.«01_k».proof.Proof.Mix.Merge0
public import proofs.«01_k».proof.Defs

@[expose] public section

noncomputable section

namespace Cert.Proof.Merge0Ref

open Cert.Merge0RefIdeal Cert.Merge0RefIdeal.Gen Cert.Merge0RefIdeal.Read Idealize.ShloMosaic Idealize.ShloMosaic.TcCoe Idealize.SL.Sem
open Idealize.ShloMosaic.ValueIdx
open Cert.Proof.Spec Cert.Proof.Mix
open scoped BigOperators

variable (x0 x1 x2 : (⟨S8x2304x2048, .f32⟩ : BufTy).Contents (Elt Ideal)) (x3 x4 x5 : (⟨S8x2304x4096, .f32⟩ : BufTy).Contents (Elt Ideal))
  (x6 : (⟨S2x3x2048x4096, .f32⟩ : BufTy).Contents (Elt Ideal))

/-- The first gate at a token and a column. -/
theorem gate0 (i : S8x2304x4096.Idx) : val_main_v7 (F := Ideal) x3 i = sig (x3 i) := by
  rw [val_main_v7_apply, val_main_v6_apply, val_main_v5_apply, val_main_v4_apply, val_main_v3_apply, val_main_v2_apply]
  rfl

/-- The second gate at a token and a column. -/
theorem gate1 (i : S8x2304x4096.Idx) : val_main_v17 (F := Ideal) x4 i = sig (x4 i) := by
  rw [val_main_v17_apply, val_main_v16_apply, val_main_v15_apply, val_main_v14_apply, val_main_v13_apply, val_main_v12_apply]
  rfl

/-- The third gate at a token and a column. -/
theorem gate2 (i : S8x2304x4096.Idx) : val_main_v28 (F := Ideal) x5 i = sig (x5 i) := by
  rw [val_main_v28_apply, val_main_v27_apply, val_main_v26_apply, val_main_v25_apply, val_main_v24_apply, val_main_v23_apply]
  rfl

/-- The weight of layer 0, one plane per branch. -/
theorem plane (s : Fin 3) (k : Fin 2048) (j : Fin 4096) : val_main_v1 (F := Ideal) x6 (ix3 s k j) = x6 (ix4 0 s k j) := by
  have := s.isLt
  have := k.isLt
  have := j.isLt
  rw [val_main_v1_apply, val_main_v0_apply]
  congr 1
  funext a
  match a with
  | ⟨0, _⟩ => rfl
  | ⟨1, _⟩ => exact Fin.ext (by show ((s.val * 2048 + k.val) * 4096 + j.val) / 8388608 % 3 = s.val; omega)
  | ⟨2, _⟩ => exact Fin.ext (by show ((s.val * 2048 + k.val) * 4096 + j.val) / 4096 % 2048 = k.val; omega)
  | ⟨3, _⟩ => exact Fin.ext (by show ((s.val * 2048 + k.val) * 4096 + j.val) % 4096 = j.val; omega)

/-- The first branch's weight. -/
theorem weight0 (k : Fin 2048) (j : Fin 4096) : val_main_v9 (F := Ideal) x6 (ix2 k j) = x6 (ix4 0 0 k j) := by
  have := k.isLt
  have := j.isLt
  rw [val_main_v9_apply, val_main_v8_apply]
  refine Eq.trans (congrArg _ ?_) (plane x6 0 k j)
  funext a
  match a with
  | ⟨0, _⟩ => rfl
  | ⟨1, _⟩ => exact Fin.ext (by show (k.val * 4096 + j.val) / 4096 % 2048 = k.val; omega)
  | ⟨2, _⟩ => exact Fin.ext (by show (k.val * 4096 + j.val) % 4096 = j.val; omega)

/-- The second branch's weight. -/
theorem weight1 (k : Fin 2048) (j : Fin 4096) : val_main_v19 (F := Ideal) x6 (ix2 k j) = x6 (ix4 0 1 k j) := by
  have := k.isLt
  have := j.isLt
  rw [val_main_v19_apply, val_main_v18_apply]
  refine Eq.trans (congrArg _ ?_) (plane x6 1 k j)
  funext a
  match a with
  | ⟨0, _⟩ => rfl
  | ⟨1, _⟩ => exact Fin.ext (by show (k.val * 4096 + j.val) / 4096 % 2048 = k.val; omega)
  | ⟨2, _⟩ => exact Fin.ext (by show (k.val * 4096 + j.val) % 4096 = j.val; omega)

/-- The third branch's weight. -/
theorem weight2 (k : Fin 2048) (j : Fin 4096) : val_main_v30 (F := Ideal) x6 (ix2 k j) = x6 (ix4 0 2 k j) := by
  have := k.isLt
  have := j.isLt
  rw [val_main_v30_apply, val_main_v29_apply]
  refine Eq.trans (congrArg _ ?_) (plane x6 2 k j)
  funext a
  match a with
  | ⟨0, _⟩ => rfl
  | ⟨1, _⟩ => exact Fin.ext (by show (k.val * 4096 + j.val) / 4096 % 2048 = k.val; omega)
  | ⟨2, _⟩ => exact Fin.ext (by show (k.val * 4096 + j.val) % 4096 = j.val; omega)

/-- The reference's result at a stacked row and a column. -/
theorem result_apply (r : Fin 18432) (j : Fin 4096) :
    val_main_v39 (F := Ideal) x0 x1 x2 x3 x4 x5 x6 (ix2 r j) = merged0 x0 x1 x2 x3 x4 x5 x6 r j := by
  refine (stacked_apply 4096 (val_main_v33 (F := Ideal) x0 x1 x2 x3 x4 x5 x6) slices_S8x2304x4096_S8x256x4096_0_0_0
    slices_S8x2304x4096_S8x2048x4096_0_256_0 shapeCasts_S8x256x4096_S2048x4096 shapeCasts_S8x2048x4096_S16384x4096
    concatenates_S2048x4096_S16384x4096_S18432x4096_d0 r j).trans ?_
  rw [val_main_v33_apply, val_main_v22_apply, val_main_v11_apply, val_main_v21_apply, val_main_v32_apply, gate0, gate1, gate2,
    val_main_v10_apply, val_main_v20_apply, val_main_v31_apply]
  unfold merged0
  refine congrArg₂ (· + ·) (congrArg₂ (· + ·) (congrArg (sig _ * ·) ?_) (congrArg (sig _ * ·) ?_)) (congrArg (sig _ * ·) ?_)
  · refine Finset.sum_congr rfl fun k _ => congrArg₂ (· * ·) (congrArg x0 ?_) (Eq.trans (congrArg _ ?_) (weight0 x6 k j))
    · funext a; match a with | ⟨0, _⟩ => rfl | ⟨1, _⟩ => rfl | ⟨2, _⟩ => rfl
    · funext a; match a with | ⟨0, _⟩ => rfl | ⟨1, _⟩ => rfl
  · refine Finset.sum_congr rfl fun k _ => congrArg₂ (· * ·) (congrArg x1 ?_) (Eq.trans (congrArg _ ?_) (weight1 x6 k j))
    · funext a; match a with | ⟨0, _⟩ => rfl | ⟨1, _⟩ => rfl | ⟨2, _⟩ => rfl
    · funext a; match a with | ⟨0, _⟩ => rfl | ⟨1, _⟩ => rfl
  · refine Finset.sum_congr rfl fun k _ => congrArg₂ (· * ·) (congrArg x2 ?_) (Eq.trans (congrArg _ ?_) (weight2 x6 k j))
    · funext a; match a with | ⟨0, _⟩ => rfl | ⟨1, _⟩ => rfl | ⟨2, _⟩ => rfl
    · funext a; match a with | ⟨0, _⟩ => rfl | ⟨1, _⟩ => rfl

/-- The reference's run leaves in its result what the kernel's leaves in its output array, from the same arguments. -/
theorem agree (m : (ℓ : Loc Cert.Merge0Ideal.nD Cert.Merge0Ideal.τ Cert.Merge0Ideal.sig) → Buf (Elt Ideal) ℓ) (c : Dev Cert.Merge0Ideal.nD) :
    val_main_v39 (F := Ideal) (Merge0.a0 m c) (Merge0.a1 m c) (Merge0.a2 m c) (Merge0.a3 m c) (Merge0.a4 m c) (Merge0.a5 m c) (Merge0.a6 m c)
      = Merge0.G m c := by
  funext i
  obtain ⟨r, j, rfl⟩ : ∃ (r : Fin 18432) (j : Fin 4096), i = ix2 r j := ⟨i 0, i 1, eq_ix2 i⟩
  exact result_apply _ _ _ _ _ _ _ r j

end Cert.Proof.Merge0Ref

end
-- ==== Proof.Mix.Out0.lean ====
/-
  The value of the output projection's kernel in layer 0: after the run its output array holds, at stacked row `r` and column `j`, the
  hidden state plus the gate of the row's sample, or of the context, times the product of the merged row with the weight's column. The
  kernel reads the hidden state from the context array for the first two blocks of rows and from the latent array for the others.
-/
module

public import proofs.«01_k».proof.Proof.Gen.Out0Ideal.Value
public import proofs.«01_k».proof.Proof.Mix.Spec

@[expose] public section

noncomputable section

namespace Cert.Proof.Out0

open Cert.Out0Ideal Cert.Out0Ideal.Gen Idealize.ShloMosaic Idealize.ShloMosaic.TcCoe Idealize.SL.Sem
open Idealize.ShloMosaic.Pipeline (Dat)
open Idealize.ShloMosaic.ValueIdx
open Cert.Proof.Spec Cert.Proof.Mix
open scoped BigOperators

variable (m : (ℓ : Loc nD τ sig) → Buf (Elt Ideal) ℓ)

/-! ## One block -/

/-- What the body leaves in its output block at a block of context rows. -/
theorem outA_apply (c : Dev nD) (i : grid0.Coords) (g0 : Memref sig .tc .vmem S1024x4096 .bf16) (h0 : g0.IsWhole)
    (g1 : Memref sig .tc .vmem S4096x512 .bf16) (h1 : g1.IsWhole) (g2 : Memref sig .tc .vmem S1024x512 .f32) (h2 : g2.IsWhole)
    (g3 : Memref sig .tc .vmem S1024x512 .f32) (h3 : g3.IsWhole) (g4 : Memref sig .tc .vmem S1x1x512 .f32) (h4 : g4.IsWhole)
    (g5 : Memref sig .tc .vmem S1024x512 .f32) (h5 : g5.IsWhole) (hc0 : cond0_0 i) (hc1 : ¬cond0_1 i)
    (x0 : Vec Ideal S1024x4096 .bf16) (x1 : Vec Ideal S4096x512 .bf16) (x2 x3 : Vec Ideal S1024x512 .f32) (x4 : Vec Ideal S1x1x512 .f32)
    (a : Fin 1024) (b : Fin 512) :
    out0_A_5 (F := Ideal) c i g0 h0 g1 h1 g2 h2 g3 h3 g4 h4 g5 h5 hc0 hc1 x0 x1 x2 x3 x4 (ix2 a b)
      = x2 (ix2 a b) + x4 (ix3 0 0 b) * ∑ k : Fin 4096, x0 (ix2 a k) * x1 (ix2 k b) := by
  have z0 : (![0, 0] : Fin S1024x4096.rank → Nat) = fun _ => 0 := funext fun a => by fin_cases a <;> rfl
  have z1 : (![0, 0] : Fin S4096x512.rank → Nat) = fun _ => 0 := funext fun a => by fin_cases a <;> rfl
  have z2 : (![0, 0] : Fin S1024x512.rank → Nat) = fun _ => 0 := funext fun a => by fin_cases a <;> rfl
  have z3 : (![0, 0, 0] : Fin S1x1x512.rank → Nat) = fun _ => 0 := funext fun a => by fin_cases a <;> rfl
  unfold out0_A_5
  rw [View.read_writes_eq_canon _ _ _ (cover0_A_5 c i g0 h0 g1 h1 g2 h2 g3 h3 g4 h4 g5 h5 hc0 hc1 x0 x1 x2 x3 x4)]
  unfold kernelRun0_A
  dsimp only
  rw [View.canon_unit_zero z2]
  unfold k0_pay2 k0_pay1
  simp only [View.readAt_eq_ld, h0.read_unread, h1.read_unread, h2.read_unread, h3.read_unread, h4.read_unread,
    View.ld_unit_zero (S := S1024x4096) z0, View.ld_unit_zero (S := S4096x512) z1, View.ld_unit_zero (S := S1024x512) z2,
    View.ld_unit_zero (S := S1x1x512) z3, shapeCast_self]
  exact congrArg (x2 (ix2 a b) + ·) (congrArg₂ (· * ·) (gate_row_apply x4 _ _ a b)
    (product_apply (M := 1024) (K := 4096) (N := 512) (φ₁ := .bf16) (φ₂ := .bf16) x0 x1 a b))

/-- What the body leaves in its output block at a block of latent rows. -/
theorem outB_apply (c : Dev nD) (i : grid0.Coords) (g0 : Memref sig .tc .vmem S1024x4096 .bf16) (h0 : g0.IsWhole)
    (g1 : Memref sig .tc .vmem S4096x512 .bf16) (h1 : g1.IsWhole) (g2 : Memref sig .tc .vmem S1024x512 .f32) (h2 : g2.IsWhole)
    (g3 : Memref sig .tc .vmem S1024x512 .f32) (h3 : g3.IsWhole) (g4 : Memref sig .tc .vmem S1x1x512 .f32) (h4 : g4.IsWhole)
    (g5 : Memref sig .tc .vmem S1024x512 .f32) (h5 : g5.IsWhole) (hc0 : ¬cond0_0 i) (hc1 : cond0_1 i)
    (x0 : Vec Ideal S1024x4096 .bf16) (x1 : Vec Ideal S4096x512 .bf16) (x2 x3 : Vec Ideal S1024x512 .f32) (x4 : Vec Ideal S1x1x512 .f32)
    (a : Fin 1024) (b : Fin 512) :
    out0_B_5 (F := Ideal) c i g0 h0 g1 h1 g2 h2 g3 h3 g4 h4 g5 h5 hc0 hc1 x0 x1 x2 x3 x4 (ix2 a b)
      = x3 (ix2 a b) + x4 (ix3 0 0 b) * ∑ k : Fin 4096, x0 (ix2 a k) * x1 (ix2 k b) := by
  have z0 : (![0, 0] : Fin S1024x4096.rank → Nat) = fun _ => 0 := funext fun a => by fin_cases a <;> rfl
  have z1 : (![0, 0] : Fin S4096x512.rank → Nat) = fun _ => 0 := funext fun a => by fin_cases a <;> rfl
  have z2 : (![0, 0] : Fin S1024x512.rank → Nat) = fun _ => 0 := funext fun a => by fin_cases a <;> rfl
  have z3 : (![0, 0, 0] : Fin S1x1x512.rank → Nat) = fun _ => 0 := funext fun a => by fin_cases a <;> rfl
  unfold out0_B_5
  rw [View.read_writes_eq_canon _ _ _ (cover0_B_5 c i g0 h0 g1 h1 g2 h2 g3 h3 g4 h4 g5 h5 hc0 hc1 x0 x1 x2 x3 x4)]
  unfold kernelRun0_B
  dsimp only
  rw [View.canon_unit_zero z2]
  unfold k0_pay3 k0_pay1
  simp only [View.readAt_eq_ld, h0.read_unread, h1.read_unread, h2.read_unread, h3.read_unread, h4.read_unread,
    View.ld_unit_zero (S := S1024x4096) z0, View.ld_unit_zero (S := S4096x512) z1, View.ld_unit_zero (S := S1024x512) z2,
    View.ld_unit_zero (S := S1x1x512) z3, shapeCast_self]
  exact congrArg (x3 (ix2 a b) + ·) (congrArg₂ (· * ·) (gate_row_apply x4 _ _ a b)
    (product_apply (M := 1024) (K := 4096) (N := 512) (φ₁ := .bf16) (φ₂ := .bf16) x0 x1 a b))

/-! ## The index maps -/

/-- Where the windows of the merged rows, the weights and the output stand at each grid point. -/
theorem idx_facts : ∀ t : Fin cfg0.N,
    (win0_0.index t 0 = t.val / 8 ∧ win0_0.index t 1 = 0) ∧
    (win0_1.index t 0 = 0 ∧ win0_1.index t 1 = t.val % 8) ∧
    (win0_5.index t 0 = t.val / 8 ∧ win0_5.index t 1 = t.val % 8) := by
  decide +kernel

/-- Where the windows of the context's rows and of the gates stand at a block of context rows. -/
theorem idx_ctx : ∀ t : Fin cfg0.N, t.val < 16 →
    (win0_2.index t 0 = t.val / 8 ∧ win0_2.index t 1 = t.val % 8) ∧
    (win0_4.index t 0 = 50 ∧ win0_4.index t 1 = 0 ∧ win0_4.index t 2 = t.val % 8) := by
  decide +kernel

/-- Where the windows of the latent rows and of the gates stand at a block of latent rows. -/
theorem idx_lat : ∀ t : Fin cfg0.N, 16 ≤ t.val →
    (win0_3.index t 0 = t.val / 8 - 2 ∧ win0_3.index t 1 = t.val % 8) ∧
    (win0_4.index t 0 = 6 * ((t.val - 16) / 16) + 2 ∧ win0_4.index t 1 = 0 ∧ win0_4.index t 2 = t.val % 8) := by
  decide +kernel

/-! ## The arrays the region finds -/

/-- The launched arguments on a device. -/
abbrev a0 (c : Dev nD) : (⟨3, ![8, 2304, 4096]⟩ : Shape).Idx → EReal := m ((c : Thread nD τ).loc main_arg0)
abbrev a1 (c : Dev nD) : (⟨3, ![8, 256, 4096]⟩ : Shape).Idx → EReal := m ((c : Thread nD τ).loc main_arg1)
abbrev a2 (c : Dev nD) : (⟨3, ![8, 2048, 4096]⟩ : Shape).Idx → EReal := m ((c : Thread nD τ).loc main_arg2)
abbrev a3 (c : Dev nD) : (⟨3, ![8, 1, 24576]⟩ : Shape).Idx → EReal := m ((c : Thread nD τ).loc main_arg3)
abbrev a4 (c : Dev nD) : (⟨3, ![1, 1, 24576]⟩ : Shape).Idx → EReal := m ((c : Thread nD τ).loc main_arg4)
abbrev a5 (c : Dev nD) : (⟨3, ![2, 4096, 4096]⟩ : Shape).Idx → EReal := m ((c : Thread nD τ).loc main_arg5)

/-- The merged rows. -/
theorem V_merged (c : Dev nD) (r : Fin 18432) (k : Fin 4096) :
    (V m c main_v5 : S18432x4096.Idx → EReal) (ix2 r k) = a0 m c (ix3 (sample r) (token r) k) := by
  unfold_abbrev_sides
  after_results
  exact stacked_apply 4096 (a0 m c) slices_S8x2304x4096_S8x256x4096_0_0_0 slices_S8x2304x4096_S8x2048x4096_0_256_0
    shapeCasts_S8x256x4096_S2048x4096 shapeCasts_S8x2048x4096_S16384x4096 concatenates_S2048x4096_S16384x4096_S18432x4096_d0 r k

/-- The weights: the layers' rows one after the other. -/
theorem V_weights (c : Dev nD) (q : Fin 8192) (k : Fin 4096) (hq : q.val = k.val) (j : Fin 4096) :
    (V m c main_v13 : S8192x4096.Idx → EReal) (ix2 q j) = a5 m c (ix3 0 k j) := by
  unfold_abbrev_sides
  after_results
  refine shapeCast_apply (a5 m c) shapeCasts_S2x4096x4096_S8192x4096 _ _ ?_
  rw [Shape.rowMajor_val_three, Shape.rowMajor_val_two]
  show (0 * 4096 + k.val) * 4096 + j.val = q.val * 4096 + j.val
  omega

/-- The context's rows. -/
theorem V_ctx (c : Dev nD) (r : Fin 2048) (j : Fin 4096) :
    (V m c main_v6 : S2048x4096.Idx → EReal) (ix2 r j) = a1 m c (ix3 ⟨r.val / 256, by have := r.isLt; omega⟩ ⟨r.val % 256, by omega⟩ j) := by
  unfold_abbrev_sides
  after_results
  exact flat_ctx_apply 4096 (a1 m c) shapeCasts_S8x256x4096_S2048x4096 r j

/-- The latent rows. -/
theorem V_lat (c : Dev nD) (r : Fin 16384) (j : Fin 4096) :
    (V m c main_v7 : S16384x4096.Idx → EReal) (ix2 r j) = a2 m c (ix3 (smp r) (tok r) j) := by
  unfold_abbrev_sides
  after_results
  exact flat_apply 4096 (a2 m c) shapeCasts_S8x2048x4096_S16384x4096 r j

/-- The modulation vectors: the third of sample `b`. -/
theorem V_gates (c : Dev nD) (q : Fin 54) (b : Fin 8) (hq : q.val = 6 * b.val + 2) (j : Fin 4096) (p : Fin 24576) (hp : p.val = 8192 + j.val) :
    (V m c main_v11 : S54x1x4096.Idx → EReal) (ix3 q 0 j) = a3 m c (ix3 b 0 p) := by
  unfold_abbrev_sides
  after_results
  exact modv_apply (a3 m c) (a4 m c) shapeCasts_S8x1x24576_S8x24576 shapeCasts_S1x1x24576_S1x24576
    concatenates_S8x24576_S1x24576_S9x24576_d0 shapeCasts_S9x24576_S54x1x4096 q b 2 hq j p hp

/-- The modulation vectors: the third of the context. -/
theorem V_gates_ctx (c : Dev nD) (q : Fin 54) (hq : q.val = 50) (j : Fin 4096) (p : Fin 24576) (hp : p.val = 8192 + j.val) :
    (V m c main_v11 : S54x1x4096.Idx → EReal) (ix3 q 0 j) = a4 m c (ix3 0 0 p) := by
  unfold_abbrev_sides
  after_results
  exact modv_ctx_apply (a3 m c) (a4 m c) shapeCasts_S8x1x24576_S8x24576 shapeCasts_S1x1x24576_S1x24576
    concatenates_S8x24576_S1x24576_S9x24576_d0 shapeCasts_S9x24576_S54x1x4096 q 2 hq j p hp

/-! ## The blocks -/

/-- Point `t`'s block of the merged rows. -/
theorem blk_merged (c : Dev nD) (t : Fin cfg0.N) (a : Fin 1024) (k : Fin 4096) (r : Fin 18432) (hr : r.val = t.val / 8 * 1024 + a.val) :
    (iblk (F := Ideal) m c 0 t : S1024x4096.Idx → EReal) (ix2 a k) = a0 m c (ix3 (sample r) (token r) k) := by
  have hf := (idx_facts t).1
  rw [← V_merged m c r k]
  show (V m c main_v5 : S18432x4096.Idx → EReal) ((win0_0.rect t).emb (ix2 a k)) = _
  congr 1
  apply Shape.idx_ext₂
  · rw [win0_0.rect_emb_val, hf.1]; exact hr.symm
  · rw [win0_0.rect_emb_val, hf.2]; show 0 * 4096 + k.val = k.val; omega

/-- Point `t`'s block of the weights: layer 0's rows in the block's columns. -/
theorem blk_weights (c : Dev nD) (t : Fin cfg0.N) (k : Fin 4096) (b : Fin 512) (j : Fin 4096) (hj : j.val = t.val % 8 * 512 + b.val) :
    (iblk (F := Ideal) m c 1 t : S4096x512.Idx → EReal) (ix2 k b) = a5 m c (ix3 0 k j) := by
  have hf := (idx_facts t).2.1
  have hk := k.isLt
  rw [← V_weights m c ⟨k.val, by omega⟩ k rfl j]
  show (V m c main_v13 : S8192x4096.Idx → EReal) ((win0_1.rect t).emb (ix2 k b)) = _
  congr 1
  apply Shape.idx_ext₂
  · rw [win0_1.rect_emb_val, hf.1]; show 0 * 4096 + k.val = k.val; omega
  · rw [win0_1.rect_emb_val, hf.2]; exact hj.symm

/-- The context's block at a block of context rows. -/
theorem blk_ctx (c : Dev nD) (t : Fin cfg0.N) (ht : t.val < 16) (a : Fin 1024) (b : Fin 512) (q : Fin 18432) (j : Fin 4096)
    (hq : q.val = t.val / 8 * 1024 + a.val) (hj : j.val = t.val % 8 * 512 + b.val) :
    (iblk (F := Ideal) m c 2 t : S1024x512.Idx → EReal) (ix2 a b) = hid (a1 m c) (a2 m c) (sample q) (token q) j := by
  have hf := (idx_ctx t ht).1
  have ha := a.isLt
  rw [hid_ctx (a1 m c) (a2 m c) q ⟨q.val, by omega⟩ rfl j]
  refine Eq.trans ?_ (V_ctx m c ⟨q.val, by omega⟩ j)
  show (V m c main_v6 : S2048x4096.Idx → EReal) ((win0_2.rect t).emb (ix2 a b)) = _
  congr 1
  apply Shape.idx_ext₂
  · rw [win0_2.rect_emb_val, hf.1]; exact hq.symm
  · rw [win0_2.rect_emb_val, hf.2]; exact hj.symm

/-- The latent rows' block at a block of latent rows. -/
theorem blk_lat (c : Dev nD) (t : Fin cfg0.N) (ht : 16 ≤ t.val) (a : Fin 1024) (b : Fin 512) (q : Fin 18432) (j : Fin 4096)
    (hq : q.val = t.val / 8 * 1024 + a.val) (hj : j.val = t.val % 8 * 512 + b.val) :
    (iblk (F := Ideal) m c 3 t : S1024x512.Idx → EReal) (ix2 a b) = hid (a1 m c) (a2 m c) (sample q) (token q) j := by
  have hf := (idx_lat t ht).1
  have hl := q.isLt
  have hs : q.val = 2048 + (⟨q.val - 2048, by omega⟩ : Fin 16384).val := by show q.val = 2048 + (q.val - 2048); omega
  rw [sample_lat q _ hs, token_lat q _ hs, hid_lat]
  refine Eq.trans ?_ (V_lat m c _ j)
  show (V m c main_v7 : S16384x4096.Idx → EReal) ((win0_3.rect t).emb (ix2 a b)) = _
  congr 1
  apply Shape.idx_ext₂
  · rw [win0_3.rect_emb_val, hf.1]; show (t.val / 8 - 2) * 1024 + a.val = q.val - 2048; omega
  · rw [win0_3.rect_emb_val, hf.2]; exact hj.symm

/-- The gates' block at a block of context rows: the third modulation vector of the context. -/
theorem blk_gates_ctx (c : Dev nD) (t : Fin cfg0.N) (ht : t.val < 16) (b : Fin 512) (j : Fin 4096) (p : Fin 24576)
    (hj : j.val = t.val % 8 * 512 + b.val) (hp : p.val = 8192 + j.val) :
    (iblk (F := Ideal) m c 4 t : S1x1x512.Idx → EReal) (ix3 0 0 b) = a4 m c (ix3 0 0 p) := by
  have hf := (idx_ctx t ht).2
  refine Eq.trans ?_ (V_gates_ctx m c 50 rfl j p hp)
  show (V m c main_v11 : S54x1x4096.Idx → EReal) ((win0_4.rect t).emb (ix3 0 0 b)) = _
  congr 1
  funext x
  apply Fin.ext
  match x with
  | ⟨0, _⟩ => rw [win0_4.rect_emb_val]; show win0_4.index t 0 * 1 + 0 = 50; rw [hf.1]
  | ⟨1, _⟩ => rw [win0_4.rect_emb_val]; show win0_4.index t 1 * 1 + 0 = 0; rw [hf.2.1]
  | ⟨2, _⟩ => rw [win0_4.rect_emb_val]; show win0_4.index t 2 * 512 + b.val = j.val; rw [hf.2.2]; exact hj.symm

/-- The gates' block at a block of latent rows: the third modulation vector of the rows' sample. -/
theorem blk_gates_lat (c : Dev nD) (t : Fin cfg0.N) (ht : 16 ≤ t.val) (a : Fin 1024) (b : Fin 512) (q : Fin 18432) (j : Fin 4096) (p : Fin 24576)
    (hq : q.val = t.val / 8 * 1024 + a.val) (hj : j.val = t.val % 8 * 512 + b.val) (hp : p.val = 8192 + j.val) :
    (iblk (F := Ideal) m c 4 t : S1x1x512.Idx → EReal) (ix3 0 0 b) = a3 m c (ix3 (sample q) 0 p) := by
  have hf := (idx_lat t ht).2
  have htN : t.val < 144 := t.isLt
  have ha := a.isLt
  have hs : (sample q).val = (t.val - 16) / 16 := by
    refine (if_neg (by omega) : (if q.val < 2048 then q.val / 256 else (q.val - 2048) / 2048) = _).trans ?_
    omega
  refine Eq.trans ?_ (V_gates m c ⟨6 * ((t.val - 16) / 16) + 2, by omega⟩ (sample q) (by show 6 * ((t.val - 16) / 16) + 2 = _; rw [hs]) j p hp)
  show (V m c main_v11 : S54x1x4096.Idx → EReal) ((win0_4.rect t).emb (ix3 0 0 b)) = _
  congr 1
  funext x
  apply Fin.ext
  match x with
  | ⟨0, _⟩ => rw [win0_4.rect_emb_val]; show win0_4.index t 0 * 1 + 0 = 6 * ((t.val - 16) / 16) + 2; rw [hf.1]; omega
  | ⟨1, _⟩ => rw [win0_4.rect_emb_val]; show win0_4.index t 1 * 1 + 0 = 0; rw [hf.2.1]
  | ⟨2, _⟩ => rw [win0_4.rect_emb_val]; show win0_4.index t 2 * 512 + b.val = j.val; rw [hf.2.2]; exact hj.symm

/-! ## The array after the run -/

/-- The output array: at stacked row `r`, column `j`, the gated residual at the row's token. -/
def G (c : Dev nD) : S18432x4096.Idx → EReal :=
  fun i => resid0 (a0 m c) (a1 m c) (a2 m c) (a3 m c) (a4 m c) (a5 m c) (sample (i 0)) (token (i 0)) (i 1)

/-- What point `t` writes back is block `t` of that array. -/
theorem flushed_eq (c : Dev nD) (t : Fin cfg0.N) :
    (dats (F := Ideal) m 0 c).flushed 5 t = ((cfg0.win 5).blk t).view.read (Elt Ideal) (G m c) := by
  have ht : t.val < 144 := t.isLt
  have hf := (idx_facts t).2.2
  have e : ∀ (a : Fin 1024) (b : Fin 512), (win0_5.rect t).emb (ix2 a b)
      = ix2 (n0 := 18432) (n1 := 4096) ⟨t.val / 8 * 1024 + a.val, by omega⟩ ⟨t.val % 8 * 512 + b.val, by omega⟩ := by
    intro a b
    apply Shape.idx_ext₂
    · rw [win0_5.rect_emb_val, hf.1]; rfl
    · rw [win0_5.rect_emb_val, hf.2]; rfl
  by_cases h : t.val < 16
  · have h' : ¬16 ≤ t.val := by omega
    rw [Value.flushed5_A m c t h h']
    funext y
    obtain ⟨a, b, rfl⟩ : ∃ (a : Fin 1024) (b : Fin 512), y = ix2 a b := ⟨y 0, y 1, eq_ix2 y⟩
    refine (outA_apply c (grid0.coords t) (ms0_0 t) (hs0_0 t) (ms0_1 t) (hs0_1 t) (ms0_2 t) (hs0_2 t) (ms0_3 t) (hs0_3 t) (ms0_4 t) (hs0_4 t)
      (ms0_5 t) (hs0_5 t) ((hcond0_0 t).mpr h) (fun g => h' ((hcond0_1 t).mp g)) (iblk m c 0 t) (iblk m c 1 t) (iblk m c 2 t) (iblk m c 3 t)
      (iblk m c 4 t) a b).trans ?_
    show _ = G m c ((win0_5.rect t).emb (ix2 a b))
    rw [e]
    show _ = resid0 _ _ _ _ _ _ _ _ _
    unfold resid0
    have ha := a.isLt
    have hk : (token (⟨t.val / 8 * 1024 + a.val, by omega⟩ : Fin 18432)).val < 256 := by
      refine lt_of_eq_of_lt (if_pos (by show t.val / 8 * 1024 + a.val < 2048; omega)) ?_
      omega
    dsimp only
    rw [if_pos hk]
    exact congrArg₂ (· + ·) (blk_ctx m c t h a b _ _ rfl rfl) (congrArg₂ (· * ·) (blk_gates_ctx m c t h b ⟨t.val % 8 * 512 + b.val, by omega⟩ _ rfl rfl)
      (Finset.sum_congr rfl fun k _ => congrArg₂ (· * ·) (blk_merged m c t a k _ rfl) (blk_weights m c t k b _ rfl)))
  · have h' : 16 ≤ t.val := by omega
    rw [Value.flushed5_B m c t h h']
    funext y
    obtain ⟨a, b, rfl⟩ : ∃ (a : Fin 1024) (b : Fin 512), y = ix2 a b := ⟨y 0, y 1, eq_ix2 y⟩
    refine (outB_apply c (grid0.coords t) (ms0_0 t) (hs0_0 t) (ms0_1 t) (hs0_1 t) (ms0_2 t) (hs0_2 t) (ms0_3 t) (hs0_3 t) (ms0_4 t) (hs0_4 t)
      (ms0_5 t) (hs0_5 t) (fun g => h ((hcond0_0 t).mp g)) ((hcond0_1 t).mpr h') (iblk m c 0 t) (iblk m c 1 t) (iblk m c 2 t) (iblk m c 3 t)
      (iblk m c 4 t) a b).trans ?_
    show _ = G m c ((win0_5.rect t).emb (ix2 a b))
    rw [e]
    show _ = resid0 _ _ _ _ _ _ _ _ _
    unfold resid0
    have ha := a.isLt
    have hk : ¬(token (⟨t.val / 8 * 1024 + a.val, by omega⟩ : Fin 18432)).val < 256 := by
      refine fun g => absurd (lt_of_eq_of_lt (if_neg (by show ¬t.val / 8 * 1024 + a.val < 2048; omega)).symm g) ?_
      omega
    dsimp only
    rw [if_neg hk]
    exact congrArg₂ (· + ·) (blk_lat m c t h' a b _ _ rfl rfl) (congrArg₂ (· * ·) (blk_gates_lat m c t h' a b _ ⟨t.val % 8 * 512 + b.val, by omega⟩ _ rfl rfl rfl)
      (Finset.sum_congr rfl fun k _ => congrArg₂ (· * ·) (blk_merged m c t a k _ rfl) (blk_weights m c t k b _ rfl)))

/-- Every index of the output array lies in some point's block. -/
theorem cover (i : S18432x4096.Idx) : ∃ t : Fin cfg0.N, (cfg0.win 5).flush t = true ∧ i ∈ ((cfg0.win 5).blk t).view.set := by
  have h0 : (i 0 : Nat) < 18432 := (i 0).isLt
  have h1 : (i 1 : Nat) < 4096 := (i 1).isLt
  let t : Fin cfg0.N := ⟨(i 0).val / 1024 * 8 + (i 1).val / 512, by show _ < 144; omega⟩
  have hf := (idx_facts t).2.2
  have e0 : t.val / 8 = (i 0).val / 1024 := by show ((i 0).val / 1024 * 8 + (i 1).val / 512) / 8 = _; omega
  have e1 : t.val % 8 = (i 1).val / 512 := by show ((i 0).val / 1024 * 8 + (i 1).val / 512) % 8 = _; omega
  refine ⟨t, flush0_5 t, ?_⟩
  show i ∈ ((View.whole main_v14).slice (win0_5.rect t)).set
  rw [View.set_slice_whole, Rect.mem_set_unit]
  intro a
  match a with
  | ⟨0, _⟩ =>
    show win0_5.index t 0 * 1024 ≤ (i 0 : Nat) ∧ (i 0 : Nat) < win0_5.index t 0 * 1024 + 1024
    rw [hf.1, e0]; omega
  | ⟨1, _⟩ =>
    show win0_5.index t 1 * 512 ≤ (i 1 : Nat) ∧ (i 1 : Nat) < win0_5.index t 1 * 512 + 512
    rw [hf.2, e1]; omega

/-- After the run the output array is `G`. -/
theorem final (c : Dev nD) : (dats (F := Ideal) m 0 c).arrAt 5 cfg0.N = G m c :=
  (dats (F := Ideal) m 0 c).arrAt_eq_of_cover 5 (G m c) (fun t _ => flushed_eq m c t) cover

end Cert.Proof.Out0

end
-- ==== Proof.Mix.Out0Ref.lean ====
/-
  The value of layer 0's output-projection reference, and the two programs' agreement: the reference multiplies every token's merged row
  by the weight, gates the context's products by the context's third modulation vector and the latent ones by their sample's, adds the
  hidden states and puts the context's rows before the latent rows; at stacked row `r` and column `j` that is `resid0`.
-/
module

public import proofs.«01_k».proof.Proof.Gen.Out0RefIdeal.Run
public import proofs.«01_k».proof.Proof.Gen.Out0RefIdeal.Read
public import proofs.«01_k».proof.Proof.Mix.Out0
public import proofs.«01_k».proof.Defs

@[expose] public section

noncomputable section

namespace Cert.Proof.Out0Ref

open Cert.Out0RefIdeal Cert.Out0RefIdeal.Gen Cert.Out0RefIdeal.Read Idealize.ShloMosaic Idealize.ShloMosaic.TcCoe Idealize.SL.Sem
open Idealize.ShloMosaic.ValueIdx
open Cert.Proof.Spec Cert.Proof.Mix
open scoped BigOperators

variable (x0 : (⟨S8x2304x4096, .f32⟩ : BufTy).Contents (Elt Ideal)) (x1 : (⟨S8x256x4096, .f32⟩ : BufTy).Contents (Elt Ideal))
  (x2 : (⟨S8x2048x4096, .f32⟩ : BufTy).Contents (Elt Ideal)) (x3 : (⟨S8x1x24576, .f32⟩ : BufTy).Contents (Elt Ideal))
  (x4 : (⟨S1x1x24576, .f32⟩ : BufTy).Contents (Elt Ideal)) (x5 : (⟨S2x4096x4096, .f32⟩ : BufTy).Contents (Elt Ideal))

/-- The weight of layer 0. -/
theorem weight_apply (k j : Fin 4096) : val_main_v1 (F := Ideal) x5 (ix2 k j) = x5 (ix3 0 k j) := by
  have := k.isLt
  have := j.isLt
  rw [val_main_v1_apply, val_main_v0_apply]
  congr 1
  funext a
  match a with
  | ⟨0, _⟩ => rfl
  | ⟨1, _⟩ => exact Fin.ext (by show (k.val * 4096 + j.val) / 4096 % 4096 = k.val; omega)
  | ⟨2, _⟩ => exact Fin.ext (by show (k.val * 4096 + j.val) % 4096 = j.val; omega)

/-- The product of a token's merged row with the weight. -/
theorem product (b : Fin 8) (n : Fin 2304) (j : Fin 4096) :
    val_main_v2 (F := Ideal) x0 x5 (ix3 b n j) = ∑ k : Fin 4096, x0 (ix3 b n k) * x5 (ix3 0 k j) := by
  rw [val_main_v2_apply]
  refine Finset.sum_congr rfl fun k _ => congrArg₂ (· * ·) (congrArg x0 ?_) (Eq.trans (congrArg _ ?_) (weight_apply x5 k j))
  · funext a; match a with | ⟨0, _⟩ => rfl | ⟨1, _⟩ => rfl | ⟨2, _⟩ => rfl
  · funext a; match a with | ⟨0, _⟩ => rfl | ⟨1, _⟩ => rfl

/-- The context's result at a token and a column. -/
theorem ctx_apply (b : Fin 8) (s : Fin 256) (n : Fin 2304) (hn : n.val = s.val) (j : Fin 4096) :
    val_main_v22 (F := Ideal) x0 x1 x4 x5 (ix3 b s j) = resid0 x0 x1 x2 x3 x4 x5 b n j := by
  have hs := s.isLt
  rw [val_main_v22_apply, val_main_v21_apply, val_main_v20_apply, val_main_v13_apply, val_main_v3_apply]
  unfold resid0 hid
  dsimp only
  rw [dif_pos (by omega), if_pos (by omega)]
  refine congrArg₂ (· + ·) (congrArg x1 ?_) (congrArg₂ (· * ·) (congrArg x4 ?_) (Eq.trans (congrArg _ ?_) (product x0 x5 b n j)))
  · funext a; match a with | ⟨0, _⟩ => rfl | ⟨1, _⟩ => exact Fin.ext hn.symm | ⟨2, _⟩ => rfl
  · funext a; match a with | ⟨0, _⟩ => rfl | ⟨1, _⟩ => rfl | ⟨2, _⟩ => rfl
  · funext a; match a with | ⟨0, _⟩ => rfl | ⟨1, _⟩ => exact Fin.ext hn.symm | ⟨2, _⟩ => rfl

/-- The latent result at a token and a column. -/
theorem lat_apply (b : Fin 8) (s : Fin 2048) (n : Fin 2304) (hn : n.val = 256 + s.val) (j : Fin 4096) :
    val_main_v19 (F := Ideal) x0 x2 x3 x5 (ix3 b s j) = resid0 x0 x1 x2 x3 x4 x5 b n j := by
  have hs := s.isLt
  rw [val_main_v19_apply, val_main_v18_apply, val_main_v17_apply, val_main_v7_apply, val_main_v4_apply]
  unfold resid0 hid
  dsimp only
  rw [dif_neg (by omega), if_neg (by omega)]
  refine congrArg₂ (· + ·) (congrArg x2 ?_) (congrArg₂ (· * ·) (congrArg x3 ?_) (Eq.trans (congrArg _ ?_) (product x0 x5 b n j)))
  · funext a; match a with | ⟨0, _⟩ => rfl | ⟨1, _⟩ => exact Fin.ext (by show s.val = n.val - 256; omega) | ⟨2, _⟩ => rfl
  · funext a; match a with | ⟨0, _⟩ => rfl | ⟨1, _⟩ => rfl | ⟨2, _⟩ => rfl
  · funext a; match a with | ⟨0, _⟩ => rfl | ⟨1, _⟩ => exact Fin.ext hn.symm | ⟨2, _⟩ => rfl

/-- The reference's result at a stacked row and a column. -/
theorem result_apply (r : Fin 18432) (j : Fin 4096) :
    val_main_v25 (F := Ideal) x0 x1 x2 x3 x4 x5 (ix2 r j) = resid0 x0 x1 x2 x3 x4 x5 (sample r) (token r) j := by
  have hr := r.isLt
  by_cases h : r.val < 2048
  · refine (concatenate_pair_apply_left (t := S18432x4096) (s₁ := S2048x4096) (s₂ := S16384x4096) (0 : Fin 2)
      (val_main_v23 (F := Ideal) x0 x1 x4 x5) (val_main_v24 (F := Ideal) x0 x2 x3 x5) concatenates_S2048x4096_S16384x4096_S18432x4096_d0
      (ix2 r j) rfl (ix2 (n0 := 2048) ⟨r.val, h⟩ j) (fun b => by match b with | ⟨0, _⟩ => rfl | ⟨1, _⟩ => rfl)).trans ?_
    refine (flat_ctx_apply 4096 (val_main_v22 (F := Ideal) x0 x1 x4 x5) shapeCasts_S8x256x4096_S2048x4096 ⟨r.val, h⟩ j).trans ?_
    have ht : (token r).val = r.val % 256 := if_pos h
    have hs : (sample r).val = r.val / 256 := if_pos h
    refine (ctx_apply x0 x1 x2 x3 x4 x5 _ _ (token r) ht j).trans ?_
    exact congrArg (fun b => resid0 x0 x1 x2 x3 x4 x5 b (token r) j) (Fin.ext hs.symm)
  · have h' : r.val = 2048 + (⟨r.val - 2048, by omega⟩ : Fin 16384).val := by show r.val = 2048 + (r.val - 2048); omega
    refine (concatenate_pair_apply_right (t := S18432x4096) (s₁ := S2048x4096) (s₂ := S16384x4096) (0 : Fin 2)
      (val_main_v23 (F := Ideal) x0 x1 x4 x5) (val_main_v24 (F := Ideal) x0 x2 x3 x5) concatenates_S2048x4096_S16384x4096_S18432x4096_d0
      (ix2 r j) rfl rfl (ix2 (n0 := 16384) ⟨r.val - 2048, by omega⟩ j)
      (fun b hb => by match b with | ⟨0, _⟩ => exact absurd rfl hb | ⟨1, _⟩ => rfl) (by show r.val - 2048 + 2048 = r.val; omega)).trans ?_
    refine (flat_apply 4096 (val_main_v19 (F := Ideal) x0 x2 x3 x5) shapeCasts_S8x2048x4096_S16384x4096 ⟨r.val - 2048, by omega⟩ j).trans ?_
    rw [sample_lat r _ h', token_lat r _ h']
    exact lat_apply x0 x1 x2 x3 x4 x5 _ _ _ rfl j

/-- The reference's run leaves in its result what the kernel's leaves in its output array, from the same arguments. -/
theorem agree (m : (ℓ : Loc Cert.Out0Ideal.nD Cert.Out0Ideal.τ Cert.Out0Ideal.sig) → Buf (Elt Ideal) ℓ) (c : Dev Cert.Out0Ideal.nD) :
    val_main_v25 (F := Ideal) (Out0.a0 m c) (Out0.a1 m c) (Out0.a2 m c) (Out0.a3 m c) (Out0.a4 m c) (Out0.a5 m c) = Out0.G m c := by
  funext i
  obtain ⟨r, j, rfl⟩ : ∃ (r : Fin 18432) (j : Fin 4096), i = ix2 r j := ⟨i 0, i 1, eq_ix2 i⟩
  exact result_apply _ _ _ _ _ _ r j

end Cert.Proof.Out0Ref

end
-- ==== Proof.Mix.AttnSpec.lean ====
/-
  What the attention of the latent queries computes, with no program in it: a query's scores with the keys, the weighted mean of
  the values that the kernel forms of them, the one the reference forms, and that the two are one number where the scores are
  finite.
-/
module

public import Idealize.ShloMosaic.PureOps.Ideal
public import Idealize.ShloMosaic.PureOps.Ideal.Laws
public import proofs.«01_k».proof.Proof.Mix.Spec

@[expose] public section

noncomputable section

namespace Cert.Proof.Mix

open Idealize.ShloMosaic Idealize.ShloMosaic.ValueIdx
open Cert.Proof.Spec
open scoped BigOperators

/-- The score's scale for powers of two: `1 / (ln 2 · √192)`. -/
abbrev scale : ℝ := (Real.log 2)⁻¹ * (Real.sqrt 192)⁻¹

/-- The largest of a row of numbers, taken from −∞. -/
def top {n : ℕ} (s : Fin n → EReal) : EReal := (Finset.univ : Finset (Fin n)).fold max (Ideal.ofBits .f32 0xFF800000#32) s

/-- A score's weight as the kernel forms it: two to the difference of the scaled score and the scaled largest. -/
def kw {n : ℕ} (s : Fin n → EReal) (k : Fin n) : EReal := Ideal.exp2 (s k * ((scale : ℝ) : EReal) - top s * ((scale : ℝ) : EReal))

/-- The kernel's weighted mean: the weighted sum of the values over the sum of the weights. -/
def kmean {n : ℕ} (s v : Fin n → EReal) : EReal := Ideal.div (∑ k, kw s k * v k) (∑ k, kw s k)

/-- A score over the root of the depth. -/
def rs {n : ℕ} (s : Fin n → EReal) (k : Fin n) : EReal := Ideal.div (s k) (Ideal.sqrt (Ideal.ofBits .f32 0x43400000#32))

/-- A score's weight as the reference forms it: `e` to its difference from the largest. -/
def rw_ {n : ℕ} (s : Fin n → EReal) (k : Fin n) : EReal := Ideal.exp (rs s k - max (Ideal.ofBits .f32 0xFF800000#32) (top (rs s)))

/-- The reference's weighted mean: the sum of the values times the weights, each weight over the sum of all. -/
def rmean {n : ℕ} (s v : Fin n → EReal) : EReal :=
  ∑ k, Ideal.div (rw_ s k) (Ideal.ofBits .f32 0x00000000#32 + ∑ j, rw_ s j) * v k

/-- The bit pattern of −∞ is the least extended real. -/
theorem ofBits_neg_inf : Ideal.ofBits .f32 0xFF800000#32 = ⊥ := by
  simp [Ideal.ofBits, Ideal.ieee]

/-- The bit pattern of infinity is the greatest extended real. -/
theorem ofBits_inf : Ideal.ofBits .f32 0x7F800000#32 = ⊤ := by
  simp [Ideal.ofBits, Ideal.ieee]

/-- The bit pattern of 192. -/
theorem ofBits_192 : Ideal.ofBits .f32 0x43400000#32 = ((192 : ℝ) : EReal) := by
  simp only [Ideal.ofBits, Ideal.ieee]
  rw [show (BitVec.extractLsb' 31 1 (0x43400000#32 : BitVec 32)) = 0#1 from by decide]
  norm_num [Nat.shiftRight_eq_div_pow]

/-- The largest of a row is the entry no other exceeds. -/
theorem top_eq {n : ℕ} (s : Fin n → EReal) (k0 : Fin n) (h : ∀ k, s k ≤ s k0) : top s = s k0 := by
  unfold top
  rw [ofBits_neg_inf]
  refine le_antisymm (Finset.fold_max_le _ |>.mpr ⟨bot_le, fun k _ => h k⟩) (Finset.le_fold_max _ |>.mpr (Or.inr ⟨k0, Finset.mem_univ _, le_rfl⟩))

/-- A sum of reals, as extended reals. -/
theorem coe_sum {n : ℕ} (f : Fin n → ℝ) : ((∑ k, f k : ℝ) : EReal) = ∑ k, (f k : EReal) := by
  induction n with
  | zero => simp
  | succ n ih => rw [Fin.sum_univ_succ, Fin.sum_univ_succ, EReal.coe_add, ih]

/-- A sum times a real that is not negative. -/
theorem sum_mul_coe {n : ℕ} (f : Fin n → EReal) (x : ℝ) (hx : 0 ≤ x) : (∑ k, f k) * (x : EReal) = ∑ k, f k * (x : EReal) := by
  induction n with
  | zero => simp
  | succ n ih =>
    rw [Fin.sum_univ_succ, Fin.sum_univ_succ,
      EReal.right_distrib_of_nonneg_of_ne_top (by exact_mod_cast hx) (EReal.coe_ne_top x), ih]

/-- With finite scores the two weighted means are one number, whatever the values. -/
theorem mean_eq {n : ℕ} (s v : Fin n → EReal) (k1 : Fin n) (hs : ∀ k, ∃ r : ℝ, s k = (r : EReal)) : kmean s v = rmean s v := by
  choose r hr using hs
  obtain ⟨k0, -, hk0⟩ := Finset.exists_max_image Finset.univ r ⟨k1, Finset.mem_univ _⟩
  have h192 : 0 < Real.sqrt 192 := Real.sqrt_pos.mpr (by norm_num)
  have hlog : 0 < Real.log 2 := Real.log_pos (by norm_num)
  have htop : top s = (r k0 : EReal) := by
    rw [top_eq s k0 (fun k => by rw [hr, hr]; exact_mod_cast hk0 k (Finset.mem_univ _)), hr]
  have hrs : ∀ k, rs s k = ((r k * (1 / Real.sqrt 192) : ℝ) : EReal) := fun k => by
    unfold rs
    rw [ofBits_192, Ideal.sqrt_coe, if_neg (by norm_num), Ideal.div_coe h192.ne', hr, EReal.coe_mul]
  have hrtop : max (Ideal.ofBits .f32 0xFF800000#32) (top (rs s)) = ((r k0 * (1 / Real.sqrt 192) : ℝ) : EReal) := by
    rw [ofBits_neg_inf, max_eq_right bot_le, top_eq (rs s) k0 (fun k => by
      rw [hrs, hrs]
      exact_mod_cast mul_le_mul_of_nonneg_right (hk0 k (Finset.mem_univ _)) (by positivity)), hrs]
  let e : Fin n → ℝ := fun k => Real.exp (r k * (1 / Real.sqrt 192) - r k0 * (1 / Real.sqrt 192))
  have hrw : ∀ k, rw_ s k = (e k : EReal) := fun k => by
    unfold rw_
    rw [hrtop, hrs, ← EReal.coe_sub, Ideal.exp_coe]
  have hkw : ∀ k, kw s k = (e k : EReal) := fun k => by
    unfold kw
    rw [htop, hr, ← EReal.coe_mul, ← EReal.coe_mul, ← EReal.coe_sub, Ideal.exp2_coe]
    refine congrArg _ ?_
    show (2 : ℝ) ^ (_ : ℝ) = _
    rw [Real.rpow_def_of_pos (by norm_num)]
    refine congrArg Real.exp ?_
    show Real.log 2 * (r k * ((Real.log 2)⁻¹ * (Real.sqrt 192)⁻¹) - r k0 * ((Real.log 2)⁻¹ * (Real.sqrt 192)⁻¹)) = _
    field_simp
  have hL : 0 < ∑ k, e k := Finset.sum_pos (fun k _ => Real.exp_pos _) ⟨k1, Finset.mem_univ _⟩
  unfold kmean rmean
  rw [Finset.sum_congr rfl fun k _ => hkw k, Ideal.ofBits_zero_f32, zero_add, Finset.sum_congr rfl fun k _ => hrw k, ← coe_sum,
    Ideal.div_coe hL.ne', sum_mul_coe _ _ (by positivity)]
  refine Finset.sum_congr rfl fun k _ => ?_
  rw [hkw, hrw, Ideal.div_coe hL.ne', mul_assoc, mul_assoc, mul_comm (v k)]

/-- Entry `d` of the key of token `t` for head `h` of sample `b`: the head's own part, then the part all heads share. -/
def keyAt (x1 : (⟨4, ![8, 16, 2304, 128]⟩ : Shape).Idx → EReal) (x2 : (⟨3, ![8, 2304, 64]⟩ : Shape).Idx → EReal)
    (b : Fin 8) (h : Fin 16) (t : Fin 2304) (d : Fin 192) : EReal :=
  if hd : d.val < 128 then x1 (ix4 b h t ⟨d.val, hd⟩) else x2 (ix3 b t ⟨d.val - 128, by have := d.isLt; omega⟩)

/-- The product of the query of token `n` with the key of token `t`. -/
def score (x0 : (⟨4, ![8, 16, 2304, 192]⟩ : Shape).Idx → EReal) (x1 : (⟨4, ![8, 16, 2304, 128]⟩ : Shape).Idx → EReal)
    (x2 : (⟨3, ![8, 2304, 64]⟩ : Shape).Idx → EReal) (b : Fin 8) (h : Fin 16) (n t : Fin 2304) : EReal :=
  ∑ d : Fin 192, x0 (ix4 b h n d) * keyAt x1 x2 b h t d

/-- A sum of 256 terms whose last 64 are zero is the sum of the first 192. -/
theorem sum_256 (f : Fin 256 → EReal) (hf : ∀ d : Fin 256, 192 ≤ d.val → f d = 0) :
    ∑ d, f d = ∑ d : Fin 192, f ⟨d.val, by have := d.isLt; omega⟩ := by
  rw [show (∑ d : Fin 256, f d) = ∑ d : Fin (192 + 64), f d from rfl, Fin.sum_univ_add, Finset.sum_eq_zero (s := Finset.univ) (f := fun i : Fin 64 => f (Fin.natAdd 192 i)) (fun i _ => hf _ (by show 192 ≤ 192 + i.val; omega)), add_zero]
  rfl

/-- Finite queries and keys have finite products. -/
theorem score_real (x0 : (⟨4, ![8, 16, 2304, 192]⟩ : Shape).Idx → EReal) (x1 : (⟨4, ![8, 16, 2304, 128]⟩ : Shape).Idx → EReal)
    (x2 : (⟨3, ![8, 2304, 64]⟩ : Shape).Idx → EReal) (b : Fin 8) (h : Fin 16) (n t : Fin 2304)
    (h0 : ∀ d, ∃ r : ℝ, x0 (ix4 b h n d) = (r : EReal)) (h1 : ∀ i, ∃ r : ℝ, x1 i = (r : EReal)) (h2 : ∀ i, ∃ r : ℝ, x2 i = (r : EReal)) :
    ∃ r : ℝ, score x0 x1 x2 b h n t = (r : EReal) := by
  have hk : ∀ d, ∃ r : ℝ, keyAt x1 x2 b h t d = (r : EReal) := fun d => by
    unfold keyAt
    split
    · exact h1 _
    · exact h2 _
  choose q hq using h0
  choose k hk using hk
  refine ⟨∑ d, q d * k d, ?_⟩
  unfold score
  rw [coe_sum]
  exact Finset.sum_congr rfl fun d _ => by rw [hq, hk, EReal.coe_mul]

/-- A number whose absolute value is below infinity is a real. -/
theorem real_of_abs_lt (x : EReal) (h : Ideal.cmp .olt (max x (-x)) (Ideal.ofBits .f32 0x7F800000#32) = 1#1) : ∃ r : ℝ, x = (r : EReal) := by
  rw [ofBits_inf] at h
  induction x with
  | bot => simp [Ideal.cmp] at h
  | top => simp [Ideal.cmp] at h
  | coe r => exact ⟨r, rfl⟩

/-- The attention's result at a latent row and a column: the weighted mean, over the sample's tokens, of entry `j % 128` of the
    values of head `j / 128`. -/
def attended (x0 : (⟨4, ![8, 16, 2304, 192]⟩ : Shape).Idx → EReal) (x1 : (⟨4, ![8, 16, 2304, 128]⟩ : Shape).Idx → EReal)
    (x2 : (⟨3, ![8, 2304, 64]⟩ : Shape).Idx → EReal) (x3 : (⟨4, ![8, 16, 2304, 128]⟩ : Shape).Idx → EReal) (r : Fin 16384) (j : Fin 2048) : EReal :=
  kmean (score x0 x1 x2 (smp r) ⟨j.val / 128, by have := j.isLt; omega⟩ (tokAll r))
    (fun t => x3 (ix4 (smp r) ⟨j.val / 128, by have := j.isLt; omega⟩ t ⟨j.val % 128, by omega⟩))

/-- The result at a row and a column of known sample, token, head and entry. -/
theorem attended_eq (x0 : (⟨4, ![8, 16, 2304, 192]⟩ : Shape).Idx → EReal) (x1 : (⟨4, ![8, 16, 2304, 128]⟩ : Shape).Idx → EReal)
    (x2 : (⟨3, ![8, 2304, 64]⟩ : Shape).Idx → EReal) (x3 : (⟨4, ![8, 16, 2304, 128]⟩ : Shape).Idx → EReal) (r : Fin 16384) (j : Fin 2048)
    (b : Fin 8) (h : Fin 16) (n : Fin 2304) (e : Fin 128) (hb : r.val / 2048 = b.val) (hn : 256 + r.val % 2048 = n.val)
    (hh : j.val / 128 = h.val) (he : j.val % 128 = e.val) :
    attended x0 x1 x2 x3 r j = kmean (score x0 x1 x2 b h n) (fun t => x3 (ix4 b h t e)) := by
  obtain rfl : smp r = b := Fin.ext hb
  obtain rfl : tokAll r = n := Fin.ext hn
  have eh : ∀ p : j.val / 128 < 16, (⟨j.val / 128, p⟩ : Fin 16) = h := fun _ => Fin.ext hh
  have ee : ∀ p : j.val % 128 < 128, (⟨j.val % 128, p⟩ : Fin 128) = e := fun _ => Fin.ext he
  unfold attended
  rw [eh, ee]

end Cert.Proof.Mix

end
-- ==== Proof.Mix.AttnBlock.lean ====
/-
  One block of the attention of the latent queries: a tile of 256 query rows against all the keys and values, the keys and values
  gathered in the scratch arrays, and what the body leaves in its output block.
-/
module

public import proofs.«01_k».proof.Proof.Gen.AttnIdeal.Value
public import proofs.«01_k».proof.Proof.Mix.AttnSpec

@[expose] public section

noncomputable section

namespace Cert.Proof.Attn

open Cert.AttnIdeal Cert.AttnIdeal.Gen Idealize.ShloMosaic Idealize.ShloMosaic.TcCoe Idealize.SL.Sem
open Idealize.ShloMosaic.Pipeline (Dat)
open Idealize.ShloMosaic.ValueIdx
open Cert.Proof.Spec Cert.Proof.Mix
open scoped BigOperators

/-! ## A tile of 256 query rows -/

/-- The constant named for the score's scale is that scale. -/
theorem scale_eq : Named.named (F := Ideal) Cert.AttnIdeal.κ "score_scale" (φ := .f32) 0x3DD53B95#32 = ((scale : ℝ) : EReal) :=
  IdealRules.named_const.ideal_named_scalar _ _ _ _ rfl

/-- What a tile computes of its queries, the keys and the values. -/
def tile (q : Vec Ideal S256x256 .bf16) (K : Vec Ideal S2304x256 .bf16) (V : Vec Ideal S2304x128 .bf16) : FVec Ideal S256x128 .bf16 :=
  k0_pay2 (k0_pay10 (k0_pay6 q K)) (k0_pay14 (k0_pay6 q K)) V

/-- A column of 256 numbers repeated along the rows, read at an index. -/
theorem column_apply (x : (⟨1, ![256]⟩ : Shape).Idx → EReal) (hs : (⟨1, ![256]⟩ : Shape).ShapeCasts ⟨2, ![256, 1]⟩)
    (a : Fin 256) : shapeCast (⟨2, ![256, 1]⟩ : Shape) x hs (ix2 a 0) = x (ix1 a) :=
  shapeCast_apply x hs _ _ (by
    rw [Shape.rowMajor_val_one, Shape.rowMajor_val_two]
    show a.val = a.val * 1 + 0
    omega)

/-- A column repeated along the rows, read at an index. -/
theorem repeat_apply {N : Nat} (x : (⟨2, ![256, 1]⟩ : Shape).Idx → EReal) (hb : (⟨2, ![256, 1]⟩ : Shape).Broadcasts ⟨2, ![256, N]⟩)
    (a : Fin 256) (b : Fin N) : broadcastTo (⟨2, ![256, N]⟩ : Shape) x hb (ix2 a b) = x (ix2 a 0) :=
  broadcastTo_apply _ hb (ix2 a b) (ix2 a 0) (fun c => by
      match c with
      | ⟨0, _⟩ => rfl
      | ⟨1, _⟩ => rfl)

/-- The tile's scores. -/
theorem scores_apply (q : Vec Ideal S256x256 .bf16) (K : Vec Ideal S2304x256 .bf16) (a : Fin 256) (t : Fin 2304) :
    k0_pay6 q K (ix2 a t) = ∑ d : Fin 256, q (ix2 a d) * K (ix2 t d) := by
  unfold k0_pay6
  simp only [shapeCast_self]
  refine (Ideal.matmul_transposedRhs_apply (M := 256) (K := 256) (N := 2304) (φ₁ := .bf16) (φ₂ := .bf16) none q K _ a t).trans ?_
  show Ideal.ofBits .f32 0x00000000#32 + _ = _
  rw [Ideal.ofBits_zero_f32, zero_add]

/-- The tile's weights. -/
theorem weights_apply (S : FVec Ideal S256x2304 .f32) (a : Fin 256) (t : Fin 2304) :
    k0_pay10 S (ix2 a t) = kw (fun k => S (ix2 a k)) t := by
  unfold k0_pay10
  show Ideal.exp2 (S (ix2 a t) * Named.named (F := Ideal) Cert.AttnIdeal.κ "score_scale" (φ := .f32) 0x3DD53B95#32
    - broadcastTo S256x2304 _ broadcasts_S256x1_S256x2304 (ix2 a t)) = _
  rw [repeat_apply (N := 2304)]
  show Ideal.exp2 (_ - shapeCast S256x1 _ shapeCasts_S256_S256x1 (ix2 a 0) * Named.named (F := Ideal) Cert.AttnIdeal.κ "score_scale" (φ := .f32) 0x3DD53B95#32) = _
  rw [column_apply, scale_eq]
  unfold kw top
  refine congrArg (fun z => Ideal.exp2 (S (ix2 a t) * ((scale : ℝ) : EReal) - z * ((scale : ℝ) : EReal))) ?_
  refine (Ideal.multiReduction_maximumf_single _ _ _ _ _ _).trans ?_
  show Finset.fold max (Ideal.ofBits .f32 0xFF800000#32) _ _ = _
  refine congrArg (fun f => Finset.fold max (Ideal.ofBits .f32 0xFF800000#32) f (Finset.univ : Finset (Fin 2304))) ?_
  funext k
  refine congrArg S ?_
  funext x
  match x with
  | ⟨0, _⟩ => rfl
  | ⟨1, _⟩ => rfl

/-- The tile's sums of weights. -/
theorem sums_apply (S : FVec Ideal S256x2304 .f32) (a : Fin 256) :
    k0_pay14 S (ix2 a 0) = ∑ t : Fin 2304, kw (fun k => S (ix2 a k)) t := by
  unfold k0_pay14
  show shapeCast S256x1 _ shapeCasts_S256_S256x1 (ix2 a 0) = _
  rw [column_apply]
  refine (Ideal.multiReduction_add_single _ _ _ _ _ _).trans (Finset.sum_congr rfl fun k _ => ?_)
  refine Eq.trans (congrArg (k0_pay10 S) ?_) (weights_apply S a k)
  funext x
  match x with
  | ⟨0, _⟩ => rfl
  | ⟨1, _⟩ => rfl

/-- The tile's result: the weighted means of the values. -/
theorem tile_apply (q : Vec Ideal S256x256 .bf16) (K : Vec Ideal S2304x256 .bf16) (V : Vec Ideal S2304x128 .bf16) (a : Fin 256) (b : Fin 128) :
    tile q K V (ix2 a b) = kmean (fun t => ∑ d : Fin 256, q (ix2 a d) * K (ix2 t d)) (fun t => V (ix2 t b)) := by
  unfold tile k0_pay2
  show Ideal.div ((FloatOps.matmul (DotDims.plain 256 2304 128) none (φ₁ := .f32) (φ₂ := .bf16) (k0_pay10 (k0_pay6 q K)) V (constant ⟨2, ![256, 128]⟩ .f32 0x00000000#32) : FVec Ideal ⟨2, ![256, 128]⟩ .f32) (ix2 a b))
    (broadcastTo S256x128 (k0_pay14 (k0_pay6 q K)) broadcasts_S256x1_S256x128 (ix2 a b)) = _
  rw [repeat_apply (N := 128)]
  unfold kmean
  have e : (fun k => k0_pay6 q K (ix2 a k)) = fun t => ∑ d : Fin 256, q (ix2 a d) * K (ix2 t d) := funext fun t => scores_apply q K a t
  refine congrArg₂ Ideal.div ?_ ?_
  · refine (product_apply (M := 256) (K := 2304) (N := 128) (φ₁ := .f32) (φ₂ := .bf16) _ V a b).trans (Finset.sum_congr rfl fun k _ => ?_)
    rw [weights_apply, e]
  · rw [sums_apply, e]

/-! ## The scratch arrays -/

/-- The keys gathered: the context's rows, then the latent rows; each the head's own part, then the shared part. -/
def keys (x1 x5 : Vec Ideal S256x128 .bf16) (x2 x6 : Vec Ideal S2048x128 .bf16) (y : S2304x256.Idx) : EReal :=
  if h0 : (y 0).val < 256 then
    if h1 : (y 1).val < 128 then x1 (ix2 ⟨(y 0).val, h0⟩ ⟨(y 1).val, h1⟩)
    else x5 (ix2 ⟨(y 0).val, h0⟩ ⟨(y 1).val - 128, by have h : (y 1).val < 256 := (y 1).isLt; omega⟩)
  else
    if h1 : (y 1).val < 128 then x2 (ix2 ⟨(y 0).val - 256, by have h : (y 0).val < 2304 := (y 0).isLt; omega⟩ ⟨(y 1).val, h1⟩)
    else x6 (ix2 ⟨(y 0).val - 256, by have h : (y 0).val < 2304 := (y 0).isLt; omega⟩ ⟨(y 1).val - 128, by have h : (y 1).val < 256 := (y 1).isLt; omega⟩)

/-- The values gathered: the context's rows, then the latent rows. -/
def vals (x3 : Vec Ideal S256x128 .bf16) (x4 : Vec Ideal S2048x128 .bf16) (y : S2304x128.Idx) : EReal :=
  if h0 : (y 0).val < 256 then x3 (ix2 ⟨(y 0).val, h0⟩ (y 1))
  else x4 (ix2 ⟨(y 0).val - 256, by have h : (y 0).val < 2304 := (y 0).isLt; omega⟩ (y 1))

/-- The gathered keys, read among the context's rows in the head's own part. -/
theorem keys_ctx_own (x1 x5 : Vec Ideal S256x128 .bf16) (x2 x6 : Vec Ideal S2048x128 .bf16) (y : S2304x256.Idx) (a : Fin 256) (b : Fin 128)
    (ha : (y 0).val = a.val) (hb : (y 1).val = b.val) : keys x1 x5 x2 x6 y = x1 (ix2 a b) := by
  have := a.isLt
  have := b.isLt
  unfold keys
  rw [dif_pos (by omega), dif_pos (by omega)]
  exact congrArg₂ (fun p q => x1 (ix2 p q)) (Fin.ext ha) (Fin.ext hb)

/-- Among the context's rows in the shared part. -/
theorem keys_ctx_shared (x1 x5 : Vec Ideal S256x128 .bf16) (x2 x6 : Vec Ideal S2048x128 .bf16) (y : S2304x256.Idx) (a : Fin 256) (b : Fin 128)
    (ha : (y 0).val = a.val) (hb : (y 1).val = 128 + b.val) : keys x1 x5 x2 x6 y = x5 (ix2 a b) := by
  have := a.isLt
  unfold keys
  rw [dif_pos (by omega), dif_neg (by omega)]
  exact congrArg₂ (fun p q => x5 (ix2 p q)) (Fin.ext ha) (Fin.ext (by show (y 1).val - 128 = b.val; omega))

/-- Among the latent rows in the head's own part. -/
theorem keys_lat_own (x1 x5 : Vec Ideal S256x128 .bf16) (x2 x6 : Vec Ideal S2048x128 .bf16) (y : S2304x256.Idx) (a : Fin 2048) (b : Fin 128)
    (ha : (y 0).val = 256 + a.val) (hb : (y 1).val = b.val) : keys x1 x5 x2 x6 y = x2 (ix2 a b) := by
  have := b.isLt
  unfold keys
  rw [dif_neg (by omega), dif_pos (by omega)]
  exact congrArg₂ (fun p q => x2 (ix2 p q)) (Fin.ext (by show (y 0).val - 256 = a.val; omega)) (Fin.ext hb)

/-- Among the latent rows in the shared part. -/
theorem keys_lat_shared (x1 x5 : Vec Ideal S256x128 .bf16) (x2 x6 : Vec Ideal S2048x128 .bf16) (y : S2304x256.Idx) (a : Fin 2048) (b : Fin 128)
    (ha : (y 0).val = 256 + a.val) (hb : (y 1).val = 128 + b.val) : keys x1 x5 x2 x6 y = x6 (ix2 a b) := by
  unfold keys
  rw [dif_neg (by omega), dif_neg (by omega)]
  exact congrArg₂ (fun p q => x6 (ix2 p q)) (Fin.ext (by show (y 0).val - 256 = a.val; omega)) (Fin.ext (by show (y 1).val - 128 = b.val; omega))

/-- The gathered values, read among the context's rows. -/
theorem vals_ctx (x3 : Vec Ideal S256x128 .bf16) (x4 : Vec Ideal S2048x128 .bf16) (y : S2304x128.Idx) (a : Fin 256) (b : Fin 128)
    (ha : (y 0).val = a.val) (hb : (y 1).val = b.val) : vals x3 x4 y = x3 (ix2 a b) := by
  have := a.isLt
  unfold vals
  rw [dif_pos (by omega)]
  exact congrArg₂ (fun p q => x3 (ix2 p q)) (Fin.ext ha) (Fin.ext hb)

/-- Among the latent rows. -/
theorem vals_lat (x3 : Vec Ideal S256x128 .bf16) (x4 : Vec Ideal S2048x128 .bf16) (y : S2304x128.Idx) (a : Fin 2048) (b : Fin 128)
    (ha : (y 0).val = 256 + a.val) (hb : (y 1).val = b.val) : vals x3 x4 y = x4 (ix2 a b) := by
  unfold vals
  rw [dif_neg (by omega)]
  exact congrArg₂ (fun p q => x4 (ix2 p q)) (Fin.ext (by show (y 0).val - 256 = a.val; omega)) (Fin.ext hb)

/-- An index of two coordinates is the pair of them. -/
theorem pair_eq {M N : Nat} (j : (⟨2, ![M, N]⟩ : Shape).Idx) : j = ix2 (j 0) (j 1) := by
  funext x
  match x with
  | ⟨0, _⟩ => rfl
  | ⟨1, _⟩ => rfl

/-- What the key scratch holds after the four stores. -/
theorem key_scratch (c : Dev nD) (g1 : Memref sig .tc .vmem S256x128 .bf16) (h1 : g1.IsWhole) (g2 : Memref sig .tc .vmem S2048x128 .bf16) (h2 : g2.IsWhole) (g5 : Memref sig .tc .vmem S256x128 .bf16) (h5 : g5.IsWhole) (g6 : Memref sig .tc .vmem S2048x128 .bf16) (h6 : g6.IsWhole) (s0 : Memref sig .tc .vmem S2304x256 .bf16) (hs0 : s0.IsWhole)
    (x1 : Vec Ideal S256x128 .bf16) (x2 : Vec Ideal S2048x128 .bf16) (x5 : Vec Ideal S256x128 .bf16) (x6 : Vec Ideal S2048x128 .bf16) :
    s0.view.read (Elt Ideal) (s0.view.writes (Elt Ideal) s0.view.junk (kernelRun0_A.sl.HS0_4 (F := Ideal) c g1 h1 g2 h2 g5 h5 g6 h6 x1 x2 x5 x6)) = keys x1 x5 x2 x6 := by
  have z0 : (![0, 0] : Fin S256x128.rank → Nat) = fun _ => 0 := funext fun a => by fin_cases a <;> rfl
  have z1 : (![0, 0] : Fin S2048x128.rank → Nat) = fun _ => 0 := funext fun a => by fin_cases a <;> rfl
  have cover : ∀ y : S2304x256.Idx, ∃ p ∈ kernelRun0_A.sl.HS0_4 (F := Ideal) c g1 h1 g2 h2 g5 h5 g6 h6 x1 x2 x5 x6, y ∈ p.1.set := fun y => by
    have hy0 : (y 0).val < 2304 := (y 0).isLt
    have hy1 : (y 1).val < 256 := (y 1).isLt
    unfold kernelRun0_A.sl.HS0_4
    by_cases c0 : (y 0).val < 256 <;> by_cases c1 : (y 1).val < 128
    · refine ⟨_, List.mem_cons_of_mem _ (List.mem_cons_of_mem _ (List.mem_cons_of_mem _ List.mem_cons_self)), (Rect.mem_set_unit (inb := inb_S2304x256_S256x128_0_0)).mpr fun a => ?_⟩
      match a with
      | ⟨0, _⟩ => exact ⟨Nat.zero_le _, by show (y 0).val < 0 + 256; omega⟩
      | ⟨1, _⟩ => exact ⟨Nat.zero_le _, by show (y 1).val < 0 + 128; omega⟩
    · refine ⟨_, List.mem_cons_of_mem _ (List.mem_cons_of_mem _ List.mem_cons_self), (Rect.mem_set_unit (inb := inb_S2304x256_S256x128_0_128)).mpr fun a => ?_⟩
      match a with
      | ⟨0, _⟩ => exact ⟨Nat.zero_le _, by show (y 0).val < 0 + 256; omega⟩
      | ⟨1, _⟩ => exact ⟨by show 128 ≤ (y 1).val; omega, by show (y 1).val < 128 + 128; omega⟩
    · refine ⟨_, List.mem_cons_of_mem _ List.mem_cons_self, (Rect.mem_set_unit (inb := inb_S2304x256_S2048x128_256_0)).mpr fun a => ?_⟩
      match a with
      | ⟨0, _⟩ => exact ⟨by show 256 ≤ (y 0).val; omega, by show (y 0).val < 256 + 2048; omega⟩
      | ⟨1, _⟩ => exact ⟨Nat.zero_le _, by show (y 1).val < 0 + 128; omega⟩
    · refine ⟨_, List.mem_cons_self, (Rect.mem_set_unit (inb := inb_S2304x256_S2048x128_256_128)).mpr fun a => ?_⟩
      match a with
      | ⟨0, _⟩ => exact ⟨by show 256 ≤ (y 0).val; omega, by show (y 0).val < 256 + 2048; omega⟩
      | ⟨1, _⟩ => exact ⟨by show 128 ≤ (y 1).val; omega, by show (y 1).val < 128 + 128; omega⟩
  rw [View.read_writes_eq_canon _ _ _ cover]
  funext y
  refine View.canon_apply_of_pieces (keys x1 x5 x2 x6) _ (fun p hp j => ?_) y (cover y)
  unfold kernelRun0_A.sl.HS0_4 at hp
  simp only [List.mem_cons, List.not_mem_nil, or_false] at hp
  rcases hp with rfl | rfl | rfl | rfl
  · refine Eq.trans ?_ (keys_lat_shared x1 x5 x2 x6 _ (j 0) (j 1) (by show 256 + 1 * (j 0).val = 256 + (j 0).val; omega) (by show 128 + 1 * (j 1).val = 128 + (j 1).val; omega)).symm
    dsimp only
    unfold k0_pay19
    simp only [shapeCast_self, View.readAt_eq_ld, h6.read_unread, View.ld_unit_zero (S := S2048x128) z1]
    exact congrArg x6 (pair_eq j)
  · refine Eq.trans ?_ (keys_lat_own x1 x5 x2 x6 _ (j 0) (j 1) (by show 256 + 1 * (j 0).val = 256 + (j 0).val; omega) (by show 0 + 1 * (j 1).val = (j 1).val; omega)).symm
    dsimp only
    unfold k0_pay18
    simp only [shapeCast_self, View.readAt_eq_ld, h2.read_unread, View.ld_unit_zero (S := S2048x128) z1]
    exact congrArg x2 (pair_eq j)
  · refine Eq.trans ?_ (keys_ctx_shared x1 x5 x2 x6 _ (j 0) (j 1) (by show 0 + 1 * (j 0).val = (j 0).val; omega) (by show 128 + 1 * (j 1).val = 128 + (j 1).val; omega)).symm
    dsimp only
    unfold k0_pay17
    simp only [shapeCast_self, View.readAt_eq_ld, h5.read_unread, View.ld_unit_zero (S := S256x128) z0]
    exact congrArg x5 (pair_eq j)
  · refine Eq.trans ?_ (keys_ctx_own x1 x5 x2 x6 _ (j 0) (j 1) (by show 0 + 1 * (j 0).val = (j 0).val; omega) (by show 0 + 1 * (j 1).val = (j 1).val; omega)).symm
    dsimp only
    unfold k0_pay16
    simp only [shapeCast_self, View.readAt_eq_ld, h1.read_unread, View.ld_unit_zero (S := S256x128) z0]
    exact congrArg x1 (pair_eq j)

/-- What the value scratch holds after the two stores. -/
theorem value_scratch (c : Dev nD) (g3 : Memref sig .tc .vmem S256x128 .bf16) (h3 : g3.IsWhole) (g4 : Memref sig .tc .vmem S2048x128 .bf16) (h4 : g4.IsWhole) (s1 : Memref sig .tc .vmem S2304x128 .bf16) (hs1 : s1.IsWhole)
    (x3 : Vec Ideal S256x128 .bf16) (x4 : Vec Ideal S2048x128 .bf16) :
    s1.view.read (Elt Ideal) (s1.view.writes (Elt Ideal) s1.view.junk (kernelRun0_A.sl.HS1_2 (F := Ideal) c g3 h3 g4 h4 x3 x4)) = vals x3 x4 := by
  have z0 : (![0, 0] : Fin S256x128.rank → Nat) = fun _ => 0 := funext fun a => by fin_cases a <;> rfl
  have z1 : (![0, 0] : Fin S2048x128.rank → Nat) = fun _ => 0 := funext fun a => by fin_cases a <;> rfl
  have cover : ∀ y : S2304x128.Idx, ∃ p ∈ kernelRun0_A.sl.HS1_2 (F := Ideal) c g3 h3 g4 h4 x3 x4, y ∈ p.1.set := fun y => by
    have hy0 : (y 0).val < 2304 := (y 0).isLt
    have hy1 : (y 1).val < 128 := (y 1).isLt
    unfold kernelRun0_A.sl.HS1_2
    by_cases c0 : (y 0).val < 256
    · refine ⟨_, List.mem_cons_of_mem _ List.mem_cons_self, (Rect.mem_set_unit (inb := inb_S2304x128_S256x128_0_0)).mpr fun a => ?_⟩
      match a with
      | ⟨0, _⟩ => exact ⟨Nat.zero_le _, by show (y 0).val < 0 + 256; omega⟩
      | ⟨1, _⟩ => exact ⟨Nat.zero_le _, by show (y 1).val < 0 + 128; omega⟩
    · refine ⟨_, List.mem_cons_self, (Rect.mem_set_unit (inb := inb_S2304x128_S2048x128_256_0)).mpr fun a => ?_⟩
      match a with
      | ⟨0, _⟩ => exact ⟨by show 256 ≤ (y 0).val; omega, by show (y 0).val < 256 + 2048; omega⟩
      | ⟨1, _⟩ => exact ⟨Nat.zero_le _, by show (y 1).val < 0 + 128; omega⟩
  rw [View.read_writes_eq_canon _ _ _ cover]
  funext y
  refine View.canon_apply_of_pieces (vals x3 x4) _ (fun p hp j => ?_) y (cover y)
  unfold kernelRun0_A.sl.HS1_2 at hp
  simp only [List.mem_cons, List.not_mem_nil, or_false] at hp
  rcases hp with rfl | rfl
  · refine Eq.trans ?_ (vals_lat x3 x4 _ (j 0) (j 1) (by show 256 + 1 * (j 0).val = 256 + (j 0).val; omega) (by show 0 + 1 * (j 1).val = (j 1).val; omega)).symm
    dsimp only
    unfold k0_pay1 kernelRun0_A.sl.r k0_pay21
    simp only [shapeCast_self, View.readAt_eq_ld, h4.read_unread, View.ld_unit_zero (S := S2048x128) z1]
    exact congrArg x4 (pair_eq j)
  · refine Eq.trans ?_ (vals_ctx x3 x4 _ (j 0) (j 1) (by show 0 + 1 * (j 0).val = (j 0).val; omega) (by show 0 + 1 * (j 1).val = (j 1).val; omega)).symm
    dsimp only
    unfold k0_pay20
    simp only [shapeCast_self, View.readAt_eq_ld, h3.read_unread, View.ld_unit_zero (S := S256x128) z0]
    exact congrArg x3 (pair_eq j)

/-! ## The loop -/

/-- Each piece a trip of the loop writes is a tile of 256 rows, of the query rows at the same place. -/
theorem trip_pieces (𝒱 : Variants) (c : Dev nD) (bd : Option 𝒱.V) (i : grid0.Coords) (g0 : Memref sig .tc .vmem S2048x256 .bf16) (h0 : g0.IsWhole) (g1 : Memref sig .tc .vmem S256x128 .bf16) (h1 : g1.IsWhole) (g2 : Memref sig .tc .vmem S2048x128 .bf16) (h2 : g2.IsWhole) (g3 : Memref sig .tc .vmem S256x128 .bf16) (h3 : g3.IsWhole) (g4 : Memref sig .tc .vmem S2048x128 .bf16) (h4 : g4.IsWhole) (g5 : Memref sig .tc .vmem S256x128 .bf16) (h5 : g5.IsWhole) (g6 : Memref sig .tc .vmem S2048x128 .bf16) (h6 : g6.IsWhole) (g7 : Memref sig .tc .vmem S2048x128 .bf16) (h7 : g7.IsWhole) (s0 : Memref sig .tc .vmem S2304x256 .bf16) (hs0 : s0.IsWhole) (s1 : Memref sig .tc .vmem S2304x128 .bf16) (hs1 : s1.IsWhole)
    (X0 : BufTy.Contents (Elt Ideal) g0.view.ty) (X1 : BufTy.Contents (Elt Ideal) s0.view.ty) (X2 : BufTy.Contents (Elt Ideal) s1.view.ty) (k : Fin k0_t1_loop.trips)
    (p : View.Piece (Elt Ideal) S2048x128 .bf16)
    (hp : p ∈ tripL_k0_t1 (F := Ideal) 𝒱 c bd i g0 h0 g1 h1 g2 h2 g3 h3 g4 h4 g5 h5 g6 h6 g7 h7 s0 hs0 s1 hs1 X0 X1 X2 k) :
    ∃ (z : BitVec 32) (i1 : ∀ a, k0_off1 k z a + S256x256.size a ≤ S2048x256.size a) (i2 : ∀ a, k0_off2 k z a + S256x128.size a ≤ S2048x128.size a),
      p = ⟨Rect.unit (s := S2048x128) (k0_off2 k z) S256x128.size i2, tile (View.readAt (Elt Ideal) g0.view (Rect.unit (s := S2048x256) (k0_off1 k z) S256x256.size i1).toLoadRect X0)
        (View.readAt (Elt Ideal) s0.view (Rect.unit (s := S2304x256) ![0, 0] S2304x256.size inb_S2304x256_S2304x256_0_0).toLoadRect X1)
        (View.readAt (Elt Ideal) s1.view (Rect.unit (s := S2304x128) ![0, 0] S2304x128.size inb_S2304x128_S2304x128_0_0).toLoadRect X2)⟩ := by
  unfold tripL_k0_t1 trip_k0_t1 at hp
  dsimp only at hp
  simp only [List.mem_cons, List.not_mem_nil, or_false] at hp
  rcases hp with rfl | rfl | rfl | rfl
  · exact ⟨3#32, _, _, rfl⟩
  · exact ⟨2#32, _, _, rfl⟩
  · exact ⟨1#32, _, _, rfl⟩
  · exact ⟨0#32, _, _, rfl⟩

/-- Each piece the trips before the `n`-th write is a piece of one of them. -/
theorem loop_pieces (𝒱 : Variants) (c : Dev nD) (bd : Option 𝒱.V) (i : grid0.Coords) (g0 : Memref sig .tc .vmem S2048x256 .bf16) (h0 : g0.IsWhole) (g1 : Memref sig .tc .vmem S256x128 .bf16) (h1 : g1.IsWhole) (g2 : Memref sig .tc .vmem S2048x128 .bf16) (h2 : g2.IsWhole) (g3 : Memref sig .tc .vmem S256x128 .bf16) (h3 : g3.IsWhole) (g4 : Memref sig .tc .vmem S2048x128 .bf16) (h4 : g4.IsWhole) (g5 : Memref sig .tc .vmem S256x128 .bf16) (h5 : g5.IsWhole) (g6 : Memref sig .tc .vmem S2048x128 .bf16) (h6 : g6.IsWhole) (g7 : Memref sig .tc .vmem S2048x128 .bf16) (h7 : g7.IsWhole) (s0 : Memref sig .tc .vmem S2304x256 .bf16) (hs0 : s0.IsWhole) (s1 : Memref sig .tc .vmem S2304x128 .bf16) (hs1 : s1.IsWhole)
    (X0 : BufTy.Contents (Elt Ideal) g0.view.ty) (X1 : BufTy.Contents (Elt Ideal) s0.view.ty) (X2 : BufTy.Contents (Elt Ideal) s1.view.ty)
    (p : View.Piece (Elt Ideal) S2048x128 .bf16) (n : ℕ)
    (hp : p ∈ pb_k0_t1 (F := Ideal) 𝒱 c bd i g0 h0 g1 h1 g2 h2 g3 h3 g4 h4 g5 h5 g6 h6 g7 h7 s0 hs0 s1 hs1 X0 X1 X2 n) :
    ∃ k : Fin k0_t1_loop.trips, p ∈ tripL_k0_t1 (F := Ideal) 𝒱 c bd i g0 h0 g1 h1 g2 h2 g3 h3 g4 h4 g5 h5 g6 h6 g7 h7 s0 hs0 s1 hs1 X0 X1 X2 k := by
  induction n with
  | zero => exact absurd hp List.not_mem_nil
  | succ n ih =>
    by_cases h : n < k0_t1_loop.trips
    · rw [pb_k0_t1.eq_2] at hp
      unfold pb_k0_t1Step at hp
      rw [dif_pos h] at hp
      rcases List.mem_append.mp hp with h' | h'
      · exact ⟨⟨n, h⟩, h'⟩
      · exact ih h'
    · rw [pb_k0_t1.eq_2] at hp
      unfold pb_k0_t1Step at hp
      rw [dif_neg h] at hp
      exact ih hp

/-! ## The block -/

/-- What the body leaves in its output block, row by row: the weighted means of the gathered values, the scores the products of the
    row's query with the gathered keys. -/
theorem out_apply (c : Dev nD) (i : grid0.Coords) (g0 : Memref sig .tc .vmem S2048x256 .bf16) (h0 : g0.IsWhole) (g1 : Memref sig .tc .vmem S256x128 .bf16) (h1 : g1.IsWhole) (g2 : Memref sig .tc .vmem S2048x128 .bf16) (h2 : g2.IsWhole) (g3 : Memref sig .tc .vmem S256x128 .bf16) (h3 : g3.IsWhole) (g4 : Memref sig .tc .vmem S2048x128 .bf16) (h4 : g4.IsWhole) (g5 : Memref sig .tc .vmem S256x128 .bf16) (h5 : g5.IsWhole) (g6 : Memref sig .tc .vmem S2048x128 .bf16) (h6 : g6.IsWhole) (g7 : Memref sig .tc .vmem S2048x128 .bf16) (h7 : g7.IsWhole) (s0 : Memref sig .tc .vmem S2304x256 .bf16) (hs0 : s0.IsWhole) (s1 : Memref sig .tc .vmem S2304x128 .bf16) (hs1 : s1.IsWhole)
    (x0 : Vec Ideal S2048x256 .bf16) (x1 : Vec Ideal S256x128 .bf16) (x2 : Vec Ideal S2048x128 .bf16) (x3 : Vec Ideal S256x128 .bf16) (x4 : Vec Ideal S2048x128 .bf16) (x5 : Vec Ideal S256x128 .bf16) (x6 : Vec Ideal S2048x128 .bf16)
    (a : Fin 2048) (b : Fin 128) :
    out0_A_7 (F := Ideal) c i g0 h0 g1 h1 g2 h2 g3 h3 g4 h4 g5 h5 g6 h6 g7 h7 s0 hs0 s1 hs1 x0 x1 x2 x3 x4 x5 x6 (ix2 a b)
      = kmean (fun t : Fin 2304 => ∑ d : Fin 256, x0 (ix2 a d) * keys x1 x5 x2 x6 (ix2 t d)) (fun t => vals x3 x4 (ix2 t b)) := by
  have z0 : (![0, 0] : Fin S2304x256.rank → Nat) = fun _ => 0 := funext fun a => by fin_cases a <;> rfl
  have z1 : (![0, 0] : Fin S2304x128.rank → Nat) = fun _ => 0 := funext fun a => by fin_cases a <;> rfl
  unfold out0_A_7
  rw [View.read_writes_eq_canon _ _ _ (cover0_A_7 c i g0 h0 g1 h1 g2 h2 g3 h3 g4 h4 g5 h5 g6 h6 g7 h7 s0 hs0 s1 hs1 x0 x1 x2 x3 x4 x5 x6)]
  refine View.canon_apply_of_pieces (fun y : S2048x128.Idx => kmean (fun t : Fin 2304 => ∑ d : Fin 256, x0 (ix2 (y 0) d) * keys x1 x5 x2 x6 (ix2 t d)) (fun t => vals x3 x4 (ix2 t (y 1))))
    _ (fun p hp j => ?_) (ix2 a b) (cover0_A_7 c i g0 h0 g1 h1 g2 h2 g3 h3 g4 h4 g5 h5 g6 h6 g7 h7 s0 hs0 s1 hs1 x0 x1 x2 x3 x4 x5 x6 (ix2 a b))
  unfold kernelRun0_A at hp
  dsimp only at hp
  obtain ⟨k, hk⟩ := loop_pieces _ _ _ _ _ _ _ _ _ _ _ _ _ _ _ _ _ _ _ _ _ _ _ _ _ _ _ _ _ hp
  obtain ⟨z, i1, i2, rfl⟩ := trip_pieces _ _ _ _ _ _ _ _ _ _ _ _ _ _ _ _ _ _ _ _ _ _ _ _ _ _ _ _ _ hk
  dsimp only
  rw [View.readAt_eq_ld, View.readAt_eq_ld, View.readAt_eq_ld, h0.read_unread, key_scratch c g1 h1 g2 h2 g5 h5 g6 h6 s0 hs0, value_scratch c g3 h3 g4 h4 s1 hs1,
    View.ld_unit_zero (S := S2304x256) z0, View.ld_unit_zero (S := S2304x128) z1]
  refine ((congrArg _ (pair_eq j)).trans (tile_apply _ _ _ (j 0) (j 1))).trans ?_
  refine congrArg₂ kmean ?_ ?_
  · funext t
    refine Finset.sum_congr rfl fun d _ => congrArg (· * _) ?_
    refine congrArg x0 (Shape.idx_ext₂ ?_ ?_)
    · rfl
    · show 0 + 1 * d.val = d.val; omega
  · funext t
    refine congrArg (fun q => vals x3 x4 (ix2 t q)) (Fin.ext ?_)
    show (j 1).val = 0 + 1 * (j 1).val
    omega

end Cert.Proof.Attn

end
-- ==== Proof.Mix.Attn.lean ====
/-
  The value of the latent queries' attention kernel: after the run its output array holds, at latent row `r` and column `j`, the weighted
  mean, over all the sample's tokens, of entry `j % 128` of the values of head `j / 128`.
-/
module

public import proofs.«01_k».proof.Proof.Gen.AttnIdeal.Value
public import proofs.«01_k».proof.Proof.Mix.AttnBlock

@[expose] public section

noncomputable section

namespace Cert.Proof.Attn

open Cert.AttnIdeal Cert.AttnIdeal.Gen Idealize.ShloMosaic Idealize.ShloMosaic.TcCoe Idealize.SL.Sem
open Idealize.ShloMosaic.Pipeline (Dat)
open Idealize.ShloMosaic.ValueIdx
open Cert.Proof.Spec Cert.Proof.Mix
open scoped BigOperators

variable (m : (ℓ : Loc nD τ sig) → Buf (Elt Ideal) ℓ)

/-! ## The index maps -/

/-- Where each window stands at each grid point: the samples are the first coordinate, the heads the second. -/
theorem idx_facts : ∀ t : Fin cfg0.N,
    (win0_0.index t 0 = t.val / 16 + 1 ∧ win0_0.index t 1 = t.val % 16) ∧
    (win0_1.index t 0 = t.val / 16 ∧ win0_1.index t 1 = 2 * (t.val % 16)) ∧
    (win0_2.index t 0 = t.val / 16 + 1 ∧ win0_2.index t 1 = 2 * (t.val % 16)) ∧
    (win0_3.index t 0 = t.val / 16 ∧ win0_3.index t 1 = 2 * (t.val % 16) + 1) ∧
    (win0_4.index t 0 = t.val / 16 + 1 ∧ win0_4.index t 1 = 2 * (t.val % 16) + 1) ∧
    (win0_5.index t 0 = t.val / 16 ∧ win0_5.index t 1 = 0) ∧
    (win0_6.index t 0 = t.val / 16 + 1 ∧ win0_6.index t 1 = 0) ∧
    (win0_7.index t 0 = t.val / 16 ∧ win0_7.index t 1 = t.val % 16) := by
  decide +kernel

/-- A grid point's sample. -/
def smpOf (t : Fin cfg0.N) : Fin 8 := ⟨t.val / 16, by have h : t.val < 128 := t.isLt; omega⟩

/-- A grid point's head. -/
def headOf (t : Fin cfg0.N) : Fin 16 := ⟨t.val % 16, by omega⟩

/-- The sample and the token of a stacked row among the context's. -/
theorem row_ctx (q : Fin 18432) (b : Fin 8) (a : Fin 256) (n : Fin 2304) (hq : q.val = b.val * 256 + a.val) (hn : n.val = a.val) :
    sample q = b ∧ token q = n := by
  have ha := a.isLt
  have hb := b.isLt
  have h : q.val < 2048 := by omega
  refine ⟨Fin.ext ((if_pos h).trans ?_), Fin.ext ((if_pos h).trans ?_)⟩ <;> omega

/-- The sample and the token of a stacked row among the latent ones. -/
theorem row_lat (q : Fin 18432) (b : Fin 8) (a : Fin 2048) (n : Fin 2304) (hq : q.val = (b.val + 1) * 2048 + a.val) (hn : n.val = 256 + a.val) :
    sample q = b ∧ token q = n := by
  have ha := a.isLt
  have h : ¬q.val < 2048 := by omega
  refine ⟨Fin.ext ((if_neg h).trans ?_), Fin.ext ((if_neg h).trans ?_)⟩ <;> omega

/-! ## The arrays the region finds -/

/-- The launched arguments on a device. -/
abbrev a0 (c : Dev nD) : (⟨4, ![8, 16, 2304, 192]⟩ : Shape).Idx → EReal := m ((c : Thread nD τ).loc main_arg0)
abbrev a1 (c : Dev nD) : (⟨4, ![8, 16, 2304, 128]⟩ : Shape).Idx → EReal := m ((c : Thread nD τ).loc main_arg1)
abbrev a2 (c : Dev nD) : (⟨3, ![8, 2304, 64]⟩ : Shape).Idx → EReal := m ((c : Thread nD τ).loc main_arg2)
abbrev a3 (c : Dev nD) : (⟨4, ![8, 16, 2304, 128]⟩ : Shape).Idx → EReal := m ((c : Thread nD τ).loc main_arg3)

/-- The heads of a token side by side, read at a token and a column. -/
theorem headed_apply (z : (⟨4, ![8, 16, 2304, 256]⟩ : Shape).Idx → EReal)
    (ht : (⟨4, ![8, 16, 2304, 256]⟩ : Shape).Transposes [0, 2, 1, 3] ⟨4, ![8, 2304, 16, 256]⟩)
    (hs : (⟨4, ![8, 2304, 16, 256]⟩ : Shape).ShapeCasts ⟨3, ![8, 2304, 4096]⟩) (b : Fin 8) (n : Fin 2304) (j : Fin 4096) (h : Fin 16) (d : Fin 256)
    (hj : j.val = 256 * h.val + d.val) :
    shapeCast (⟨3, ![8, 2304, 4096]⟩ : Shape) (transpose (⟨4, ![8, 2304, 16, 256]⟩ : Shape) [0, 2, 1, 3] z ht) hs (ix3 b n j) = z (ix4 b h n d) := by
  rw [shapeCast_apply _ hs (ix3 b n j) (ix4 b n h d) (by
    rw [Shape.rowMajor_val_four, Shape.rowMajor_val_three]
    show ((b.val * 2304 + n.val) * 16 + h.val) * 256 + d.val = (b.val * 2304 + n.val) * 4096 + j.val
    omega)]
  exact transpose_apply [0, 2, 1, 3] z ht _ _ (fun x => by
    match x with
    | ⟨0, _⟩ => rfl
    | ⟨1, _⟩ => rfl
    | ⟨2, _⟩ => rfl
    | ⟨3, _⟩ => rfl)

/-- The stacked queries: the head's entries, then zeros. -/
theorem V_queries (c : Dev nD) (r : Fin 18432) (j : Fin 4096) (h : Fin 16) (d : Fin 256) (hj : j.val = 256 * h.val + d.val) :
    (V m c main_v9 : S18432x4096.Idx → EReal) (ix2 r j)
      = if hd : d.val < 192 then a0 m c (ix4 (sample r) h (token r) ⟨d.val, hd⟩) else 0 := by
  unfold_abbrev_sides
  after_results
  have hd' := d.isLt
  refine (stacked_apply 4096 _ slices_S8x2304x4096_S8x256x4096_0_0_0 slices_S8x2304x4096_S8x2048x4096_0_256_0
    shapeCasts_S8x256x4096_S2048x4096 shapeCasts_S8x2048x4096_S16384x4096 concatenates_S2048x4096_S16384x4096_S18432x4096_d0 r j).trans ?_
  refine (headed_apply _ transposes_S8x16x2304x256_S8x2304x16x256_0_2_1_3 shapeCasts_S8x2304x16x256_S8x2304x4096 _ _ j h d hj).trans ?_
  by_cases hd : d.val < 192
  · rw [dif_pos hd]
    exact concatenate_pair_apply_left (t := ⟨4, ![8, 16, 2304, 256]⟩) (s₁ := ⟨4, ![8, 16, 2304, 192]⟩) (s₂ := ⟨4, ![8, 16, 2304, 64]⟩) (3 : Fin 4) _ _
      concatenates_S8x16x2304x192_S8x16x2304x64_S8x16x2304x256_d3 _ rfl (ix4 (n3 := 192) (sample r) h (token r) ⟨d.val, hd⟩)
      (fun x => by match x with | ⟨0, _⟩ => rfl | ⟨1, _⟩ => rfl | ⟨2, _⟩ => rfl | ⟨3, _⟩ => rfl)
  · rw [dif_neg hd]
    refine (concatenate_pair_apply_right (t := ⟨4, ![8, 16, 2304, 256]⟩) (s₁ := ⟨4, ![8, 16, 2304, 192]⟩) (s₂ := ⟨4, ![8, 16, 2304, 64]⟩) (3 : Fin 4) _ _
      concatenates_S8x16x2304x192_S8x16x2304x64_S8x16x2304x256_d3 _ rfl rfl (ix4 (n3 := 64) (sample r) h (token r) ⟨d.val - 192, by omega⟩)
      (fun x hx => by match x with | ⟨0, _⟩ => rfl | ⟨1, _⟩ => rfl | ⟨2, _⟩ => rfl | ⟨3, _⟩ => exact absurd rfl hx)
      (by show d.val - 192 + 192 = d.val; omega)).trans ?_
    exact Ideal.ofBits_zero_f32

/-- The stacked keys: in a head's first 128 columns, the head's own part. -/
theorem V_keys (c : Dev nD) (r : Fin 18432) (j : Fin 4096) (h : Fin 16) (d : Fin 128) (hj : j.val = 256 * h.val + d.val) :
    (V m c main_v18 : S18432x4096.Idx → EReal) (ix2 r j) = a1 m c (ix4 (sample r) h (token r) d) := by
  unfold_abbrev_sides
  after_results
  have hd' := d.isLt
  refine (stacked_apply 4096 _ slices_S8x2304x4096_S8x256x4096_0_0_0 slices_S8x2304x4096_S8x2048x4096_0_256_0
    shapeCasts_S8x256x4096_S2048x4096 shapeCasts_S8x2048x4096_S16384x4096 concatenates_S2048x4096_S16384x4096_S18432x4096_d0 r j).trans ?_
  refine (headed_apply _ transposes_S8x16x2304x256_S8x2304x16x256_0_2_1_3 shapeCasts_S8x2304x16x256_S8x2304x4096 _ _ j h ⟨d.val, by omega⟩ hj).trans ?_
  exact concatenate_pair_apply_left (t := ⟨4, ![8, 16, 2304, 256]⟩) (s₁ := ⟨4, ![8, 16, 2304, 128]⟩) (s₂ := ⟨4, ![8, 16, 2304, 128]⟩) (3 : Fin 4) _ _
    concatenates_S8x16x2304x128_S8x16x2304x128_S8x16x2304x256_d3 _ rfl (ix4 (n3 := 128) (sample r) h (token r) d)
    (fun x => by match x with | ⟨0, _⟩ => rfl | ⟨1, _⟩ => rfl | ⟨2, _⟩ => rfl | ⟨3, _⟩ => rfl)

/-- In a head's last 128 columns, the values. -/
theorem V_values (c : Dev nD) (r : Fin 18432) (j : Fin 4096) (h : Fin 16) (d : Fin 128) (hj : j.val = 256 * h.val + (128 + d.val)) :
    (V m c main_v18 : S18432x4096.Idx → EReal) (ix2 r j) = a3 m c (ix4 (sample r) h (token r) d) := by
  unfold_abbrev_sides
  after_results
  have hd' := d.isLt
  refine (stacked_apply 4096 _ slices_S8x2304x4096_S8x256x4096_0_0_0 slices_S8x2304x4096_S8x2048x4096_0_256_0
    shapeCasts_S8x256x4096_S2048x4096 shapeCasts_S8x2048x4096_S16384x4096 concatenates_S2048x4096_S16384x4096_S18432x4096_d0 r j).trans ?_
  refine (headed_apply _ transposes_S8x16x2304x256_S8x2304x16x256_0_2_1_3 shapeCasts_S8x2304x16x256_S8x2304x4096 _ _ j h ⟨128 + d.val, by omega⟩ hj).trans ?_
  exact concatenate_pair_apply_right (t := ⟨4, ![8, 16, 2304, 256]⟩) (s₁ := ⟨4, ![8, 16, 2304, 128]⟩) (s₂ := ⟨4, ![8, 16, 2304, 128]⟩) (3 : Fin 4) _ _
    concatenates_S8x16x2304x128_S8x16x2304x128_S8x16x2304x256_d3 _ rfl rfl (ix4 (n3 := 128) (sample r) h (token r) d)
    (fun x hx => by match x with | ⟨0, _⟩ => rfl | ⟨1, _⟩ => rfl | ⟨2, _⟩ => rfl | ⟨3, _⟩ => exact absurd rfl hx)
    (by show d.val + 128 = 128 + d.val; omega)

/-- The stacked shared part of the keys: its entries, then zeros. -/
theorem V_shared (c : Dev nD) (r : Fin 18432) (d : Fin 128) :
    (V m c main_v26 : S18432x128.Idx → EReal) (ix2 r d)
      = if hd : d.val < 64 then a2 m c (ix3 (sample r) (token r) ⟨d.val, hd⟩) else 0 := by
  unfold_abbrev_sides
  after_results
  have hd' := d.isLt
  refine (stacked_apply 128 _ slices_S8x2304x128_S8x256x128_0_0_0 slices_S8x2304x128_S8x2048x128_0_256_0
    shapeCasts_S8x256x128_S2048x128 shapeCasts_S8x2048x128_S16384x128 concatenates_S2048x128_S16384x128_S18432x128_d0 r d).trans ?_
  by_cases hd : d.val < 64
  · rw [dif_pos hd]
    exact concatenate_pair_apply_left (t := ⟨3, ![8, 2304, 128]⟩) (s₁ := ⟨3, ![8, 2304, 64]⟩) (s₂ := ⟨3, ![8, 2304, 64]⟩) (2 : Fin 3) _ _
      concatenates_S8x2304x64_S8x2304x64_S8x2304x128_d2 _ rfl (ix3 (n2 := 64) (sample r) (token r) ⟨d.val, hd⟩)
      (fun x => by match x with | ⟨0, _⟩ => rfl | ⟨1, _⟩ => rfl | ⟨2, _⟩ => rfl)
  · rw [dif_neg hd]
    refine (concatenate_pair_apply_right (t := ⟨3, ![8, 2304, 128]⟩) (s₁ := ⟨3, ![8, 2304, 64]⟩) (s₂ := ⟨3, ![8, 2304, 64]⟩) (2 : Fin 3) _ _
      concatenates_S8x2304x64_S8x2304x64_S8x2304x128_d2 _ rfl rfl (ix3 (n2 := 64) (sample r) (token r) ⟨d.val - 64, by omega⟩)
      (fun x hx => by match x with | ⟨0, _⟩ => rfl | ⟨1, _⟩ => rfl | ⟨2, _⟩ => exact absurd rfl hx)
      (by show d.val - 64 + 64 = d.val; omega)).trans ?_
    exact Ideal.ofBits_zero_f32

/-! ## The blocks -/

/-- Point `t`'s block of the queries. -/
theorem blk_queries (c : Dev nD) (t : Fin cfg0.N) (a : Fin 2048) (d : Fin 256) (n : Fin 2304) (hn : n.val = 256 + a.val) :
    (iblk (F := Ideal) m c 0 t : S2048x256.Idx → EReal) (ix2 a d)
      = if hd : d.val < 192 then a0 m c (ix4 (smpOf t) (headOf t) n ⟨d.val, hd⟩) else 0 := by
  have hf := (idx_facts t).1
  have ht : t.val < 128 := t.isLt
  have ha := a.isLt
  have hd := d.isLt
  have hq := row_lat ⟨(t.val / 16 + 1) * 2048 + a.val, by omega⟩ (smpOf t) a n rfl hn
  refine Eq.trans ?_ ((V_queries m c ⟨(t.val / 16 + 1) * 2048 + a.val, by omega⟩ ⟨t.val % 16 * 256 + d.val, by omega⟩ (headOf t) d
    (by show t.val % 16 * 256 + d.val = 256 * (t.val % 16) + d.val; omega)).trans (by rw [hq.1, hq.2]))
  show (V m c main_v9 : S18432x4096.Idx → EReal) ((win0_0.rect t).emb (ix2 a d)) = _
  congr 1
  apply Shape.idx_ext₂
  · rw [win0_0.rect_emb_val, hf.1]; rfl
  · rw [win0_0.rect_emb_val, hf.2]; rfl

/-- Its block of the context's keys. -/
theorem blk_keys_ctx (c : Dev nD) (t : Fin cfg0.N) (a : Fin 256) (d : Fin 128) (n : Fin 2304) (hn : n.val = a.val) :
    (iblk (F := Ideal) m c 1 t : S256x128.Idx → EReal) (ix2 a d) = a1 m c (ix4 (smpOf t) (headOf t) n d) := by
  have hf := (idx_facts t).2.1
  have ht : t.val < 128 := t.isLt
  have ha := a.isLt
  have hd := d.isLt
  have hq := row_ctx ⟨t.val / 16 * 256 + a.val, by omega⟩ (smpOf t) a n rfl hn
  refine Eq.trans ?_ ((V_keys m c ⟨t.val / 16 * 256 + a.val, by omega⟩ ⟨2 * (t.val % 16) * 128 + d.val, by omega⟩ (headOf t) d
    (by show 2 * (t.val % 16) * 128 + d.val = 256 * (t.val % 16) + d.val; omega)).trans (by rw [hq.1, hq.2]))
  show (V m c main_v18 : S18432x4096.Idx → EReal) ((win0_1.rect t).emb (ix2 a d)) = _
  congr 1
  apply Shape.idx_ext₂
  · rw [win0_1.rect_emb_val, hf.1]; rfl
  · rw [win0_1.rect_emb_val, hf.2]; rfl

/-- Its block of the latent rows' keys. -/
theorem blk_keys_lat (c : Dev nD) (t : Fin cfg0.N) (a : Fin 2048) (d : Fin 128) (n : Fin 2304) (hn : n.val = 256 + a.val) :
    (iblk (F := Ideal) m c 2 t : S2048x128.Idx → EReal) (ix2 a d) = a1 m c (ix4 (smpOf t) (headOf t) n d) := by
  have hf := (idx_facts t).2.2.1
  have ht : t.val < 128 := t.isLt
  have ha := a.isLt
  have hd := d.isLt
  have hq := row_lat ⟨(t.val / 16 + 1) * 2048 + a.val, by omega⟩ (smpOf t) a n rfl hn
  refine Eq.trans ?_ ((V_keys m c ⟨(t.val / 16 + 1) * 2048 + a.val, by omega⟩ ⟨2 * (t.val % 16) * 128 + d.val, by omega⟩ (headOf t) d
    (by show 2 * (t.val % 16) * 128 + d.val = 256 * (t.val % 16) + d.val; omega)).trans (by rw [hq.1, hq.2]))
  show (V m c main_v18 : S18432x4096.Idx → EReal) ((win0_2.rect t).emb (ix2 a d)) = _
  congr 1
  apply Shape.idx_ext₂
  · rw [win0_2.rect_emb_val, hf.1]; rfl
  · rw [win0_2.rect_emb_val, hf.2]; rfl

/-- Its block of the context's values. -/
theorem blk_values_ctx (c : Dev nD) (t : Fin cfg0.N) (a : Fin 256) (d : Fin 128) (n : Fin 2304) (hn : n.val = a.val) :
    (iblk (F := Ideal) m c 3 t : S256x128.Idx → EReal) (ix2 a d) = a3 m c (ix4 (smpOf t) (headOf t) n d) := by
  have hf := (idx_facts t).2.2.2.1
  have ht : t.val < 128 := t.isLt
  have ha := a.isLt
  have hd := d.isLt
  have hq := row_ctx ⟨t.val / 16 * 256 + a.val, by omega⟩ (smpOf t) a n rfl hn
  refine Eq.trans ?_ ((V_values m c ⟨t.val / 16 * 256 + a.val, by omega⟩ ⟨(2 * (t.val % 16) + 1) * 128 + d.val, by omega⟩ (headOf t) d
    (by show (2 * (t.val % 16) + 1) * 128 + d.val = 256 * (t.val % 16) + (128 + d.val); omega)).trans (by rw [hq.1, hq.2]))
  show (V m c main_v18 : S18432x4096.Idx → EReal) ((win0_3.rect t).emb (ix2 a d)) = _
  congr 1
  apply Shape.idx_ext₂
  · rw [win0_3.rect_emb_val, hf.1]; rfl
  · rw [win0_3.rect_emb_val, hf.2]; rfl

/-- Its block of the latent rows' values. -/
theorem blk_values_lat (c : Dev nD) (t : Fin cfg0.N) (a : Fin 2048) (d : Fin 128) (n : Fin 2304) (hn : n.val = 256 + a.val) :
    (iblk (F := Ideal) m c 4 t : S2048x128.Idx → EReal) (ix2 a d) = a3 m c (ix4 (smpOf t) (headOf t) n d) := by
  have hf := (idx_facts t).2.2.2.2.1
  have ht : t.val < 128 := t.isLt
  have ha := a.isLt
  have hd := d.isLt
  have hq := row_lat ⟨(t.val / 16 + 1) * 2048 + a.val, by omega⟩ (smpOf t) a n rfl hn
  refine Eq.trans ?_ ((V_values m c ⟨(t.val / 16 + 1) * 2048 + a.val, by omega⟩ ⟨(2 * (t.val % 16) + 1) * 128 + d.val, by omega⟩ (headOf t) d
    (by show (2 * (t.val % 16) + 1) * 128 + d.val = 256 * (t.val % 16) + (128 + d.val); omega)).trans (by rw [hq.1, hq.2]))
  show (V m c main_v18 : S18432x4096.Idx → EReal) ((win0_4.rect t).emb (ix2 a d)) = _
  congr 1
  apply Shape.idx_ext₂
  · rw [win0_4.rect_emb_val, hf.1]; rfl
  · rw [win0_4.rect_emb_val, hf.2]; rfl

/-- Its block of the context's shared part of the keys. -/
theorem blk_shared_ctx (c : Dev nD) (t : Fin cfg0.N) (a : Fin 256) (d : Fin 128) (n : Fin 2304) (hn : n.val = a.val) :
    (iblk (F := Ideal) m c 5 t : S256x128.Idx → EReal) (ix2 a d)
      = if hd : d.val < 64 then a2 m c (ix3 (smpOf t) n ⟨d.val, hd⟩) else 0 := by
  have hf := (idx_facts t).2.2.2.2.2.1
  have ht : t.val < 128 := t.isLt
  have ha := a.isLt
  have hq := row_ctx ⟨t.val / 16 * 256 + a.val, by omega⟩ (smpOf t) a n rfl hn
  refine Eq.trans ?_ ((V_shared m c ⟨t.val / 16 * 256 + a.val, by omega⟩ d).trans (by rw [hq.1, hq.2]))
  show (V m c main_v26 : S18432x128.Idx → EReal) ((win0_5.rect t).emb (ix2 a d)) = _
  congr 1
  apply Shape.idx_ext₂
  · rw [win0_5.rect_emb_val, hf.1]; rfl
  · rw [win0_5.rect_emb_val, hf.2]; show 0 * 128 + d.val = d.val; omega

/-- Its block of the latent rows' shared part of the keys. -/
theorem blk_shared_lat (c : Dev nD) (t : Fin cfg0.N) (a : Fin 2048) (d : Fin 128) (n : Fin 2304) (hn : n.val = 256 + a.val) :
    (iblk (F := Ideal) m c 6 t : S2048x128.Idx → EReal) (ix2 a d)
      = if hd : d.val < 64 then a2 m c (ix3 (smpOf t) n ⟨d.val, hd⟩) else 0 := by
  have hf := (idx_facts t).2.2.2.2.2.2.1
  have ht : t.val < 128 := t.isLt
  have ha := a.isLt
  have hq := row_lat ⟨(t.val / 16 + 1) * 2048 + a.val, by omega⟩ (smpOf t) a n rfl hn
  refine Eq.trans ?_ ((V_shared m c ⟨(t.val / 16 + 1) * 2048 + a.val, by omega⟩ d).trans (by rw [hq.1, hq.2]))
  show (V m c main_v26 : S18432x128.Idx → EReal) ((win0_6.rect t).emb (ix2 a d)) = _
  congr 1
  apply Shape.idx_ext₂
  · rw [win0_6.rect_emb_val, hf.1]; rfl
  · rw [win0_6.rect_emb_val, hf.2]; show 0 * 128 + d.val = d.val; omega

/-! ## The gathered keys and values -/

/-- The keys gathered at point `t`: the key's entries, then zeros. -/
theorem keys_eq (c : Dev nD) (t : Fin cfg0.N) (n : Fin 2304) (d : Fin 256) :
    keys (iblk (F := Ideal) m c 1 t) (iblk (F := Ideal) m c 5 t) (iblk (F := Ideal) m c 2 t) (iblk (F := Ideal) m c 6 t) (ix2 n d)
      = if hd : d.val < 192 then keyAt (a1 m c) (a2 m c) (smpOf t) (headOf t) n ⟨d.val, hd⟩ else 0 := by
  have hn := n.isLt
  have hd := d.isLt
  by_cases h0 : n.val < 256 <;> by_cases h1 : d.val < 128
  · rw [keys_ctx_own _ _ _ _ _ ⟨n.val, h0⟩ ⟨d.val, h1⟩ rfl rfl, blk_keys_ctx m c t _ _ n rfl, dif_pos (by omega)]
    unfold keyAt
    rw [dif_pos h1]
  · rw [keys_ctx_shared _ _ _ _ _ ⟨n.val, h0⟩ ⟨d.val - 128, by omega⟩ rfl (by show d.val = 128 + (d.val - 128); omega), blk_shared_ctx m c t _ _ n rfl]
    by_cases h2 : d.val < 192
    · rw [dif_pos h2, dif_pos (by show d.val - 128 < 64; omega)]
      unfold keyAt
      rw [dif_neg h1]
    · rw [dif_neg h2, dif_neg (by show ¬d.val - 128 < 64; omega)]
  · rw [keys_lat_own _ _ _ _ _ ⟨n.val - 256, by omega⟩ ⟨d.val, h1⟩ (by show n.val = 256 + (n.val - 256); omega) rfl,
      blk_keys_lat m c t _ _ n (by show n.val = 256 + (n.val - 256); omega), dif_pos (by omega)]
    unfold keyAt
    rw [dif_pos h1]
  · rw [keys_lat_shared _ _ _ _ _ ⟨n.val - 256, by omega⟩ ⟨d.val - 128, by omega⟩ (by show n.val = 256 + (n.val - 256); omega)
      (by show d.val = 128 + (d.val - 128); omega), blk_shared_lat m c t _ _ n (by show n.val = 256 + (n.val - 256); omega)]
    by_cases h2 : d.val < 192
    · rw [dif_pos h2, dif_pos (by show d.val - 128 < 64; omega)]
      unfold keyAt
      rw [dif_neg h1]
    · rw [dif_neg h2, dif_neg (by show ¬d.val - 128 < 64; omega)]

/-- The values gathered at point `t`. -/
theorem vals_eq (c : Dev nD) (t : Fin cfg0.N) (n : Fin 2304) (e : Fin 128) :
    vals (iblk (F := Ideal) m c 3 t) (iblk (F := Ideal) m c 4 t) (ix2 n e) = a3 m c (ix4 (smpOf t) (headOf t) n e) := by
  have hn := n.isLt
  by_cases h0 : n.val < 256
  · rw [vals_ctx _ _ _ ⟨n.val, h0⟩ e rfl rfl, blk_values_ctx m c t _ _ n rfl]
  · rw [vals_lat _ _ _ ⟨n.val - 256, by omega⟩ e (by show n.val = 256 + (n.val - 256); omega) rfl,
      blk_values_lat m c t _ _ n (by show n.val = 256 + (n.val - 256); omega)]

/-- A row's products with the gathered keys are the query's scores. -/
theorem scores_eq (c : Dev nD) (t : Fin cfg0.N) (a : Fin 2048) (q : Fin 2304) (hq : q.val = 256 + a.val) (n : Fin 2304) :
    (∑ d : Fin 256, HMul.hMul (α := EReal) (β := EReal) (γ := EReal) ((iblk (F := Ideal) m c 0 t : S2048x256.Idx → EReal) (ix2 a d))
        (keys (iblk (F := Ideal) m c 1 t) (iblk (F := Ideal) m c 5 t) (iblk (F := Ideal) m c 2 t) (iblk (F := Ideal) m c 6 t) (ix2 n d)))
      = score (a0 m c) (a1 m c) (a2 m c) (smpOf t) (headOf t) q n := by
  rw [sum_256]
  · unfold score
    refine Finset.sum_congr rfl fun d _ => ?_
    rw [keys_eq, blk_queries m c t a _ q hq, dif_pos d.isLt, dif_pos d.isLt]
  · intro d hd
    rw [keys_eq, dif_neg (by omega), mul_zero]

/-! ## The array after the run -/

/-- The output array: at latent row `r`, column `j`, the attention's result. -/
def G (c : Dev nD) : S16384x2048.Idx → EReal :=
  fun i => attended (a0 m c) (a1 m c) (a2 m c) (a3 m c) (i 0) (i 1)

/-- What point `t` writes back is block `t` of that array. -/
theorem flushed_eq (c : Dev nD) (t : Fin cfg0.N) :
    (dats (F := Ideal) m 0 c).flushed 7 t = ((cfg0.win 7).blk t).view.read (Elt Ideal) (G m c) := by
  have ht : t.val < 128 := t.isLt
  have hf := (idx_facts t).2.2.2.2.2.2.2
  have e : ∀ (a : Fin 2048) (b : Fin 128), (win0_7.rect t).emb (ix2 a b)
      = ix2 (n0 := 16384) (n1 := 2048) ⟨t.val / 16 * 2048 + a.val, by omega⟩ ⟨t.val % 16 * 128 + b.val, by omega⟩ := by
    intro a b
    apply Shape.idx_ext₂
    · rw [win0_7.rect_emb_val, hf.1]; rfl
    · rw [win0_7.rect_emb_val, hf.2]; rfl
  rw [Value.flushed7_A m c t]
  funext y
  obtain ⟨a, b, rfl⟩ : ∃ (a : Fin 2048) (b : Fin 128), y = ix2 a b := ⟨y 0, y 1, eq_ix2 y⟩
  have ha := a.isLt
  have hb := b.isLt
  refine (out_apply c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) scM0_0 (Memref.isWhole_whole _) scM0_1 (Memref.isWhole_whole _)
    (iblk m c 0 t) (iblk m c 1 t) (iblk m c 2 t) (iblk m c 3 t) (iblk m c 4 t) (iblk m c 5 t) (iblk m c 6 t) a b).trans ?_
  show _ = G m c ((win0_7.rect t).emb (ix2 a b))
  rw [e]
  show _ = attended _ _ _ _ _ _
  refine Eq.trans ?_ (attended_eq (a0 m c) (a1 m c) (a2 m c) (a3 m c) ⟨t.val / 16 * 2048 + a.val, by omega⟩ ⟨t.val % 16 * 128 + b.val, by omega⟩
    (smpOf t) (headOf t) ⟨256 + a.val, by omega⟩ b ?_ ?_ ?_ ?_).symm
  · exact congrArg₂ kmean (funext fun n => scores_eq m c t a ⟨256 + a.val, by omega⟩ rfl n) (funext fun n => vals_eq m c t n b)
  · show (t.val / 16 * 2048 + a.val) / 2048 = t.val / 16; omega
  · show 256 + (t.val / 16 * 2048 + a.val) % 2048 = 256 + a.val; omega
  · show (t.val % 16 * 128 + b.val) / 128 = t.val % 16; omega
  · show (t.val % 16 * 128 + b.val) % 128 = b.val; omega

/-- Every index of the output array lies in some point's block. -/
theorem cover (i : S16384x2048.Idx) : ∃ t : Fin cfg0.N, (cfg0.win 7).flush t = true ∧ i ∈ ((cfg0.win 7).blk t).view.set := by
  have h0 : (i 0 : Nat) < 16384 := (i 0).isLt
  have h1 : (i 1 : Nat) < 2048 := (i 1).isLt
  let t : Fin cfg0.N := ⟨(i 0).val / 2048 * 16 + (i 1).val / 128, by show _ < 128; omega⟩
  have hf := (idx_facts t).2.2.2.2.2.2.2
  have e0 : t.val / 16 = (i 0).val / 2048 := by show ((i 0).val / 2048 * 16 + (i 1).val / 128) / 16 = _; omega
  have e1 : t.val % 16 = (i 1).val / 128 := by show ((i 0).val / 2048 * 16 + (i 1).val / 128) % 16 = _; omega
  refine ⟨t, flush0_7 t, ?_⟩
  show i ∈ ((View.whole main_v27).slice (win0_7.rect t)).set
  rw [View.set_slice_whole, Rect.mem_set_unit]
  intro a
  match a with
  | ⟨0, _⟩ =>
    show win0_7.index t 0 * 2048 ≤ (i 0 : Nat) ∧ (i 0 : Nat) < win0_7.index t 0 * 2048 + 2048
    rw [hf.1, e0]; omega
  | ⟨1, _⟩ =>
    show win0_7.index t 1 * 128 ≤ (i 1 : Nat) ∧ (i 1 : Nat) < win0_7.index t 1 * 128 + 128
    rw [hf.2, e1]; omega

/-- After the run the output array is `G`. -/
theorem final (c : Dev nD) : (dats (F := Ideal) m 0 c).arrAt 7 cfg0.N = G m c :=
  (dats (F := Ideal) m 0 c).arrAt_eq_of_cover 7 (G m c) (fun t _ => flushed_eq m c t) cover

end Cert.Proof.Attn

end
-- ==== Proof.Mix.AttnRef.lean ====
/-
  The value of the latent queries' attention reference, and the two programs' agreement: the reference divides the scores by the root of
  the depth, takes the softmax over all the sample's tokens and multiplies by the values. With finite queries and keys each weighted mean is
  the kernel's, whatever the values.
-/
module

public import proofs.«01_k».proof.Proof.Gen.AttnRefIdeal.Run
public import proofs.«01_k».proof.Proof.Gen.AttnRefIdeal.Read
public import proofs.«01_k».proof.Proof.Gen.Pre_finite_scores
public import proofs.«01_k».proof.Proof.Mix.Attn
public import proofs.«01_k».proof.Defs
public import Idealize.ShloMosaic.Lib.KernelVsHost

@[expose] public section

noncomputable section

namespace Cert.Proof.AttnRef

open Cert.AttnRefIdeal Cert.AttnRefIdeal.Gen Cert.AttnRefIdeal.Read Idealize.ShloMosaic Idealize.ShloMosaic.TcCoe Idealize.SL.Sem
open Idealize.ShloMosaic.ValueIdx
open Cert.Proof.Spec Cert.Proof.Mix
open scoped BigOperators

variable (x0 : (⟨S8x16x2304x192, .f32⟩ : BufTy).Contents (Elt Ideal)) (x1 : (⟨S8x16x2304x128, .f32⟩ : BufTy).Contents (Elt Ideal))
  (x2 : (⟨S8x2304x64, .f32⟩ : BufTy).Contents (Elt Ideal)) (x3 : (⟨S8x16x2304x128, .f32⟩ : BufTy).Contents (Elt Ideal))

/-- The joined keys. -/
theorem keys_apply (b : Fin 8) (h : Fin 16) (t : Fin 2304) (d : Fin 192) :
    val_main_v2 (F := Ideal) x1 x2 (ix4 b h t d) = keyAt x1 x2 b h t d := by
  have hd := d.isLt
  unfold val_main_v2 keyAt
  by_cases h1 : d.val < 128
  · rw [dif_pos h1]
    exact concatenate_pair_apply_left (t := S8x16x2304x192) (s₁ := S8x16x2304x128) (s₂ := S8x16x2304x64) (3 : Fin 4) _ _
      concatenates_S8x16x2304x128_S8x16x2304x64_S8x16x2304x192_d3 _ rfl (ix4 (n3 := 128) b h t ⟨d.val, h1⟩)
      (fun x => by match x with | ⟨0, _⟩ => rfl | ⟨1, _⟩ => rfl | ⟨2, _⟩ => rfl | ⟨3, _⟩ => rfl)
  · rw [dif_neg h1]
    refine (concatenate_pair_apply_right (t := S8x16x2304x192) (s₁ := S8x16x2304x128) (s₂ := S8x16x2304x64) (3 : Fin 4) _ _
      concatenates_S8x16x2304x128_S8x16x2304x64_S8x16x2304x192_d3 _ rfl rfl (ix4 (n3 := 64) b h t ⟨d.val - 128, by omega⟩)
      (fun x hx => by match x with | ⟨0, _⟩ => rfl | ⟨1, _⟩ => rfl | ⟨2, _⟩ => rfl | ⟨3, _⟩ => exact absurd rfl hx)
      (by show d.val - 128 + 128 = d.val; omega)).trans ?_
    rw [val_main_v1_apply, val_main_v0_apply]
    refine congrArg x2 ?_
    funext a
    match a with
    | ⟨0, _⟩ => rfl
    | ⟨1, _⟩ => rfl
    | ⟨2, _⟩ => rfl

/-- The products of a latent query with the keys. -/
theorem score_apply (b : Fin 8) (h : Fin 16) (q : Fin 2048) (n t : Fin 2304) (hn : n.val = 256 + q.val) :
    val_main_v4 (F := Ideal) x0 x1 x2 (ix4 b h q t) = score x0 x1 x2 b h n t := by
  rw [val_main_v4_apply]
  unfold score
  refine Finset.sum_congr rfl fun d _ => congrArg₂ (· * ·) ?_ ?_
  · rw [val_main_v3_apply]
    refine congrArg x0 ?_
    funext a
    match a with
    | ⟨0, _⟩ => rfl
    | ⟨1, _⟩ => rfl
    | ⟨2, _⟩ => exact Fin.ext hn.symm
    | ⟨3, _⟩ => rfl
  · refine Eq.trans (congrArg _ ?_) (keys_apply x1 x2 b h t d)
    funext a
    match a with
    | ⟨0, _⟩ => rfl
    | ⟨1, _⟩ => rfl
    | ⟨2, _⟩ => rfl
    | ⟨3, _⟩ => rfl

/-- The scores over the root of the depth. -/
theorem scaled_apply (b : Fin 8) (h : Fin 16) (q : Fin 2048) (n t : Fin 2304) (hn : n.val = 256 + q.val) :
    val_main_v7 (F := Ideal) x0 x1 x2 (ix4 b h q t) = rs (score x0 x1 x2 b h n) t := by
  rw [val_main_v7_apply, score_apply x0 x1 x2 b h q n t hn, val_main_v6_apply, val_main_v5_apply, val_main_cst_apply]
  rfl

/-- The largest along the last axis of an array, at an index. -/
theorem reduce_apply (y : FVec Ideal S8x16x2048x2304 .f32) (b : Fin 8) (h : Fin 16) (q : Fin 2048) :
    Host.reduce FloatOps.maximumf y (constant S_ .f32 0xFF800000#32) reducesTo_S8x16x2048x2304_S8x16x2048_d3 h_S_ (ix3 b h q)
      = top (fun t => y (ix4 b h q t)) := by
  have hr : S8x16x2048x2304.Reduces [3] S8x16x2048 := by decide
  refine (congrFun (hostReduce_maximumf_eq_multiReduction y 0xFF800000#32 reducesTo_S8x16x2048x2304_S8x16x2048_d3 h_S_ hr (by decide) (by decide)) _).trans ?_
  refine (Ideal.multiReduction_maximumf_single _ _ _ _ _ _).trans ?_
  unfold top
  show Finset.fold max (Ideal.ofBits .f32 0xFF800000#32) _ _ = _
  refine congrArg (fun f => Finset.fold max (Ideal.ofBits .f32 0xFF800000#32) f (Finset.univ : Finset (Fin 2304))) ?_
  funext t
  refine congrArg y ?_
  funext a
  match a with
  | ⟨0, _⟩ => rfl
  | ⟨1, _⟩ => rfl
  | ⟨2, _⟩ => rfl
  | ⟨3, _⟩ => rfl

/-- The largest of a query's scores. -/
theorem top_apply (b : Fin 8) (h : Fin 16) (q : Fin 2048) (n : Fin 2304) (hn : n.val = 256 + q.val) :
    val_main_v8 (F := Ideal) x0 x1 x2 (ix3 b h q) = top (rs (score x0 x1 x2 b h n)) := by
  refine (reduce_apply (val_main_v7 (F := Ideal) x0 x1 x2) b h q).trans ?_
  exact congrArg top (funext fun t => scaled_apply x0 x1 x2 b h q n t hn)

/-- A score's weight. -/
theorem weight_apply (b : Fin 8) (h : Fin 16) (q : Fin 2048) (n t : Fin 2304) (hn : n.val = 256 + q.val) :
    val_main_v14 (F := Ideal) x0 x1 x2 (ix4 b h q t) = rw_ (score x0 x1 x2 b h n) t := by
  rw [val_main_v14_apply, val_main_v13_apply, scaled_apply x0 x1 x2 b h q n t hn, val_main_v12_apply, val_main_v11_apply, val_main_v10_apply,
    val_main_v9_apply, val_main_cst_1_apply]
  have e : val_main_v8 (F := Ideal) x0 x1 x2 (idx_main_v11 (idx_main_v12 (ix4 b h q t))) = top (rs (score x0 x1 x2 b h n)) := by
    refine Eq.trans (congrArg _ ?_) (top_apply x0 x1 x2 b h q n hn)
    funext a
    match a with
    | ⟨0, _⟩ => rfl
    | ⟨1, _⟩ => rfl
    | ⟨2, _⟩ => rfl
  rw [e]
  rfl

/-- The sum of a query's weights. -/
theorem total_apply (b : Fin 8) (h : Fin 16) (q : Fin 2048) (n : Fin 2304) (hn : n.val = 256 + q.val) :
    val_main_v15 (F := Ideal) x0 x1 x2 (ix3 b h q)
      = Ideal.ofBits .f32 0x00000000#32 + ∑ j, rw_ (score x0 x1 x2 b h n) j := by
  rw [val_main_v15_apply, val_main_cst_2_apply]
  refine congrArg₂ (· + ·) rfl (Finset.sum_congr rfl fun t _ => ?_)
  refine Eq.trans (congrArg _ ?_) (weight_apply x0 x1 x2 b h q n t hn)
  funext a
  match a with
  | ⟨0, _⟩ => rfl
  | ⟨1, _⟩ => rfl
  | ⟨2, _⟩ => rfl
  | ⟨3, _⟩ => rfl

/-- The weighted mean of the values. -/
theorem mean_apply (b : Fin 8) (h : Fin 16) (q : Fin 2048) (e : Fin 128) (n : Fin 2304) (hn : n.val = 256 + q.val) :
    val_main_v19 (F := Ideal) x0 x1 x2 x3 (ix4 b h q e)
      = rmean (score x0 x1 x2 b h n) (fun t => x3 (ix4 b h t e)) := by
  rw [val_main_v19_apply]
  unfold rmean
  refine Finset.sum_congr rfl fun t _ => congrArg₂ (· * ·) ?_ (congrArg x3 ?_)
  · rw [val_main_v18_apply, val_main_v17_apply, val_main_v16_apply, Ideal.hostDivf_def]
    refine congrArg₂ Ideal.div (Eq.trans (congrArg _ ?_) (weight_apply x0 x1 x2 b h q n t hn)) (Eq.trans (congrArg _ ?_) (total_apply x0 x1 x2 b h q n hn))
    · funext a
      match a with
      | ⟨0, _⟩ => rfl
      | ⟨1, _⟩ => rfl
      | ⟨2, _⟩ => rfl
      | ⟨3, _⟩ => rfl
    · funext a
      match a with
      | ⟨0, _⟩ => rfl
      | ⟨1, _⟩ => rfl
      | ⟨2, _⟩ => rfl
  · funext a
    match a with
    | ⟨0, _⟩ => rfl
    | ⟨1, _⟩ => rfl
    | ⟨2, _⟩ => rfl
    | ⟨3, _⟩ => rfl

/-- The result at a latent row and a column, where the latent queries' scores are real. -/
theorem result_apply (hs : ∀ (b : Fin 8) (h : Fin 16) (n t : Fin 2304), 256 ≤ n.val → ∃ r : ℝ, score x0 x1 x2 b h n t = (r : EReal))
    (r : Fin 16384) (j : Fin 2048) :
    val_main_v22 (F := Ideal) x0 x1 x2 x3 (ix2 r j) = attended x0 x1 x2 x3 r j := by
  have hr := r.isLt
  have hj := j.isLt
  rw [attended_eq x0 x1 x2 x3 r j ⟨r.val / 2048, by omega⟩ ⟨j.val / 128, by omega⟩ ⟨256 + r.val % 2048, by omega⟩ ⟨j.val % 128, by omega⟩
    rfl rfl rfl rfl, mean_eq _ _ 0 (fun t => hs _ _ _ t (by show 256 ≤ 256 + r.val % 2048; omega))]
  show val_main_v21 (F := Ideal) x0 x1 x2 x3 (ix2 r j) = _
  rw [val_main_v21_apply, val_main_v20_apply]
  refine Eq.trans (congrArg _ ?_) (mean_apply x0 x1 x2 x3 ⟨r.val / 2048, by omega⟩ ⟨j.val / 128, by omega⟩ ⟨r.val % 2048, by omega⟩
    ⟨j.val % 128, by omega⟩ ⟨256 + r.val % 2048, by omega⟩ rfl)
  funext a
  match a with
  | ⟨0, _⟩ => exact Fin.ext (by show (r.val * 2048 + j.val) / 4194304 = r.val / 2048; omega)
  | ⟨1, _⟩ => exact Fin.ext (by show (r.val * 2048 + j.val) / 128 % 16 = j.val / 128; omega)
  | ⟨2, _⟩ => exact Fin.ext (by show (r.val * 2048 + j.val) / 2048 % 2048 = r.val % 2048; omega)
  | ⟨3, _⟩ => exact Fin.ext (by show (r.val * 2048 + j.val) % 128 = j.val % 128; omega)

/-- Under the precondition the latent queries' scores are real. -/
theorem scores_real [Cert.Pre_finite_scores.Facts] (m : (ℓ : Loc Cert.AttnIdeal.nD Cert.AttnIdeal.τ Cert.AttnIdeal.sig) → Buf (Elt Ideal) ℓ)
    (hm : Cert.Pre_AttnIdeal_finite_scores m) (c : Dev Cert.AttnIdeal.nD) (b : Fin 8) (h : Fin 16) (n t : Fin 2304) (hn : 256 ≤ n.val) :
    ∃ r : ℝ, score (Attn.a0 m c) (Attn.a1 m c) (Attn.a2 m c) b h n t = (r : EReal) := by
  obtain ⟨h0, h1, h2⟩ := hm c
  have hn' := n.isLt
  refine score_real _ _ _ b h n t (fun d => ?_) (fun i => ?_) (fun i => ?_)
  · have e := congrFun h0 (ix4 b h ⟨n.val - 256, by omega⟩ d)
    refine real_of_abs_lt _ (Eq.trans ?_ e)
    refine congrArg (fun x => Ideal.cmp .olt (max x (-x)) (Ideal.ofBits .f32 0x7F800000#32)) (congrArg (Attn.a0 m c) ?_)
    funext a
    match a with
    | ⟨0, _⟩ => exact Fin.ext (by show b.val = 0 + b.val; omega)
    | ⟨1, _⟩ => exact Fin.ext (by show h.val = 0 + h.val; omega)
    | ⟨2, _⟩ => exact Fin.ext (by show n.val = 256 + (n.val - 256); omega)
    | ⟨3, _⟩ => exact Fin.ext (by show d.val = 0 + d.val; omega)
  · exact real_of_abs_lt _ (congrFun h1 i)
  · exact real_of_abs_lt _ (congrFun h2 i)

/-- Under the precondition the reference's run leaves in its result what the kernel's leaves in its output array, from the same arguments. -/
theorem agree [Cert.Pre_finite_scores.Facts] (m : (ℓ : Loc Cert.AttnIdeal.nD Cert.AttnIdeal.τ Cert.AttnIdeal.sig) → Buf (Elt Ideal) ℓ)
    (hm : Cert.Pre_AttnIdeal_finite_scores m) (c : Dev Cert.AttnIdeal.nD) :
    val_main_v22 (F := Ideal) (Attn.a0 m c) (Attn.a1 m c) (Attn.a2 m c) (Attn.a3 m c) = Attn.G m c := by
  funext i
  obtain ⟨r, j, rfl⟩ : ∃ (r : Fin 16384) (j : Fin 2048), i = ix2 r j := ⟨i 0, i 1, eq_ix2 i⟩
  exact result_apply _ _ _ _ (scores_real m hm c) r j

end Cert.Proof.AttnRef

end
-- ==== Proof.Mix.QupBlock.lean ====
/-
  What the body of the query's up-projection leaves in its output block: its 1024 columns are four heads of 256, and of a head's
  columns the first 128 are the product's, and the other 128 the product's times the cosines' table plus the product's turned by 64 times the
  sines' table.
-/
module

public import proofs.«01_k».proof.Proof.Gen.QupIdeal.Value
public import proofs.«01_k».proof.Proof.Mix.Spec
public import Idealize.ShloMosaic.Lib.KernelVsHost

@[expose] public section

noncomputable section

namespace Cert.Proof.Qup

open Cert.QupIdeal Cert.QupIdeal.Gen Idealize.ShloMosaic Idealize.ShloMosaic.TcCoe Idealize.SL.Sem
open Idealize.ShloMosaic.ValueIdx
open Cert.Proof.Spec Cert.Proof.Mix
open scoped BigOperators

/-- The block made of a product and the two tables' blocks. -/
def mix (p : S1024x1024.Idx → EReal) (c s : S1024x128.Idx → EReal) (a b : Fin 1024) : EReal :=
  if b.val % 256 < 128 then p (ix2 a b)
  else p (ix2 a b) * c (ix2 a ⟨b.val % 128, by omega⟩)
    + p (ix2 a ⟨b.val / 128 * 128 + (b.val + 64) % 128, by have := b.isLt; omega⟩) * s (ix2 a ⟨b.val % 128, by omega⟩)

/-- At an entry of a head's first half the block is the product. -/
theorem mix_own (p : S1024x1024.Idx → EReal) (c s : S1024x128.Idx → EReal) (y : S1024x1024.Idx) (a : Fin 1024) (b : Fin 128) (o : ℕ)
    (ho : o % 256 = 0) (hb : o + b.val < 1024) (h0 : (y 0).val = a.val) (h1 : (y 1).val = o + b.val) :
    mix p c s (y 0) (y 1) = p (ix2 a ⟨o + b.val, hb⟩) := by
  have hbl := b.isLt
  rw [show y 0 = a from Fin.ext h0, show y 1 = (⟨o + b.val, hb⟩ : Fin 1024) from Fin.ext h1]
  unfold mix
  rw [if_pos (by show (o + b.val) % 256 < 128; omega)]

/-- At an entry of a head's second half it is the product's with the tables. -/
theorem mix_turned (p : S1024x1024.Idx → EReal) (c s : S1024x128.Idx → EReal) (y : S1024x1024.Idx) (a : Fin 1024) (b : Fin 128) (o : ℕ)
    (ho : o % 256 = 128) (hl : o + 128 ≤ 1024) (h0 : (y 0).val = a.val) (h1 : (y 1).val = o + b.val) :
    mix p c s (y 0) (y 1) = p (ix2 a ⟨o + b.val, by have := b.isLt; omega⟩) * c (ix2 a b)
      + p (ix2 a ⟨o + (b.val + 64) % 128, by omega⟩) * s (ix2 a b) := by
  have hbl := b.isLt
  rw [show y 0 = a from Fin.ext h0, show y 1 = (⟨o + b.val, by omega⟩ : Fin 1024) from Fin.ext h1]
  unfold mix
  rw [if_neg (by show ¬ (o + b.val) % 256 < 128; omega)]
  have e0 : (⟨(o + b.val) % 128, by omega⟩ : Fin 128) = b := Fin.ext (by show (o + b.val) % 128 = b.val; omega)
  have e1 : (⟨(o + b.val) / 128 * 128 + (o + b.val + 64) % 128, by omega⟩ : Fin 1024) = ⟨o + (b.val + 64) % 128, by omega⟩ :=
    Fin.ext (by show (o + b.val) / 128 * 128 + (o + b.val + 64) % 128 = o + (b.val + 64) % 128; omega)
  show p _ * c (ix2 a ⟨(o + b.val) % 128, _⟩) + p (ix2 a ⟨(o + b.val) / 128 * 128 + (o + b.val + 64) % 128, _⟩) * s (ix2 a ⟨(o + b.val) % 128, _⟩) = _
  rw [e0, e1]

/-- 128 columns of the product. -/
theorem cut_apply (p : S1024x1024.Idx → EReal) (o : ℕ) (hs : S1024x1024.Slices ![0, o] S1024x128) (j : S1024x128.Idx) (hb : o + (j 1).val < 1024) :
    extractStridedSlice S1024x128 ![0, o] p hs j = p (ix2 (j 0) ⟨o + (j 1).val, hb⟩) := by
  refine extractStridedSlice_apply _ p hs j _ fun a => ?_
  match a with
  | ⟨0, _⟩ => show (j 0).val = 0 + (j 0).val; omega
  | ⟨1, _⟩ => rfl

/-- The same columns in the output's format. -/
theorem rounded_apply (p : FVec Ideal S1024x1024 .f32) (o : ℕ) (hs : S1024x1024.Slices ![0, o] S1024x128) (j : S1024x128.Idx) (hb : o + (j 1).val < 1024) :
    truncf .bf16 (extractStridedSlice S1024x128 ![0, o] p hs) bitsLt_bf16_f32 j = p (ix2 (j 0) ⟨o + (j 1).val, hb⟩) :=
  cut_apply p o hs j hb

/-- The same columns turned by 64. -/
theorem turn_apply (p : S1024x1024.Idx → EReal) (o : ℕ) (hs : S1024x1024.Slices ![0, o] S1024x128) (hr : S1024x128.Rotates 1 none)
    (j : S1024x128.Idx) (hb : o + ((j 1).val + 64) % 128 < 1024) :
    dynamicRotate 1 64#32 none (extractStridedSlice S1024x128 ![0, o] p hs) hr j = p (ix2 (j 0) ⟨o + ((j 1).val + 64) % 128, hb⟩) := by
  have h1 : (j 1).val < 128 := (j 1).isLt
  refine (dynamicRotate_apply (1 : Fin 2) 64#32 _ hr j (ix2 (n0 := 1024) (n1 := 128) (j 0) ⟨((j 1).val + 64) % 128, by omega⟩) fun b => ?_).trans
    (cut_apply p o hs _ hb)
  match b with
  | ⟨0, _⟩ => rfl
  | ⟨1, _⟩ => show ((j 1).val + 64) % 128 = ((j 1).val + 128 - 64 % 128) % 128; omega

/-- An index of a table's block is the pair of its coordinates. -/
theorem pair_eq (j : S1024x128.Idx) : j = ix2 (n0 := 1024) (n1 := 128) (j 0) (j 1) := eq_ix2 j

/-- The body's output block. -/
theorem out_apply (x0 : Vec Ideal S1024x1024 .bf16) (x1 : Vec Ideal S1024x1024 .bf16) (x2 : Vec Ideal S1024x128 .f32)
    (x3 : Vec Ideal S1024x128 .f32) (y : S1024x1024.Idx) :
    out0_4 (F := Ideal) x0 x1 x2 x3 y = mix (k0_pay4 (F := Ideal) x0 x1) x2 x3 (y 0) (y 1) := by
  have z0 : (![0, 0] : Fin S1024x1024.rank → Nat) = fun _ => 0 := funext fun a => by fin_cases a <;> rfl
  have z1 : (![0, 0] : Fin S1024x128.rank → Nat) = fun _ => 0 := funext fun a => by fin_cases a <;> rfl
  unfold out0_4
  refine View.canon_apply_of_pieces (Val := Elt Ideal) (e := .bf16) (fun y => mix (k0_pay4 (F := Ideal) x0 x1) x2 x3 (y 0) (y 1)) _ (fun p hp j => ?_) y (cover0_4 _ _ _ _ _ _ _ _ y)
  simp only [List.mem_cons, List.not_mem_nil, or_false] at hp
  rcases hp with rfl | rfl | rfl | rfl | rfl | rfl | rfl | rfl
  · refine Eq.trans ?_ (mix_turned _ x2 x3 _ (j 0) (j 1) 896 rfl (by omega) (by show 0 + 1 * (j 0).val = (j 0).val; omega) (by show 896 + 1 * (j 1).val = 896 + (j 1).val; omega)).symm
    dsimp only
    unfold k0_pay3 k0_pay12 k0_pay13 k0_pay14 k0_pay5 k0_pay6
    simp only [shapeCast_self, View.ld_unit_zero (S := S1024x1024) z0, View.ld_unit_zero (S := S1024x128) z1]
    exact congrArg₂ (fun a b : EReal => a + b) (congrArg₂ (fun a b : EReal => a * b) (cut_apply _ 896 _ j _) (congrArg x2 (pair_eq j)))
      (congrArg₂ (fun a b : EReal => a * b) (turn_apply _ 896 _ _ j _) (congrArg x3 (pair_eq j)))
  · refine Eq.trans ?_ (mix_own _ x2 x3 _ (j 0) (j 1) 768 rfl (by have : (j 1).val < 128 := (j 1).isLt; omega) (by show 0 + 1 * (j 0).val = (j 0).val; omega) (by show 768 + 1 * (j 1).val = 768 + (j 1).val; omega)).symm
    dsimp only
    unfold k0_pay2 k0_pay12
    simp only [shapeCast_self, View.ld_unit_zero (S := S1024x1024) z0]
    exact rounded_apply (k0_pay4 (F := Ideal) x0 x1) 768 slices_S1024x1024_o0_768_S1024x128 j _
  · refine Eq.trans ?_ (mix_turned _ x2 x3 _ (j 0) (j 1) 640 rfl (by omega) (by show 0 + 1 * (j 0).val = (j 0).val; omega) (by show 640 + 1 * (j 1).val = 640 + (j 1).val; omega)).symm
    dsimp only
    unfold k0_pay1 k0_pay12 k0_pay13 k0_pay14 k0_pay5 k0_pay6
    simp only [shapeCast_self, View.ld_unit_zero (S := S1024x1024) z0, View.ld_unit_zero (S := S1024x128) z1]
    exact congrArg₂ (fun a b : EReal => a + b) (congrArg₂ (fun a b : EReal => a * b) (cut_apply _ 640 _ j _) (congrArg x2 (pair_eq j)))
      (congrArg₂ (fun a b : EReal => a * b) (turn_apply _ 640 _ _ j _) (congrArg x3 (pair_eq j)))
  · refine Eq.trans ?_ (mix_own _ x2 x3 _ (j 0) (j 1) 512 rfl (by have : (j 1).val < 128 := (j 1).isLt; omega) (by show 0 + 1 * (j 0).val = (j 0).val; omega) (by show 512 + 1 * (j 1).val = 512 + (j 1).val; omega)).symm
    dsimp only
    unfold k0_pay11
    simp only [shapeCast_self, View.ld_unit_zero (S := S1024x1024) z0]
    exact rounded_apply (k0_pay4 (F := Ideal) x0 x1) 512 slices_S1024x1024_o0_512_S1024x128 j _
  · refine Eq.trans ?_ (mix_turned _ x2 x3 _ (j 0) (j 1) 384 rfl (by omega) (by show 0 + 1 * (j 0).val = (j 0).val; omega) (by show 384 + 1 * (j 1).val = 384 + (j 1).val; omega)).symm
    dsimp only
    unfold k0_pay10 k0_pay5 k0_pay6
    simp only [shapeCast_self, View.ld_unit_zero (S := S1024x1024) z0, View.ld_unit_zero (S := S1024x128) z1]
    exact congrArg₂ (fun a b : EReal => a + b) (congrArg₂ (fun a b : EReal => a * b) (cut_apply _ 384 _ j _) (congrArg x2 (pair_eq j)))
      (congrArg₂ (fun a b : EReal => a * b) (turn_apply _ 384 _ _ j _) (congrArg x3 (pair_eq j)))
  · refine Eq.trans ?_ (mix_own _ x2 x3 _ (j 0) (j 1) 256 rfl (by have : (j 1).val < 128 := (j 1).isLt; omega) (by show 0 + 1 * (j 0).val = (j 0).val; omega) (by show 256 + 1 * (j 1).val = 256 + (j 1).val; omega)).symm
    dsimp only
    unfold k0_pay9
    simp only [shapeCast_self, View.ld_unit_zero (S := S1024x1024) z0]
    exact rounded_apply (k0_pay4 (F := Ideal) x0 x1) 256 slices_S1024x1024_o0_256_S1024x128 j _
  · refine Eq.trans ?_ (mix_turned _ x2 x3 _ (j 0) (j 1) 128 rfl (by omega) (by show 0 + 1 * (j 0).val = (j 0).val; omega) (by show 128 + 1 * (j 1).val = 128 + (j 1).val; omega)).symm
    dsimp only
    unfold k0_pay8 k0_pay5 k0_pay6
    simp only [shapeCast_self, View.ld_unit_zero (S := S1024x1024) z0, View.ld_unit_zero (S := S1024x128) z1]
    exact congrArg₂ (fun a b : EReal => a + b) (congrArg₂ (fun a b : EReal => a * b) (cut_apply _ 128 _ j _) (congrArg x2 (pair_eq j)))
      (congrArg₂ (fun a b : EReal => a * b) (turn_apply _ 128 _ _ j _) (congrArg x3 (pair_eq j)))
  · refine Eq.trans ?_ (mix_own _ x2 x3 _ (j 0) (j 1) 0 rfl (by have : (j 1).val < 128 := (j 1).isLt; omega) (by show 0 + 1 * (j 0).val = (j 0).val; omega) (by show 0 + 1 * (j 1).val = 0 + (j 1).val; omega)).symm
    dsimp only
    unfold k0_pay7
    simp only [shapeCast_self, View.ld_unit_zero (S := S1024x1024) z0]
    exact rounded_apply (k0_pay4 (F := Ideal) x0 x1) 0 slices_S1024x1024_o0_0_S1024x128 j _

/-- The product in it. -/
theorem product (x0 : Vec Ideal S1024x1024 .bf16) (x1 : Vec Ideal S1024x1024 .bf16) (a b : Fin 1024) :
    k0_pay4 (F := Ideal) x0 x1 (ix2 a b) = ∑ k : Fin 1024, x0 (ix2 a k) * x1 (ix2 k b) := by
  unfold k0_pay4
  simp only [shapeCast_self]
  exact product_apply (M := 1024) (K := 1024) (N := 1024) (φ₁ := .bf16) (φ₂ := .bf16) x0 x1 a b

end Cert.Proof.Qup

end
-- ==== Proof.Mix.QupSpec.lean ====
/-
  What the query's up-projection computes, with no program in it: the product of a token's latent with a head's columns, the angles
  of the rotary embedding, a query's entry as the kernel forms it and as the reference forms it, and that the two are one number where
  the rotated products are finite.
-/
module

public import proofs.«01_k».proof.Proof.Mix.AttnSpec

@[expose] public section

noncomputable section

namespace Cert.Proof.Mix

open Idealize.ShloMosaic Idealize.ShloMosaic.ValueIdx
open Cert.Proof.Spec
open scoped BigOperators

/-- The latents of the tokens. -/
abbrev Lat : Type := (⟨3, ![8, 2304, 1024]⟩ : Shape).Idx → EReal

/-- The weights of both layers. -/
abbrev Wt : Type := (⟨4, ![2, 1024, 16, 192]⟩ : Shape).Idx → EReal

/-- The product of a token's latent with column `d` of head `h` of layer 1. -/
def up (x : Lat) (w : Wt) (b : Fin 8) (n : Fin 2304) (h : Fin 16) (d : Fin 192) : EReal :=
  ∑ k : Fin 1024, x (ix3 b n k) * w (ix4 1 k h d)

/-! ## The angles -/

/-- The number `q` as a counted entry of an array of `n`. -/
def cnt (n : ℕ) (q : Fin n) : EReal := (sitofp (F := Ideal) .f32 (iotaInDim (⟨1, ![n]⟩ : Shape) 32 0)) (ix1 q)

/-- The `q`-th inverse frequency. -/
def freq (q : Fin 16) : EReal :=
  Ideal.pow (Ideal.ofBits .f32 0x461C4000#32) (Ideal.div (-(cnt 16 q)) (Ideal.ofBits .f32 0x41800000#32))

/-- The angle of a latent token's grid row at a frequency. -/
def rowAng (t : Fin 2048) (q : Fin 16) : EReal := cnt 32 ⟨t.val / 64, by have := t.isLt; omega⟩ * freq q

/-- The angle of a latent token's grid column at a frequency. -/
def colAng (t : Fin 2048) (q : Fin 16) : EReal := cnt 64 ⟨t.val % 64, by omega⟩ * freq q

/-- The angle entry `e` of the 64 rotated ones is turned by. -/
def ang (t : Fin 2048) (e : ℕ) : EReal :=
  if e < 32 then rowAng t ⟨e % 16, by omega⟩ else colAng t ⟨e % 16, by omega⟩

/-- The latent token a token from 256 on is. -/
def lat (n : Fin 2304) : Fin 2048 := ⟨(n.val - 256) % 2048, by omega⟩

/-! ## As the kernel forms it -/

/-- Entry `d` of a head's 256 weight columns: its 192 columns, then its rotated ones exchanged in pairs, one of each negated. -/
def wcol (w : Wt) (k : Fin 1024) (h : Fin 16) (d : Fin 256) : EReal :=
  if h0 : d.val < 192 then w (ix4 1 k h ⟨d.val, h0⟩)
  else if h1 : (d.val - 192) % 32 < 16 then -(w (ix4 1 k h ⟨d.val - 48, by have := d.isLt; omega⟩))
  else w (ix4 1 k h ⟨d.val - 80, by have := d.isLt; omega⟩)

/-- The product of a token's latent with one of a head's 256 columns. -/
def wide (x : Lat) (w : Wt) (b : Fin 8) (n : Fin 2304) (h : Fin 16) (d : Fin 256) : EReal :=
  ∑ k : Fin 1024, x (ix3 b n k) * wcol w k h d

/-- The cosines' table: one for a context token, the angle's cosine for a latent one, zero from entry 64 on. -/
def cosAt (n : Fin 2304) (e : Fin 128) : EReal :=
  if e.val < 64 then (if n.val < 256 then Ideal.ofBits .f32 0x3F800000#32 else Ideal.cos (ang (lat n) e.val)) else Ideal.ofBits .f32 0x00000000#32

/-- The sines' table: zero for a context token, the angle's sine for a latent one, zero from entry 64 on. -/
def sinAt (n : Fin 2304) (e : Fin 128) : EReal :=
  if e.val < 64 then (if n.val < 256 then Ideal.ofBits .f32 0x00000000#32 else Ideal.sin (ang (lat n) e.val)) else Ideal.ofBits .f32 0x00000000#32

/-- Entry `d` of a head's 256 as the kernel forms it. -/
def kquery (x : Lat) (w : Wt) (b : Fin 8) (n : Fin 2304) (h : Fin 16) (d : Fin 256) : EReal :=
  if d.val < 128 then wide x w b n h d
  else wide x w b n h d * cosAt n ⟨d.val % 128, by omega⟩
    + wide x w b n h ⟨128 + (d.val + 64) % 128, by omega⟩ * sinAt n ⟨d.val % 128, by omega⟩

/-! ## As the reference forms it -/

/-- Entry `e` of the 64 rotated ones of a latent token. -/
def rotated (x : Lat) (w : Wt) (b : Fin 8) (n : Fin 2304) (h : Fin 16) (e : Fin 64) : EReal :=
  if h0 : e.val % 32 < 16 then
    up x w b n h ⟨128 + e.val, by have := e.isLt; omega⟩ * Ideal.cos (ang (lat n) e.val)
      - up x w b n h ⟨144 + e.val, by have := e.isLt; omega⟩ * Ideal.sin (ang (lat n) e.val)
  else up x w b n h ⟨112 + e.val, by have := e.isLt; omega⟩ * Ideal.sin (ang (lat n) e.val)
      + up x w b n h ⟨128 + e.val, by have := e.isLt; omega⟩ * Ideal.cos (ang (lat n) e.val)

/-- Entry `d` of a head's 256: its own 128, the 64 rotated ones (as they are for a context token), and 64 zeros. -/
def query (x : Lat) (w : Wt) (b : Fin 8) (n : Fin 2304) (h : Fin 16) (d : Fin 256) : EReal :=
  if h0 : d.val < 192 then
    if n.val < 256 ∨ d.val < 128 then up x w b n h ⟨d.val, h0⟩ else rotated x w b n h ⟨d.val - 128, by omega⟩
  else Ideal.ofBits .f32 0x00000000#32

/-! ## One number -/

/-- A wide column below 192 is the head's column. -/
theorem wide_own (x : Lat) (w : Wt) (b : Fin 8) (n : Fin 2304) (h : Fin 16) (d : Fin 256) (e : Fin 192) (he : d.val = e.val) :
    wide x w b n h d = up x w b n h e := by
  have := e.isLt
  unfold wide up
  refine Finset.sum_congr rfl fun k _ => congrArg _ ?_
  unfold wcol
  rw [dif_pos (by omega)]
  exact congrArg (fun z => w (ix4 1 k h z)) (Fin.ext he)

/-- A wide column of the second of a pair is the head's column sixteen before. -/
theorem wide_second (x : Lat) (w : Wt) (b : Fin 8) (n : Fin 2304) (h : Fin 16) (d : Fin 256) (e : Fin 192) (h0 : ¬ d.val < 192)
    (h1 : ¬ (d.val - 192) % 32 < 16) (he : d.val - 80 = e.val) : wide x w b n h d = up x w b n h e := by
  unfold wide up
  refine Finset.sum_congr rfl fun k _ => congrArg _ ?_
  unfold wcol
  rw [dif_neg h0, dif_neg h1]
  exact congrArg (fun z => w (ix4 1 k h z)) (Fin.ext he)

/-- The sum of negated reals is the negated sum. -/
theorem sum_neg_real {n : ℕ} (f : Fin n → EReal) (hf : ∀ k, ∃ r : ℝ, f k = (r : EReal)) : ∑ k, -(f k) = -(∑ k, f k) := by
  choose r hr using hf
  rw [Finset.sum_congr rfl fun k _ => hr k, ← coe_sum, ← EReal.coe_neg, ← Finset.sum_neg_distrib, coe_sum]
  exact Finset.sum_congr rfl fun k _ => by rw [hr, EReal.coe_neg]

/-- A wide column of the first of a pair, where latent and weight are finite, is the head's column sixteen after, negated. -/
theorem wide_first (x : Lat) (w : Wt) (b : Fin 8) (n : Fin 2304) (h : Fin 16) (d : Fin 256) (e : Fin 192) (h0 : ¬ d.val < 192)
    (h1 : (d.val - 192) % 32 < 16) (he : d.val - 48 = e.val) (hx : ∀ k, ∃ r : ℝ, x (ix3 b n k) = (r : EReal))
    (hw : ∀ k, ∃ r : ℝ, w (ix4 1 k h e) = (r : EReal)) : wide x w b n h d = -(up x w b n h e) := by
  unfold wide up
  rw [← sum_neg_real _ fun k => by
    obtain ⟨r, hr⟩ := hx k
    obtain ⟨s, hs⟩ := hw k
    exact ⟨r * s, by rw [hr, hs, EReal.coe_mul]⟩]
  refine Finset.sum_congr rfl fun k _ => ?_
  rw [← mul_neg]
  refine congrArg _ ?_
  unfold wcol
  rw [dif_neg h0, dif_pos h1]
  exact congrArg (fun z => -(w (ix4 1 k h z))) (Fin.ext he)

/-- The bit pattern of one. -/
theorem ofBits_one : Ideal.ofBits .f32 0x3F800000#32 = 1 := by
  simp only [Ideal.ofBits, Ideal.ieee]
  rw [show (BitVec.extractLsb' 31 1 (0x3F800000#32 : BitVec 32)) = 0#1 from by decide]
  norm_num [Nat.shiftRight_eq_div_pow]

/-- With the latent tokens' latents and the rotated columns finite, the two forms of an entry are one number. -/
theorem kquery_eq (x : Lat) (w : Wt) (b : Fin 8) (n : Fin 2304) (h : Fin 16) (d : Fin 256)
    (hx : 256 ≤ n.val → ∀ k, ∃ r : ℝ, x (ix3 b n k) = (r : EReal))
    (hw : ∀ k, ∀ e : Fin 192, 128 ≤ e.val → ∃ r : ℝ, w (ix4 1 k h e) = (r : EReal)) : kquery x w b n h d = query x w b n h d := by
  have hd := d.isLt
  unfold kquery query
  by_cases c0 : d.val < 128
  · rw [if_pos c0, dif_pos (by omega), if_pos (Or.inr c0)]
    exact wide_own x w b n h d ⟨d.val, by omega⟩ rfl
  rw [if_neg c0]
  unfold cosAt sinAt
  by_cases c1 : d.val < 192
  · have e64 : d.val % 128 < 64 := by omega
    rw [dif_pos c1, if_pos e64, if_pos e64, wide_own x w b n h d ⟨d.val, c1⟩ rfl]
    by_cases c2 : n.val < 256
    · rw [if_pos c2, if_pos c2, if_pos (Or.inl c2), ofBits_one, Ideal.ofBits_zero_f32, mul_one, mul_zero, add_zero]
    · rw [if_neg c2, if_neg c2, if_neg (by omega)]
      unfold rotated
      have em : d.val % 128 = d.val - 128 := by omega
      by_cases c3 : (d.val - 128) % 32 < 16
      · rw [dif_pos c3, wide_first x w b n h _ ⟨144 + (d.val - 128), by omega⟩ (by show ¬ 128 + (d.val + 64) % 128 < 192; omega)
          (by show (128 + (d.val + 64) % 128 - 192) % 32 < 16; omega) (by show 128 + (d.val + 64) % 128 - 48 = 144 + (d.val - 128); omega)
          (hx (by omega)) (fun k => hw k _ (by show 128 ≤ 144 + (d.val - 128); omega)), EReal.neg_mul, ← sub_eq_add_neg]
        simp only [em]
        rw [show (⟨128 + (d.val - 128), by omega⟩ : Fin 192) = ⟨d.val, c1⟩ from Fin.ext (by show 128 + (d.val - 128) = d.val; omega)]
      · rw [dif_neg c3, wide_second x w b n h _ ⟨112 + (d.val - 128), by omega⟩ (by show ¬ 128 + (d.val + 64) % 128 < 192; omega)
          (by show ¬ (128 + (d.val + 64) % 128 - 192) % 32 < 16; omega) (by show 128 + (d.val + 64) % 128 - 80 = 112 + (d.val - 128); omega), add_comm]
        simp only [em]
        rw [show (⟨128 + (d.val - 128), by omega⟩ : Fin 192) = ⟨d.val, c1⟩ from Fin.ext (by show 128 + (d.val - 128) = d.val; omega)]
  · have e64 : ¬ d.val % 128 < 64 := by omega
    rw [dif_neg c1, if_neg e64, if_neg e64, Ideal.ofBits_zero_f32, mul_zero, mul_zero, add_zero]

end Cert.Proof.Mix

end
-- ==== Proof.Mix.QupAng.lean ====
/-
  The angles of the rotary embedding as the reference's host code forms them: the grid's rows and columns counted, each times the
  inverse frequencies. The kernel's host code forms the same two arrays.
-/
module

public import proofs.«01_k».proof.Proof.Gen.QupRefIdeal.Read
public import proofs.«01_k».proof.Proof.Mix.QupSpec

@[expose] public section

noncomputable section

namespace Cert.Proof.QupAng

open Cert.QupRefIdeal Cert.QupRefIdeal.Gen Cert.QupRefIdeal.Read Idealize.ShloMosaic Idealize.ShloMosaic.TcCoe Idealize.SL.Sem
open Idealize.ShloMosaic.ValueIdx
open Cert.Proof.Mix

/-- The inverse frequencies. -/
theorem freq_apply (q : Fin 16) : val_main_v9 (F := Ideal) (ix1 q) = freq q := by
  rw [val_main_v9_apply, val_main_v8_apply, val_main_v7_apply, val_main_v6_apply, val_main_v5_apply]
  rfl

/-- The row angles. -/
theorem row_apply (t : Fin 2048) (q : Fin 16) : val_main_v21 (F := Ideal) (ix2 t q) = rowAng t q := by
  rw [val_main_v21_apply, val_main_v19_apply, val_main_v17_apply, val_main_v12_apply, val_main_v11_apply, val_main_v20_apply, val_main_v18_apply]
  unfold rowAng
  refine congrArg₂ (fun a b : EReal => a * b) (Eq.trans (congrArg (val_main_v10 (F := Ideal)) ?_) (rfl : val_main_v10 (F := Ideal) (ix1 ⟨t.val / 64, _⟩) = cnt 32 _))
    (Eq.trans (congrArg (val_main_v9 (F := Ideal)) ?_) (freq_apply q))
  · funext a; match a with | ⟨0, _⟩ => rfl
  · funext a; match a with | ⟨0, _⟩ => rfl

/-- The column angles. -/
theorem col_apply (t : Fin 2048) (q : Fin 16) : val_main_v26 (F := Ideal) (ix2 t q) = colAng t q := by
  rw [val_main_v26_apply, val_main_v24_apply, val_main_v22_apply, val_main_v16_apply, val_main_v15_apply, val_main_v14_apply, val_main_v25_apply, val_main_v23_apply]
  unfold colAng
  refine congrArg₂ (fun a b : EReal => a * b) (Eq.trans (congrArg (val_main_v13 (F := Ideal)) ?_) (rfl : val_main_v13 (F := Ideal) (ix1 ⟨t.val % 64, _⟩) = cnt 64 _))
    (Eq.trans (congrArg (val_main_v9 (F := Ideal)) ?_) (freq_apply q))
  · funext a; match a with | ⟨0, _⟩ => exact Fin.ext (by show 0 * 64 + t.val % 64 = t.val % 64; omega)
  · funext a; match a with | ⟨0, _⟩ => rfl

end Cert.Proof.QupAng

end
-- ==== Proof.Mix.Qup.lean ====
/-
  The value of the query up-projection's kernel: after the run its output array holds, at stacked row `r` and column `j`, the entry
  `kquery` of the row's token: the product with the head's columns, the rotated ones with the tables of cosines and sines.
-/
module

public import proofs.«01_k».proof.Proof.Gen.QupIdeal.Value
public import proofs.«01_k».proof.Proof.Mix.Spec
public import proofs.«01_k».proof.Proof.Mix.QupBlock
public import proofs.«01_k».proof.Proof.Mix.QupAng

@[expose] public section

noncomputable section

namespace Cert.Proof.Qup

open Cert.QupIdeal Cert.QupIdeal.Gen Idealize.ShloMosaic Idealize.ShloMosaic.TcCoe Idealize.SL.Sem
open Idealize.ShloMosaic.Pipeline (Dat)
open Idealize.ShloMosaic.ValueIdx
open Cert.Proof.Spec Cert.Proof.Mix
open scoped BigOperators

variable (m : (ℓ : Loc nD τ sig) → Buf (Elt Ideal) ℓ)

/-! ## The index maps -/

/-- Where each window stands at each grid point: the rows move with the first coordinate, the columns with the second; the tables
    stand at their first block for context rows and at one of the two others for latent rows. -/
theorem idx_facts : ∀ t : Fin cfg0.N,
    (win0_0.index t 0 = t.val / 4 ∧ win0_0.index t 1 = 0) ∧
    (win0_1.index t 0 = 0 ∧ win0_1.index t 1 = t.val % 4) ∧
    (win0_2.index t 0 = (if t.val / 4 < 2 then 0 else 1 + (t.val / 4) % 2) ∧ win0_2.index t 1 = 0) ∧
    (win0_3.index t 0 = (if t.val / 4 < 2 then 0 else 1 + (t.val / 4) % 2) ∧ win0_3.index t 1 = 0) ∧
    (win0_4.index t 0 = t.val / 4 ∧ win0_4.index t 1 = t.val % 4) := by
  decide +kernel

/-! ## The arrays the region finds -/

/-- The launched arguments on a device. -/
abbrev a0 (c : Dev nD) : Lat := m ((c : Thread nD τ).loc main_arg0)
abbrev a1 (c : Dev nD) : Wt := m ((c : Thread nD τ).loc main_arg1)

/-- The stacked rows of latents. -/
theorem V_rows (c : Dev nD) (r : Fin 18432) (k : Fin 1024) :
    (V m c main_v5 : S18432x1024.Idx → EReal) (ix2 r k) = a0 m c (ix3 (sample r) (token r) k) := by
  unfold_abbrev_sides
  after_results
  exact stacked_apply 1024 (a0 m c) slices_S8x2304x1024_S8x256x1024_0_0_0 slices_S8x2304x1024_S8x2048x1024_0_256_0
    shapeCasts_S8x256x1024_S2048x1024 shapeCasts_S8x2048x1024_S16384x1024 concatenates_S2048x1024_S16384x1024_S18432x1024_d0 r k

/-- The rotated columns exchanged in pairs, one of each pair negated. -/
theorem exchanged_apply (y : FVec Ideal S1024x16x64 .f32) (k : Fin 1024) (h : Fin 16) (e : Fin 64) :
    concatenate S1024x16x64 2
        [⟨S1024x16x16, (Host.negf (extractStridedSlice S1024x16x16 ![0, 0, 16] y slices_S1024x16x64_S1024x16x16_0_0_16) : FVec Ideal S1024x16x16 .f32)⟩,
         ⟨S1024x16x16, extractStridedSlice S1024x16x16 ![0, 0, 0] y slices_S1024x16x64_S1024x16x16_0_0_0⟩,
         ⟨S1024x16x16, (Host.negf (extractStridedSlice S1024x16x16 ![0, 0, 48] y slices_S1024x16x64_S1024x16x16_0_0_48) : FVec Ideal S1024x16x16 .f32)⟩,
         ⟨S1024x16x16, extractStridedSlice S1024x16x16 ![0, 0, 32] y slices_S1024x16x64_S1024x16x16_0_0_32⟩]
        concatenates_S1024x16x16_S1024x16x16_S1024x16x16_S1024x16x16_S1024x16x64_d2 (ix3 k h e)
      = if h0 : e.val % 32 < 16 then -(y (ix3 k h ⟨e.val + 16, by have := e.isLt; omega⟩) : EReal)
        else (y (ix3 k h ⟨e.val - 16, by have := e.isLt; omega⟩) : EReal) := by
  have he := e.isLt
  have off : ∀ q : Fin 16, ∀ x : Fin 3, x ≠ 2 → ((ix3 (n2 := 16) k h q : S1024x16x16.Idx) x).val = ((ix3 k h e : S1024x16x64.Idx) x).val := fun q x hx => by
    match x with | ⟨0, _⟩ => rfl | ⟨1, _⟩ => rfl | ⟨2, _⟩ => exact absurd rfl hx
  by_cases c0 : e.val < 16
  · rw [dif_pos (show e.val % 32 < 16 by omega)]
    exact Eq.trans (concatenate_apply_piece (t := S1024x16x64) (2 : Fin 3) _ _ (ix3 k h e) 0 (by show 0 < 4; omega)
      S1024x16x16 _ rfl rfl 0 rfl (ix3 (n2 := 16) k h ⟨e.val, by omega⟩) (fun x hx => off _ x hx)
      (by show 0 + (e.val) = e.val; omega)) (congrArg (fun x : EReal => -x) (extractStridedSlice_apply _ y slices_S1024x16x64_S1024x16x16_0_0_16 _ (ix3 k h ⟨e.val + 16, by omega⟩) fun a => by
        match a with
        | ⟨0, _⟩ => show k.val = 0 + k.val; omega
        | ⟨1, _⟩ => show h.val = 0 + h.val; omega
        | ⟨2, _⟩ => show e.val + 16 = 16 + (e.val); omega))
  by_cases c1 : e.val < 32
  · rw [dif_neg (show ¬ e.val % 32 < 16 by omega)]
    exact Eq.trans (concatenate_apply_piece (t := S1024x16x64) (2 : Fin 3) _ _ (ix3 k h e) 1 (by show 1 < 4; omega)
      S1024x16x16 _ rfl rfl 16 rfl (ix3 (n2 := 16) k h ⟨e.val - 16, by omega⟩) (fun x hx => off _ x hx)
      (by show 16 + (e.val - 16) = e.val; omega)) ((extractStridedSlice_apply _ y slices_S1024x16x64_S1024x16x16_0_0_0 _ (ix3 k h ⟨e.val - 16, by omega⟩) fun a => by
        match a with
        | ⟨0, _⟩ => show k.val = 0 + k.val; omega
        | ⟨1, _⟩ => show h.val = 0 + h.val; omega
        | ⟨2, _⟩ => show e.val - 16 = 0 + (e.val - 16); omega))
  by_cases c2 : e.val < 48
  · rw [dif_pos (show e.val % 32 < 16 by omega)]
    exact Eq.trans (concatenate_apply_piece (t := S1024x16x64) (2 : Fin 3) _ _ (ix3 k h e) 2 (by show 2 < 4; omega)
      S1024x16x16 _ rfl rfl 32 rfl (ix3 (n2 := 16) k h ⟨e.val - 32, by omega⟩) (fun x hx => off _ x hx)
      (by show 32 + (e.val - 32) = e.val; omega)) (congrArg (fun x : EReal => -x) (extractStridedSlice_apply _ y slices_S1024x16x64_S1024x16x16_0_0_48 _ (ix3 k h ⟨e.val + 16, by omega⟩) fun a => by
        match a with
        | ⟨0, _⟩ => show k.val = 0 + k.val; omega
        | ⟨1, _⟩ => show h.val = 0 + h.val; omega
        | ⟨2, _⟩ => show e.val + 16 = 48 + (e.val - 32); omega))
  · rw [dif_neg (show ¬ e.val % 32 < 16 by omega)]
    exact Eq.trans (concatenate_apply_piece (t := S1024x16x64) (2 : Fin 3) _ _ (ix3 k h e) 3 (by show 3 < 4; omega)
      S1024x16x16 _ rfl rfl 48 rfl (ix3 (n2 := 16) k h ⟨e.val - 48, by omega⟩) (fun x hx => off _ x hx)
      (by show 48 + (e.val - 48) = e.val; omega)) ((extractStridedSlice_apply _ y slices_S1024x16x64_S1024x16x16_0_0_32 _ (ix3 k h ⟨e.val - 16, by omega⟩) fun a => by
        match a with
        | ⟨0, _⟩ => show k.val = 0 + k.val; omega
        | ⟨1, _⟩ => show h.val = 0 + h.val; omega
        | ⟨2, _⟩ => show e.val - 16 = 32 + (e.val - 48); omega))

/-- A head's 256 columns: its 192, then its rotated ones exchanged. -/
theorem columns_apply (y : FVec Ideal S1024x16x192 .f32) (w : Wt) (hy : ∀ k h d, y (ix3 k h d) = w (ix4 1 k h d)) (z : FVec Ideal S1024x16x64 .f32)
    (hz : ∀ k h (e : Fin 64), z (ix3 k h e) = if h0 : e.val % 32 < 16 then -(w (ix4 1 k h ⟨128 + (e.val + 16), by have := e.isLt; omega⟩))
        else w (ix4 1 k h ⟨128 + (e.val - 16), by have := e.isLt; omega⟩))
    (k : Fin 1024) (h : Fin 16) (d : Fin 256) :
    concatenate S1024x16x256 2
        [⟨S1024x16x128, extractStridedSlice S1024x16x128 ![0, 0, 0] y slices_S1024x16x192_S1024x16x128_0_0_0⟩,
         ⟨S1024x16x64, extractStridedSlice S1024x16x64 ![0, 0, 128] y slices_S1024x16x192_S1024x16x64_0_0_128⟩,
         ⟨S1024x16x64, z⟩] concatenates_S1024x16x128_S1024x16x64_S1024x16x64_S1024x16x256_d2 (ix3 k h d) = wcol w k h d := by
  have hd := d.isLt
  unfold wcol
  by_cases c0 : d.val < 128
  · rw [dif_pos (by omega)]
    exact Eq.trans (concatenate_apply_piece (2 : Fin 3) _ _ (ix3 k h d) 0 (by show 0 < 3; omega)
      S1024x16x128 _ rfl rfl 0 rfl (ix3 (n2 := 128) k h ⟨d.val, c0⟩)
      (fun x hx => by match x with | ⟨0, _⟩ => rfl | ⟨1, _⟩ => rfl | ⟨2, _⟩ => exact absurd rfl hx)
      (by show 0 + d.val = d.val; omega)) ((extractStridedSlice_apply _ y slices_S1024x16x192_S1024x16x128_0_0_0 _ (ix3 k h ⟨d.val, by omega⟩) fun a => by
        match a with
        | ⟨0, _⟩ => show k.val = 0 + k.val; omega
        | ⟨1, _⟩ => show h.val = 0 + h.val; omega
        | ⟨2, _⟩ => show d.val = 0 + d.val; omega).trans (hy k h _))
  by_cases c1 : d.val < 192
  · rw [dif_pos c1]
    exact Eq.trans (concatenate_apply_piece (2 : Fin 3) _ _ (ix3 k h d) 1 (by show 1 < 3; omega)
      S1024x16x64 _ rfl rfl 128 rfl (ix3 (n2 := 64) k h ⟨d.val - 128, by omega⟩)
      (fun x hx => by match x with | ⟨0, _⟩ => rfl | ⟨1, _⟩ => rfl | ⟨2, _⟩ => exact absurd rfl hx)
      (by show 128 + (d.val - 128) = d.val; omega)) ((extractStridedSlice_apply _ y slices_S1024x16x192_S1024x16x64_0_0_128 _ (ix3 k h ⟨d.val, c1⟩) fun a => by
        match a with
        | ⟨0, _⟩ => show k.val = 0 + k.val; omega
        | ⟨1, _⟩ => show h.val = 0 + h.val; omega
        | ⟨2, _⟩ => show d.val = 128 + (d.val - 128); omega).trans (hy k h _))
  · rw [dif_neg c1]
    refine Eq.trans (concatenate_apply_piece (2 : Fin 3) _ _ (ix3 k h d) 2 (by show 2 < 3; omega)
      S1024x16x64 z rfl rfl 192 rfl (ix3 (n2 := 64) k h ⟨d.val - 192, by omega⟩)
      (fun x hx => by match x with | ⟨0, _⟩ => rfl | ⟨1, _⟩ => rfl | ⟨2, _⟩ => exact absurd rfl hx)
      (by show 192 + (d.val - 192) = d.val; omega)) ((hz k h _).trans ?_)
    by_cases c2 : (d.val - 192) % 32 < 16
    · rw [dif_pos c2, dif_pos c2]
      exact congrArg (fun x => -(w (ix4 1 k h x))) (Fin.ext (by show 128 + (d.val - 192 + 16) = d.val - 48; omega))
    · rw [dif_neg c2, dif_neg c2]
      exact congrArg (fun x => w (ix4 1 k h x)) (Fin.ext (by show 128 + (d.val - 192 - 16) = d.val - 80; omega))

/-- The weight's columns, the heads side by side. -/
theorem V_weights (c : Dev nD) (k : Fin 1024) (j : Fin 4096) (h : Fin 16) (d : Fin 256) (hj : j.val = 256 * h.val + d.val) :
    (V m c main_v19 : S1024x4096.Idx → EReal) (ix2 k j) = wcol (a1 m c) k h d := by
  unfold_abbrev_sides
  after_results
  dsimp only [Matrix.cons_val]
  after_results_steps
  have hy : ∀ (k : Fin 1024) (h : Fin 16) (d : Fin 192), (shapeCast S1024x16x192 (extractStridedSlice S1x1024x16x192 ![1, 0, 0, 0] (a1 m c) slices_S2x1024x16x192_S1x1024x16x192_1_0_0_0)
      shapeCasts_S1x1024x16x192_S1024x16x192) (ix3 k h d) = a1 m c (ix4 1 k h d) := fun k h d => by
    refine (shapeCast_apply _ shapeCasts_S1x1024x16x192_S1024x16x192 (ix3 k h d) (ix4 0 k h d) ?_).trans
      (extractStridedSlice_apply _ (a1 m c) slices_S2x1024x16x192_S1x1024x16x192_1_0_0_0 _ (ix4 1 k h d) fun a => ?_)
    · rw [Shape.rowMajor_val_three, Shape.rowMajor_val_four]
      show ((0 * 1024 + k.val) * 16 + h.val) * 192 + d.val = (k.val * 16 + h.val) * 192 + d.val
      omega
    · match a with
      | ⟨0, _⟩ => rfl
      | ⟨1, _⟩ => show k.val = 0 + k.val; omega
      | ⟨2, _⟩ => show h.val = 0 + h.val; omega
      | ⟨3, _⟩ => show d.val = 0 + d.val; omega
  have hs : ∀ (k : Fin 1024) (h : Fin 16) (e : Fin 64) (d : Fin 192), d.val = 128 + e.val →
      (extractStridedSlice S1024x16x64 ![0, 0, 128] (shapeCast S1024x16x192 (extractStridedSlice S1x1024x16x192 ![1, 0, 0, 0] (a1 m c) slices_S2x1024x16x192_S1x1024x16x192_1_0_0_0)
      shapeCasts_S1x1024x16x192_S1024x16x192) slices_S1024x16x192_S1024x16x64_0_0_128) (ix3 k h e) = a1 m c (ix4 1 k h d) := fun k h e d hd =>
    (extractStridedSlice_apply _ _ slices_S1024x16x192_S1024x16x64_0_0_128 _ (ix3 k h d) fun a => by
        match a with
        | ⟨0, _⟩ => show k.val = 0 + k.val; omega
        | ⟨1, _⟩ => show h.val = 0 + h.val; omega
        | ⟨2, _⟩ => exact hd).trans (hy k h d)
  refine (shapeCast_apply _ shapeCasts_S1024x16x256_S1024x4096 (ix2 k j) (ix3 k h d) ?_).trans
    (columns_apply _ (a1 m c) hy _ (fun k h e => (exchanged_apply _ k h e).trans ?_) k h d)
  · rw [Shape.rowMajor_val_three, Shape.rowMajor_val_two]
    show (k.val * 16 + h.val) * 256 + d.val = k.val * 4096 + j.val
    omega
  · by_cases c0 : e.val % 32 < 16
    · rw [dif_pos c0, dif_pos c0]
      exact congrArg (fun x : EReal => -x) (hs k h _ _ rfl)
    · rw [dif_neg c0, dif_neg c0]
      exact hs k h _ _ rfl

/-! ## The tables -/

/-- A latent token's table row: a row quantity twice, a column quantity twice, then zeros. -/
theorem latent_row (u v : S2048x16.Idx → EReal) (z : S2048x64.Idx → EReal) (t : Fin 2048) (e : Fin 128) :
    concatenate S2048x128 1 [⟨S2048x16, u⟩, ⟨S2048x16, u⟩, ⟨S2048x16, v⟩, ⟨S2048x16, v⟩, ⟨S2048x64, z⟩] concatenates_S2048x16_S2048x16_S2048x16_S2048x16_S2048x64_S2048x128_d1 (ix2 t e)
      = if h0 : e.val < 64 then (if e.val < 32 then u (ix2 t ⟨e.val % 16, by omega⟩) else v (ix2 t ⟨e.val % 16, by omega⟩))
        else z (ix2 t ⟨e.val - 64, by have := e.isLt; omega⟩) := by
  have he := e.isLt
  have off : ∀ q : Fin 16, ∀ x : Fin 2, x ≠ 1 → ((ix2 (n1 := 16) t q : S2048x16.Idx) x).val = ((ix2 t e : S2048x128.Idx) x).val := fun q x hx => by
    match x with | ⟨0, _⟩ => rfl | ⟨1, _⟩ => exact absurd rfl hx
  by_cases c0 : e.val < 16
  · rw [dif_pos (show e.val < 64 by omega), if_pos (show e.val < 32 by omega)]
    exact concatenate_apply_piece (1 : Fin 2) _ _ (ix2 t e) 0 (by show 0 < 5; omega)
      S2048x16 u rfl rfl 0 rfl (ix2 (n1 := 16) t ⟨e.val % 16, by omega⟩) (fun x hx => off _ x hx) (by show 0 + e.val % 16 = e.val; omega)
  by_cases c1 : e.val < 32
  · rw [dif_pos (show e.val < 64 by omega), if_pos (show e.val < 32 by omega)]
    exact concatenate_apply_piece (1 : Fin 2) _ _ (ix2 t e) 1 (by show 1 < 5; omega)
      S2048x16 u rfl rfl 16 rfl (ix2 (n1 := 16) t ⟨e.val % 16, by omega⟩) (fun x hx => off _ x hx) (by show 16 + e.val % 16 = e.val; omega)
  by_cases c2 : e.val < 48
  · rw [dif_pos (show e.val < 64 by omega), if_neg (show ¬ e.val < 32 by omega)]
    exact concatenate_apply_piece (1 : Fin 2) _ _ (ix2 t e) 2 (by show 2 < 5; omega)
      S2048x16 v rfl rfl 32 rfl (ix2 (n1 := 16) t ⟨e.val % 16, by omega⟩) (fun x hx => off _ x hx) (by show 32 + e.val % 16 = e.val; omega)
  by_cases c3 : e.val < 64
  · rw [dif_pos (show e.val < 64 by omega), if_neg (show ¬ e.val < 32 by omega)]
    exact concatenate_apply_piece (1 : Fin 2) _ _ (ix2 t e) 3 (by show 3 < 5; omega)
      S2048x16 v rfl rfl 48 rfl (ix2 (n1 := 16) t ⟨e.val % 16, by omega⟩) (fun x hx => off _ x hx) (by show 48 + e.val % 16 = e.val; omega)
  · rw [dif_neg (show ¬ e.val < 64 by omega)]
    exact concatenate_apply_piece (1 : Fin 2) _ _ (ix2 t e) 4 (by show 4 < 5; omega)
      S2048x64 z rfl rfl 64 rfl (ix2 (n1 := 64) t ⟨e.val - 64, by omega⟩)
      (fun x hx => by match x with | ⟨0, _⟩ => rfl | ⟨1, _⟩ => exact absurd rfl hx) (by show 64 + (e.val - 64) = e.val; omega)

/-- A table: 1024 rows for context tokens, then a row for each latent token. -/
theorem table_apply (p : S1024x128.Idx → EReal) (l : S2048x128.Idx → EReal) (q : Fin 3072) (e : Fin 128) :
    concatenate S3072x128 0 [⟨S1024x128, p⟩, ⟨S2048x128, l⟩] concatenates_S1024x128_S2048x128_S3072x128_d0 (ix2 q e)
      = if h0 : q.val < 1024 then p (ix2 ⟨q.val, h0⟩ e) else l (ix2 ⟨q.val - 1024, by have := q.isLt; omega⟩ e) := by
  have hq := q.isLt
  by_cases h1 : q.val < 1024
  · rw [dif_pos h1]
    exact concatenate_pair_apply_left (t := S3072x128) (s₁ := S1024x128) (s₂ := S2048x128) (0 : Fin 2) _ _
      concatenates_S1024x128_S2048x128_S3072x128_d0 _ rfl (ix2 (n0 := 1024) ⟨q.val, h1⟩ e)
      (fun x => by match x with | ⟨0, _⟩ => rfl | ⟨1, _⟩ => rfl)
  · rw [dif_neg h1]
    exact concatenate_pair_apply_right (t := S3072x128) (s₁ := S1024x128) (s₂ := S2048x128) (0 : Fin 2) _ _
      concatenates_S1024x128_S2048x128_S3072x128_d0 _ rfl rfl (ix2 (n0 := 2048) ⟨q.val - 1024, by omega⟩ e)
      (fun x hx => by match x with | ⟨0, _⟩ => exact absurd rfl hx | ⟨1, _⟩ => rfl)
      (by show q.val - 1024 + 1024 = q.val; omega)

/-- A context row of the cosines' table. -/
theorem ones_row (o z : S1024x64.Idx → EReal) (q : Fin 1024) (e : Fin 128) :
    concatenate S1024x128 1 [⟨S1024x64, o⟩, ⟨S1024x64, z⟩] concatenates_S1024x64_S1024x64_S1024x128_d1 (ix2 q e)
      = if h0 : e.val < 64 then o (ix2 q ⟨e.val, h0⟩) else z (ix2 q ⟨e.val - 64, by have := e.isLt; omega⟩) := by
  have he := e.isLt
  by_cases h1 : e.val < 64
  · rw [dif_pos h1]
    exact concatenate_pair_apply_left (t := S1024x128) (s₁ := S1024x64) (s₂ := S1024x64) (1 : Fin 2) _ _
      concatenates_S1024x64_S1024x64_S1024x128_d1 _ rfl (ix2 (n1 := 64) q ⟨e.val, h1⟩)
      (fun x => by match x with | ⟨0, _⟩ => rfl | ⟨1, _⟩ => rfl)
  · rw [dif_neg h1]
    exact concatenate_pair_apply_right (t := S1024x128) (s₁ := S1024x64) (s₂ := S1024x64) (1 : Fin 2) _ _
      concatenates_S1024x64_S1024x64_S1024x128_d1 _ rfl rfl (ix2 (n1 := 64) q ⟨e.val - 64, by omega⟩)
      (fun x hx => by match x with | ⟨0, _⟩ => rfl | ⟨1, _⟩ => exact absurd rfl hx)
      (by show e.val - 64 + 64 = e.val; omega)

/-- A row of a table and the token it stands for. -/
def Stands (q : Fin 3072) (n : Fin 2304) : Prop :=
  (q.val < 1024 ∧ n.val < 256) ∨ (1024 ≤ q.val ∧ 256 ≤ n.val ∧ q.val - 1024 = n.val - 256)

set_option maxHeartbeats 2000000 in
/-- The cosines' table. -/
theorem V_cos (c : Dev nD) (q : Fin 3072) (e : Fin 128) (n : Fin 2304) (hq : Stands q n) :
    (V m c main_v57 : S3072x128.Idx → EReal) (ix2 q e) = cosAt n e := by
  unfold_abbrev_sides
  after_results
  dsimp only [Matrix.cons_val]
  after_results_steps
  have hql := q.isLt
  have hn := n.isLt
  refine (table_apply _ _ q e).trans ?_
  unfold cosAt
  rcases hq with ⟨h0, h2⟩ | ⟨h0, h2, h3⟩
  · rw [dif_pos h0, if_pos h2]
    refine (ones_row _ _ _ e).trans ?_
    by_cases h1 : e.val < 64
    · rw [dif_pos h1, if_pos h1]; rfl
    · rw [dif_neg h1, if_neg h1]; rfl
  · rw [dif_neg (show ¬ q.val < 1024 by omega), if_neg (show ¬ n.val < 256 by omega)]
    have el : lat n = ⟨q.val - 1024, by omega⟩ := Fin.ext (by show (n.val - 256) % 2048 = q.val - 1024; omega)
    rw [el]
    refine (latent_row _ _ _ _ e).trans ?_
    unfold ang
    by_cases h1 : e.val < 64
    · rw [dif_pos h1, if_pos h1]
      by_cases h4 : e.val < 32
      · rw [if_pos h4, if_pos h4]
        exact congrArg Ideal.cos (QupAng.row_apply _ _)
      · rw [if_neg h4, if_neg h4]
        exact congrArg Ideal.cos (QupAng.col_apply _ _)
    · rw [dif_neg h1, if_neg h1]; rfl

set_option maxHeartbeats 2000000 in
/-- The sines' table. -/
theorem V_sin (c : Dev nD) (q : Fin 3072) (e : Fin 128) (n : Fin 2304) (hq : Stands q n) :
    (V m c main_v59 : S3072x128.Idx → EReal) (ix2 q e) = sinAt n e := by
  unfold_abbrev_sides
  after_results
  dsimp only [Matrix.cons_val]
  after_results_steps
  have hql := q.isLt
  have hn := n.isLt
  refine (table_apply _ _ q e).trans ?_
  unfold sinAt
  rcases hq with ⟨h0, h2⟩ | ⟨h0, h2, h3⟩
  · rw [dif_pos h0, if_pos h2]
    by_cases h1 : e.val < 64
    · rw [if_pos h1]; rfl
    · rw [if_neg h1]; rfl
  · rw [dif_neg (show ¬ q.val < 1024 by omega), if_neg (show ¬ n.val < 256 by omega)]
    have el : lat n = ⟨q.val - 1024, by omega⟩ := Fin.ext (by show (n.val - 256) % 2048 = q.val - 1024; omega)
    rw [el]
    refine (latent_row _ _ _ _ e).trans ?_
    unfold ang
    by_cases h1 : e.val < 64
    · rw [dif_pos h1, if_pos h1]
      by_cases h4 : e.val < 32
      · rw [if_pos h4, if_pos h4]
        exact congrArg Ideal.sin (QupAng.row_apply _ _)
      · rw [if_neg h4, if_neg h4]
        exact congrArg Ideal.sin (QupAng.col_apply _ _)
    · rw [dif_neg h1, if_neg h1]; rfl

/-! ## The blocks -/

/-- Point `t`'s block of the rows. -/
theorem blk_rows (c : Dev nD) (t : Fin cfg0.N) (a : Fin 1024) (k : Fin 1024) (r : Fin 18432) (hr : r.val = t.val / 4 * 1024 + a.val) :
    (iblk (F := Ideal) m c 0 t : S1024x1024.Idx → EReal) (ix2 a k) = a0 m c (ix3 (sample r) (token r) k) := by
  have hf := (idx_facts t).1
  rw [← V_rows m c r k]
  show (V m c main_v5 : S18432x1024.Idx → EReal) ((win0_0.rect t).emb (ix2 a k)) = _
  congr 1
  apply Shape.idx_ext₂
  · rw [win0_0.rect_emb_val, hf.1]; exact hr.symm
  · rw [win0_0.rect_emb_val, hf.2]; exact (Nat.zero_mul _).symm ▸ Nat.zero_add _

/-- Point `t`'s block of the weight. -/
theorem blk_weights (c : Dev nD) (t : Fin cfg0.N) (k : Fin 1024) (b : Fin 1024) (j : Fin 4096) (h : Fin 16) (d : Fin 256)
    (hj : j.val = t.val % 4 * 1024 + b.val) (hh : j.val = 256 * h.val + d.val) :
    (iblk (F := Ideal) m c 1 t : S1024x1024.Idx → EReal) (ix2 k b) = wcol (a1 m c) k h d := by
  have hf := (idx_facts t).2.1
  rw [← V_weights m c k j h d hh]
  show (V m c main_v19 : S1024x4096.Idx → EReal) ((win0_1.rect t).emb (ix2 k b)) = _
  congr 1
  apply Shape.idx_ext₂
  · rw [win0_1.rect_emb_val, hf.1]; show 0 * 1024 + k.val = k.val; omega
  · rw [win0_1.rect_emb_val, hf.2]; exact hj.symm

/-- The table row a block row stands on belongs to the row's token. -/
theorem stands (t : Fin cfg0.N) (a : Fin 1024) (r : Fin 18432) (hr : r.val = t.val / 4 * 1024 + a.val) (q : Fin 3072)
    (hq : q.val = (if t.val / 4 < 2 then 0 else 1 + (t.val / 4) % 2) * 1024 + a.val) : Stands q (token r) := by
  have ha := a.isLt
  unfold Stands
  by_cases h0 : t.val / 4 < 2
  · rw [if_pos h0] at hq
    refine Or.inl ⟨by omega, ?_⟩
    show (if r.val < 2048 then r.val % 256 else 256 + (r.val - 2048) % 2048) < 256
    rw [if_pos (by omega)]; omega
  · rw [if_neg h0] at hq
    have e : (token r).val = 256 + (r.val - 2048) % 2048 := by
      show (if r.val < 2048 then r.val % 256 else 256 + (r.val - 2048) % 2048) = _
      rw [if_neg (by omega)]
    exact Or.inr ⟨by omega, by omega, by omega⟩

/-- Point `t`'s block of the cosines' table. -/
theorem blk_cos (c : Dev nD) (t : Fin cfg0.N) (a : Fin 1024) (e : Fin 128) (r : Fin 18432) (hr : r.val = t.val / 4 * 1024 + a.val) :
    (iblk (F := Ideal) m c 2 t : S1024x128.Idx → EReal) (ix2 a e) = cosAt (token r) e := by
  have hf := (idx_facts t).2.2.1
  have hlt : (if t.val / 4 < 2 then 0 else 1 + (t.val / 4) % 2) * 1024 + a.val < 3072 := by
    have := a.isLt
    split <;> omega
  rw [← V_cos m c ⟨_, hlt⟩ e (token r) (stands t a r hr _ rfl)]
  show (V m c main_v57 : S3072x128.Idx → EReal) ((win0_2.rect t).emb (ix2 a e)) = _
  congr 1
  apply Shape.idx_ext₂
  · rw [win0_2.rect_emb_val, hf.1]; rfl
  · rw [win0_2.rect_emb_val, hf.2]; show 0 * 128 + e.val = e.val; omega

/-- Point `t`'s block of the sines' table. -/
theorem blk_sin (c : Dev nD) (t : Fin cfg0.N) (a : Fin 1024) (e : Fin 128) (r : Fin 18432) (hr : r.val = t.val / 4 * 1024 + a.val) :
    (iblk (F := Ideal) m c 3 t : S1024x128.Idx → EReal) (ix2 a e) = sinAt (token r) e := by
  have hf := (idx_facts t).2.2.2.1
  have hlt : (if t.val / 4 < 2 then 0 else 1 + (t.val / 4) % 2) * 1024 + a.val < 3072 := by
    have := a.isLt
    split <;> omega
  rw [← V_sin m c ⟨_, hlt⟩ e (token r) (stands t a r hr _ rfl)]
  show (V m c main_v59 : S3072x128.Idx → EReal) ((win0_3.rect t).emb (ix2 a e)) = _
  congr 1
  apply Shape.idx_ext₂
  · rw [win0_3.rect_emb_val, hf.1]; rfl
  · rw [win0_3.rect_emb_val, hf.2]; show 0 * 128 + e.val = e.val; omega

/-- The product in point `t`'s block. -/
theorem blk_wide (c : Dev nD) (t : Fin cfg0.N) (a b : Fin 1024) (r : Fin 18432) (hr : r.val = t.val / 4 * 1024 + a.val) (h : Fin 16) (d : Fin 256)
    (hh : t.val % 4 * 1024 + b.val = 256 * h.val + d.val) :
    k0_pay4 (F := Ideal) (iblk m c 0 t) (iblk m c 1 t) (ix2 a b) = wide (a0 m c) (a1 m c) (sample r) (token r) h d := by
  have hj : t.val % 4 * 1024 + b.val < 4096 := by
    have := b.isLt
    omega
  rw [product]
  unfold wide
  exact Finset.sum_congr rfl fun k _ => congrArg₂ (· * ·) (blk_rows m c t a k r hr) (blk_weights m c t k b ⟨t.val % 4 * 1024 + b.val, hj⟩ h d rfl hh)

/-! ## The array after the run -/

/-- The output array: at stacked row `r`, column `j`, the entry of the row's token. -/
def G (c : Dev nD) : S18432x4096.Idx → EReal :=
  fun i => kquery (a0 m c) (a1 m c) (sample (i 0)) (token (i 0)) ⟨(i 1).val / 256, by have h1 : (i 1).val < 4096 := (i 1).isLt; omega⟩ ⟨(i 1).val % 256, by omega⟩

/-- What point `t` writes back is block `t` of that array. -/
theorem flushed_eq (c : Dev nD) (t : Fin cfg0.N) :
    (dats (F := Ideal) m 0 c).flushed 4 t = ((cfg0.win 4).blk t).view.read (Elt Ideal) (G m c) := by
  rw [Value.flushed4]
  funext y
  obtain ⟨a, b, rfl⟩ : ∃ a b : Fin 1024, y = ix2 a b := ⟨y 0, y 1, eq_ix2 y⟩
  have hf := (idx_facts t).2.2.2.2
  have ht : t.val < 72 := t.isLt
  have ha := a.isLt
  have hb := b.isLt
  show out0_4 (F := Ideal) (iblk m c 0 t) (iblk m c 1 t) (iblk m c 2 t) (iblk m c 3 t) (ix2 a b) = G m c ((win0_4.rect t).emb (ix2 a b))
  rw [out_apply]
  have e : (win0_4.rect t).emb (ix2 a b)
      = ix2 (n0 := 18432) (n1 := 4096) ⟨t.val / 4 * 1024 + a.val, by omega⟩ ⟨t.val % 4 * 1024 + b.val, by omega⟩ := by
    apply Shape.idx_ext₂
    · rw [win0_4.rect_emb_val, hf.1]; rfl
    · rw [win0_4.rect_emb_val, hf.2]; rfl
  rw [e]
  show mix _ _ _ a b = kquery (a0 m c) (a1 m c) (sample ⟨t.val / 4 * 1024 + a.val, by omega⟩) (token ⟨t.val / 4 * 1024 + a.val, by omega⟩)
    ⟨(t.val % 4 * 1024 + b.val) / 256, by omega⟩ ⟨(t.val % 4 * 1024 + b.val) % 256, by omega⟩
  unfold mix kquery
  by_cases h0 : b.val % 256 < 128
  · rw [if_pos h0, if_pos (by show (t.val % 4 * 1024 + b.val) % 256 < 128; omega)]
    exact blk_wide m c t a b _ rfl _ _ (by show _ = 256 * ((t.val % 4 * 1024 + b.val) / 256) + (t.val % 4 * 1024 + b.val) % 256; omega)
  · rw [if_neg h0, if_neg (by show ¬ (t.val % 4 * 1024 + b.val) % 256 < 128; omega)]
    have ee : (⟨(t.val % 4 * 1024 + b.val) % 256 % 128, by omega⟩ : Fin 128) = ⟨b.val % 128, by omega⟩ :=
      Fin.ext (by show (t.val % 4 * 1024 + b.val) % 256 % 128 = b.val % 128; omega)
    refine congrArg₂ (fun x y : EReal => x + y) (congrArg₂ (fun x y : EReal => x * y) ?_ ?_) (congrArg₂ (fun x y : EReal => x * y) ?_ ?_)
    · exact blk_wide m c t a b _ rfl _ _ (by show _ = 256 * ((t.val % 4 * 1024 + b.val) / 256) + (t.val % 4 * 1024 + b.val) % 256; omega)
    · exact (blk_cos m c t a _ _ rfl).trans (congrArg (cosAt _) ee.symm)
    · exact blk_wide m c t a _ _ rfl _ _ (by
        show t.val % 4 * 1024 + (b.val / 128 * 128 + (b.val + 64) % 128)
          = 256 * ((t.val % 4 * 1024 + b.val) / 256) + (128 + ((t.val % 4 * 1024 + b.val) % 256 + 64) % 128)
        omega)
    · exact (blk_sin m c t a _ _ rfl).trans (congrArg (sinAt _) ee.symm)

/-- Every index of the output array lies in some point's block. -/
theorem cover (i : S18432x4096.Idx) : ∃ t : Fin cfg0.N, (cfg0.win 4).flush t = true ∧ i ∈ ((cfg0.win 4).blk t).view.set := by
  have h0 : (i 0 : Nat) < 18432 := (i 0).isLt
  have h1 : (i 1 : Nat) < 4096 := (i 1).isLt
  let t : Fin cfg0.N := ⟨(i 0).val / 1024 * 4 + (i 1).val / 1024, by show _ < 72; omega⟩
  have hf := (idx_facts t).2.2.2.2
  have e0 : t.val / 4 = (i 0).val / 1024 := by show ((i 0).val / 1024 * 4 + (i 1).val / 1024) / 4 = _; omega
  have e1 : t.val % 4 = (i 1).val / 1024 := by show ((i 0).val / 1024 * 4 + (i 1).val / 1024) % 4 = _; omega
  refine ⟨t, flush0_4 t, ?_⟩
  show i ∈ ((View.whole main_v60).slice (win0_4.rect t)).set
  rw [View.set_slice_whole, Rect.mem_set_unit]
  intro a
  match a with
  | ⟨0, _⟩ =>
    show win0_4.index t 0 * 1024 ≤ (i 0 : Nat) ∧ (i 0 : Nat) < win0_4.index t 0 * 1024 + 1024
    rw [hf.1, e0]; omega
  | ⟨1, _⟩ =>
    show win0_4.index t 1 * 1024 ≤ (i 1 : Nat) ∧ (i 1 : Nat) < win0_4.index t 1 * 1024 + 1024
    rw [hf.2, e1]; omega

/-- After the run the output array is `G`. -/
theorem final (c : Dev nD) : (dats (F := Ideal) m 0 c).arrAt 4 cfg0.N = G m c :=
  (dats (F := Ideal) m 0 c).arrAt_eq_of_cover 4 (G m c) (fun t _ => flushed_eq m c t) cover

end Cert.Proof.Qup

end
-- ==== Proof.Mix.QupRef.lean ====
/-
  The value of the query up-projection's reference, and the two programs' agreement: the product per head, the latent tokens' rotated
  entries turned by their angles, 64 zeros after each head, the heads side by side and the tokens stacked. With the latent tokens'
  latents and the rotated columns finite that is the kernel's array.
-/
module

public import proofs.«01_k».proof.Proof.Gen.QupRefIdeal.Run
public import proofs.«01_k».proof.Proof.Gen.QupRefIdeal.Read
public import proofs.«01_k».proof.Proof.Gen.Pre_finite_rotated
public import proofs.«01_k».proof.Proof.Mix.QupAng
public import proofs.«01_k».proof.Proof.Mix.Qup
public import proofs.«01_k».proof.Defs
public import Idealize.ShloMosaic.Lib.KernelVsHost

@[expose] public section

noncomputable section

namespace Cert.Proof.QupRef

open Cert.QupRefIdeal Cert.QupRefIdeal.Gen Cert.QupRefIdeal.Read Idealize.ShloMosaic Idealize.ShloMosaic.TcCoe Idealize.SL.Sem
open Idealize.ShloMosaic.ValueIdx
open Cert.Proof.Spec Cert.Proof.Mix
open scoped BigOperators

variable (x0 : (⟨S8x2304x1024, .f32⟩ : BufTy).Contents (Elt Ideal)) (x1 : (⟨S2x1024x16x192, .f32⟩ : BufTy).Contents (Elt Ideal))

/-- The weight of layer 1. -/
theorem weight_apply (k : Fin 1024) (h : Fin 16) (d : Fin 192) : val_main_v1 (F := Ideal) x1 (ix3 k h d) = x1 (ix4 1 k h d) := by
  have := k.isLt
  have := h.isLt
  have := d.isLt
  rw [val_main_v1_apply, val_main_v0_apply]
  congr 1
  funext a
  match a with
  | ⟨0, _⟩ => rfl
  | ⟨1, _⟩ => exact Fin.ext (by show ((k.val * 16 + h.val) * 192 + d.val) / 3072 % 1024 = k.val; omega)
  | ⟨2, _⟩ => exact Fin.ext (by show ((k.val * 16 + h.val) * 192 + d.val) / 192 % 16 = h.val; omega)
  | ⟨3, _⟩ => exact Fin.ext (by show ((k.val * 16 + h.val) * 192 + d.val) % 192 = d.val; omega)

/-- The product at a head, a token and an entry. -/
theorem heads_apply (b : Fin 8) (n : Fin 2304) (h : Fin 16) (d : Fin 192) :
    val_main_v3 (F := Ideal) x0 x1 (ix4 b h n d) = up x0 x1 b n h d := by
  rw [val_main_v3_apply, val_main_v2_apply]
  unfold up
  refine Finset.sum_congr rfl fun k _ => (mul_comm _ _).trans (congrArg₂ (· * ·) (congrArg x0 ?_) (Eq.trans (congrArg _ ?_) (weight_apply x1 k h d)))
  · funext a; match a with | ⟨0, _⟩ => rfl | ⟨1, _⟩ => rfl | ⟨2, _⟩ => rfl
  · funext a; match a with | ⟨0, _⟩ => rfl | ⟨1, _⟩ => rfl | ⟨2, _⟩ => rfl

/-! ## The four quarters of the rotated entries -/

/-- The first quarter. -/
theorem quarter_first (b : Fin 8) (h : Fin 16) (t : Fin 2048) (n : Fin 2304) (q : Fin 16) (hn : n.val = 256 + t.val) :
    val_main_v33 (F := Ideal) x0 x1 (ix4 b h t q) = up x0 x1 b n h ⟨128 + q.val, by have := q.isLt; omega⟩ := by
  rw [val_main_v33_apply, val_main_v32_apply, val_main_v30_apply]
  refine Eq.trans (congrArg (val_main_v3 (F := Ideal) x0 x1) ?_) (heads_apply x0 x1 b n h _)
  funext a
  match a with
  | ⟨0, _⟩ => rfl
  | ⟨1, _⟩ => rfl
  | ⟨2, _⟩ => exact Fin.ext hn.symm
  | ⟨3, _⟩ => exact Fin.ext (by show 128 + q.val = 128 + q.val; rfl)

/-- The second quarter. -/
theorem quarter_second (b : Fin 8) (h : Fin 16) (t : Fin 2048) (n : Fin 2304) (q : Fin 16) (hn : n.val = 256 + t.val) :
    val_main_v34 (F := Ideal) x0 x1 (ix4 b h t q) = up x0 x1 b n h ⟨144 + q.val, by have := q.isLt; omega⟩ := by
  rw [val_main_v34_apply, val_main_v32_apply, val_main_v30_apply]
  refine Eq.trans (congrArg (val_main_v3 (F := Ideal) x0 x1) ?_) (heads_apply x0 x1 b n h _)
  funext a
  match a with
  | ⟨0, _⟩ => rfl
  | ⟨1, _⟩ => rfl
  | ⟨2, _⟩ => exact Fin.ext hn.symm
  | ⟨3, _⟩ => exact Fin.ext (by show 128 + (16 + q.val) = 144 + q.val; omega)

/-- The third quarter. -/
theorem quarter_third (b : Fin 8) (h : Fin 16) (t : Fin 2048) (n : Fin 2304) (q : Fin 16) (hn : n.val = 256 + t.val) :
    val_main_v35 (F := Ideal) x0 x1 (ix4 b h t q) = up x0 x1 b n h ⟨160 + q.val, by have := q.isLt; omega⟩ := by
  rw [val_main_v35_apply, val_main_v32_apply, val_main_v30_apply]
  refine Eq.trans (congrArg (val_main_v3 (F := Ideal) x0 x1) ?_) (heads_apply x0 x1 b n h _)
  funext a
  match a with
  | ⟨0, _⟩ => rfl
  | ⟨1, _⟩ => rfl
  | ⟨2, _⟩ => exact Fin.ext hn.symm
  | ⟨3, _⟩ => exact Fin.ext (by show 128 + (32 + q.val) = 160 + q.val; omega)

/-- The fourth quarter. -/
theorem quarter_fourth (b : Fin 8) (h : Fin 16) (t : Fin 2048) (n : Fin 2304) (q : Fin 16) (hn : n.val = 256 + t.val) :
    val_main_v36 (F := Ideal) x0 x1 (ix4 b h t q) = up x0 x1 b n h ⟨176 + q.val, by have := q.isLt; omega⟩ := by
  rw [val_main_v36_apply, val_main_v32_apply, val_main_v30_apply]
  refine Eq.trans (congrArg (val_main_v3 (F := Ideal) x0 x1) ?_) (heads_apply x0 x1 b n h _)
  funext a
  match a with
  | ⟨0, _⟩ => rfl
  | ⟨1, _⟩ => rfl
  | ⟨2, _⟩ => exact Fin.ext hn.symm
  | ⟨3, _⟩ => exact Fin.ext (by show 128 + (48 + q.val) = 176 + q.val; omega)

/-! ## Cosines and sines -/

/-- The row angles stand first. -/
theorem joined_row (t : Fin 2048) (q : Fin 16) : val_main_v27 (F := Ideal) (ix2 (n1 := 32) t ⟨q.val, by have := q.isLt; omega⟩) = rowAng t q := by
  unfold val_main_v27
  exact (concatenate_pair_apply_left (t := S2048x32) (s₁ := S2048x16) (s₂ := S2048x16) (1 : Fin 2) _ _
    concatenates_S2048x16_S2048x16_S2048x32_d1 _ rfl (ix2 (n1 := 16) t q)
    (fun x => by match x with | ⟨0, _⟩ => rfl | ⟨1, _⟩ => rfl)).trans (QupAng.row_apply t q)

/-- The column angles follow. -/
theorem joined_col (t : Fin 2048) (q : Fin 16) : val_main_v27 (F := Ideal) (ix2 (n1 := 32) t ⟨16 + q.val, by have := q.isLt; omega⟩) = colAng t q := by
  unfold val_main_v27
  exact (concatenate_pair_apply_right (t := S2048x32) (s₁ := S2048x16) (s₂ := S2048x16) (1 : Fin 2) _ _
    concatenates_S2048x16_S2048x16_S2048x32_d1 _ rfl rfl (ix2 (n1 := 16) t q)
    (fun x hx => by match x with | ⟨0, _⟩ => rfl | ⟨1, _⟩ => exact absurd rfl hx)
    (by show q.val + 16 = 16 + q.val; omega)).trans (QupAng.col_apply t q)

/-- The cosine of a row angle. -/
theorem cos_row (t : Fin 2048) (q : Fin 16) : val_main_v37 (F := Ideal) (ix2 t q) = Ideal.cos (rowAng t q) := by
  rw [val_main_v37_apply, val_main_v28_apply]
  refine congrArg Ideal.cos (Eq.trans (congrArg (val_main_v27 (F := Ideal)) ?_) (joined_row t q))
  funext a; match a with | ⟨0, _⟩ => rfl | ⟨1, _⟩ => rfl

/-- The cosine of a column angle. -/
theorem cos_col (t : Fin 2048) (q : Fin 16) : val_main_v38 (F := Ideal) (ix2 t q) = Ideal.cos (colAng t q) := by
  rw [val_main_v38_apply, val_main_v28_apply]
  refine congrArg Ideal.cos (Eq.trans (congrArg (val_main_v27 (F := Ideal)) ?_) (joined_col t q))
  funext a; match a with | ⟨0, _⟩ => rfl | ⟨1, _⟩ => rfl

/-- The sine of a row angle. -/
theorem sin_row (t : Fin 2048) (q : Fin 16) : val_main_v39 (F := Ideal) (ix2 t q) = Ideal.sin (rowAng t q) := by
  rw [val_main_v39_apply, val_main_v29_apply]
  refine congrArg Ideal.sin (Eq.trans (congrArg (val_main_v27 (F := Ideal)) ?_) (joined_row t q))
  funext a; match a with | ⟨0, _⟩ => rfl | ⟨1, _⟩ => rfl

/-- The sine of a column angle. -/
theorem sin_col (t : Fin 2048) (q : Fin 16) : val_main_v40 (F := Ideal) (ix2 t q) = Ideal.sin (colAng t q) := by
  rw [val_main_v40_apply, val_main_v29_apply]
  refine congrArg Ideal.sin (Eq.trans (congrArg (val_main_v27 (F := Ideal)) ?_) (joined_col t q))
  funext a; match a with | ⟨0, _⟩ => rfl | ⟨1, _⟩ => rfl

/-- The cosines of the row angles, spread over samples and heads. -/
theorem spread_42 (b : Fin 8) (h : Fin 16) (t : Fin 2048) (q : Fin 16) (α : EReal) (hα : α = rowAng t q) :
    val_main_v42 (F := Ideal) (ix4 b h t q) = Ideal.cos α := by
  rw [hα, val_main_v42_apply, val_main_v41_apply]
  refine Eq.trans (congrArg (val_main_v37 (F := Ideal)) ?_) (cos_row t q)
  funext a; match a with | ⟨0, _⟩ => rfl | ⟨1, _⟩ => rfl

/-- The sines of the row angles, spread over samples and heads. -/
theorem spread_45 (b : Fin 8) (h : Fin 16) (t : Fin 2048) (q : Fin 16) (α : EReal) (hα : α = rowAng t q) :
    val_main_v45 (F := Ideal) (ix4 b h t q) = Ideal.sin α := by
  rw [hα, val_main_v45_apply, val_main_v44_apply]
  refine Eq.trans (congrArg (val_main_v39 (F := Ideal)) ?_) (sin_row t q)
  funext a; match a with | ⟨0, _⟩ => rfl | ⟨1, _⟩ => rfl

/-- The sines of the row angles, spread over samples and heads. -/
theorem spread_49 (b : Fin 8) (h : Fin 16) (t : Fin 2048) (q : Fin 16) (α : EReal) (hα : α = rowAng t q) :
    val_main_v49 (F := Ideal) (ix4 b h t q) = Ideal.sin α := by
  rw [hα, val_main_v49_apply, val_main_v48_apply]
  refine Eq.trans (congrArg (val_main_v39 (F := Ideal)) ?_) (sin_row t q)
  funext a; match a with | ⟨0, _⟩ => rfl | ⟨1, _⟩ => rfl

/-- The cosines of the row angles, spread over samples and heads. -/
theorem spread_52 (b : Fin 8) (h : Fin 16) (t : Fin 2048) (q : Fin 16) (α : EReal) (hα : α = rowAng t q) :
    val_main_v52 (F := Ideal) (ix4 b h t q) = Ideal.cos α := by
  rw [hα, val_main_v52_apply, val_main_v51_apply]
  refine Eq.trans (congrArg (val_main_v37 (F := Ideal)) ?_) (cos_row t q)
  funext a; match a with | ⟨0, _⟩ => rfl | ⟨1, _⟩ => rfl

/-- The cosines of the column angles, spread over samples and heads. -/
theorem spread_56 (b : Fin 8) (h : Fin 16) (t : Fin 2048) (q : Fin 16) (α : EReal) (hα : α = colAng t q) :
    val_main_v56 (F := Ideal) (ix4 b h t q) = Ideal.cos α := by
  rw [hα, val_main_v56_apply, val_main_v55_apply]
  refine Eq.trans (congrArg (val_main_v38 (F := Ideal)) ?_) (cos_col t q)
  funext a; match a with | ⟨0, _⟩ => rfl | ⟨1, _⟩ => rfl

/-- The sines of the column angles, spread over samples and heads. -/
theorem spread_59 (b : Fin 8) (h : Fin 16) (t : Fin 2048) (q : Fin 16) (α : EReal) (hα : α = colAng t q) :
    val_main_v59 (F := Ideal) (ix4 b h t q) = Ideal.sin α := by
  rw [hα, val_main_v59_apply, val_main_v58_apply]
  refine Eq.trans (congrArg (val_main_v40 (F := Ideal)) ?_) (sin_col t q)
  funext a; match a with | ⟨0, _⟩ => rfl | ⟨1, _⟩ => rfl

/-- The sines of the column angles, spread over samples and heads. -/
theorem spread_63 (b : Fin 8) (h : Fin 16) (t : Fin 2048) (q : Fin 16) (α : EReal) (hα : α = colAng t q) :
    val_main_v63 (F := Ideal) (ix4 b h t q) = Ideal.sin α := by
  rw [hα, val_main_v63_apply, val_main_v62_apply]
  refine Eq.trans (congrArg (val_main_v40 (F := Ideal)) ?_) (sin_col t q)
  funext a; match a with | ⟨0, _⟩ => rfl | ⟨1, _⟩ => rfl

/-- The cosines of the column angles, spread over samples and heads. -/
theorem spread_66 (b : Fin 8) (h : Fin 16) (t : Fin 2048) (q : Fin 16) (α : EReal) (hα : α = colAng t q) :
    val_main_v66 (F := Ideal) (ix4 b h t q) = Ideal.cos α := by
  rw [hα, val_main_v66_apply, val_main_v65_apply]
  refine Eq.trans (congrArg (val_main_v38 (F := Ideal)) ?_) (cos_col t q)
  funext a; match a with | ⟨0, _⟩ => rfl | ⟨1, _⟩ => rfl

/-! ## The rotated entries -/

/-- An entry of the first 32 is turned by a row angle. -/
theorem ang_row (t : Fin 2048) (n : Fin 2304) (hn : n.val = 256 + t.val) (e : ℕ) (q : Fin 16) (he : e < 32) (hq : e % 16 = q.val) :
    ang (lat n) e = rowAng t q := by
  have := t.isLt
  unfold ang
  rw [if_pos he]
  exact congrArg₂ rowAng (Fin.ext (by show (n.val - 256) % 2048 = t.val; omega)) (Fin.ext hq)

/-- An entry of the last 32 is turned by a column angle. -/
theorem ang_col (t : Fin 2048) (n : Fin 2304) (hn : n.val = 256 + t.val) (e : ℕ) (q : Fin 16) (he : ¬ e < 32) (hq : e % 16 = q.val) :
    ang (lat n) e = colAng t q := by
  have := t.isLt
  unfold ang
  rw [if_neg he]
  exact congrArg₂ colAng (Fin.ext (by show (n.val - 256) % 2048 = t.val; omega)) (Fin.ext hq)

/-- The first turned quarter. -/
theorem turned_first (b : Fin 8) (h : Fin 16) (t : Fin 2048) (n : Fin 2304) (q : Fin 16) (hn : n.val = 256 + t.val) :
    val_main_v47 (F := Ideal) x0 x1 (ix4 b h t q) = rotated x0 x1 b n h ⟨q.val, by have := q.isLt; omega⟩ := by
  have hq := q.isLt
  rw [val_main_v47_apply, val_main_v43_apply, val_main_v46_apply]
  unfold rotated
  rw [dif_pos (show (q.val) % 32 < 16 by omega)]
  exact congrArg₂ (fun x y : EReal => x - y)
    (congrArg₂ (fun x y : EReal => x * y) (Eq.trans (quarter_first x0 x1 b h t n q hn) (congrArg (up x0 x1 b n h) (Fin.ext (by show 128 + q.val = 128 + (q.val); omega)))) (spread_42 b h t q _ (ang_row t n hn _ q (by show (q.val) < 32; omega) (by show (q.val) % 16 = q.val; omega))))
    (congrArg₂ (fun x y : EReal => x * y) (Eq.trans (quarter_second x0 x1 b h t n q hn) (congrArg (up x0 x1 b n h) (Fin.ext (by show 144 + q.val = 144 + (q.val); omega)))) (spread_45 b h t q _ (ang_row t n hn _ q (by show (q.val) < 32; omega) (by show (q.val) % 16 = q.val; omega))))

/-- The second turned quarter. -/
theorem turned_second (b : Fin 8) (h : Fin 16) (t : Fin 2048) (n : Fin 2304) (q : Fin 16) (hn : n.val = 256 + t.val) :
    val_main_v54 (F := Ideal) x0 x1 (ix4 b h t q) = rotated x0 x1 b n h ⟨16 + q.val, by have := q.isLt; omega⟩ := by
  have hq := q.isLt
  rw [val_main_v54_apply, val_main_v50_apply, val_main_v53_apply]
  unfold rotated
  rw [dif_neg (show ¬ (16 + q.val) % 32 < 16 by omega)]
  exact congrArg₂ (fun x y : EReal => x + y)
    (congrArg₂ (fun x y : EReal => x * y) (Eq.trans (quarter_first x0 x1 b h t n q hn) (congrArg (up x0 x1 b n h) (Fin.ext (by show 128 + q.val = 112 + (16 + q.val); omega)))) (spread_49 b h t q _ (ang_row t n hn _ q (by show (16 + q.val) < 32; omega) (by show (16 + q.val) % 16 = q.val; omega))))
    (congrArg₂ (fun x y : EReal => x * y) (Eq.trans (quarter_second x0 x1 b h t n q hn) (congrArg (up x0 x1 b n h) (Fin.ext (by show 144 + q.val = 128 + (16 + q.val); omega)))) (spread_52 b h t q _ (ang_row t n hn _ q (by show (16 + q.val) < 32; omega) (by show (16 + q.val) % 16 = q.val; omega))))

/-- The third turned quarter. -/
theorem turned_third (b : Fin 8) (h : Fin 16) (t : Fin 2048) (n : Fin 2304) (q : Fin 16) (hn : n.val = 256 + t.val) :
    val_main_v61 (F := Ideal) x0 x1 (ix4 b h t q) = rotated x0 x1 b n h ⟨32 + q.val, by have := q.isLt; omega⟩ := by
  have hq := q.isLt
  rw [val_main_v61_apply, val_main_v57_apply, val_main_v60_apply]
  unfold rotated
  rw [dif_pos (show (32 + q.val) % 32 < 16 by omega)]
  exact congrArg₂ (fun x y : EReal => x - y)
    (congrArg₂ (fun x y : EReal => x * y) (Eq.trans (quarter_third x0 x1 b h t n q hn) (congrArg (up x0 x1 b n h) (Fin.ext (by show 160 + q.val = 128 + (32 + q.val); omega)))) (spread_56 b h t q _ (ang_col t n hn _ q (by show ¬ (32 + q.val) < 32; omega) (by show (32 + q.val) % 16 = q.val; omega))))
    (congrArg₂ (fun x y : EReal => x * y) (Eq.trans (quarter_fourth x0 x1 b h t n q hn) (congrArg (up x0 x1 b n h) (Fin.ext (by show 176 + q.val = 144 + (32 + q.val); omega)))) (spread_59 b h t q _ (ang_col t n hn _ q (by show ¬ (32 + q.val) < 32; omega) (by show (32 + q.val) % 16 = q.val; omega))))

/-- The fourth turned quarter. -/
theorem turned_fourth (b : Fin 8) (h : Fin 16) (t : Fin 2048) (n : Fin 2304) (q : Fin 16) (hn : n.val = 256 + t.val) :
    val_main_v68 (F := Ideal) x0 x1 (ix4 b h t q) = rotated x0 x1 b n h ⟨48 + q.val, by have := q.isLt; omega⟩ := by
  have hq := q.isLt
  rw [val_main_v68_apply, val_main_v64_apply, val_main_v67_apply]
  unfold rotated
  rw [dif_neg (show ¬ (48 + q.val) % 32 < 16 by omega)]
  exact congrArg₂ (fun x y : EReal => x + y)
    (congrArg₂ (fun x y : EReal => x * y) (Eq.trans (quarter_third x0 x1 b h t n q hn) (congrArg (up x0 x1 b n h) (Fin.ext (by show 160 + q.val = 112 + (48 + q.val); omega)))) (spread_63 b h t q _ (ang_col t n hn _ q (by show ¬ (48 + q.val) < 32; omega) (by show (48 + q.val) % 16 = q.val; omega))))
    (congrArg₂ (fun x y : EReal => x * y) (Eq.trans (quarter_fourth x0 x1 b h t n q hn) (congrArg (up x0 x1 b n h) (Fin.ext (by show 176 + q.val = 128 + (48 + q.val); omega)))) (spread_66 b h t q _ (ang_col t n hn _ q (by show ¬ (48 + q.val) < 32; omega) (by show (48 + q.val) % 16 = q.val; omega))))

/-- The 64 turned entries. -/
theorem turned_apply (b : Fin 8) (h : Fin 16) (t : Fin 2048) (n : Fin 2304) (e : Fin 64) (hn : n.val = 256 + t.val) :
    val_main_v69 (F := Ideal) x0 x1 (ix4 b h t e) = rotated x0 x1 b n h e := by
  have he := e.isLt
  have off : ∀ q : Fin 16, ∀ x : Fin 4, x ≠ 3 → ((ix4 (n3 := 16) b h t q : S8x16x2048x16.Idx) x).val = ((ix4 b h t e : S8x16x2048x64.Idx) x).val := fun q x hx => by
    match x with | ⟨0, _⟩ => rfl | ⟨1, _⟩ => rfl | ⟨2, _⟩ => rfl | ⟨3, _⟩ => exact absurd rfl hx
  unfold val_main_v69
  by_cases c0 : e.val < 16
  · refine Eq.trans (concatenate_apply_piece (t := S8x16x2048x64) (3 : Fin 4) _ _ (ix4 b h t e) 0 (by show 0 < 4; omega)
      S8x16x2048x16 (val_main_v47 (F := Ideal) x0 x1) rfl rfl 0 rfl (ix4 (n3 := 16) b h t ⟨e.val, by omega⟩) (fun x hx => off _ x hx)
      (by show 0 + e.val = e.val; omega)) ((turned_first x0 x1 b h t n _ hn).trans (congrArg (rotated x0 x1 b n h) (Fin.ext ?_)))
    rfl
  by_cases c1 : e.val < 32
  · refine Eq.trans (concatenate_apply_piece (t := S8x16x2048x64) (3 : Fin 4) _ _ (ix4 b h t e) 1 (by show 1 < 4; omega)
      S8x16x2048x16 (val_main_v54 (F := Ideal) x0 x1) rfl rfl 16 rfl (ix4 (n3 := 16) b h t ⟨e.val - 16, by omega⟩) (fun x hx => off _ x hx)
      (by show 16 + (e.val - 16) = e.val; omega)) ((turned_second x0 x1 b h t n _ hn).trans (congrArg (rotated x0 x1 b n h) (Fin.ext ?_)))
    show 16 + (e.val - 16) = e.val; omega
  by_cases c2 : e.val < 48
  · refine Eq.trans (concatenate_apply_piece (t := S8x16x2048x64) (3 : Fin 4) _ _ (ix4 b h t e) 2 (by show 2 < 4; omega)
      S8x16x2048x16 (val_main_v61 (F := Ideal) x0 x1) rfl rfl 32 rfl (ix4 (n3 := 16) b h t ⟨e.val - 32, by omega⟩) (fun x hx => off _ x hx)
      (by show 32 + (e.val - 32) = e.val; omega)) ((turned_third x0 x1 b h t n _ hn).trans (congrArg (rotated x0 x1 b n h) (Fin.ext ?_)))
    show 32 + (e.val - 32) = e.val; omega
  · refine Eq.trans (concatenate_apply_piece (t := S8x16x2048x64) (3 : Fin 4) _ _ (ix4 b h t e) 3 (by show 3 < 4; omega)
      S8x16x2048x16 (val_main_v68 (F := Ideal) x0 x1) rfl rfl 48 rfl (ix4 (n3 := 16) b h t ⟨e.val - 48, by omega⟩) (fun x hx => off _ x hx)
      (by show 48 + (e.val - 48) = e.val; omega)) ((turned_fourth x0 x1 b h t n _ hn).trans (congrArg (rotated x0 x1 b n h) (Fin.ext ?_)))
    show 48 + (e.val - 48) = e.val; omega

/-- A latent token's 192 entries. -/
theorem latent_apply (b : Fin 8) (h : Fin 16) (t : Fin 2048) (n : Fin 2304) (d : Fin 192) (hn : n.val = 256 + t.val) :
    val_main_v70 (F := Ideal) x0 x1 (ix4 b h t d)
      = if h0 : d.val < 128 then up x0 x1 b n h d else rotated x0 x1 b n h ⟨d.val - 128, by have := d.isLt; omega⟩ := by
  have hd := d.isLt
  unfold val_main_v70
  by_cases h1 : d.val < 128
  · rw [dif_pos h1]
    refine (concatenate_pair_apply_left (t := S8x16x2048x192) (s₁ := S8x16x2048x128) (s₂ := S8x16x2048x64) (3 : Fin 4) _ _
      concatenates_S8x16x2048x128_S8x16x2048x64_S8x16x2048x192_d3 _ rfl (ix4 (n3 := 128) b h t ⟨d.val, h1⟩)
      (fun x => by match x with | ⟨0, _⟩ => rfl | ⟨1, _⟩ => rfl | ⟨2, _⟩ => rfl | ⟨3, _⟩ => rfl)).trans ?_
    rw [val_main_v31_apply, val_main_v30_apply]
    refine Eq.trans (congrArg (val_main_v3 (F := Ideal) x0 x1) ?_) (heads_apply x0 x1 b n h d)
    funext a
    match a with
    | ⟨0, _⟩ => rfl
    | ⟨1, _⟩ => rfl
    | ⟨2, _⟩ => exact Fin.ext hn.symm
    | ⟨3, _⟩ => rfl
  · rw [dif_neg h1]
    exact (concatenate_pair_apply_right (t := S8x16x2048x192) (s₁ := S8x16x2048x128) (s₂ := S8x16x2048x64) (3 : Fin 4) _ _
      concatenates_S8x16x2048x128_S8x16x2048x64_S8x16x2048x192_d3 _ rfl rfl (ix4 (n3 := 64) b h t ⟨d.val - 128, by omega⟩)
      (fun x hx => by match x with | ⟨0, _⟩ => rfl | ⟨1, _⟩ => rfl | ⟨2, _⟩ => rfl | ⟨3, _⟩ => exact absurd rfl hx)
      (by show d.val - 128 + 128 = d.val; omega)).trans (turned_apply x0 x1 b h t n _ hn)

/-- A token's 192 entries. -/
theorem token_apply (b : Fin 8) (h : Fin 16) (n : Fin 2304) (d : Fin 192) :
    val_main_v72 (F := Ideal) x0 x1 (ix4 b h n d)
      = if n.val < 256 ∨ d.val < 128 then up x0 x1 b n h d else rotated x0 x1 b n h ⟨d.val - 128, by have := d.isLt; omega⟩ := by
  have hn := n.isLt
  unfold val_main_v72
  by_cases h1 : n.val < 256
  · rw [if_pos (Or.inl h1)]
    refine (concatenate_pair_apply_left (t := S8x16x2304x192) (s₁ := S8x16x256x192) (s₂ := S8x16x2048x192) (2 : Fin 4) _ _
      concatenates_S8x16x256x192_S8x16x2048x192_S8x16x2304x192_d2 _ rfl (ix4 (n2 := 256) b h ⟨n.val, h1⟩ d)
      (fun x => by match x with | ⟨0, _⟩ => rfl | ⟨1, _⟩ => rfl | ⟨2, _⟩ => rfl | ⟨3, _⟩ => rfl)).trans ?_
    rw [val_main_v71_apply]
    refine Eq.trans (congrArg (val_main_v3 (F := Ideal) x0 x1) ?_) (heads_apply x0 x1 b n h d)
    funext a
    match a with
    | ⟨0, _⟩ => rfl
    | ⟨1, _⟩ => rfl
    | ⟨2, _⟩ => rfl
    | ⟨3, _⟩ => rfl
  · refine (concatenate_pair_apply_right (t := S8x16x2304x192) (s₁ := S8x16x256x192) (s₂ := S8x16x2048x192) (2 : Fin 4) _ _
      concatenates_S8x16x256x192_S8x16x2048x192_S8x16x2304x192_d2 _ rfl rfl (ix4 (n2 := 2048) b h ⟨n.val - 256, by omega⟩ d)
      (fun x hx => by match x with | ⟨0, _⟩ => rfl | ⟨1, _⟩ => rfl | ⟨2, _⟩ => exact absurd rfl hx | ⟨3, _⟩ => rfl)
      (by show n.val - 256 + 256 = n.val; omega)).trans ((latent_apply x0 x1 b h _ n d (by show n.val = 256 + (n.val - 256); omega)).trans ?_)
    by_cases h2 : d.val < 128
    · rw [dif_pos h2, if_pos (Or.inr h2)]
    · rw [dif_neg h2, if_neg (by omega)]

/-- A token's 256 entries. -/
theorem padded_apply (b : Fin 8) (h : Fin 16) (n : Fin 2304) (d : Fin 256) :
    val_main_v74 (F := Ideal) x0 x1 (ix4 b h n d) = query x0 x1 b n h d := by
  have hd := d.isLt
  unfold val_main_v74 query
  by_cases h1 : d.val < 192
  · rw [dif_pos h1]
    exact (concatenate_pair_apply_left (t := S8x16x2304x256) (s₁ := S8x16x2304x192) (s₂ := S8x16x2304x64) (3 : Fin 4) _ _
      concatenates_S8x16x2304x192_S8x16x2304x64_S8x16x2304x256_d3 _ rfl (ix4 (n3 := 192) b h n ⟨d.val, h1⟩)
      (fun x => by match x with | ⟨0, _⟩ => rfl | ⟨1, _⟩ => rfl | ⟨2, _⟩ => rfl | ⟨3, _⟩ => rfl)).trans (token_apply x0 x1 b h n _)
  · rw [dif_neg h1]
    refine (concatenate_pair_apply_right (t := S8x16x2304x256) (s₁ := S8x16x2304x192) (s₂ := S8x16x2304x64) (3 : Fin 4) _ _
      concatenates_S8x16x2304x192_S8x16x2304x64_S8x16x2304x256_d3 _ rfl rfl (ix4 (n3 := 64) b h n ⟨d.val - 192, by omega⟩)
      (fun x hx => by match x with | ⟨0, _⟩ => rfl | ⟨1, _⟩ => rfl | ⟨2, _⟩ => rfl | ⟨3, _⟩ => exact absurd rfl hx)
      (by show d.val - 192 + 192 = d.val; omega)).trans ?_
    rw [val_main_v73_apply]
    rfl

/-- The heads side by side at a token and a column. -/
theorem side_apply (b : Fin 8) (n : Fin 2304) (j : Fin 4096) :
    val_main_v76 (F := Ideal) x0 x1 (ix3 b n j)
      = query x0 x1 b n ⟨j.val / 256, by have := j.isLt; omega⟩ ⟨j.val % 256, by omega⟩ := by
  have hj := j.isLt
  have e : val_main_v75 (F := Ideal) x0 x1 (ix4 b n ⟨j.val / 256, by omega⟩ ⟨j.val % 256, by omega⟩)
      = query x0 x1 b n ⟨j.val / 256, by omega⟩ ⟨j.val % 256, by omega⟩ := by
    rw [val_main_v75_apply]
    refine Eq.trans (congrArg (val_main_v74 (F := Ideal) x0 x1) ?_) (padded_apply x0 x1 b _ n _)
    funext a; match a with | ⟨0, _⟩ => rfl | ⟨1, _⟩ => rfl | ⟨2, _⟩ => rfl | ⟨3, _⟩ => rfl
  refine Eq.trans ?_ e
  unfold val_main_v76
  refine shapeCast_apply _ shapeCasts_S8x2304x16x256_S8x2304x4096 _ _ ?_
  rw [Shape.rowMajor_val_three, Shape.rowMajor_val_four]
  show ((b.val * 2304 + n.val) * 16 + j.val / 256) * 256 + j.val % 256 = (b.val * 2304 + n.val) * 4096 + j.val
  omega

/-- The reference's result at a row and a column. -/
theorem result_apply (r : Fin 18432) (j : Fin 4096) :
    val_main_v82 (F := Ideal) x0 x1 (ix2 r j)
      = query x0 x1 (sample r) (token r) ⟨j.val / 256, by have := j.isLt; omega⟩ ⟨j.val % 256, by omega⟩ := by
  refine Eq.trans ?_ (side_apply x0 x1 _ _ _)
  exact stacked_apply 4096 (val_main_v76 (F := Ideal) x0 x1) slices_S8x2304x4096_S8x256x4096_0_0_0
    slices_S8x2304x4096_S8x2048x4096_0_256_0 shapeCasts_S8x256x4096_S2048x4096 shapeCasts_S8x2048x4096_S16384x4096
    concatenates_S2048x4096_S16384x4096_S18432x4096_d0 r j

/-! ## The agreement -/

/-- Under the precondition the reference's run leaves in its result what the kernel's leaves in its output array, from the same arguments. -/
theorem agree [Cert.Pre_finite_rotated.Facts] (m : (ℓ : Loc Cert.QupIdeal.nD Cert.QupIdeal.τ Cert.QupIdeal.sig) → Buf (Elt Ideal) ℓ)
    (hm : Cert.Pre_QupIdeal_finite_rotated m) (c : Dev Cert.QupIdeal.nD) :
    val_main_v82 (F := Ideal) (Qup.a0 m c) (Qup.a1 m c) = Qup.G m c := by
  funext i
  obtain ⟨r, j, rfl⟩ : ∃ (r : Fin 18432) (j : Fin 4096), i = ix2 r j := ⟨i 0, i 1, eq_ix2 i⟩
  obtain ⟨h0, h1⟩ := hm c
  refine (result_apply _ _ r j).trans (kquery_eq (Qup.a0 m c) (Qup.a1 m c) (sample r) (token r) _ _ (fun hn k => ?_) fun k e he => ?_).symm
  · have hl := (token r).isLt
    have e := congrFun h0 (ix3 (sample r) ⟨(token r).val - 256, by omega⟩ k)
    refine real_of_abs_lt _ (Eq.trans ?_ e)
    refine congrArg (fun x => Ideal.cmp .olt (max x (-x)) (Ideal.ofBits .f32 0x7F800000#32)) (congrArg (Qup.a0 m c) ?_)
    funext a
    match a with
    | ⟨0, _⟩ => exact Fin.ext (by show (sample r).val = 0 + (sample r).val; omega)
    | ⟨1, _⟩ => exact Fin.ext (by show (token r).val = 256 + ((token r).val - 256); omega)
    | ⟨2, _⟩ => exact Fin.ext (by show k.val = 0 + k.val; omega)
  · have hl := e.isLt
    have hj := j.isLt
    have e' := congrFun h1 (ix4 0 k ⟨j.val / 256, by omega⟩ ⟨e.val - 128, by omega⟩)
    refine real_of_abs_lt _ (Eq.trans ?_ e')
    refine congrArg (fun x => Ideal.cmp .olt (max x (-x)) (Ideal.ofBits .f32 0x7F800000#32)) (congrArg (Qup.a1 m c) ?_)
    funext a
    match a with
    | ⟨0, _⟩ => rfl
    | ⟨1, _⟩ => exact Fin.ext (by show k.val = 0 + k.val; omega)
    | ⟨2, _⟩ => exact Fin.ext (by show j.val / 256 = 0 + j.val / 256; omega)
    | ⟨3, _⟩ => exact Fin.ext (by show e.val = 128 + (e.val - 128); omega)

end Cert.Proof.QupRef

end
-- ==== Proof.lean ====
/-
  The certificate: each program's frame, and for each call that its ideal version is the printed kernel and that it computes what its
  reference computes. The values of the kernels and of the references are in Proof/InProj and Proof/Mix.
-/
module

public import proofs.«01_k».proof.Defs
public import proofs.«01_k».proof.Proof.Gen.Big
public import proofs.«01_k».proof.Proof.Gen.Big.Skeleton
public import proofs.«01_k».proof.Proof.Gen.Big.Launch
public import proofs.«01_k».proof.Proof.Gen.Big.Points
public import proofs.«01_k».proof.Proof.Gen.Big.Frame
public import proofs.«01_k».proof.Proof.Gen.BigIdeal
public import proofs.«01_k».proof.Proof.Gen.BigIdeal.Skeleton
public import proofs.«01_k».proof.Proof.Gen.BigIdeal.Launch
public import proofs.«01_k».proof.Proof.Gen.BigIdeal.Points
public import proofs.«01_k».proof.Proof.Gen.BigIdeal.Frame
public import proofs.«01_k».proof.Proof.Gen.BigRefIdeal
public import proofs.«01_k».proof.Proof.Gen.Hf
public import proofs.«01_k».proof.Proof.Gen.Hf.Skeleton
public import proofs.«01_k».proof.Proof.Gen.Hf.Launch
public import proofs.«01_k».proof.Proof.Gen.Hf.Points
public import proofs.«01_k».proof.Proof.Gen.Hf.Frame
public import proofs.«01_k».proof.Proof.Gen.HfIdeal
public import proofs.«01_k».proof.Proof.Gen.HfIdeal.Skeleton
public import proofs.«01_k».proof.Proof.Gen.HfIdeal.Launch
public import proofs.«01_k».proof.Proof.Gen.HfIdeal.Points
public import proofs.«01_k».proof.Proof.Gen.HfIdeal.Frame
public import proofs.«01_k».proof.Proof.Gen.HfRefIdeal
public import proofs.«01_k».proof.Proof.Gen.Cq
public import proofs.«01_k».proof.Proof.Gen.Cq.Skeleton
public import proofs.«01_k».proof.Proof.Gen.Cq.Launch
public import proofs.«01_k».proof.Proof.Gen.Cq.Points
public import proofs.«01_k».proof.Proof.Gen.Cq.Frame
public import proofs.«01_k».proof.Proof.Gen.CqIdeal
public import proofs.«01_k».proof.Proof.Gen.CqIdeal.Skeleton
public import proofs.«01_k».proof.Proof.Gen.CqIdeal.Launch
public import proofs.«01_k».proof.Proof.Gen.CqIdeal.Points
public import proofs.«01_k».proof.Proof.Gen.CqIdeal.Frame
public import proofs.«01_k».proof.Proof.Gen.CqRefIdeal
public import proofs.«01_k».proof.Proof.Gen.Ckv
public import proofs.«01_k».proof.Proof.Gen.Ckv.Skeleton
public import proofs.«01_k».proof.Proof.Gen.Ckv.Launch
public import proofs.«01_k».proof.Proof.Gen.Ckv.Points
public import proofs.«01_k».proof.Proof.Gen.Ckv.Frame
public import proofs.«01_k».proof.Proof.Gen.CkvIdeal
public import proofs.«01_k».proof.Proof.Gen.CkvIdeal.Skeleton
public import proofs.«01_k».proof.Proof.Gen.CkvIdeal.Launch
public import proofs.«01_k».proof.Proof.Gen.CkvIdeal.Points
public import proofs.«01_k».proof.Proof.Gen.CkvIdeal.Frame
public import proofs.«01_k».proof.Proof.Gen.CkvRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvRefIdeal
public import proofs.«01_k».proof.Proof.Gen.Fin
public import proofs.«01_k».proof.Proof.Gen.Fin.Skeleton
public import proofs.«01_k».proof.Proof.Gen.Fin.Launch
public import proofs.«01_k».proof.Proof.Gen.Fin.Points
public import proofs.«01_k».proof.Proof.Gen.Fin.Frame
public import proofs.«01_k».proof.Proof.Gen.FinIdeal
public import proofs.«01_k».proof.Proof.Gen.FinIdeal.Skeleton
public import proofs.«01_k».proof.Proof.Gen.FinIdeal.Launch
public import proofs.«01_k».proof.Proof.Gen.FinIdeal.Points
public import proofs.«01_k».proof.Proof.Gen.FinIdeal.Frame
public import proofs.«01_k».proof.Proof.Gen.FinRefIdeal
public import proofs.«01_k».proof.Proof.Gen.Merge0
public import proofs.«01_k».proof.Proof.Gen.Merge0.Skeleton
public import proofs.«01_k».proof.Proof.Gen.Merge0.Launch
public import proofs.«01_k».proof.Proof.Gen.Merge0.Points
public import proofs.«01_k».proof.Proof.Gen.Merge0.Frame
public import proofs.«01_k».proof.Proof.Gen.Merge0Ideal
public import proofs.«01_k».proof.Proof.Gen.Merge0Ideal.Skeleton
public import proofs.«01_k».proof.Proof.Gen.Merge0Ideal.Launch
public import proofs.«01_k».proof.Proof.Gen.Merge0Ideal.Points
public import proofs.«01_k».proof.Proof.Gen.Merge0Ideal.Frame
public import proofs.«01_k».proof.Proof.Gen.Merge0RefIdeal
public import proofs.«01_k».proof.Proof.Gen.Out0
public import proofs.«01_k».proof.Proof.Gen.Out0.Skeleton
public import proofs.«01_k».proof.Proof.Gen.Out0.Launch
public import proofs.«01_k».proof.Proof.Gen.Out0.Points
public import proofs.«01_k».proof.Proof.Gen.Out0.Frame
public import proofs.«01_k».proof.Proof.Gen.Out0Ideal
public import proofs.«01_k».proof.Proof.Gen.Out0Ideal.Skeleton
public import proofs.«01_k».proof.Proof.Gen.Out0Ideal.Launch
public import proofs.«01_k».proof.Proof.Gen.Out0Ideal.Points
public import proofs.«01_k».proof.Proof.Gen.Out0Ideal.Frame
public import proofs.«01_k».proof.Proof.Gen.Out0RefIdeal
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Qup
public import proofs.«01_k».proof.Proof.Gen.Qup.Skeleton
public import proofs.«01_k».proof.Proof.Gen.Qup.Launch
public import proofs.«01_k».proof.Proof.Gen.Qup.Points
public import proofs.«01_k».proof.Proof.Gen.Qup.Frame
public import proofs.«01_k».proof.Proof.Gen.QupIdeal
public import proofs.«01_k».proof.Proof.Gen.QupIdeal.Skeleton
public import proofs.«01_k».proof.Proof.Gen.QupIdeal.Launch
public import proofs.«01_k».proof.Proof.Gen.QupIdeal.Points
public import proofs.«01_k».proof.Proof.Gen.QupIdeal.Frame
public import proofs.«01_k».proof.Proof.Gen.QupRefIdeal
public import proofs.«01_k».proof.Proof.Gen.Pre_finite_scores
public import proofs.«01_k».proof.Proof.Gen.Pre_finite_rotated
public import Idealize.ShloMosaic.Adequacy
public import Idealize.ShloMosaic.Init
public import Idealize.ShloMosaic.Lib.Quiescent
public import proofs.«01_k».proof.Proof.Gen.BigIdeal.Value
public import proofs.«01_k».proof.Proof.Gen.BigRefIdeal.Run
public import proofs.«01_k».proof.Proof.Gen.BigRefIdeal.Read
public import proofs.«01_k».proof.Proof.InProj.Big
public import proofs.«01_k».proof.Proof.InProj.BigRef
public import proofs.«01_k».proof.Proof.Gen.HfIdeal.Value
public import proofs.«01_k».proof.Proof.Gen.HfRefIdeal.Run
public import proofs.«01_k».proof.Proof.Gen.HfRefIdeal.Read
public import proofs.«01_k».proof.Proof.InProj.Hf
public import proofs.«01_k».proof.Proof.InProj.HfRef
public import proofs.«01_k».proof.Proof.Gen.CqIdeal.Value
public import proofs.«01_k».proof.Proof.Gen.CqRefIdeal.Run
public import proofs.«01_k».proof.Proof.Gen.CqRefIdeal.Read
public import proofs.«01_k».proof.Proof.InProj.Cq
public import proofs.«01_k».proof.Proof.InProj.CqRef
public import proofs.«01_k».proof.Proof.Gen.CkvIdeal.Value
public import proofs.«01_k».proof.Proof.Gen.CkvRefIdeal.Run
public import proofs.«01_k».proof.Proof.Gen.CkvRefIdeal.Read
public import proofs.«01_k».proof.Proof.InProj.Ckv
public import proofs.«01_k».proof.Proof.InProj.CkvRef
public import proofs.«01_k».proof.Proof.Gen.MergeIdeal.Value
public import proofs.«01_k».proof.Proof.Gen.MergeRefIdeal.Run
public import proofs.«01_k».proof.Proof.Gen.MergeRefIdeal.Read
public import proofs.«01_k».proof.Proof.Mix.Merge
public import proofs.«01_k».proof.Proof.Mix.MergeRef
public import proofs.«01_k».proof.Proof.Gen.OutIdeal.Value
public import proofs.«01_k».proof.Proof.Gen.OutRefIdeal.Run
public import proofs.«01_k».proof.Proof.Gen.OutRefIdeal.Read
public import proofs.«01_k».proof.Proof.Mix.Out
public import proofs.«01_k».proof.Proof.Mix.OutRef
public import proofs.«01_k».proof.Proof.Gen.KvIdeal.Value
public import proofs.«01_k».proof.Proof.Gen.KvRefIdeal.Run
public import proofs.«01_k».proof.Proof.Gen.KvRefIdeal.Read
public import proofs.«01_k».proof.Proof.Mix.Kv
public import proofs.«01_k».proof.Proof.Mix.KvRef
public import proofs.«01_k».proof.Proof.Gen.FinIdeal.Value
public import proofs.«01_k».proof.Proof.Gen.FinRefIdeal.Run
public import proofs.«01_k».proof.Proof.Gen.FinRefIdeal.Read
public import proofs.«01_k».proof.Proof.Mix.Last
public import proofs.«01_k».proof.Proof.Mix.LastRef
public import proofs.«01_k».proof.Proof.Gen.Merge0Ideal.Value
public import proofs.«01_k».proof.Proof.Gen.Merge0RefIdeal.Run
public import proofs.«01_k».proof.Proof.Gen.Merge0RefIdeal.Read
public import proofs.«01_k».proof.Proof.Mix.Merge0
public import proofs.«01_k».proof.Proof.Mix.Merge0Ref
public import proofs.«01_k».proof.Proof.Gen.Out0Ideal.Value
public import proofs.«01_k».proof.Proof.Gen.Out0RefIdeal.Run
public import proofs.«01_k».proof.Proof.Gen.Out0RefIdeal.Read
public import proofs.«01_k».proof.Proof.Mix.Out0
public import proofs.«01_k».proof.Proof.Mix.Out0Ref
public import proofs.«01_k».proof.Proof.Gen.AttnIdeal.Value
public import proofs.«01_k».proof.Proof.Gen.AttnRefIdeal.Run
public import proofs.«01_k».proof.Proof.Gen.AttnRefIdeal.Read
public import proofs.«01_k».proof.Proof.Mix.Attn
public import proofs.«01_k».proof.Proof.Mix.AttnRef
public import proofs.«01_k».proof.Proof.Gen.QupIdeal.Value
public import proofs.«01_k».proof.Proof.Gen.QupRefIdeal.Run
public import proofs.«01_k».proof.Proof.Gen.QupRefIdeal.Read
public import proofs.«01_k».proof.Proof.Mix.Qup
public import proofs.«01_k».proof.Proof.Mix.QupRef

@[expose] public section

noncomputable section

namespace Cert.Proof

open Idealize.ShloMosaic Idealize.SL.Sem

/-- The Big reference runs, leaves its arguments as they were, and ends with every counter at zero. -/
theorem quiescent_BigRefIdeal : @Cert.quiescent_BigRefIdeal Cert.BigRefIdeal.Gen.facts := fun m g _ =>
  (θ_run Cert.BigRefIdeal.defs _ _).mono (fun r h => ⟨fun c => (h c).2, sem_eq_zero_of_no_sems (by decide) r.2⟩)
    (Cert.BigRefIdeal.Value.run (F := Ideal) m g)

/-- The Big kernel and its reference, run from the same arguments, end with the same result. -/
theorem algebraic_Big : @Cert.algebraic_BigIdeal_BigRefIdeal Cert.BigIdeal.Gen.facts Cert.BigRefIdeal.Gen.facts := fun m g m' g' _ h => by
  refine ⟨fun c => Big.G m c, ?_, ?_⟩
  · exact (θ_run _ _ _).mono (fun r hr c => ⟨(hr c).1.trans (Big.final m c), (hr c).2⟩) (Cert.BigIdeal.Value.run_blocks m g)
  · refine (θ_run _ _ _).mono (fun r hr c => ⟨(hr c).1.trans ?_, (hr c).2⟩) (Cert.BigRefIdeal.Value.run m' g')
    rw [Cert.BigRefIdeal.Read.val_main_v27_eq, (h c).1, (h c).2.1, (h c).2.2]
    exact BigRef.agree m c

/-- The Hf reference runs, leaves its arguments as they were, and ends with every counter at zero. -/
theorem quiescent_HfRefIdeal : @Cert.quiescent_HfRefIdeal Cert.HfRefIdeal.Gen.facts := fun m g _ =>
  (θ_run Cert.HfRefIdeal.defs _ _).mono (fun r h => ⟨fun c => (h c).2, sem_eq_zero_of_no_sems (by decide) r.2⟩)
    (Cert.HfRefIdeal.Value.run (F := Ideal) m g)

/-- The Hf kernel and its reference, run from the same arguments, end with the same result. -/
theorem algebraic_Hf : @Cert.algebraic_HfIdeal_HfRefIdeal Cert.HfIdeal.Gen.facts Cert.HfRefIdeal.Gen.facts := fun m g m' g' _ h => by
  refine ⟨fun c => Hf.G m c, ?_, ?_⟩
  · exact (θ_run _ _ _).mono (fun r hr c => ⟨(hr c).1.trans (Hf.final m c), (hr c).2⟩) (Cert.HfIdeal.Value.run_blocks m g)
  · refine (θ_run _ _ _).mono (fun r hr c => ⟨(hr c).1.trans ?_, (hr c).2⟩) (Cert.HfRefIdeal.Value.run m' g')
    rw [Cert.HfRefIdeal.Read.val_main_v26_eq, (h c).1, (h c).2.1, (h c).2.2]
    exact HfRef.agree m c

/-- The Cq reference runs, leaves its arguments as they were, and ends with every counter at zero. -/
theorem quiescent_CqRefIdeal : @Cert.quiescent_CqRefIdeal Cert.CqRefIdeal.Gen.facts := fun m g _ =>
  (θ_run Cert.CqRefIdeal.defs _ _).mono (fun r h => ⟨fun c => (h c).2, sem_eq_zero_of_no_sems (by decide) r.2⟩)
    (Cert.CqRefIdeal.Value.run (F := Ideal) m g)

/-- The Cq kernel and its reference, run from the same arguments, end with the same result. -/
theorem algebraic_Cq : @Cert.algebraic_CqIdeal_CqRefIdeal Cert.CqIdeal.Gen.facts Cert.CqRefIdeal.Gen.facts := fun m g m' g' _ h => by
  refine ⟨fun c => Cq.G m c, ?_, ?_⟩
  · exact (θ_run _ _ _).mono (fun r hr c => ⟨(hr c).1.trans (Cq.final m c), (hr c).2⟩) (Cert.CqIdeal.Value.run_blocks m g)
  · refine (θ_run _ _ _).mono (fun r hr c => ⟨(hr c).1.trans ?_, (hr c).2⟩) (Cert.CqRefIdeal.Value.run m' g')
    rw [Cert.CqRefIdeal.Read.val_main_v41_eq, (h c).1, (h c).2.1, (h c).2.2.1, (h c).2.2.2]
    exact CqRef.agree m c

/-- The Ckv reference runs, leaves its arguments as they were, and ends with every counter at zero. -/
theorem quiescent_CkvRefIdeal : @Cert.quiescent_CkvRefIdeal Cert.CkvRefIdeal.Gen.facts := fun m g _ =>
  (θ_run Cert.CkvRefIdeal.defs _ _).mono (fun r h => ⟨fun c => (h c).2, sem_eq_zero_of_no_sems (by decide) r.2⟩)
    (Cert.CkvRefIdeal.Value.run (F := Ideal) m g)

/-- The Ckv kernel and its reference, run from the same arguments, end with the same result. -/
theorem algebraic_Ckv : @Cert.algebraic_CkvIdeal_CkvRefIdeal Cert.CkvIdeal.Gen.facts Cert.CkvRefIdeal.Gen.facts := fun m g m' g' _ h => by
  refine ⟨fun c => Ckv.G m c, ?_, ?_⟩
  · exact (θ_run _ _ _).mono (fun r hr c => ⟨(hr c).1.trans (Ckv.final m c), (hr c).2⟩) (Cert.CkvIdeal.Value.run_blocks m g)
  · refine (θ_run _ _ _).mono (fun r hr c => ⟨(hr c).1.trans ?_, (hr c).2⟩) (Cert.CkvRefIdeal.Value.run m' g')
    rw [Cert.CkvRefIdeal.Read.val_main_v41_eq, (h c).1, (h c).2.1, (h c).2.2.1, (h c).2.2.2]
    exact CkvRef.agree m c

/-- The Merge reference runs, leaves its arguments as they were, and ends with every counter at zero. -/
theorem quiescent_MergeRefIdeal : @Cert.quiescent_MergeRefIdeal Cert.MergeRefIdeal.Gen.facts := fun m g _ =>
  (θ_run Cert.MergeRefIdeal.defs _ _).mono (fun r h => ⟨fun c => (h c).2, sem_eq_zero_of_no_sems (by decide) r.2⟩)
    (Cert.MergeRefIdeal.Value.run (F := Ideal) m g)

/-- The Merge kernel and its reference, run from the same arguments, end with the same result. -/
theorem algebraic_Merge : @Cert.algebraic_MergeIdeal_MergeRefIdeal Cert.MergeIdeal.Gen.facts Cert.MergeRefIdeal.Gen.facts := fun m g m' g' _ h => by
  refine ⟨fun c => Merge.G m c, ?_, ?_⟩
  · exact (θ_run _ _ _).mono (fun r hr c => ⟨(hr c).1.trans (Merge.final m c), (hr c).2⟩) (Cert.MergeIdeal.Value.run_blocks m g)
  · refine (θ_run _ _ _).mono (fun r hr c => ⟨(hr c).1.trans ?_, (hr c).2⟩) (Cert.MergeRefIdeal.Value.run m' g')
    refine (Cert.MergeRefIdeal.Read.val_main_v38_eq (F := Ideal) _ _ _ _ _ _ _).trans ?_
    rw [(h c).1, (h c).2.1, (h c).2.2.1, (h c).2.2.2.1, (h c).2.2.2.2.1, (h c).2.2.2.2.2.1, (h c).2.2.2.2.2.2]
    exact MergeRef.agree m c

/-- The Out reference runs, leaves its arguments as they were, and ends with every counter at zero. -/
theorem quiescent_OutRefIdeal : @Cert.quiescent_OutRefIdeal Cert.OutRefIdeal.Gen.facts := fun m g _ =>
  (θ_run Cert.OutRefIdeal.defs _ _).mono (fun r h => ⟨fun c => (h c).2, sem_eq_zero_of_no_sems (by decide) r.2⟩)
    (Cert.OutRefIdeal.Value.run (F := Ideal) m g)

/-- The Out kernel and its reference, run from the same arguments, end with the same result. -/
theorem algebraic_Out : @Cert.algebraic_OutIdeal_OutRefIdeal Cert.OutIdeal.Gen.facts Cert.OutRefIdeal.Gen.facts := fun m g m' g' _ h => by
  refine ⟨fun c => Out.G m c, ?_, ?_⟩
  · exact (θ_run _ _ _).mono (fun r hr c => ⟨(hr c).1.trans (Out.final m c), (hr c).2⟩) (Cert.OutIdeal.Value.run_blocks m g)
  · refine (θ_run _ _ _).mono (fun r hr c => ⟨(hr c).1.trans ?_, (hr c).2⟩) (Cert.OutRefIdeal.Value.run m' g')
    refine (Cert.OutRefIdeal.Read.val_main_v12_eq (F := Ideal) _ _ _ _).trans ?_
    rw [(h c).1, (h c).2.2.1, (h c).2.2.2.1, (h c).2.2.2.2.2]
    exact OutRef.agree m c

/-- The Kv reference runs, leaves its arguments as they were, and ends with every counter at zero. -/
theorem quiescent_KvRefIdeal : @Cert.quiescent_KvRefIdeal Cert.KvRefIdeal.Gen.facts := fun m g _ =>
  (θ_run Cert.KvRefIdeal.defs _ _).mono (fun r h => ⟨fun c => (h c).2, sem_eq_zero_of_no_sems (by decide) r.2⟩)
    (Cert.KvRefIdeal.Value.run (F := Ideal) m g)

/-- The Kv kernel and its reference, run from the same arguments, end with the same result. -/
theorem algebraic_Kv : @Cert.algebraic_KvIdeal_KvRefIdeal Cert.KvIdeal.Gen.facts Cert.KvRefIdeal.Gen.facts := fun m g m' g' _ h => by
  refine ⟨fun c => Kv.G m c, ?_, ?_⟩
  · exact (θ_run _ _ _).mono (fun r hr c => ⟨(hr c).1.trans (Kv.final m c), (hr c).2⟩) (Cert.KvIdeal.Value.run_blocks m g)
  · refine (θ_run _ _ _).mono (fun r hr c => ⟨(hr c).1.trans ?_, (hr c).2⟩) (Cert.KvRefIdeal.Value.run m' g')
    refine (Cert.KvRefIdeal.Read.val_main_v11_eq (F := Ideal) _ _).trans ?_
    rw [(h c).1, (h c).2]
    exact KvRef.agree m c

/-- The Fin reference runs, leaves its arguments as they were, and ends with every counter at zero. -/
theorem quiescent_FinRefIdeal : @Cert.quiescent_FinRefIdeal Cert.FinRefIdeal.Gen.facts := fun m g _ =>
  (θ_run Cert.FinRefIdeal.defs _ _).mono (fun r h => ⟨fun c => (h c).2, sem_eq_zero_of_no_sems (by decide) r.2⟩)
    (Cert.FinRefIdeal.Value.run (F := Ideal) m g)

/-- The Fin kernel and its reference, run from the same arguments, end with the same result. -/
theorem algebraic_Fin : @Cert.algebraic_FinIdeal_FinRefIdeal Cert.FinIdeal.Gen.facts Cert.FinRefIdeal.Gen.facts := fun m g m' g' _ h => by
  refine ⟨fun c => Last.G m c, ?_, ?_⟩
  · exact (θ_run _ _ _).mono (fun r hr c => ⟨(hr c).1.trans (Last.final m c), (hr c).2⟩) (Cert.FinIdeal.Value.run_blocks m g)
  · refine (θ_run _ _ _).mono (fun r hr c => ⟨(hr c).1.trans ?_, (hr c).2⟩) (Cert.FinRefIdeal.Value.run m' g')
    refine (Cert.FinRefIdeal.Read.val_main_v27_eq (F := Ideal) _ _ _ _ _).trans ?_
    rw [(h c).1, (h c).2.1, (h c).2.2.1, (h c).2.2.2.1, (h c).2.2.2.2.2]
    exact LastRef.agree m c

/-- The Merge0 reference runs, leaves its arguments as they were, and ends with every counter at zero. -/
theorem quiescent_Merge0RefIdeal : @Cert.quiescent_Merge0RefIdeal Cert.Merge0RefIdeal.Gen.facts := fun m g _ =>
  (θ_run Cert.Merge0RefIdeal.defs _ _).mono (fun r h => ⟨fun c => (h c).2, sem_eq_zero_of_no_sems (by decide) r.2⟩)
    (Cert.Merge0RefIdeal.Value.run (F := Ideal) m g)

/-- The Merge0 kernel and its reference, run from the same arguments, end with the same result. -/
theorem algebraic_Merge0 : @Cert.algebraic_Merge0Ideal_Merge0RefIdeal Cert.Merge0Ideal.Gen.facts Cert.Merge0RefIdeal.Gen.facts := fun m g m' g' _ h => by
  refine ⟨fun c => Merge0.G m c, ?_, ?_⟩
  · exact (θ_run _ _ _).mono (fun r hr c => ⟨(hr c).1.trans (Merge0.final m c), (hr c).2⟩) (Cert.Merge0Ideal.Value.run_blocks m g)
  · refine (θ_run _ _ _).mono (fun r hr c => ⟨(hr c).1.trans ?_, (hr c).2⟩) (Cert.Merge0RefIdeal.Value.run m' g')
    refine (Cert.Merge0RefIdeal.Read.val_main_v39_eq (F := Ideal) _ _).trans ?_
    rw [(h c).1, (h c).2.1, (h c).2.2.1, (h c).2.2.2.1, (h c).2.2.2.2.1, (h c).2.2.2.2.2.1, (h c).2.2.2.2.2.2]
    exact Merge0Ref.agree m c

/-- The Out0 reference runs, leaves its arguments as they were, and ends with every counter at zero. -/
theorem quiescent_Out0RefIdeal : @Cert.quiescent_Out0RefIdeal Cert.Out0RefIdeal.Gen.facts := fun m g _ =>
  (θ_run Cert.Out0RefIdeal.defs _ _).mono (fun r h => ⟨fun c => (h c).2, sem_eq_zero_of_no_sems (by decide) r.2⟩)
    (Cert.Out0RefIdeal.Value.run (F := Ideal) m g)

/-- The Out0 kernel and its reference, run from the same arguments, end with the same result. -/
theorem algebraic_Out0 : @Cert.algebraic_Out0Ideal_Out0RefIdeal Cert.Out0Ideal.Gen.facts Cert.Out0RefIdeal.Gen.facts := fun m g m' g' _ h => by
  refine ⟨fun c => Out0.G m c, ?_, ?_⟩
  · exact (θ_run _ _ _).mono (fun r hr c => ⟨(hr c).1.trans (Out0.final m c), (hr c).2⟩) (Cert.Out0Ideal.Value.run_blocks m g)
  · refine (θ_run _ _ _).mono (fun r hr c => ⟨(hr c).1.trans ?_, (hr c).2⟩) (Cert.Out0RefIdeal.Value.run m' g')
    refine (Cert.Out0RefIdeal.Read.val_main_v25_eq (F := Ideal) _ _ _ _ _ _).trans ?_
    rw [(h c).1, (h c).2.1, (h c).2.2.1, (h c).2.2.2.1, (h c).2.2.2.2.1, (h c).2.2.2.2.2]
    exact Out0Ref.agree m c

/-- The attention's reference runs, leaves its arguments as they were, and ends with every counter at zero. -/
theorem quiescent_AttnRefIdeal : @Cert.quiescent_AttnRefIdeal Cert.AttnRefIdeal.Gen.facts := fun m g _ =>
  (θ_run Cert.AttnRefIdeal.defs _ _).mono (fun r h => ⟨fun c => (h c).2, sem_eq_zero_of_no_sems (by decide) r.2⟩)
    (Cert.AttnRefIdeal.Value.run (F := Ideal) m g)

/-- The constant the attention multiplies the scores by is named: its value is the real number, and the name stands for it alone. -/
theorem preserves_Attn : Cert.preserves_Attn_AttnIdeal :=
  IdealRules.named_const.statement Cert.AttnIdeal.κ "score_scale" .f32 0x3DD53B95#32 (((Real.log 2)⁻¹ * (Real.sqrt 192)⁻¹ : ℝ) : EReal) rfl

/-- The attention kernel and its reference, run from the same arguments, of which the latent queries and the keys are finite, end with
    the same result. -/
theorem algebraic_Attn : @Cert.algebraic_AttnIdeal_AttnRefIdeal_pre_finite_scores Cert.AttnIdeal.Gen.facts Cert.AttnRefIdeal.Gen.facts
    Cert.Pre_finite_scores.Gen.facts := fun m g m' g' hm h => by
  refine ⟨fun c => Attn.G m c, ?_, ?_⟩
  · exact (θ_run _ _ _).mono (fun r hr c => ⟨(hr c).1.trans (Attn.final m c), (hr c).2⟩) (Cert.AttnIdeal.Value.run_blocks m g)
  · refine (θ_run _ _ _).mono (fun r hr c => ⟨(hr c).1.trans ?_, (hr c).2⟩) (Cert.AttnRefIdeal.Value.run m' g')
    refine (Cert.AttnRefIdeal.Read.val_main_v22_eq (F := Ideal) _ _).trans ?_
    rw [(h c).1, (h c).2.1, (h c).2.2.1, (h c).2.2.2]
    exact @AttnRef.agree Cert.Pre_finite_scores.Gen.facts m hm c

/-- The query projection's reference runs, leaves its arguments as they were, and ends with every counter at zero. -/
theorem quiescent_QupRefIdeal : @Cert.quiescent_QupRefIdeal Cert.QupRefIdeal.Gen.facts := fun m g _ =>
  (θ_run Cert.QupRefIdeal.defs _ _).mono (fun r h => ⟨fun c => (h c).2, sem_eq_zero_of_no_sems (by decide) r.2⟩)
    (Cert.QupRefIdeal.Value.run (F := Ideal) m g)

/-- The query projection's kernel and its reference, run from the same arguments, of which the latent tokens' latents and the rotated
    columns of the weight are finite, end with the same result. -/
theorem algebraic_Qup : @Cert.algebraic_QupIdeal_QupRefIdeal_pre_finite_rotated Cert.QupIdeal.Gen.facts Cert.QupRefIdeal.Gen.facts
    Cert.Pre_finite_rotated.Gen.facts := fun m g m' g' hm h => by
  refine ⟨fun c => Qup.G m c, ?_, ?_⟩
  · exact (θ_run _ _ _).mono (fun r hr c => ⟨(hr c).1.trans (Qup.final m c), (hr c).2⟩) (Cert.QupIdeal.Value.run_blocks m g)
  · refine (θ_run _ _ _).mono (fun r hr c => ⟨(hr c).1.trans ?_, (hr c).2⟩) (Cert.QupRefIdeal.Value.run m' g')
    refine (Cert.QupRefIdeal.Read.val_main_v82_eq (F := Ideal) _ _).trans ?_
    rw [(h c).1, (h c).2]
    exact @QupRef.agree Cert.Pre_finite_rotated.Gen.facts m hm c

/-- Every claim of the certificate: each program's frame, and for each call that its ideal version is the printed kernel and
    computes what its reference computes. -/
theorem claim : Cert.Claim := ⟨Cert.Big.Gen.facts, Cert.BigIdeal.Gen.facts, Cert.BigRefIdeal.Gen.facts, Cert.Hf.Gen.facts, Cert.HfIdeal.Gen.facts, Cert.HfRefIdeal.Gen.facts, Cert.Cq.Gen.facts, Cert.CqIdeal.Gen.facts, Cert.CqRefIdeal.Gen.facts, Cert.Ckv.Gen.facts, Cert.CkvIdeal.Gen.facts, Cert.CkvRefIdeal.Gen.facts, Cert.Merge.Gen.facts, Cert.MergeIdeal.Gen.facts, Cert.MergeRefIdeal.Gen.facts, Cert.Out.Gen.facts, Cert.OutIdeal.Gen.facts, Cert.OutRefIdeal.Gen.facts, Cert.Kv.Gen.facts, Cert.KvIdeal.Gen.facts, Cert.KvRefIdeal.Gen.facts, Cert.Fin.Gen.facts, Cert.FinIdeal.Gen.facts, Cert.FinRefIdeal.Gen.facts, Cert.Merge0.Gen.facts, Cert.Merge0Ideal.Gen.facts, Cert.Merge0RefIdeal.Gen.facts, Cert.Out0.Gen.facts, Cert.Out0Ideal.Gen.facts, Cert.Out0RefIdeal.Gen.facts, Cert.Attn.Gen.facts, Cert.AttnIdeal.Gen.facts, Cert.AttnRefIdeal.Gen.facts, Cert.Qup.Gen.facts, Cert.QupIdeal.Gen.facts, Cert.QupRefIdeal.Gen.facts, Cert.Pre_finite_scores.Gen.facts, Cert.Pre_finite_rotated.Gen.facts,
  fun m ρ _ => Cert.Big.Gen.frame m ρ, fun m ρ _ => Cert.BigIdeal.Gen.frame m ρ, quiescent_BigRefIdeal,
  fun m ρ _ => Cert.Hf.Gen.frame m ρ, fun m ρ _ => Cert.HfIdeal.Gen.frame m ρ, quiescent_HfRefIdeal,
  fun m ρ _ => Cert.Cq.Gen.frame m ρ, fun m ρ _ => Cert.CqIdeal.Gen.frame m ρ, quiescent_CqRefIdeal,
  fun m ρ _ => Cert.Ckv.Gen.frame m ρ, fun m ρ _ => Cert.CkvIdeal.Gen.frame m ρ, quiescent_CkvRefIdeal,
  fun m ρ _ => Cert.Merge.Gen.frame m ρ, fun m ρ _ => Cert.MergeIdeal.Gen.frame m ρ, quiescent_MergeRefIdeal,
  fun m ρ _ => Cert.Out.Gen.frame m ρ, fun m ρ _ => Cert.OutIdeal.Gen.frame m ρ, quiescent_OutRefIdeal,
  fun m ρ _ => Cert.Kv.Gen.frame m ρ, fun m ρ _ => Cert.KvIdeal.Gen.frame m ρ, quiescent_KvRefIdeal,
  fun m ρ _ => Cert.Fin.Gen.frame m ρ, fun m ρ _ => Cert.FinIdeal.Gen.frame m ρ, quiescent_FinRefIdeal,
  fun m ρ _ => Cert.Merge0.Gen.frame m ρ, fun m ρ _ => Cert.Merge0Ideal.Gen.frame m ρ, quiescent_Merge0RefIdeal,
  fun m ρ _ => Cert.Out0.Gen.frame m ρ, fun m ρ _ => Cert.Out0Ideal.Gen.frame m ρ, quiescent_Out0RefIdeal,
  fun m ρ _ => Cert.Attn.Gen.frame m ρ, fun m ρ _ => Cert.AttnIdeal.Gen.frame m ρ, fun m ρ _ => Cert.AttnIdeal.Gen.frame m ρ,
  quiescent_AttnRefIdeal, fun m g _ => quiescent_AttnRefIdeal m g trivial,
  fun m ρ _ => Cert.Qup.Gen.frame m ρ, fun m ρ _ => Cert.QupIdeal.Gen.frame m ρ, fun m ρ _ => Cert.QupIdeal.Gen.frame m ρ,
  quiescent_QupRefIdeal, fun m g _ => quiescent_QupRefIdeal m g trivial,
  trivial, algebraic_Big, trivial, algebraic_Hf, trivial, algebraic_Cq, trivial, algebraic_Ckv, trivial, algebraic_Merge, trivial, algebraic_Out, trivial, algebraic_Kv, trivial, algebraic_Fin, trivial, algebraic_Merge0, trivial, algebraic_Out0,
  preserves_Attn, algebraic_Attn, trivial, algebraic_Qup⟩

end Cert.Proof

end
